-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_sums_of_squares [hPre_sums_of_squares : Cert.Pre_sums_of_squares.Facts] (m : (ℓ : Loc Cert.UpIdeal.nD Cert.UpIdeal.τ Cert.UpIdeal.sig) → Buf (Elt Ideal) ℓ) : Prop :=
  ∀ c : Dev Cert.UpIdeal.nD,
    (Cert.Pre_sums_of_squares.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_sums_of_squares [hPre_sums_of_squares : Cert.Pre_sums_of_squares.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_sums_of_squares.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpIdeal_pre_sums_of_squares [hUpIdeal : Cert.UpIdeal.Facts] [hPre_sums_of_squares : Cert.Pre_sums_of_squares.Facts] : Prop :=
  ∀ (m : (ℓ : Loc Cert.UpIdeal.nD Cert.UpIdeal.τ Cert.UpIdeal.sig) → Buf (Elt Ideal) ℓ) (g : Dev Cert.UpIdeal.nD → PrngReg), Pre_UpIdeal_sums_of_squares m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_UpReferenceIdeal_pre_sums_of_squares [hUpReferenceIdeal : Cert.UpReferenceIdeal.Facts] [hPre_sums_of_squares : Cert.Pre_sums_of_squares.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_sums_of_squares m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      True)
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      True)
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      True)
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpReferenceIdeal_pre_sums_of_squares [hUpIdeal : Cert.UpIdeal.Facts] [hUpReferenceIdeal : Cert.UpReferenceIdeal.Facts] [hPre_sums_of_squares : Cert.Pre_sums_of_squares.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal_sums_of_squares m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v14) = v0 c
          ∧ r.2.mem ((c.tc : Thread Cert.UpReferenceIdeal.nD Cert.UpReferenceIdeal.τ).loc Cert.UpReferenceIdeal.main_v15) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v16) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)
      ∧ m' ((c.tc : Thread Cert.InReferenceIdeal.nD Cert.InReferenceIdeal.τ).loc Cert.InReferenceIdeal.main_arg3) = m ((c.tc : Thread Cert.InIdeal.nD Cert.InIdeal.τ).loc Cert.InIdeal.main_arg3)
      ∧ m' ((c.tc : Thread Cert.InReferenceIdeal.nD Cert.InReferenceIdeal.τ).loc Cert.InReferenceIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v2_0)) (v1 : (c : Dev Cert.InIdeal.nD) → Buf (Elt Ideal) ((c.tc : Thread Cert.InIdeal.nD Cert.InIdeal.τ).loc Cert.InIdeal.main_v2_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2_0) = v0 c
          ∧ r.2.mem ((c.tc : Thread Cert.InIdeal.nD Cert.InIdeal.τ).loc Cert.InIdeal.main_v2_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v55) = v0 c
          ∧ r.2.mem ((c.tc : Thread Cert.InReferenceIdeal.nD Cert.InReferenceIdeal.τ).loc Cert.InReferenceIdeal.main_v69) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      True) →
    ∃ (v0 : (c : Dev Cert.RopeIdeal.nD) → Buf (Elt Ideal) ((c.tc : Thread Cert.RopeIdeal.nD Cert.RopeIdeal.τ).loc Cert.RopeIdeal.main_v0_0)) (v1 : (c : Dev Cert.RopeIdeal.nD) → Buf (Elt Ideal) ((c.tc : Thread Cert.RopeIdeal.nD Cert.RopeIdeal.τ).loc Cert.RopeIdeal.main_v0_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v0_0) = v0 c
          ∧ r.2.mem ((c.tc : Thread Cert.RopeIdeal.nD Cert.RopeIdeal.τ).loc Cert.RopeIdeal.main_v0_1) = v1 c)
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v12) = v0 c
          ∧ r.2.mem ((c.tc : Thread Cert.RopeReferenceIdeal.nD Cert.RopeReferenceIdeal.τ).loc Cert.RopeReferenceIdeal.main_v13) = v1 c)

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hIn : Cert.In.Facts) (hInIdeal : Cert.InIdeal.Facts) (hInReferenceIdeal : Cert.InReferenceIdeal.Facts) (hRope : Cert.Rope.Facts) (hRopeIdeal : Cert.RopeIdeal.Facts) (hRopeReferenceIdeal : Cert.RopeReferenceIdeal.Facts) (hPre_sums_of_squares : Cert.Pre_sums_of_squares.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp)
    ∧ quiescent_UpIdeal (hUpIdeal := hUpIdeal)
    ∧ quiescent_UpIdeal_pre_sums_of_squares (hUpIdeal := hUpIdeal) (hPre_sums_of_squares := hPre_sums_of_squares)
    ∧ quiescent_UpReferenceIdeal (hUpReferenceIdeal := hUpReferenceIdeal)
    ∧ quiescent_UpReferenceIdeal_pre_sums_of_squares (hUpReferenceIdeal := hUpReferenceIdeal) (hPre_sums_of_squares := hPre_sums_of_squares)
    ∧ quiescent_Down (hDown := hDown)
    ∧ quiescent_DownIdeal (hDownIdeal := hDownIdeal)
    ∧ quiescent_DownReferenceIdeal (hDownReferenceIdeal := hDownReferenceIdeal)
    ∧ quiescent_In (hIn := hIn)
    ∧ quiescent_InIdeal (hInIdeal := hInIdeal)
    ∧ quiescent_InReferenceIdeal (hInReferenceIdeal := hInReferenceIdeal)
    ∧ quiescent_Rope (hRope := hRope)
    ∧ quiescent_RopeIdeal (hRopeIdeal := hRopeIdeal)
    ∧ quiescent_RopeReferenceIdeal (hRopeReferenceIdeal := hRopeReferenceIdeal)
    ∧ preserves_Kernel_KernelIdeal
    ∧ algebraic_KernelIdeal_ReferenceIdeal (hKernelIdeal := hKernelIdeal) (hReferenceIdeal := hReferenceIdeal)
    ∧ preserves_Up_UpIdeal
    ∧ algebraic_UpIdeal_UpReferenceIdeal_pre_sums_of_squares (hUpIdeal := hUpIdeal) (hUpReferenceIdeal := hUpReferenceIdeal) (hPre_sums_of_squares := hPre_sums_of_squares)
    ∧ preserves_Down_DownIdeal
    ∧ algebraic_DownIdeal_DownReferenceIdeal (hDownIdeal := hDownIdeal) (hDownReferenceIdeal := hDownReferenceIdeal)
    ∧ preserves_In_InIdeal
    ∧ algebraic_InIdeal_InReferenceIdeal (hInIdeal := hInIdeal) (hInReferenceIdeal := hInReferenceIdeal)
    ∧ preserves_Rope_RopeIdeal
    ∧ algebraic_RopeIdeal_RopeReferenceIdeal (hRopeIdeal := hRopeIdeal) (hRopeReferenceIdeal := hRopeReferenceIdeal)
-- ==== Pre_sums_of_squares.lean ====
abbrev S16384x4096 : Shape := ⟨2, ![16384, 4096]⟩
abbrev S16384x1024 : Shape := ⟨2, ![16384, 1024]⟩
abbrev S4096x16384 : Shape := ⟨2, ![4096, 16384]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x4096 .bf16) (main_arg1 : FVec F S16384x1024 .f32) (main_arg2 : FVec F S4096x16384 .bf16) (main_arg3 : FVec F S16384x4096 .f32) : IVec S16384x1024 1 :=
  let main_cst : FVec F S_ .f32 := constant S_ .f32 0x00000000#32
  let main_v0 : FVec F S16384x1024 .f32 := broadcastInDim S16384x1024 ![] bcast_S_S16384x1024 main_cst
  let main_v1 : IVec S16384x1024 1 := cmpf .oge main_arg1 main_v0
  main_v1
-- ==== Kernel.lean ====
abbrev S16384x2048 : Shape := ⟨2, ![16384, 2048]⟩
abbrev S4096x4096 : Shape := ⟨2, ![4096, 4096]⟩
abbrev S16384x4096 : Shape := ⟨2, ![16384, 4096]⟩
abbrev S1x4096 : Shape := ⟨2, ![1, 4096]⟩
abbrev S4096 : Shape := ⟨1, ![4096]⟩
abbrev S16384x1024 : Shape := ⟨2, ![16384, 1024]⟩
abbrev S2x1024x2048 : Shape := ⟨3, ![2, 1024, 2048]⟩
abbrev S2 : Shape := ⟨1, ![2]⟩
abbrev S3x2048x512 : Shape := ⟨3, ![3, 2048, 512]⟩
abbrev S3 : Shape := ⟨1, ![3]⟩
abbrev S3x1024x512 : Shape := ⟨3, ![3, 1024, 512]⟩
abbrev S2x1x512 : Shape := ⟨3, ![2, 1, 512]⟩
abbrev S2x1024x512 : Shape := ⟨3, ![2, 1024, 512]⟩
abbrev S2x1024x128 : Shape := ⟨3, ![2, 1024, 128]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S1x2048x512 : Shape := ⟨3, ![1, 2048, 512]⟩
abbrev S2048x512 : Shape := ⟨2, ![2048, 512]⟩
abbrev S1x1024x512 : Shape := ⟨3, ![1, 1024, 512]⟩
abbrev S1024x512 : Shape := ⟨2, ![1024, 512]⟩
abbrev S1x1x512 : Shape := ⟨3, ![1, 1, 512]⟩
abbrev S1x512 : Shape := ⟨2, ![1, 512]⟩
abbrev S1024x128 : Shape := ⟨2, ![1024, 128]⟩
abbrev S1x1024x128 : Shape := ⟨3, ![1, 1024, 128]⟩

abbrev nBuf : Space → Nat
  | .hbm => 10
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S16384x4096, .f32⟩
  | .hbm, ⟨8, _⟩ => ⟨S16384x4096, .bf16⟩
  | .hbm, ⟨9, _⟩ => ⟨S16384x1024, .f32⟩
  | .local _ .vmem, ⟨0, _⟩ => ⟨S2x1024x2048, .bf16⟩
  | .local _ .vmem, ⟨1, _⟩ => ⟨S2x1024x2048, .bf16⟩
  | .local _ .vmem, ⟨2, _⟩ => ⟨S3x2048x512, .bf16⟩
  | .local _ .vmem, ⟨3, _⟩ => ⟨S3x2048x512, .bf16⟩
  | .local _ .vmem, ⟨4, _⟩ => ⟨S3x1024x512, .f32⟩
  | .local _ .vmem, ⟨5, _⟩ => ⟨S2x1x512, .f32⟩
  | .local _ .vmem, ⟨6, _⟩ => ⟨S2x1024x512, .f32⟩
  | .local _ .vmem, ⟨7, _⟩ => ⟨S2x1024x512, .bf16⟩
  | .local _ .vmem, ⟨8, _⟩ => ⟨S2x1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩
abbrev cc0_scoped10 : Ref sig .tc := ⟨.vmem, 5, rfl⟩
abbrev cc0_scoped12 : Ref sig .tc := ⟨.vmem, 6, rfl⟩
abbrev cc0_scoped14 : Ref sig .tc := ⟨.vmem, 7, rfl⟩
abbrev cc0_scoped16 : Ref sig .tc := ⟨.vmem, 8, rfl⟩

abbrev nD : Nat := 1
abbrev τ : Topo := Topo.v7x

variable {F : FTy → Type} [FloatOps F]

abbrev grid0 : Pipeline.Grid := .none

def k0_off1 : Fin 1 → Nat :=
  let c0_i32_40_r0 : BitVec 32 := 0#32
  let c2_i32_r0 : BitVec 32 := 2#32
  let v45_r0 : BitVec 32 := Scalar.remui c0_i32_40_r0 c2_i32_r0
  ![v45_r0.toNat]
def k0_off2 : Fin 3 → Nat :=
  let c0_i32_40_r0 : BitVec 32 := 0#32
  let c2_i32_r0 : BitVec 32 := 2#32
  let v45_r0 : BitVec 32 := Scalar.remui c0_i32_40_r0 c2_i32_r0
  let c0_i32_41_r0 : BitVec 32 := 0#32
  let c0_i32_42_r0 : BitVec 32 := 0#32
  ![v45_r0.toNat, 0, 0]
def k0_off3 : Fin 1 → Nat :=
  let c0_i32_55_r0 : BitVec 32 := 0#32
  let c3_i32_r0 : BitVec 32 := 3#32
  let v59_r0 : BitVec 32 := Scalar.remui c0_i32_55_r0 c3_i32_r0
  ![v59_r0.toNat]
def k0_off4 : Fin 3 → Nat :=
  let c0_i32_55_r0 : BitVec 32 := 0#32
  let c3_i32_r0 : BitVec 32 := 3#32
  let v59_r0 : BitVec 32 := Scalar.remui c0_i32_55_r0 c3_i32_r0
  let c0_i32_56_r0 : BitVec 32 := 0#32
  let c0_i32_57_r0 : BitVec 32 := 0#32
  ![v59_r0.toNat, 0, 0]
def k0_off5 : Fin 3 → Nat :=
  let c0_i32_69_r0 : BitVec 32 := 0#32
  let c3_i32_70_r0 : BitVec 32 := 3#32
  let v73_r0 : BitVec 32 := Scalar.remui c0_i32_69_r0 c3_i32_70_r0
  let c0_i32_71_r0 : BitVec 32 := 0#32
  let c0_i32_72_r0 : BitVec 32 := 0#32
  ![v73_r0.toNat, 0, 0]
def k0_off6 : Fin 3 → Nat :=
  let c0_i32_77_r0 : BitVec 32 := 0#32
  let c2_i32_78_r0 : BitVec 32 := 2#32
  let v80_r0 : BitVec 32 := Scalar.remui c0_i32_77_r0 c2_i32_78_r0
  let c0_i32_79_r0 : BitVec 32 := 0#32
  let c0_i32_80_r0 : BitVec 32 := 0#32
  ![v80_r0.toNat, 0, 0]
def k0_cond1 : BitVec 1 :=
  let true_86_r0 : BitVec 1 := 1#1
  let true_14_r0 : BitVec 1 := 1#1
  let c1_i32_r0 : BitVec 32 := 1#32
  let c0_i32_15_r0 : BitVec 32 := 0#32
  let v17_r0 : BitVec 32 := Scalar.select true_14_r0 c1_i32_r0 c0_i32_15_r0
  let c8_i32_r0 : BitVec 32 := 8#32
  let v18_r0 : BitVec 1 := Scalar.cmpi .eq v17_r0 c8_i32_r0
  let c0_i32_16_r0 : BitVec 32 := 0#32
  let v19_r0 : BitVec 32 := Scalar.select v18_r0 c0_i32_16_r0 v17_r0
  let c0_i32_21_r0 : BitVec 32 := 0#32
  let v24_r0 : BitVec 32 := Scalar.addi v19_r0 c0_i32_21_r0
  let c0_i32_85_r0 : BitVec 32 := 0#32
  let v87_r0 : BitVec 1 := Scalar.cmpi .ne v24_r0 c0_i32_85_r0
  let v88_r0 : BitVec 1 := Scalar.andi true_86_r0 v87_r0
  let true_87_r0 : BitVec 1 := 1#1
  let v89_r0 : BitVec 1 := Scalar.andi v88_r0 true_87_r0
  let v90_r0 : BitVec 32 := Scalar.extui v89_r0
  let c0_i32_88_r0 : BitVec 32 := 0#32
  let v91_r0 : BitVec 1 := Scalar.cmpi .ne v90_r0 c0_i32_88_r0
  v91_r0

def k0_off7 : Fin 1 → Nat :=
  let c0_i32_60_r0 : BitVec 32 := 0#32
  let c1_i32_61_r0 : BitVec 32 := 1#32
  let v65_r0 : BitVec 32 := Scalar.addi c0_i32_60_r0 c1_i32_61_r0
  let c3_i32_176_r0 : BitVec 32 := 3#32
  let v186_r0 : BitVec 32 := Scalar.remui v65_r0 c3_i32_176_r0
  ![v186_r0.toNat]
def k0_off8 : Fin 3 → Nat :=
  let c0_i32_60_r0 : BitVec 32 := 0#32
  let c1_i32_61_r0 : BitVec 32 := 1#32
  let v65_r0 : BitVec 32 := Scalar.addi c0_i32_60_r0 c1_i32_61_r0
  let c3_i32_176_r0 : BitVec 32 := 3#32
  let v186_r0 : BitVec 32 := Scalar.remui v65_r0 c3_i32_176_r0
  let c0_i32_178_r0 : BitVec 32 := 0#32
  let c0_i32_179_r0 : BitVec 32 := 0#32
  ![v186_r0.toNat, 0, 0]
def k0_off9 : Fin 2 → Nat :=
  let c0_i32_180_r0 : BitVec 32 := 0#32
  let c512_i32_177_r0 : BitVec 32 := 512#32
  let true_14_r0 : BitVec 1 := 1#1
  let c1_i32_r0 : BitVec 32 := 1#32
  let c0_i32_15_r0 : BitVec 32 := 0#32
  let v17_r0 : BitVec 32 := Scalar.select true_14_r0 c1_i32_r0 c0_i32_15_r0
  let c8_i32_r0 : BitVec 32 := 8#32
  let v18_r0 : BitVec 1 := Scalar.cmpi .eq v17_r0 c8_i32_r0
  let c0_i32_16_r0 : BitVec 32 := 0#32
  let v19_r0 : BitVec 32 := Scalar.select v18_r0 c0_i32_16_r0 v17_r0
  let c0_i32_21_r0 : BitVec 32 := 0#32
  let v24_r0 : BitVec 32 := Scalar.addi v19_r0 c0_i32_21_r0
  let v187_r0 : BitVec 32 := Scalar.muli c512_i32_177_r0 v24_r0
  ![0, v187_r0.toNat]
def k0_cond2 : BitVec 1 :=
  let true_91_r0 : BitVec 1 := 1#1
  let true_14_r0 : BitVec 1 := 1#1
  let c1_i32_r0 : BitVec 32 := 1#32
  let c0_i32_15_r0 : BitVec 32 := 0#32
  let v17_r0 : BitVec 32 := Scalar.select true_14_r0 c1_i32_r0 c0_i32_15_r0
  let c8_i32_r0 : BitVec 32 := 8#32
  let v18_r0 : BitVec 1 := Scalar.cmpi .eq v17_r0 c8_i32_r0
  let c0_i32_16_r0 : BitVec 32 := 0#32
  let v19_r0 : BitVec 32 := Scalar.select v18_r0 c0_i32_16_r0 v17_r0
  let c0_i32_21_r0 : BitVec 32 := 0#32
  let v24_r0 : BitVec 32 := Scalar.addi v19_r0 c0_i32_21_r0
  let c0_i32_90_r0 : BitVec 32 := 0#32
  let v94_r0 : BitVec 1 := Scalar.cmpi .ne v24_r0 c0_i32_90_r0
  let v95_r0 : BitVec 1 := Scalar.andi true_91_r0 v94_r0
  let true_92_r0 : BitVec 1 := 1#1
  let v96_r0 : BitVec 1 := Scalar.andi v95_r0 true_92_r0
  let v97_r0 : BitVec 32 := Scalar.extui v96_r0
  let c0_i32_93_r0 : BitVec 32 := 0#32
  let v98_r0 : BitVec 1 := Scalar.cmpi .ne v97_r0 c0_i32_93_r0
  v98_r0

def k0_off10 : Fin 1 → Nat :=
  let c0_i32_67_r0 : BitVec 32 := 0#32
  let c1_i32_68_r0 : BitVec 32 := 1#32
  let v72_r0 : BitVec 32 := Scalar.addi c0_i32_67_r0 c1_i32_68_r0
  let c3_i32_176_r0 : BitVec 32 := 3#32
  let v186_r0 : BitVec 32 := Scalar.remui v72_r0 c3_i32_176_r0
  ![v186_r0.toNat]
def k0_off11 : Fin 3 → Nat :=
  let c0_i32_67_r0 : BitVec 32 := 0#32
  let c1_i32_68_r0 : BitVec 32 := 1#32
  let v72_r0 : BitVec 32 := Scalar.addi c0_i32_67_r0 c1_i32_68_r0
  let c3_i32_176_r0 : BitVec 32 := 3#32
  let v186_r0 : BitVec 32 := Scalar.remui v72_r0 c3_i32_176_r0
  let c0_i32_178_r0 : BitVec 32 := 0#32
  let c0_i32_179_r0 : BitVec 32 := 0#32
  ![v186_r0.toNat, 0, 0]
def k0_off12 : Fin 2 → Nat :=
  let c2048_i32_180_r0 : BitVec 32 := 2048#32
  let c512_i32_177_r0 : BitVec 32 := 512#32
  let true_14_r0 : BitVec 1 := 1#1
  let c1_i32_r0 : BitVec 32 := 1#32
  let c0_i32_15_r0 : BitVec 32 := 0#32
  let v17_r0 : BitVec 32 := Scalar.select true_14_r0 c1_i32_r0 c0_i32_15_r0
  let c8_i32_r0 : BitVec 32 := 8#32
  let v18_r0 : BitVec 1 := Scalar.cmpi .eq v17_r0 c8_i32_r0
  let c0_i32_16_r0 : BitVec 32 := 0#32
  let v19_r0 : BitVec 32 := Scalar.select v18_r0 c0_i32_16_r0 v17_r0
  let c0_i32_21_r0 : BitVec 32 := 0#32
  let v24_r0 : BitVec 32 := Scalar.addi v19_r0 c0_i32_21_r0
  let v187_r0 : BitVec 32 := Scalar.muli c512_i32_177_r0 v24_r0
  ![2048, v187_r0.toNat]
def k0_cond3 : BitVec 1 :=
  let true_97_r0 : BitVec 1 := 1#1
  let true_14_r0 : BitVec 1 := 1#1
  let c1_i32_r0 : BitVec 32 := 1#32
  let c0_i32_15_r0 : BitVec 32 := 0#32
  let v17_r0 : BitVec 32 := Scalar.select true_14_r0 c1_i32_r0 c0_i32_15_r0
  let c8_i32_r0 : BitVec 32 := 8#32
  let v18_r0 : BitVec 1 := Scalar.cmpi .eq v17_r0 c8_i32_r0
  let c1_i32_18_r0 : BitVec 32 := 1#32
  let c0_i32_17_r0 : BitVec 32 := 0#32
  let v20_r0 : BitVec 32 := Scalar.select v18_r0 c1_i32_18_r0 c0_i32_17_r0
  let c16_i32_r0 : BitVec 32 := 16#32
  let v21_r0 : BitVec 1 := Scalar.cmpi .eq v20_r0 c16_i32_r0
  let c0_i32_19_r0 : BitVec 32 := 0#32
  let v22_r0 : BitVec 32 := Scalar.select v21_r0 c0_i32_19_r0 v20_r0
  let c0_i32_20_r0 : BitVec 32 := 0#32
  let v23_r0 : BitVec 32 := Scalar.addi v22_r0 c0_i32_20_r0
  let c0_i32_95_r0 : BitVec 32 := 0#32
  let v101_r0 : BitVec 1 := Scalar.cmpi .ne v23_r0 c0_i32_95_r0
  let c0_i32_16_r0 : BitVec 32 := 0#32
  let v19_r0 : BitVec 32 := Scalar.select v18_r0 c0_i32_16_r0 v17_r0
  let c0_i32_21_r0 : BitVec 32 := 0#32
  let v24_r0 : BitVec 32 := Scalar.addi v19_r0 c0_i32_21_r0
  let c0_i32_96_r0 : BitVec 32 := 0#32
  let v102_r0 : BitVec 1 := Scalar.cmpi .ne v24_r0 c0_i32_96_r0
  let v103_r0 : BitVec 1 := Scalar.ori v101_r0 v102_r0
  let v104_r0 : BitVec 1 := Scalar.andi true_97_r0 v103_r0
  let true_98_r0 : BitVec 1 := 1#1
  let v105_r0 : BitVec 1 := Scalar.andi v104_r0 true_98_r0
  let v106_r0 : BitVec 32 := Scalar.extui v105_r0
  let c0_i32_99_r0 : BitVec 32 := 0#32
  let v107_r0 : BitVec 1 := Scalar.cmpi .ne v106_r0 c0_i32_99_r0
  v107_r0

def k0_off13 : Fin 1 → Nat :=
  let c0_i32_75_r0 : BitVec 32 := 0#32
  let c1_i32_76_r0 : BitVec 32 := 1#32
  let v79_r0 : BitVec 32 := Scalar.addi c0_i32_75_r0 c1_i32_76_r0
  let c3_i32_176_r0 : BitVec 32 := 3#32
  let v186_r0 : BitVec 32 := Scalar.remui v79_r0 c3_i32_176_r0
  ![v186_r0.toNat]
def k0_off14 : Fin 3 → Nat :=
  let c0_i32_75_r0 : BitVec 32 := 0#32
  let c1_i32_76_r0 : BitVec 32 := 1#32
  let v79_r0 : BitVec 32 := Scalar.addi c0_i32_75_r0 c1_i32_76_r0
  let c3_i32_176_r0 : BitVec 32 := 3#32
  let v186_r0 : BitVec 32 := Scalar.remui v79_r0 c3_i32_176_r0
  let c0_i32_179_r0 : BitVec 32 := 0#32
  let c0_i32_180_r0 : BitVec 32 := 0#32
  ![v186_r0.toNat, 0, 0]
def k0_off15 : Fin 2 → Nat :=
  let c1024_i32_177_r0 : BitVec 32 := 1024#32
  let true_14_r0 : BitVec 1 := 1#1
  let c1_i32_r0 : BitVec 32 := 1#32
  let c0_i32_15_r0 : BitVec 32 := 0#32
  let v17_r0 : BitVec 32 := Scalar.select true_14_r0 c1_i32_r0 c0_i32_15_r0
  let c8_i32_r0 : BitVec 32 := 8#32
  let v18_r0 : BitVec 1 := Scalar.cmpi .eq v17_r0 c8_i32_r0
  let c1_i32_18_r0 : BitVec 32 := 1#32
  let c0_i32_17_r0 : BitVec 32 := 0#32
  let v20_r0 : BitVec 32 := Scalar.select v18_r0 c1_i32_18_r0 c0_i32_17_r0
  let c16_i32_r0 : BitVec 32 := 16#32
  let v21_r0 : BitVec 1 := Scalar.cmpi .eq v20_r0 c16_i32_r0
  let c0_i32_19_r0 : BitVec 32 := 0#32
  let v22_r0 : BitVec 32 := Scalar.select v21_r0 c0_i32_19_r0 v20_r0
  let c0_i32_20_r0 : BitVec 32 := 0#32
  let v23_r0 : BitVec 32 := Scalar.addi v22_r0 c0_i32_20_r0
  let v187_r0 : BitVec 32 := Scalar.muli c1024_i32_177_r0 v23_r0
  let c512_i32_178_r0 : BitVec 32 := 512#32
  let c0_i32_16_r0 : BitVec 32 := 0#32
  let v19_r0 : BitVec 32 := Scalar.select v18_r0 c0_i32_16_r0 v17_r0
  let c0_i32_21_r0 : BitVec 32 := 0#32
  let v24_r0 : BitVec 32 := Scalar.addi v19_r0 c0_i32_21_r0
  let v188_r0 : BitVec 32 := Scalar.muli c512_i32_178_r0 v24_r0
  ![v187_r0.toNat, v188_r0.toNat]
@[reducible] def k0_t1_loop : Scf.Loop 32 :=
  let c0_i32_115_r0 : BitVec 32 := 0#32
  let c128_i32_r0 : BitVec 32 := 128#32
  let v110_r0 : BitVec 32 := Scalar.addi c0_i32_115_r0 c128_i32_r0
  let c1_i32_116_r0 : BitVec 32 := 1#32
  ⟨c0_i32_115_r0, v110_r0, c1_i32_116_r0⟩
def k0_off16 (arg10_r0 : BitVec 32) : Fin 1 → Nat :=
  let c2_i32_364_r0 : BitVec 32 := 2#32
  let v587_r0 : BitVec 32 := Scalar.remui arg10_r0 c2_i32_364_r0
  ![v587_r0.toNat]
def k0_cond4 (k0_t1 : Fin k0_t1_loop.trips) (arg28_r0 : BitVec 32) (arg29_r0 : BitVec 32) : BitVec 1 :=
  let c0_i32_177_r0 : BitVec 32 := 0#32
  let v188_r0 : BitVec 32 := Scalar.addi arg28_r0 c0_i32_177_r0
  let true_189_r0 : BitVec 1 := 1#1
  let c1_i32_188_r0 : BitVec 32 := 1#32
  let v200_r0 : BitVec 32 := Scalar.addi arg29_r0 c1_i32_188_r0
  let v201_r0 : BitVec 32 := Scalar.select true_189_r0 v200_r0 arg29_r0
  let c8_i32_190_r0 : BitVec 32 := 8#32
  let v202_r0 : BitVec 1 := Scalar.cmpi .eq v201_r0 c8_i32_190_r0
  let c1_i32_192_r0 : BitVec 32 := 1#32
  let v204_r0 : BitVec 32 := Scalar.addi arg28_r0 c1_i32_192_r0
  let v205_r0 : BitVec 32 := Scalar.select v202_r0 v204_r0 arg28_r0
  let c16_i32_193_r0 : BitVec 32 := 16#32
  let v206_r0 : BitVec 1 := Scalar.cmpi .eq v205_r0 c16_i32_193_r0
  let c0_i32_194_r0 : BitVec 32 := 0#32
  let v207_r0 : BitVec 32 := Scalar.select v206_r0 c0_i32_194_r0 v205_r0
  let c0_i32_195_r0 : BitVec 32 := 0#32
  let v208_r0 : BitVec 32 := Scalar.addi v207_r0 c0_i32_195_r0
  let v230_r0 : BitVec 1 := Scalar.cmpi .ne v188_r0 v208_r0
  let c0_i32_115_r0 : BitVec 32 := 0#32
  let c1_i32_116_r0 : BitVec 32 := 1#32
  let arg9_r0 : BitVec 32 := Scf.iv c0_i32_115_r0 c1_i32_116_r0 k0_t1
  let c127_i32_215_r0 : BitVec 32 := 127#32
  let v231_r0 : BitVec 1 := Scalar.cmpi .sge arg9_r0 c127_i32_215_r0
  let true_216_r0 : BitVec 1 := 1#1
  let v232_r0 : BitVec 1 := Scalar.xori v231_r0 true_216_r0
  let v233_r0 : BitVec 1 := Scalar.andi v230_r0 v232_r0
  let true_217_r0 : BitVec 1 := 1#1
  let v234_r0 : BitVec 1 := Scalar.andi v233_r0 true_217_r0
  let v235_r0 : BitVec 32 := Scalar.extui v234_r0
  let c0_i32_218_r0 : BitVec 32 := 0#32
  let v236_r0 : BitVec 1 := Scalar.cmpi .ne v235_r0 c0_i32_218_r0
  v236_r0

def k0_off17 (arg10_r0 : BitVec 32) : Fin 3 → Nat :=
  let c2_i32_364_r0 : BitVec 32 := 2#32
  let v587_r0 : BitVec 32 := Scalar.remui arg10_r0 c2_i32_364_r0
  let c0_i32_366_r0 : BitVec 32 := 0#32
  let c0_i32_367_r0 : BitVec 32 := 0#32
  ![v587_r0.toNat, 0, 0]
def k0_off18 (arg28_r0 : BitVec 32) (arg29_r0 : BitVec 32) : Fin 2 → Nat :=
  let c1024_i32_365_r0 : BitVec 32 := 1024#32
  let true_189_r0 : BitVec 1 := 1#1
  let c1_i32_188_r0 : BitVec 32 := 1#32
  let v200_r0 : BitVec 32 := Scalar.addi arg29_r0 c1_i32_188_r0
  let v201_r0 : BitVec 32 := Scalar.select true_189_r0 v200_r0 arg29_r0
  let c8_i32_190_r0 : BitVec 32 := 8#32
  let v202_r0 : BitVec 1 := Scalar.cmpi .eq v201_r0 c8_i32_190_r0
  let c1_i32_192_r0 : BitVec 32 := 1#32
  let v204_r0 : BitVec 32 := Scalar.addi arg28_r0 c1_i32_192_r0
  let v205_r0 : BitVec 32 := Scalar.select v202_r0 v204_r0 arg28_r0
  let c16_i32_193_r0 : BitVec 32 := 16#32
  let v206_r0 : BitVec 1 := Scalar.cmpi .eq v205_r0 c16_i32_193_r0
  let c0_i32_194_r0 : BitVec 32 := 0#32
  let v207_r0 : BitVec 32 := Scalar.select v206_r0 c0_i32_194_r0 v205_r0
  let c0_i32_195_r0 : BitVec 32 := 0#32
  let v208_r0 : BitVec 32 := Scalar.addi v207_r0 c0_i32_195_r0
  let v588_r0 : BitVec 32 := Scalar.muli c1024_i32_365_r0 v208_r0
  let c0_i32_368_r0 : BitVec 32 := 0#32
  ![v588_r0.toNat, 0]
def k0_off19 (arg12_r0 : BitVec 32) : Fin 1 → Nat :=
  let c2_i32_364_r0 : BitVec 32 := 2#32
  let v587_r0 : BitVec 32 := Scalar.remui arg12_r0 c2_i32_364_r0
  ![v587_r0.toNat]
def k0_cond5 (k0_t1 : Fin k0_t1_loop.trips) (arg28_r0 : BitVec 32) (arg29_r0 : BitVec 32) : BitVec 1 :=
  let c0_i32_177_r0 : BitVec 32 := 0#32
  let v188_r0 : BitVec 32 := Scalar.addi arg28_r0 c0_i32_177_r0
  let true_189_r0 : BitVec 1 := 1#1
  let c1_i32_188_r0 : BitVec 32 := 1#32
  let v200_r0 : BitVec 32 := Scalar.addi arg29_r0 c1_i32_188_r0
  let v201_r0 : BitVec 32 := Scalar.select true_189_r0 v200_r0 arg29_r0
  let c8_i32_190_r0 : BitVec 32 := 8#32
  let v202_r0 : BitVec 1 := Scalar.cmpi .eq v201_r0 c8_i32_190_r0
  let c1_i32_192_r0 : BitVec 32 := 1#32
  let v204_r0 : BitVec 32 := Scalar.addi arg28_r0 c1_i32_192_r0
  let v205_r0 : BitVec 32 := Scalar.select v202_r0 v204_r0 arg28_r0
  let c16_i32_193_r0 : BitVec 32 := 16#32
  let v206_r0 : BitVec 1 := Scalar.cmpi .eq v205_r0 c16_i32_193_r0
  let c0_i32_194_r0 : BitVec 32 := 0#32
  let v207_r0 : BitVec 32 := Scalar.select v206_r0 c0_i32_194_r0 v205_r0
  let c0_i32_195_r0 : BitVec 32 := 0#32
  let v208_r0 : BitVec 32 := Scalar.addi v207_r0 c0_i32_195_r0
  let v240_r0 : BitVec 1 := Scalar.cmpi .ne v188_r0 v208_r0
  let c0_i32_115_r0 : BitVec 32 := 0#32
  let c1_i32_116_r0 : BitVec 32 := 1#32
  let arg9_r0 : BitVec 32 := Scf.iv c0_i32_115_r0 c1_i32_116_r0 k0_t1
  let c127_i32_221_r0 : BitVec 32 := 127#32
  let v241_r0 : BitVec 1 := Scalar.cmpi .sge arg9_r0 c127_i32_221_r0
  let true_222_r0 : BitVec 1 := 1#1
  let v242_r0 : BitVec 1 := Scalar.xori v241_r0 true_222_r0
  let v243_r0 : BitVec 1 := Scalar.andi v240_r0 v242_r0
  let true_223_r0 : BitVec 1 := 1#1
  let v244_r0 : BitVec 1 := Scalar.andi v243_r0 true_223_r0
  let v245_r0 : BitVec 32 := Scalar.extui v244_r0
  let c0_i32_224_r0 : BitVec 32 := 0#32
  let v246_r0 : BitVec 1 := Scalar.cmpi .ne v245_r0 c0_i32_224_r0
  v246_r0

def k0_off20 (arg12_r0 : BitVec 32) : Fin 3 → Nat :=
  let c2_i32_364_r0 : BitVec 32 := 2#32
  let v587_r0 : BitVec 32 := Scalar.remui arg12_r0 c2_i32_364_r0
  let c0_i32_366_r0 : BitVec 32 := 0#32
  let c0_i32_367_r0 : BitVec 32 := 0#32
  ![v587_r0.toNat, 0, 0]
def k0_off21 (arg28_r0 : BitVec 32) (arg29_r0 : BitVec 32) : Fin 2 → Nat :=
  let c1024_i32_365_r0 : BitVec 32 := 1024#32
  let true_189_r0 : BitVec 1 := 1#1
  let c1_i32_188_r0 : BitVec 32 := 1#32
  let v200_r0 : BitVec 32 := Scalar.addi arg29_r0 c1_i32_188_r0
  let v201_r0 : BitVec 32 := Scalar.select true_189_r0 v200_r0 arg29_r0
  let c8_i32_190_r0 : BitVec 32 := 8#32
  let v202_r0 : BitVec 1 := Scalar.cmpi .eq v201_r0 c8_i32_190_r0
  let c1_i32_192_r0 : BitVec 32 := 1#32
  let v204_r0 : BitVec 32 := Scalar.addi arg28_r0 c1_i32_192_r0
  let v205_r0 : BitVec 32 := Scalar.select v202_r0 v204_r0 arg28_r0
  let c16_i32_193_r0 : BitVec 32 := 16#32
  let v206_r0 : BitVec 1 := Scalar.cmpi .eq v205_r0 c16_i32_193_r0
  let c0_i32_194_r0 : BitVec 32 := 0#32
  let v207_r0 : BitVec 32 := Scalar.select v206_r0 c0_i32_194_r0 v205_r0
  let c0_i32_195_r0 : BitVec 32 := 0#32
  let v208_r0 : BitVec 32 := Scalar.addi v207_r0 c0_i32_195_r0
  let v588_r0 : BitVec 32 := Scalar.muli c1024_i32_365_r0 v208_r0
  let c0_i32_368_r0 : BitVec 32 := 0#32
  ![v588_r0.toNat, 0]
def k0_off22 (arg14_r0 : BitVec 32) : Fin 1 → Nat :=
  let c3_i32_364_r0 : BitVec 32 := 3#32
  let v587_r0 : BitVec 32 := Scalar.remui arg14_r0 c3_i32_364_r0
  ![v587_r0.toNat]
def k0_cond6 (k0_t1 : Fin k0_t1_loop.trips) (arg29_r0 : BitVec 32) : BitVec 1 :=
  let true_189_r0 : BitVec 1 := 1#1
  let c1_i32_188_r0 : BitVec 32 := 1#32
  let v200_r0 : BitVec 32 := Scalar.addi arg29_r0 c1_i32_188_r0
  let v201_r0 : BitVec 32 := Scalar.select true_189_r0 v200_r0 arg29_r0
  let c8_i32_190_r0 : BitVec 32 := 8#32
  let v202_r0 : BitVec 1 := Scalar.cmpi .eq v201_r0 c8_i32_190_r0
  let c0_i32_191_r0 : BitVec 32 := 0#32
  let v203_r0 : BitVec 32 := Scalar.select v202_r0 c0_i32_191_r0 v201_r0
  let c0_i32_196_r0 : BitVec 32 := 0#32
  let v209_r0 : BitVec 32 := Scalar.addi v203_r0 c0_i32_196_r0
  let true_198_r0 : BitVec 1 := 1#1
  let c1_i32_197_r0 : BitVec 32 := 1#32
  let v210_r0 : BitVec 32 := Scalar.addi v203_r0 c1_i32_197_r0
  let v211_r0 : BitVec 32 := Scalar.select true_198_r0 v210_r0 v203_r0
  let c8_i32_199_r0 : BitVec 32 := 8#32
  let v212_r0 : BitVec 1 := Scalar.cmpi .eq v211_r0 c8_i32_199_r0
  let c0_i32_200_r0 : BitVec 32 := 0#32
  let v213_r0 : BitVec 32 := Scalar.select v212_r0 c0_i32_200_r0 v211_r0
  let c0_i32_205_r0 : BitVec 32 := 0#32
  let v219_r0 : BitVec 32 := Scalar.addi v213_r0 c0_i32_205_r0
  let v250_r0 : BitVec 1 := Scalar.cmpi .ne v209_r0 v219_r0
  let c0_i32_115_r0 : BitVec 32 := 0#32
  let c1_i32_116_r0 : BitVec 32 := 1#32
  let arg9_r0 : BitVec 32 := Scf.iv c0_i32_115_r0 c1_i32_116_r0 k0_t1
  let c126_i32_r0 : BitVec 32 := 126#32
  let v251_r0 : BitVec 1 := Scalar.cmpi .sge arg9_r0 c126_i32_r0
  let true_227_r0 : BitVec 1 := 1#1
  let v252_r0 : BitVec 1 := Scalar.xori v251_r0 true_227_r0
  let v253_r0 : BitVec 1 := Scalar.andi v250_r0 v252_r0
  let true_228_r0 : BitVec 1 := 1#1
  let v254_r0 : BitVec 1 := Scalar.andi v253_r0 true_228_r0
  let v255_r0 : BitVec 32 := Scalar.extui v254_r0
  let c0_i32_229_r0 : BitVec 32 := 0#32
  let v256_r0 : BitVec 1 := Scalar.cmpi .ne v255_r0 c0_i32_229_r0
  v256_r0

def k0_off23 (arg14_r0 : BitVec 32) : Fin 3 → Nat :=
  let c3_i32_364_r0 : BitVec 32 := 3#32
  let v587_r0 : BitVec 32 := Scalar.remui arg14_r0 c3_i32_364_r0
  let c0_i32_366_r0 : BitVec 32 := 0#32
  let c0_i32_367_r0 : BitVec 32 := 0#32
  ![v587_r0.toNat, 0, 0]
def k0_off24 (arg29_r0 : BitVec 32) : Fin 2 → Nat :=
  let c0_i32_368_r0 : BitVec 32 := 0#32
  let c512_i32_365_r0 : BitVec 32 := 512#32
  let true_198_r0 : BitVec 1 := 1#1
  let true_189_r0 : BitVec 1 := 1#1
  let c1_i32_188_r0 : BitVec 32 := 1#32
  let v200_r0 : BitVec 32 := Scalar.addi arg29_r0 c1_i32_188_r0
  let v201_r0 : BitVec 32 := Scalar.select true_189_r0 v200_r0 arg29_r0
  let c8_i32_190_r0 : BitVec 32 := 8#32
  let v202_r0 : BitVec 1 := Scalar.cmpi .eq v201_r0 c8_i32_190_r0
  let c0_i32_191_r0 : BitVec 32 := 0#32
  let v203_r0 : BitVec 32 := Scalar.select v202_r0 c0_i32_191_r0 v201_r0
  let c1_i32_197_r0 : BitVec 32 := 1#32
  let v210_r0 : BitVec 32 := Scalar.addi v203_r0 c1_i32_197_r0
  let v211_r0 : BitVec 32 := Scalar.select true_198_r0 v210_r0 v203_r0
  let c8_i32_199_r0 : BitVec 32 := 8#32
  let v212_r0 : BitVec 1 := Scalar.cmpi .eq v211_r0 c8_i32_199_r0
  let c0_i32_200_r0 : BitVec 32 := 0#32
  let v213_r0 : BitVec 32 := Scalar.select v212_r0 c0_i32_200_r0 v211_r0
  let c0_i32_205_r0 : BitVec 32 := 0#32
  let v219_r0 : BitVec 32 := Scalar.addi v213_r0 c0_i32_205_r0
  let v588_r0 : BitVec 32 := Scalar.muli c512_i32_365_r0 v219_r0
  ![0, v588_r0.toNat]
def k0_off25 (arg16_r0 : BitVec 32) : Fin 1 → Nat :=
  let c3_i32_364_r0 : BitVec 32 := 3#32
  let v587_r0 : BitVec 32 := Scalar.remui arg16_r0 c3_i32_364_r0
  ![v587_r0.toNat]
def k0_cond7 (k0_t1 : Fin k0_t1_loop.trips) (arg29_r0 : BitVec 32) : BitVec 1 :=
  let true_189_r0 : BitVec 1 := 1#1
  let c1_i32_188_r0 : BitVec 32 := 1#32
  let v200_r0 : BitVec 32 := Scalar.addi arg29_r0 c1_i32_188_r0
  let v201_r0 : BitVec 32 := Scalar.select true_189_r0 v200_r0 arg29_r0
  let c8_i32_190_r0 : BitVec 32 := 8#32
  let v202_r0 : BitVec 1 := Scalar.cmpi .eq v201_r0 c8_i32_190_r0
  let c0_i32_191_r0 : BitVec 32 := 0#32
  let v203_r0 : BitVec 32 := Scalar.select v202_r0 c0_i32_191_r0 v201_r0
  let c0_i32_196_r0 : BitVec 32 := 0#32
  let v209_r0 : BitVec 32 := Scalar.addi v203_r0 c0_i32_196_r0
  let true_198_r0 : BitVec 1 := 1#1
  let c1_i32_197_r0 : BitVec 32 := 1#32
  let v210_r0 : BitVec 32 := Scalar.addi v203_r0 c1_i32_197_r0
  let v211_r0 : BitVec 32 := Scalar.select true_198_r0 v210_r0 v203_r0
  let c8_i32_199_r0 : BitVec 32 := 8#32
  let v212_r0 : BitVec 1 := Scalar.cmpi .eq v211_r0 c8_i32_199_r0
  let c0_i32_200_r0 : BitVec 32 := 0#32
  let v213_r0 : BitVec 32 := Scalar.select v212_r0 c0_i32_200_r0 v211_r0
  let c0_i32_205_r0 : BitVec 32 := 0#32
  let v219_r0 : BitVec 32 := Scalar.addi v213_r0 c0_i32_205_r0
  let v260_r0 : BitVec 1 := Scalar.cmpi .ne v209_r0 v219_r0
  let c0_i32_115_r0 : BitVec 32 := 0#32
  let c1_i32_116_r0 : BitVec 32 := 1#32
  let arg9_r0 : BitVec 32 := Scf.iv c0_i32_115_r0 c1_i32_116_r0 k0_t1
  let c126_i32_232_r0 : BitVec 32 := 126#32
  let v261_r0 : BitVec 1 := Scalar.cmpi .sge arg9_r0 c126_i32_232_r0
  let true_233_r0 : BitVec 1 := 1#1
  let v262_r0 : BitVec 1 := Scalar.xori v261_r0 true_233_r0
  let v263_r0 : BitVec 1 := Scalar.andi v260_r0 v262_r0
  let true_234_r0 : BitVec 1 := 1#1
  let v264_r0 : BitVec 1 := Scalar.andi v263_r0 true_234_r0
  let v265_r0 : BitVec 32 := Scalar.extui v264_r0
  let c0_i32_235_r0 : BitVec 32 := 0#32
  let v266_r0 : BitVec 1 := Scalar.cmpi .ne v265_r0 c0_i32_235_r0
  v266_r0

def k0_off26 (arg16_r0 : BitVec 32) : Fin 3 → Nat :=
  let c3_i32_364_r0 : BitVec 32 := 3#32
  let v587_r0 : BitVec 32 := Scalar.remui arg16_r0 c3_i32_364_r0
  let c0_i32_366_r0 : BitVec 32 := 0#32
  let c0_i32_367_r0 : BitVec 32 := 0#32
  ![v587_r0.toNat, 0, 0]
def k0_off27 (arg29_r0 : BitVec 32) : Fin 2 → Nat :=
  let c2048_i32_368_r0 : BitVec 32 := 2048#32
  let c512_i32_365_r0 : BitVec 32 := 512#32
  let true_198_r0 : BitVec 1 := 1#1
  let true_189_r0 : BitVec 1 := 1#1
  let c1_i32_188_r0 : BitVec 32 := 1#32
  let v200_r0 : BitVec 32 := Scalar.addi arg29_r0 c1_i32_188_r0
  let v201_r0 : BitVec 32 := Scalar.select true_189_r0 v200_r0 arg29_r0
  let c8_i32_190_r0 : BitVec 32 := 8#32
  let v202_r0 : BitVec 1 := Scalar.cmpi .eq v201_r0 c8_i32_190_r0
  let c0_i32_191_r0 : BitVec 32 := 0#32
  let v203_r0 : BitVec 32 := Scalar.select v202_r0 c0_i32_191_r0 v201_r0
  let c1_i32_197_r0 : BitVec 32 := 1#32
  let v210_r0 : BitVec 32 := Scalar.addi v203_r0 c1_i32_197_r0
  let v211_r0 : BitVec 32 := Scalar.select true_198_r0 v210_r0 v203_r0
  let c8_i32_199_r0 : BitVec 32 := 8#32
  let v212_r0 : BitVec 1 := Scalar.cmpi .eq v211_r0 c8_i32_199_r0
  let c0_i32_200_r0 : BitVec 32 := 0#32
  let v213_r0 : BitVec 32 := Scalar.select v212_r0 c0_i32_200_r0 v211_r0
  let c0_i32_205_r0 : BitVec 32 := 0#32
  let v219_r0 : BitVec 32 := Scalar.addi v213_r0 c0_i32_205_r0
  let v588_r0 : BitVec 32 := Scalar.muli c512_i32_365_r0 v219_r0
  ![2048, v588_r0.toNat]
def k0_off28 (arg18_r0 : BitVec 32) : Fin 1 → Nat :=
  let c3_i32_364_r0 : BitVec 32 := 3#32
  let v587_r0 : BitVec 32 := Scalar.remui arg18_r0 c3_i32_364_r0
  ![v587_r0.toNat]
def k0_cond8 (k0_t1 : Fin k0_t1_loop.trips) (arg28_r0 : BitVec 32) (arg29_r0 : BitVec 32) : BitVec 1 :=
  let true_189_r0 : BitVec 1 := 1#1
  let c1_i32_188_r0 : BitVec 32 := 1#32
  let v200_r0 : BitVec 32 := Scalar.addi arg29_r0 c1_i32_188_r0
  let v201_r0 : BitVec 32 := Scalar.select true_189_r0 v200_r0 arg29_r0
  let c8_i32_190_r0 : BitVec 32 := 8#32
  let v202_r0 : BitVec 1 := Scalar.cmpi .eq v201_r0 c8_i32_190_r0
  let c1_i32_192_r0 : BitVec 32 := 1#32
  let v204_r0 : BitVec 32 := Scalar.addi arg28_r0 c1_i32_192_r0
  let v205_r0 : BitVec 32 := Scalar.select v202_r0 v204_r0 arg28_r0
  let c16_i32_193_r0 : BitVec 32 := 16#32
  let v206_r0 : BitVec 1 := Scalar.cmpi .eq v205_r0 c16_i32_193_r0
  let c0_i32_194_r0 : BitVec 32 := 0#32
  let v207_r0 : BitVec 32 := Scalar.select v206_r0 c0_i32_194_r0 v205_r0
  let c0_i32_195_r0 : BitVec 32 := 0#32
  let v208_r0 : BitVec 32 := Scalar.addi v207_r0 c0_i32_195_r0
  let true_198_r0 : BitVec 1 := 1#1
  let c0_i32_191_r0 : BitVec 32 := 0#32
  let v203_r0 : BitVec 32 := Scalar.select v202_r0 c0_i32_191_r0 v201_r0
  let c1_i32_197_r0 : BitVec 32 := 1#32
  let v210_r0 : BitVec 32 := Scalar.addi v203_r0 c1_i32_197_r0
  let v211_r0 : BitVec 32 := Scalar.select true_198_r0 v210_r0 v203_r0
  let c8_i32_199_r0 : BitVec 32 := 8#32
  let v212_r0 : BitVec 1 := Scalar.cmpi .eq v211_r0 c8_i32_199_r0
  let c1_i32_201_r0 : BitVec 32 := 1#32
  let v214_r0 : BitVec 32 := Scalar.addi v207_r0 c1_i32_201_r0
  let v215_r0 : BitVec 32 := Scalar.select v212_r0 v214_r0 v207_r0
  let c16_i32_202_r0 : BitVec 32 := 16#32
  let v216_r0 : BitVec 1 := Scalar.cmpi .eq v215_r0 c16_i32_202_r0
  let c0_i32_203_r0 : BitVec 32 := 0#32
  let v217_r0 : BitVec 32 := Scalar.select v216_r0 c0_i32_203_r0 v215_r0
  let c0_i32_204_r0 : BitVec 32 := 0#32
  let v218_r0 : BitVec 32 := Scalar.addi v217_r0 c0_i32_204_r0
  let v270_r0 : BitVec 1 := Scalar.cmpi .ne v208_r0 v218_r0
  let c0_i32_196_r0 : BitVec 32 := 0#32
  let v209_r0 : BitVec 32 := Scalar.addi v203_r0 c0_i32_196_r0
  let c0_i32_200_r0 : BitVec 32 := 0#32
  let v213_r0 : BitVec 32 := Scalar.select v212_r0 c0_i32_200_r0 v211_r0
  let c0_i32_205_r0 : BitVec 32 := 0#32
  let v219_r0 : BitVec 32 := Scalar.addi v213_r0 c0_i32_205_r0
  let v271_r0 : BitVec 1 := Scalar.cmpi .ne v209_r0 v219_r0
  let v272_r0 : BitVec 1 := Scalar.ori v270_r0 v271_r0
  let c0_i32_115_r0 : BitVec 32 := 0#32
  let c1_i32_116_r0 : BitVec 32 := 1#32
  let arg9_r0 : BitVec 32 := Scf.iv c0_i32_115_r0 c1_i32_116_r0 k0_t1
  let c126_i32_238_r0 : BitVec 32 := 126#32
  let v273_r0 : BitVec 1 := Scalar.cmpi .sge arg9_r0 c126_i32_238_r0
  let true_239_r0 : BitVec 1 := 1#1
  let v274_r0 : BitVec 1 := Scalar.xori v273_r0 true_239_r0
  let v275_r0 : BitVec 1 := Scalar.andi v272_r0 v274_r0
  let true_240_r0 : BitVec 1 := 1#1
  let v276_r0 : BitVec 1 := Scalar.andi v275_r0 true_240_r0
  let v277_r0 : BitVec 32 := Scalar.extui v276_r0
  let c0_i32_241_r0 : BitVec 32 := 0#32
  let v278_r0 : BitVec 1 := Scalar.cmpi .ne v277_r0 c0_i32_241_r0
  v278_r0

def k0_off29 (arg18_r0 : BitVec 32) : Fin 3 → Nat :=
  let c3_i32_364_r0 : BitVec 32 := 3#32
  let v587_r0 : BitVec 32 := Scalar.remui arg18_r0 c3_i32_364_r0
  let c0_i32_367_r0 : BitVec 32 := 0#32
  let c0_i32_368_r0 : BitVec 32 := 0#32
  ![v587_r0.toNat, 0, 0]
def k0_off30 (arg28_r0 : BitVec 32) (arg29_r0 : BitVec 32) : Fin 2 → Nat :=
  let c1024_i32_365_r0 : BitVec 32 := 1024#32
  let true_198_r0 : BitVec 1 := 1#1
  let true_189_r0 : BitVec 1 := 1#1
  let c1_i32_188_r0 : BitVec 32 := 1#32
  let v200_r0 : BitVec 32 := Scalar.addi arg29_r0 c1_i32_188_r0
  let v201_r0 : BitVec 32 := Scalar.select true_189_r0 v200_r0 arg29_r0
  let c8_i32_190_r0 : BitVec 32 := 8#32
  let v202_r0 : BitVec 1 := Scalar.cmpi .eq v201_r0 c8_i32_190_r0
  let c0_i32_191_r0 : BitVec 32 := 0#32
  let v203_r0 : BitVec 32 := Scalar.select v202_r0 c0_i32_191_r0 v201_r0
  let c1_i32_197_r0 : BitVec 32 := 1#32
  let v210_r0 : BitVec 32 := Scalar.addi v203_r0 c1_i32_197_r0
  let v211_r0 : BitVec 32 := Scalar.select true_198_r0 v210_r0 v203_r0
  let c8_i32_199_r0 : BitVec 32 := 8#32
  let v212_r0 : BitVec 1 := Scalar.cmpi .eq v211_r0 c8_i32_199_r0
  let c1_i32_192_r0 : BitVec 32 := 1#32
  let v204_r0 : BitVec 32 := Scalar.addi arg28_r0 c1_i32_192_r0
  let v205_r0 : BitVec 32 := Scalar.select v202_r0 v204_r0 arg28_r0
  let c16_i32_193_r0 : BitVec 32 := 16#32
  let v206_r0 : BitVec 1 := Scalar.cmpi .eq v205_r0 c16_i32_193_r0
  let c0_i32_194_r0 : BitVec 32 := 0#32
  let v207_r0 : BitVec 32 := Scalar.select v206_r0 c0_i32_194_r0 v205_r0
  let c1_i32_201_r0 : BitVec 32 := 1#32
  let v214_r0 : BitVec 32 := Scalar.addi v207_r0 c1_i32_201_r0
  let v215_r0 : BitVec 32 := Scalar.select v212_r0 v214_r0 v207_r0
  let c16_i32_202_r0 : BitVec 32 := 16#32
  let v216_r0 : BitVec 1 := Scalar.cmpi .eq v215_r0 c16_i32_202_r0
  let c0_i32_203_r0 : BitVec 32 := 0#32
  let v217_r0 : BitVec 32 := Scalar.select v216_r0 c0_i32_203_r0 v215_r0
  let c0_i32_204_r0 : BitVec 32 := 0#32
  let v218_r0 : BitVec 32 := Scalar.addi v217_r0 c0_i32_204_r0
  let v588_r0 : BitVec 32 := Scalar.muli c1024_i32_365_r0 v218_r0
  let c512_i32_366_r0 : BitVec 32 := 512#32
  let c0_i32_200_r0 : BitVec 32 := 0#32
  let v213_r0 : BitVec 32 := Scalar.select v212_r0 c0_i32_200_r0 v211_r0
  let c0_i32_205_r0 : BitVec 32 := 0#32
  let v219_r0 : BitVec 32 := Scalar.addi v213_r0 c0_i32_205_r0
  let v589_r0 : BitVec 32 := Scalar.muli c512_i32_366_r0 v219_r0
  ![v588_r0.toNat, v589_r0.toNat]
def k0_off31 (arg20_r0 : BitVec 32) : Fin 1 → Nat :=
  let c2_i32_364_r0 : BitVec 32 := 2#32
  let v587_r0 : BitVec 32 := Scalar.remui arg20_r0 c2_i32_364_r0
  ![v587_r0.toNat]
def k0_cond9 (k0_t1 : Fin k0_t1_loop.trips) (arg29_r0 : BitVec 32) : BitVec 1 :=
  let c0_i32_178_r0 : BitVec 32 := 0#32
  let v189_r0 : BitVec 32 := Scalar.addi arg29_r0 c0_i32_178_r0
  let true_189_r0 : BitVec 1 := 1#1
  let c1_i32_188_r0 : BitVec 32 := 1#32
  let v200_r0 : BitVec 32 := Scalar.addi arg29_r0 c1_i32_188_r0
  let v201_r0 : BitVec 32 := Scalar.select true_189_r0 v200_r0 arg29_r0
  let c8_i32_190_r0 : BitVec 32 := 8#32
  let v202_r0 : BitVec 1 := Scalar.cmpi .eq v201_r0 c8_i32_190_r0
  let c0_i32_191_r0 : BitVec 32 := 0#32
  let v203_r0 : BitVec 32 := Scalar.select v202_r0 c0_i32_191_r0 v201_r0
  let c0_i32_196_r0 : BitVec 32 := 0#32
  let v209_r0 : BitVec 32 := Scalar.addi v203_r0 c0_i32_196_r0
  let v282_r0 : BitVec 1 := Scalar.cmpi .ne v189_r0 v209_r0
  let c0_i32_115_r0 : BitVec 32 := 0#32
  let c1_i32_116_r0 : BitVec 32 := 1#32
  let arg9_r0 : BitVec 32 := Scf.iv c0_i32_115_r0 c1_i32_116_r0 k0_t1
  let c127_i32_244_r0 : BitVec 32 := 127#32
  let v283_r0 : BitVec 1 := Scalar.cmpi .sge arg9_r0 c127_i32_244_r0
  let true_245_r0 : BitVec 1 := 1#1
  let v284_r0 : BitVec 1 := Scalar.xori v283_r0 true_245_r0
  let v285_r0 : BitVec 1 := Scalar.andi v282_r0 v284_r0
  let true_246_r0 : BitVec 1 := 1#1
  let v286_r0 : BitVec 1 := Scalar.andi v285_r0 true_246_r0
  let v287_r0 : BitVec 32 := Scalar.extui v286_r0
  let c0_i32_247_r0 : BitVec 32 := 0#32
  let v288_r0 : BitVec 1 := Scalar.cmpi .ne v287_r0 c0_i32_247_r0
  v288_r0

def k0_off32 (arg20_r0 : BitVec 32) : Fin 3 → Nat :=
  let c2_i32_364_r0 : BitVec 32 := 2#32
  let v587_r0 : BitVec 32 := Scalar.remui arg20_r0 c2_i32_364_r0
  let c0_i32_366_r0 : BitVec 32 := 0#32
  let c0_i32_367_r0 : BitVec 32 := 0#32
  ![v587_r0.toNat, 0, 0]
def k0_off33 (arg29_r0 : BitVec 32) : Fin 2 → Nat :=
  let c0_i32_368_r0 : BitVec 32 := 0#32
  let c512_i32_365_r0 : BitVec 32 := 512#32
  let true_189_r0 : BitVec 1 := 1#1
  let c1_i32_188_r0 : BitVec 32 := 1#32
  let v200_r0 : BitVec 32 := Scalar.addi arg29_r0 c1_i32_188_r0
  let v201_r0 : BitVec 32 := Scalar.select true_189_r0 v200_r0 arg29_r0
  let c8_i32_190_r0 : BitVec 32 := 8#32
  let v202_r0 : BitVec 1 := Scalar.cmpi .eq v201_r0 c8_i32_190_r0
  let c0_i32_191_r0 : BitVec 32 := 0#32
  let v203_r0 : BitVec 32 := Scalar.select v202_r0 c0_i32_191_r0 v201_r0
  let c0_i32_196_r0 : BitVec 32 := 0#32
  let v209_r0 : BitVec 32 := Scalar.addi v203_r0 c0_i32_196_r0
  let v588_r0 : BitVec 32 := Scalar.muli c512_i32_365_r0 v209_r0
  ![0, v588_r0.toNat]
def k0_off34 (arg11_r0 : BitVec 32) : Fin 1 → Nat :=
  let c2_i32_365_r0 : BitVec 32 := 2#32
  let v588_r0 : BitVec 32 := Scalar.remui arg11_r0 c2_i32_365_r0
  ![v588_r0.toNat]
def k0_cond10 (k0_t1 : Fin k0_t1_loop.trips) (arg28_r0 : BitVec 32) (arg29_r0 : BitVec 32) : BitVec 1 :=
  let c0_i32_177_r0 : BitVec 32 := 0#32
  let v188_r0 : BitVec 32 := Scalar.addi arg28_r0 c0_i32_177_r0
  let true_180_r0 : BitVec 1 := 1#1
  let c1_i32_179_r0 : BitVec 32 := 1#32
  let v190_r0 : BitVec 32 := Scalar.subi arg29_r0 c1_i32_179_r0
  let v191_r0 : BitVec 32 := Scalar.select true_180_r0 v190_r0 arg29_r0
  let c_m1_i32_181_r0 : BitVec 32 := 4294967295#32
  let v192_r0 : BitVec 1 := Scalar.cmpi .eq v191_r0 c_m1_i32_181_r0
  let c1_i32_183_r0 : BitVec 32 := 1#32
  let v194_r0 : BitVec 32 := Scalar.subi arg28_r0 c1_i32_183_r0
  let v195_r0 : BitVec 32 := Scalar.select v192_r0 v194_r0 arg28_r0
  let c_m1_i32_184_r0 : BitVec 32 := 4294967295#32
  let v196_r0 : BitVec 1 := Scalar.cmpi .eq v195_r0 c_m1_i32_184_r0
  let c15_i32_185_r0 : BitVec 32 := 15#32
  let v197_r0 : BitVec 32 := Scalar.select v196_r0 c15_i32_185_r0 v195_r0
  let c0_i32_186_r0 : BitVec 32 := 0#32
  let v198_r0 : BitVec 32 := Scalar.addi v197_r0 c0_i32_186_r0
  let v310_r0 : BitVec 1 := Scalar.cmpi .ne v188_r0 v198_r0
  let c0_i32_115_r0 : BitVec 32 := 0#32
  let c1_i32_116_r0 : BitVec 32 := 1#32
  let arg9_r0 : BitVec 32 := Scf.iv c0_i32_115_r0 c1_i32_116_r0 k0_t1
  let c0_i32_176_r0 : BitVec 32 := 0#32
  let v186_r0 : BitVec 1 := Scalar.cmpi .eq arg9_r0 c0_i32_176_r0
  let v311_r0 : BitVec 1 := Scalar.ori v310_r0 v186_r0
  let c0_i32_256_r0 : BitVec 32 := 0#32
  let v312_r0 : BitVec 1 := Scalar.cmpi .sge arg9_r0 c0_i32_256_r0
  let v313_r0 : BitVec 1 := Scalar.andi v311_r0 v312_r0
  let v314_r0 : BitVec 32 := Scalar.extui v313_r0
  let c0_i32_257_r0 : BitVec 32 := 0#32
  let v315_r0 : BitVec 1 := Scalar.cmpi .ne v314_r0 c0_i32_257_r0
  v315_r0

def k0_off35 (arg11_r0 : BitVec 32) : Fin 3 → Nat :=
  let c2_i32_365_r0 : BitVec 32 := 2#32
  let v588_r0 : BitVec 32 := Scalar.remui arg11_r0 c2_i32_365_r0
  let c0_i32_366_r0 : BitVec 32 := 0#32
  let c0_i32_367_r0 : BitVec 32 := 0#32
  ![v588_r0.toNat, 0, 0]
def k0_off36 (arg28_r0 : BitVec 32) : Fin 2 → Nat :=
  let c1024_i32_364_r0 : BitVec 32 := 1024#32
  let c0_i32_177_r0 : BitVec 32 := 0#32
  let v188_r0 : BitVec 32 := Scalar.addi arg28_r0 c0_i32_177_r0
  let v587_r0 : BitVec 32 := Scalar.muli c1024_i32_364_r0 v188_r0
  let c0_i32_368_r0 : BitVec 32 := 0#32
  ![v587_r0.toNat, 0]
def k0_off37 (arg13_r0 : BitVec 32) : Fin 1 → Nat :=
  let c2_i32_365_r0 : BitVec 32 := 2#32
  let v588_r0 : BitVec 32 := Scalar.remui arg13_r0 c2_i32_365_r0
  ![v588_r0.toNat]
def k0_cond11 (k0_t1 : Fin k0_t1_loop.trips) (arg28_r0 : BitVec 32) (arg29_r0 : BitVec 32) : BitVec 1 :=
  let c0_i32_177_r0 : BitVec 32 := 0#32
  let v188_r0 : BitVec 32 := Scalar.addi arg28_r0 c0_i32_177_r0
  let true_180_r0 : BitVec 1 := 1#1
  let c1_i32_179_r0 : BitVec 32 := 1#32
  let v190_r0 : BitVec 32 := Scalar.subi arg29_r0 c1_i32_179_r0
  let v191_r0 : BitVec 32 := Scalar.select true_180_r0 v190_r0 arg29_r0
  let c_m1_i32_181_r0 : BitVec 32 := 4294967295#32
  let v192_r0 : BitVec 1 := Scalar.cmpi .eq v191_r0 c_m1_i32_181_r0
  let c1_i32_183_r0 : BitVec 32 := 1#32
  let v194_r0 : BitVec 32 := Scalar.subi arg28_r0 c1_i32_183_r0
  let v195_r0 : BitVec 32 := Scalar.select v192_r0 v194_r0 arg28_r0
  let c_m1_i32_184_r0 : BitVec 32 := 4294967295#32
  let v196_r0 : BitVec 1 := Scalar.cmpi .eq v195_r0 c_m1_i32_184_r0
  let c15_i32_185_r0 : BitVec 32 := 15#32
  let v197_r0 : BitVec 32 := Scalar.select v196_r0 c15_i32_185_r0 v195_r0
  let c0_i32_186_r0 : BitVec 32 := 0#32
  let v198_r0 : BitVec 32 := Scalar.addi v197_r0 c0_i32_186_r0
  let v316_r0 : BitVec 1 := Scalar.cmpi .ne v188_r0 v198_r0
  let c0_i32_115_r0 : BitVec 32 := 0#32
  let c1_i32_116_r0 : BitVec 32 := 1#32
  let arg9_r0 : BitVec 32 := Scf.iv c0_i32_115_r0 c1_i32_116_r0 k0_t1
  let c0_i32_176_r0 : BitVec 32 := 0#32
  let v186_r0 : BitVec 1 := Scalar.cmpi .eq arg9_r0 c0_i32_176_r0
  let v317_r0 : BitVec 1 := Scalar.ori v316_r0 v186_r0
  let c0_i32_258_r0 : BitVec 32 := 0#32
  let v318_r0 : BitVec 1 := Scalar.cmpi .sge arg9_r0 c0_i32_258_r0
  let v319_r0 : BitVec 1 := Scalar.andi v317_r0 v318_r0
  let v320_r0 : BitVec 32 := Scalar.extui v319_r0
  let c0_i32_259_r0 : BitVec 32 := 0#32
  let v321_r0 : BitVec 1 := Scalar.cmpi .ne v320_r0 c0_i32_259_r0
  v321_r0

def k0_off38 (arg13_r0 : BitVec 32) : Fin 3 → Nat :=
  let c2_i32_365_r0 : BitVec 32 := 2#32
  let v588_r0 : BitVec 32 := Scalar.remui arg13_r0 c2_i32_365_r0
  let c0_i32_366_r0 : BitVec 32 := 0#32
  let c0_i32_367_r0 : BitVec 32 := 0#32
  ![v588_r0.toNat, 0, 0]
def k0_off39 (arg28_r0 : BitVec 32) : Fin 2 → Nat :=
  let c1024_i32_364_r0 : BitVec 32 := 1024#32
  let c0_i32_177_r0 : BitVec 32 := 0#32
  let v188_r0 : BitVec 32 := Scalar.addi arg28_r0 c0_i32_177_r0
  let v587_r0 : BitVec 32 := Scalar.muli c1024_i32_364_r0 v188_r0
  let c0_i32_368_r0 : BitVec 32 := 0#32
  ![v587_r0.toNat, 0]
def k0_off40 (arg15_r0 : BitVec 32) : Fin 1 → Nat :=
  let c3_i32_365_r0 : BitVec 32 := 3#32
  let v588_r0 : BitVec 32 := Scalar.remui arg15_r0 c3_i32_365_r0
  ![v588_r0.toNat]
def k0_cond12 (k0_t1 : Fin k0_t1_loop.trips) (arg29_r0 : BitVec 32) : BitVec 1 :=
  let c0_i32_178_r0 : BitVec 32 := 0#32
  let v189_r0 : BitVec 32 := Scalar.addi arg29_r0 c0_i32_178_r0
  let true_180_r0 : BitVec 1 := 1#1
  let c1_i32_179_r0 : BitVec 32 := 1#32
  let v190_r0 : BitVec 32 := Scalar.subi arg29_r0 c1_i32_179_r0
  let v191_r0 : BitVec 32 := Scalar.select true_180_r0 v190_r0 arg29_r0
  let c_m1_i32_181_r0 : BitVec 32 := 4294967295#32
  let v192_r0 : BitVec 1 := Scalar.cmpi .eq v191_r0 c_m1_i32_181_r0
  let c7_i32_182_r0 : BitVec 32 := 7#32
  let v193_r0 : BitVec 32 := Scalar.select v192_r0 c7_i32_182_r0 v191_r0
  let c0_i32_187_r0 : BitVec 32 := 0#32
  let v199_r0 : BitVec 32 := Scalar.addi v193_r0 c0_i32_187_r0
  let v322_r0 : BitVec 1 := Scalar.cmpi .ne v189_r0 v199_r0
  let c0_i32_115_r0 : BitVec 32 := 0#32
  let c1_i32_116_r0 : BitVec 32 := 1#32
  let arg9_r0 : BitVec 32 := Scf.iv c0_i32_115_r0 c1_i32_116_r0 k0_t1
  let c0_i32_176_r0 : BitVec 32 := 0#32
  let v186_r0 : BitVec 1 := Scalar.cmpi .eq arg9_r0 c0_i32_176_r0
  let v323_r0 : BitVec 1 := Scalar.ori v322_r0 v186_r0
  let c0_i32_260_r0 : BitVec 32 := 0#32
  let v324_r0 : BitVec 1 := Scalar.cmpi .sge arg9_r0 c0_i32_260_r0
  let v325_r0 : BitVec 1 := Scalar.andi v323_r0 v324_r0
  let v326_r0 : BitVec 32 := Scalar.extui v325_r0
  let c0_i32_261_r0 : BitVec 32 := 0#32
  let v327_r0 : BitVec 1 := Scalar.cmpi .ne v326_r0 c0_i32_261_r0
  v327_r0

def k0_off41 (arg15_r0 : BitVec 32) : Fin 3 → Nat :=
  let c3_i32_365_r0 : BitVec 32 := 3#32
  let v588_r0 : BitVec 32 := Scalar.remui arg15_r0 c3_i32_365_r0
  let c0_i32_366_r0 : BitVec 32 := 0#32
  let c0_i32_367_r0 : BitVec 32 := 0#32
  ![v588_r0.toNat, 0, 0]
def k0_off42 (arg29_r0 : BitVec 32) : Fin 2 → Nat :=
  let c0_i32_368_r0 : BitVec 32 := 0#32
  let c512_i32_364_r0 : BitVec 32 := 512#32
  let c0_i32_178_r0 : BitVec 32 := 0#32
  let v189_r0 : BitVec 32 := Scalar.addi arg29_r0 c0_i32_178_r0
  let v587_r0 : BitVec 32 := Scalar.muli c512_i32_364_r0 v189_r0
  ![0, v587_r0.toNat]
def k0_off43 (arg17_r0 : BitVec 32) : Fin 1 → Nat :=
  let c3_i32_365_r0 : BitVec 32 := 3#32
  let v588_r0 : BitVec 32 := Scalar.remui arg17_r0 c3_i32_365_r0
  ![v588_r0.toNat]
def k0_cond13 (k0_t1 : Fin k0_t1_loop.trips) (arg29_r0 : BitVec 32) : BitVec 1 :=
  let c0_i32_178_r0 : BitVec 32 := 0#32
  let v189_r0 : BitVec 32 := Scalar.addi arg29_r0 c0_i32_178_r0
  let true_180_r0 : BitVec 1 := 1#1
  let c1_i32_179_r0 : BitVec 32 := 1#32
  let v190_r0 : BitVec 32 := Scalar.subi arg29_r0 c1_i32_179_r0
  let v191_r0 : BitVec 32 := Scalar.select true_180_r0 v190_r0 arg29_r0
  let c_m1_i32_181_r0 : BitVec 32 := 4294967295#32
  let v192_r0 : BitVec 1 := Scalar.cmpi .eq v191_r0 c_m1_i32_181_r0
  let c7_i32_182_r0 : BitVec 32 := 7#32
  let v193_r0 : BitVec 32 := Scalar.select v192_r0 c7_i32_182_r0 v191_r0
  let c0_i32_187_r0 : BitVec 32 := 0#32
  let v199_r0 : BitVec 32 := Scalar.addi v193_r0 c0_i32_187_r0
  let v328_r0 : BitVec 1 := Scalar.cmpi .ne v189_r0 v199_r0
  let c0_i32_115_r0 : BitVec 32 := 0#32
  let c1_i32_116_r0 : BitVec 32 := 1#32
  let arg9_r0 : BitVec 32 := Scf.iv c0_i32_115_r0 c1_i32_116_r0 k0_t1
  let c0_i32_176_r0 : BitVec 32 := 0#32
  let v186_r0 : BitVec 1 := Scalar.cmpi .eq arg9_r0 c0_i32_176_r0
  let v329_r0 : BitVec 1 := Scalar.ori v328_r0 v186_r0
  let c0_i32_262_r0 : BitVec 32 := 0#32
  let v330_r0 : BitVec 1 := Scalar.cmpi .sge arg9_r0 c0_i32_262_r0
  let v331_r0 : BitVec 1 := Scalar.andi v329_r0 v330_r0
  let v332_r0 : BitVec 32 := Scalar.extui v331_r0
  let c0_i32_263_r0 : BitVec 32 := 0#32
  let v333_r0 : BitVec 1 := Scalar.cmpi .ne v332_r0 c0_i32_263_r0
  v333_r0

def k0_off44 (arg17_r0 : BitVec 32) : Fin 3 → Nat :=
  let c3_i32_365_r0 : BitVec 32 := 3#32
  let v588_r0 : BitVec 32 := Scalar.remui arg17_r0 c3_i32_365_r0
  let c0_i32_366_r0 : BitVec 32 := 0#32
  let c0_i32_367_r0 : BitVec 32 := 0#32
  ![v588_r0.toNat, 0, 0]
def k0_off45 (arg29_r0 : BitVec 32) : Fin 2 → Nat :=
  let c2048_i32_368_r0 : BitVec 32 := 2048#32
  let c512_i32_364_r0 : BitVec 32 := 512#32
  let c0_i32_178_r0 : BitVec 32 := 0#32
  let v189_r0 : BitVec 32 := Scalar.addi arg29_r0 c0_i32_178_r0
  let v587_r0 : BitVec 32 := Scalar.muli c512_i32_364_r0 v189_r0
  ![2048, v587_r0.toNat]
def k0_off46 (arg19_r0 : BitVec 32) : Fin 1 → Nat :=
  let c3_i32_366_r0 : BitVec 32 := 3#32
  let v589_r0 : BitVec 32 := Scalar.remui arg19_r0 c3_i32_366_r0
  ![v589_r0.toNat]
def k0_cond14 (k0_t1 : Fin k0_t1_loop.trips) (arg28_r0 : BitVec 32) (arg29_r0 : BitVec 32) : BitVec 1 :=
  let c0_i32_177_r0 : BitVec 32 := 0#32
  let v188_r0 : BitVec 32 := Scalar.addi arg28_r0 c0_i32_177_r0
  let true_180_r0 : BitVec 1 := 1#1
  let c1_i32_179_r0 : BitVec 32 := 1#32
  let v190_r0 : BitVec 32 := Scalar.subi arg29_r0 c1_i32_179_r0
  let v191_r0 : BitVec 32 := Scalar.select true_180_r0 v190_r0 arg29_r0
  let c_m1_i32_181_r0 : BitVec 32 := 4294967295#32
  let v192_r0 : BitVec 1 := Scalar.cmpi .eq v191_r0 c_m1_i32_181_r0
  let c1_i32_183_r0 : BitVec 32 := 1#32
  let v194_r0 : BitVec 32 := Scalar.subi arg28_r0 c1_i32_183_r0
  let v195_r0 : BitVec 32 := Scalar.select v192_r0 v194_r0 arg28_r0
  let c_m1_i32_184_r0 : BitVec 32 := 4294967295#32
  let v196_r0 : BitVec 1 := Scalar.cmpi .eq v195_r0 c_m1_i32_184_r0
  let c15_i32_185_r0 : BitVec 32 := 15#32
  let v197_r0 : BitVec 32 := Scalar.select v196_r0 c15_i32_185_r0 v195_r0
  let c0_i32_186_r0 : BitVec 32 := 0#32
  let v198_r0 : BitVec 32 := Scalar.addi v197_r0 c0_i32_186_r0
  let v334_r0 : BitVec 1 := Scalar.cmpi .ne v188_r0 v198_r0
  let c0_i32_178_r0 : BitVec 32 := 0#32
  let v189_r0 : BitVec 32 := Scalar.addi arg29_r0 c0_i32_178_r0
  let c7_i32_182_r0 : BitVec 32 := 7#32
  let v193_r0 : BitVec 32 := Scalar.select v192_r0 c7_i32_182_r0 v191_r0
  let c0_i32_187_r0 : BitVec 32 := 0#32
  let v199_r0 : BitVec 32 := Scalar.addi v193_r0 c0_i32_187_r0
  let v335_r0 : BitVec 1 := Scalar.cmpi .ne v189_r0 v199_r0
  let v336_r0 : BitVec 1 := Scalar.ori v334_r0 v335_r0
  let c0_i32_115_r0 : BitVec 32 := 0#32
  let c1_i32_116_r0 : BitVec 32 := 1#32
  let arg9_r0 : BitVec 32 := Scf.iv c0_i32_115_r0 c1_i32_116_r0 k0_t1
  let c0_i32_176_r0 : BitVec 32 := 0#32
  let v186_r0 : BitVec 1 := Scalar.cmpi .eq arg9_r0 c0_i32_176_r0
  let v337_r0 : BitVec 1 := Scalar.ori v336_r0 v186_r0
  let c0_i32_264_r0 : BitVec 32 := 0#32
  let v338_r0 : BitVec 1 := Scalar.cmpi .sge arg9_r0 c0_i32_264_r0
  let v339_r0 : BitVec 1 := Scalar.andi v337_r0 v338_r0
  let v340_r0 : BitVec 32 := Scalar.extui v339_r0
  let c0_i32_265_r0 : BitVec 32 := 0#32
  let v341_r0 : BitVec 1 := Scalar.cmpi .ne v340_r0 c0_i32_265_r0
  v341_r0

def k0_off47 (arg19_r0 : BitVec 32) : Fin 3 → Nat :=
  let c3_i32_366_r0 : BitVec 32 := 3#32
  let v589_r0 : BitVec 32 := Scalar.remui arg19_r0 c3_i32_366_r0
  let c0_i32_367_r0 : BitVec 32 := 0#32
  let c0_i32_368_r0 : BitVec 32 := 0#32
  ![v589_r0.toNat, 0, 0]
def k0_off48 (arg28_r0 : BitVec 32) (arg29_r0 : BitVec 32) : Fin 2 → Nat :=
  let c1024_i32_364_r0 : BitVec 32 := 1024#32
  let c0_i32_177_r0 : BitVec 32 := 0#32
  let v188_r0 : BitVec 32 := Scalar.addi arg28_r0 c0_i32_177_r0
  let v587_r0 : BitVec 32 := Scalar.muli c1024_i32_364_r0 v188_r0
  let c512_i32_365_r0 : BitVec 32 := 512#32
  let c0_i32_178_r0 : BitVec 32 := 0#32
  let v189_r0 : BitVec 32 := Scalar.addi arg29_r0 c0_i32_178_r0
  let v588_r0 : BitVec 32 := Scalar.muli c512_i32_365_r0 v189_r0
  ![v587_r0.toNat, v588_r0.toNat]
def k0_off49 (arg21_r0 : BitVec 32) : Fin 1 → Nat :=
  let c2_i32_365_r0 : BitVec 32 := 2#32
  let v588_r0 : BitVec 32 := Scalar.remui arg21_r0 c2_i32_365_r0
  ![v588_r0.toNat]
def k0_cond15 (k0_t1 : Fin k0_t1_loop.trips) (arg29_r0 : BitVec 32) : BitVec 1 :=
  let c0_i32_178_r0 : BitVec 32 := 0#32
  let v189_r0 : BitVec 32 := Scalar.addi arg29_r0 c0_i32_178_r0
  let true_180_r0 : BitVec 1 := 1#1
  let c1_i32_179_r0 : BitVec 32 := 1#32
  let v190_r0 : BitVec 32 := Scalar.subi arg29_r0 c1_i32_179_r0
  let v191_r0 : BitVec 32 := Scalar.select true_180_r0 v190_r0 arg29_r0
  let c_m1_i32_181_r0 : BitVec 32 := 4294967295#32
  let v192_r0 : BitVec 1 := Scalar.cmpi .eq v191_r0 c_m1_i32_181_r0
  let c7_i32_182_r0 : BitVec 32 := 7#32
  let v193_r0 : BitVec 32 := Scalar.select v192_r0 c7_i32_182_r0 v191_r0
  let c0_i32_187_r0 : BitVec 32 := 0#32
  let v199_r0 : BitVec 32 := Scalar.addi v193_r0 c0_i32_187_r0
  let v342_r0 : BitVec 1 := Scalar.cmpi .ne v189_r0 v199_r0
  let c0_i32_115_r0 : BitVec 32 := 0#32
  let c1_i32_116_r0 : BitVec 32 := 1#32
  let arg9_r0 : BitVec 32 := Scf.iv c0_i32_115_r0 c1_i32_116_r0 k0_t1
  let c0_i32_176_r0 : BitVec 32 := 0#32
  let v186_r0 : BitVec 1 := Scalar.cmpi .eq arg9_r0 c0_i32_176_r0
  let v343_r0 : BitVec 1 := Scalar.ori v342_r0 v186_r0
  let c0_i32_266_r0 : BitVec 32 := 0#32
  let v344_r0 : BitVec 1 := Scalar.cmpi .sge arg9_r0 c0_i32_266_r0
  let v345_r0 : BitVec 1 := Scalar.andi v343_r0 v344_r0
  let v346_r0 : BitVec 32 := Scalar.extui v345_r0
  let c0_i32_267_r0 : BitVec 32 := 0#32
  let v347_r0 : BitVec 1 := Scalar.cmpi .ne v346_r0 c0_i32_267_r0
  v347_r0

def k0_off50 (arg21_r0 : BitVec 32) : Fin 3 → Nat :=
  let c2_i32_365_r0 : BitVec 32 := 2#32
  let v588_r0 : BitVec 32 := Scalar.remui arg21_r0 c2_i32_365_r0
  let c0_i32_366_r0 : BitVec 32 := 0#32
  let c0_i32_367_r0 : BitVec 32 := 0#32
  ![v588_r0.toNat, 0, 0]
def k0_off51 (arg29_r0 : BitVec 32) : Fin 2 → Nat :=
  let c0_i32_368_r0 : BitVec 32 := 0#32
  let c512_i32_364_r0 : BitVec 32 := 512#32
  let c0_i32_178_r0 : BitVec 32 := 0#32
  let v189_r0 : BitVec 32 := Scalar.addi arg29_r0 c0_i32_178_r0
  let v587_r0 : BitVec 32 := Scalar.muli c512_i32_364_r0 v189_r0
  ![0, v587_r0.toNat]
def k0_off52 (arg11_r0 : BitVec 32) : Fin 3 → Nat :=
  let c2_i32_274_r0 : BitVec 32 := 2#32
  let v372_r0 : BitVec 32 := Scalar.remui arg11_r0 c2_i32_274_r0
  let v381_r0 : Index := Scalar.indexCast v372_r0
  let c0_r0 : Index := 0#32
  let c0_283_r0 : Index := 0#32
  ![v381_r0.toNat, 0, 0]

def k0_chk2 (arg11_r0 : BitVec 32) : Prop :=
  (∀ a, (k0_off52 arg11_r0) a + S1x1024x2048.size a ≤ S2x1024x2048.size a)
theorem k0_off52_inb : ∀ (arg11_r0 : BitVec 32) (k0_hw2 : k0_chk2 arg11_r0), ∀ a, (k0_off52 arg11_r0) a + S1x1024x2048.size a ≤ S2x1024x2048.size a := fun arg11_r0 k0_hw2 => k0_hw2

def k0_off53 (arg15_r0 : BitVec 32) : Fin 3 → Nat :=
  let c3_i32_276_r0 : BitVec 32 := 3#32
  let v374_r0 : BitVec 32 := Scalar.remui arg15_r0 c3_i32_276_r0
  let v384_r0 : Index := Scalar.indexCast v374_r0
  let c0_284_r0 : Index := 0#32
  let c0_285_r0 : Index := 0#32
  ![v384_r0.toNat, 0, 0]

def k0_chk3 (arg15_r0 : BitVec 32) : Prop :=
  (∀ a, (k0_off53 arg15_r0) a + S1x2048x512.size a ≤ S3x2048x512.size a)
theorem k0_off53_inb : ∀ (arg15_r0 : BitVec 32) (k0_hw3 : k0_chk3 arg15_r0), ∀ a, (k0_off53 arg15_r0) a + S1x2048x512.size a ≤ S3x2048x512.size a := fun arg15_r0 k0_hw3 => k0_hw3

def k0_off54 (arg13_r0 : BitVec 32) : Fin 3 → Nat :=
  let c2_i32_275_r0 : BitVec 32 := 2#32
  let v373_r0 : BitVec 32 := Scalar.remui arg13_r0 c2_i32_275_r0
  let v388_r0 : Index := Scalar.indexCast v373_r0
  let c0_286_r0 : Index := 0#32
  let c0_287_r0 : Index := 0#32
  ![v388_r0.toNat, 0, 0]

def k0_chk4 (arg13_r0 : BitVec 32) : Prop :=
  (∀ a, (k0_off54 arg13_r0) a + S1x1024x2048.size a ≤ S2x1024x2048.size a)
theorem k0_off54_inb : ∀ (arg13_r0 : BitVec 32) (k0_hw4 : k0_chk4 arg13_r0), ∀ a, (k0_off54 arg13_r0) a + S1x1024x2048.size a ≤ S2x1024x2048.size a := fun arg13_r0 k0_hw4 => k0_hw4

def k0_off55 (arg17_r0 : BitVec 32) : Fin 3 → Nat :=
  let c3_i32_277_r0 : BitVec 32 := 3#32
  let v375_r0 : BitVec 32 := Scalar.remui arg17_r0 c3_i32_277_r0
  let v391_r0 : Index := Scalar.indexCast v375_r0
  let c0_288_r0 : Index := 0#32
  let c0_289_r0 : Index := 0#32
  ![v391_r0.toNat, 0, 0]

def k0_chk5 (arg17_r0 : BitVec 32) : Prop :=
  (∀ a, (k0_off55 arg17_r0) a + S1x2048x512.size a ≤ S3x2048x512.size a)
theorem k0_off55_inb : ∀ (arg17_r0 : BitVec 32) (k0_hw5 : k0_chk5 arg17_r0), ∀ a, (k0_off55 arg17_r0) a + S1x2048x512.size a ≤ S3x2048x512.size a := fun arg17_r0 k0_hw5 => k0_hw5

def k0_off56 (arg19_r0 : BitVec 32) : Fin 3 → Nat :=
  let c3_i32_278_r0 : BitVec 32 := 3#32
  let v376_r0 : BitVec 32 := Scalar.remui arg19_r0 c3_i32_278_r0
  let v396_r0 : Index := Scalar.indexCast v376_r0
  let c0_291_r0 : Index := 0#32
  let c0_292_r0 : Index := 0#32
  ![v396_r0.toNat, 0, 0]

def k0_chk6 (arg19_r0 : BitVec 32) : Prop :=
  (∀ a, (k0_off56 arg19_r0) a + S1x1024x512.size a ≤ S3x1024x512.size a)
theorem k0_off56_inb : ∀ (arg19_r0 : BitVec 32) (k0_hw6 : k0_chk6 arg19_r0), ∀ a, (k0_off56 arg19_r0) a + S1x1024x512.size a ≤ S3x1024x512.size a := fun arg19_r0 k0_hw6 => k0_hw6

def k0_off57 (arg22_r0 : BitVec 32) : Fin 3 → Nat :=
  let c2_i32_280_r0 : BitVec 32 := 2#32
  let v378_r0 : BitVec 32 := Scalar.remui arg22_r0 c2_i32_280_r0
  let v400_r0 : Index := Scalar.indexCast v378_r0
  let c0_293_r0 : Index := 0#32
  let c0_294_r0 : Index := 0#32
  ![v400_r0.toNat, 0, 0]

def k0_chk7 (arg22_r0 : BitVec 32) : Prop :=
  (∀ a, (k0_off57 arg22_r0) a + S1x1024x512.size a ≤ S2x1024x512.size a)
theorem k0_off57_inb : ∀ (arg22_r0 : BitVec 32) (k0_hw7 : k0_chk7 arg22_r0), ∀ a, (k0_off57 arg22_r0) a + S1x1024x512.size a ≤ S2x1024x512.size a := fun arg22_r0 k0_hw7 => k0_hw7

def k0_off58 (arg21_r0 : BitVec 32) : Fin 3 → Nat :=
  let c2_i32_279_r0 : BitVec 32 := 2#32
  let v377_r0 : BitVec 32 := Scalar.remui arg21_r0 c2_i32_279_r0
  let v404_r0 : Index := Scalar.indexCast v377_r0
  let c0_295_r0 : Index := 0#32
  let c0_296_r0 : Index := 0#32
  ![v404_r0.toNat, 0, 0]

def k0_chk8 (arg21_r0 : BitVec 32) : Prop :=
  (∀ a, (k0_off58 arg21_r0) a + S1x1x512.size a ≤ S2x1x512.size a)
theorem k0_off58_inb : ∀ (arg21_r0 : BitVec 32) (k0_hw8 : k0_chk8 arg21_r0), ∀ a, (k0_off58 arg21_r0) a + S1x1x512.size a ≤ S2x1x512.size a := fun arg21_r0 k0_hw8 => k0_hw8

def k0_off59 (arg24_r0 : BitVec 32) : Fin 3 → Nat :=
  let c2_i32_281_r0 : BitVec 32 := 2#32
  let v379_r0 : BitVec 32 := Scalar.remui arg24_r0 c2_i32_281_r0
  let v410_r0 : Index := Scalar.indexCast v379_r0
  let c0_297_r0 : Index := 0#32
  let c0_298_r0 : Index := 0#32
  ![v410_r0.toNat, 0, 0]

def k0_chk9 (arg24_r0 : BitVec 32) : Prop :=
  (∀ a, (k0_off59 arg24_r0) a + S1x1024x512.size a ≤ S2x1024x512.size a) ∧
  (∀ (hinb : ∀ a, (k0_off59 arg24_r0) a + S1x1024x512.size a ≤ S2x1024x512.size a), (Rect.unit (s := S2x1024x512) (k0_off59 arg24_r0) S1x1024x512.size hinb).PackedRows (EltTy.packing .bf16))
theorem k0_off59_inb : ∀ (arg24_r0 : BitVec 32) (k0_hw9 : k0_chk9 arg24_r0), ∀ a, (k0_off59 arg24_r0) a + S1x1024x512.size a ≤ S2x1024x512.size a := fun arg24_r0 k0_hw9 => k0_hw9.1
theorem k0_off59_packedbf16 : ∀ (arg24_r0 : BitVec 32) (k0_hw9 : k0_chk9 arg24_r0), (Rect.unit (s := S2x1024x512) (k0_off59 arg24_r0) S1x1024x512.size (k0_off59_inb arg24_r0 k0_hw9)).PackedRows (EltTy.packing .bf16) := fun arg24_r0 k0_hw9 => k0_hw9.2 (k0_off59_inb arg24_r0 k0_hw9)

def k0_off60 (arg26_r0 : BitVec 32) : Fin 3 → Nat :=
  let c2_i32_282_r0 : BitVec 32 := 2#32
  let v380_r0 : BitVec 32 := Scalar.remui arg26_r0 c2_i32_282_r0
  let v422_r0 : Index := Scalar.indexCast v380_r0
  let c0_299_r0 : Index := 0#32
  let c0_300_r0 : Index := 0#32
  ![v422_r0.toNat, 0, 0]

def k0_chk10 (arg26_r0 : BitVec 32) : Prop :=
  (∀ a, (k0_off60 arg26_r0) a + S1x1024x128.size a ≤ S2x1024x128.size a)
theorem k0_off60_inb : ∀ (arg26_r0 : BitVec 32) (k0_hw10 : k0_chk10 arg26_r0), ∀ a, (k0_off60 arg26_r0) a + S1x1024x128.size a ≤ S2x1024x128.size a := fun arg26_r0 k0_hw10 => k0_hw10

def k0_off61 (arg22_r0 : BitVec 32) : Fin 1 → Nat :=
  let c2_i32_364_r0 : BitVec 32 := 2#32
  let v587_r0 : BitVec 32 := Scalar.remui arg22_r0 c2_i32_364_r0
  ![v587_r0.toNat]
def k0_cond25 (k0_t1 : Fin k0_t1_loop.trips) (arg28_r0 : BitVec 32) (arg29_r0 : BitVec 32) : BitVec 1 :=
  let c0_i32_177_r0 : BitVec 32 := 0#32
  let v188_r0 : BitVec 32 := Scalar.addi arg28_r0 c0_i32_177_r0
  let true_189_r0 : BitVec 1 := 1#1
  let c1_i32_188_r0 : BitVec 32 := 1#32
  let v200_r0 : BitVec 32 := Scalar.addi arg29_r0 c1_i32_188_r0
  let v201_r0 : BitVec 32 := Scalar.select true_189_r0 v200_r0 arg29_r0
  let c8_i32_190_r0 : BitVec 32 := 8#32
  let v202_r0 : BitVec 1 := Scalar.cmpi .eq v201_r0 c8_i32_190_r0
  let c1_i32_192_r0 : BitVec 32 := 1#32
  let v204_r0 : BitVec 32 := Scalar.addi arg28_r0 c1_i32_192_r0
  let v205_r0 : BitVec 32 := Scalar.select v202_r0 v204_r0 arg28_r0
  let c16_i32_193_r0 : BitVec 32 := 16#32
  let v206_r0 : BitVec 1 := Scalar.cmpi .eq v205_r0 c16_i32_193_r0
  let c0_i32_194_r0 : BitVec 32 := 0#32
  let v207_r0 : BitVec 32 := Scalar.select v206_r0 c0_i32_194_r0 v205_r0
  let c0_i32_195_r0 : BitVec 32 := 0#32
  let v208_r0 : BitVec 32 := Scalar.addi v207_r0 c0_i32_195_r0
  let v458_r0 : BitVec 1 := Scalar.cmpi .ne v188_r0 v208_r0
  let c0_i32_178_r0 : BitVec 32 := 0#32
  let v189_r0 : BitVec 32 := Scalar.addi arg29_r0 c0_i32_178_r0
  let c0_i32_191_r0 : BitVec 32 := 0#32
  let v203_r0 : BitVec 32 := Scalar.select v202_r0 c0_i32_191_r0 v201_r0
  let c0_i32_196_r0 : BitVec 32 := 0#32
  let v209_r0 : BitVec 32 := Scalar.addi v203_r0 c0_i32_196_r0
  let v459_r0 : BitVec 1 := Scalar.cmpi .ne v189_r0 v209_r0
  let v460_r0 : BitVec 1 := Scalar.ori v458_r0 v459_r0
  let c0_i32_115_r0 : BitVec 32 := 0#32
  let c1_i32_116_r0 : BitVec 32 := 1#32
  let arg9_r0 : BitVec 32 := Scf.iv c0_i32_115_r0 c1_i32_116_r0 k0_t1
  let c127_i32_r0 : BitVec 32 := 127#32
  let v187_r0 : BitVec 1 := Scalar.cmpi .eq arg9_r0 c127_i32_r0
  let v461_r0 : BitVec 1 := Scalar.ori v460_r0 v187_r0
  let v462_r0 : BitVec 32 := Scalar.extui v461_r0
  let c0_i32_312_r0 : BitVec 32 := 0#32
  let v463_r0 : BitVec 1 := Scalar.cmpi .ne v462_r0 c0_i32_312_r0
  v463_r0

def k0_off62 (arg28_r0 : BitVec 32) (arg29_r0 : BitVec 32) : Fin 2 → Nat :=
  let c1024_i32_365_r0 : BitVec 32 := 1024#32
  let c0_i32_177_r0 : BitVec 32 := 0#32
  let v188_r0 : BitVec 32 := Scalar.addi arg28_r0 c0_i32_177_r0
  let v588_r0 : BitVec 32 := Scalar.muli c1024_i32_365_r0 v188_r0
  let c512_i32_366_r0 : BitVec 32 := 512#32
  let c0_i32_178_r0 : BitVec 32 := 0#32
  let v189_r0 : BitVec 32 := Scalar.addi arg29_r0 c0_i32_178_r0
  let v589_r0 : BitVec 32 := Scalar.muli c512_i32_366_r0 v189_r0
  ![v588_r0.toNat, v589_r0.toNat]
def k0_off63 (arg22_r0 : BitVec 32) : Fin 3 → Nat :=
  let c2_i32_364_r0 : BitVec 32 := 2#32
  let v587_r0 : BitVec 32 := Scalar.remui arg22_r0 c2_i32_364_r0
  let c0_i32_367_r0 : BitVec 32 := 0#32
  let c0_i32_368_r0 : BitVec 32 := 0#32
  ![v587_r0.toNat, 0, 0]
def k0_off64 (arg24_r0 : BitVec 32) : Fin 1 → Nat :=
  let c2_i32_364_r0 : BitVec 32 := 2#32
  let v587_r0 : BitVec 32 := Scalar.remui arg24_r0 c2_i32_364_r0
  ![v587_r0.toNat]
def k0_cond26 (k0_t1 : Fin k0_t1_loop.trips) (arg28_r0 : BitVec 32) (arg29_r0 : BitVec 32) : BitVec 1 :=
  let c0_i32_177_r0 : BitVec 32 := 0#32
  let v188_r0 : BitVec 32 := Scalar.addi arg28_r0 c0_i32_177_r0
  let true_189_r0 : BitVec 1 := 1#1
  let c1_i32_188_r0 : BitVec 32 := 1#32
  let v200_r0 : BitVec 32 := Scalar.addi arg29_r0 c1_i32_188_r0
  let v201_r0 : BitVec 32 := Scalar.select true_189_r0 v200_r0 arg29_r0
  let c8_i32_190_r0 : BitVec 32 := 8#32
  let v202_r0 : BitVec 1 := Scalar.cmpi .eq v201_r0 c8_i32_190_r0
  let c1_i32_192_r0 : BitVec 32 := 1#32
  let v204_r0 : BitVec 32 := Scalar.addi arg28_r0 c1_i32_192_r0
  let v205_r0 : BitVec 32 := Scalar.select v202_r0 v204_r0 arg28_r0
  let c16_i32_193_r0 : BitVec 32 := 16#32
  let v206_r0 : BitVec 1 := Scalar.cmpi .eq v205_r0 c16_i32_193_r0
  let c0_i32_194_r0 : BitVec 32 := 0#32
  let v207_r0 : BitVec 32 := Scalar.select v206_r0 c0_i32_194_r0 v205_r0
  let c0_i32_195_r0 : BitVec 32 := 0#32
  let v208_r0 : BitVec 32 := Scalar.addi v207_r0 c0_i32_195_r0
  let v467_r0 : BitVec 1 := Scalar.cmpi .ne v188_r0 v208_r0
  let c0_i32_178_r0 : BitVec 32 := 0#32
  let v189_r0 : BitVec 32 := Scalar.addi arg29_r0 c0_i32_178_r0
  let c0_i32_191_r0 : BitVec 32 := 0#32
  let v203_r0 : BitVec 32 := Scalar.select v202_r0 c0_i32_191_r0 v201_r0
  let c0_i32_196_r0 : BitVec 32 := 0#32
  let v209_r0 : BitVec 32 := Scalar.addi v203_r0 c0_i32_196_r0
  let v468_r0 : BitVec 1 := Scalar.cmpi .ne v189_r0 v209_r0
  let v469_r0 : BitVec 1 := Scalar.ori v467_r0 v468_r0
  let c0_i32_115_r0 : BitVec 32 := 0#32
  let c1_i32_116_r0 : BitVec 32 := 1#32
  let arg9_r0 : BitVec 32 := Scf.iv c0_i32_115_r0 c1_i32_116_r0 k0_t1
  let c127_i32_r0 : BitVec 32 := 127#32
  let v187_r0 : BitVec 1 := Scalar.cmpi .eq arg9_r0 c127_i32_r0
  let v470_r0 : BitVec 1 := Scalar.ori v469_r0 v187_r0
  let v471_r0 : BitVec 32 := Scalar.extui v470_r0
  let c0_i32_315_r0 : BitVec 32 := 0#32
  let v472_r0 : BitVec 1 := Scalar.cmpi .ne v471_r0 c0_i32_315_r0
  v472_r0

def k0_off65 (arg28_r0 : BitVec 32) (arg29_r0 : BitVec 32) : Fin 2 → Nat :=
  let c1024_i32_365_r0 : BitVec 32 := 1024#32
  let c0_i32_177_r0 : BitVec 32 := 0#32
  let v188_r0 : BitVec 32 := Scalar.addi arg28_r0 c0_i32_177_r0
  let v588_r0 : BitVec 32 := Scalar.muli c1024_i32_365_r0 v188_r0
  let c512_i32_366_r0 : BitVec 32 := 512#32
  let c0_i32_178_r0 : BitVec 32 := 0#32
  let v189_r0 : BitVec 32 := Scalar.addi arg29_r0 c0_i32_178_r0
  let v589_r0 : BitVec 32 := Scalar.muli c512_i32_366_r0 v189_r0
  ![v588_r0.toNat, v589_r0.toNat]
def k0_off66 (arg24_r0 : BitVec 32) : Fin 3 → Nat :=
  let c2_i32_364_r0 : BitVec 32 := 2#32
  let v587_r0 : BitVec 32 := Scalar.remui arg24_r0 c2_i32_364_r0
  let c0_i32_367_r0 : BitVec 32 := 0#32
  let c0_i32_368_r0 : BitVec 32 := 0#32
  ![v587_r0.toNat, 0, 0]
def k0_off67 (arg26_r0 : BitVec 32) : Fin 1 → Nat :=
  let c2_i32_364_r0 : BitVec 32 := 2#32
  let v587_r0 : BitVec 32 := Scalar.remui arg26_r0 c2_i32_364_r0
  ![v587_r0.toNat]
def k0_cond27 (k0_t1 : Fin k0_t1_loop.trips) (arg28_r0 : BitVec 32) (arg29_r0 : BitVec 32) : BitVec 1 :=
  let c0_i32_177_r0 : BitVec 32 := 0#32
  let v188_r0 : BitVec 32 := Scalar.addi arg28_r0 c0_i32_177_r0
  let true_189_r0 : BitVec 1 := 1#1
  let c1_i32_188_r0 : BitVec 32 := 1#32
  let v200_r0 : BitVec 32 := Scalar.addi arg29_r0 c1_i32_188_r0
  let v201_r0 : BitVec 32 := Scalar.select true_189_r0 v200_r0 arg29_r0
  let c8_i32_190_r0 : BitVec 32 := 8#32
  let v202_r0 : BitVec 1 := Scalar.cmpi .eq v201_r0 c8_i32_190_r0
  let c1_i32_192_r0 : BitVec 32 := 1#32
  let v204_r0 : BitVec 32 := Scalar.addi arg28_r0 c1_i32_192_r0
  let v205_r0 : BitVec 32 := Scalar.select v202_r0 v204_r0 arg28_r0
  let c16_i32_193_r0 : BitVec 32 := 16#32
  let v206_r0 : BitVec 1 := Scalar.cmpi .eq v205_r0 c16_i32_193_r0
  let c0_i32_194_r0 : BitVec 32 := 0#32
  let v207_r0 : BitVec 32 := Scalar.select v206_r0 c0_i32_194_r0 v205_r0
  let c0_i32_195_r0 : BitVec 32 := 0#32
  let v208_r0 : BitVec 32 := Scalar.addi v207_r0 c0_i32_195_r0
  let v476_r0 : BitVec 1 := Scalar.cmpi .ne v188_r0 v208_r0
  let c0_i32_178_r0 : BitVec 32 := 0#32
  let v189_r0 : BitVec 32 := Scalar.addi arg29_r0 c0_i32_178_r0
  let c0_i32_191_r0 : BitVec 32 := 0#32
  let v203_r0 : BitVec 32 := Scalar.select v202_r0 c0_i32_191_r0 v201_r0
  let c0_i32_196_r0 : BitVec 32 := 0#32
  let v209_r0 : BitVec 32 := Scalar.addi v203_r0 c0_i32_196_r0
  let v477_r0 : BitVec 1 := Scalar.cmpi .ne v189_r0 v209_r0
  let v478_r0 : BitVec 1 := Scalar.ori v476_r0 v477_r0
  let c0_i32_115_r0 : BitVec 32 := 0#32
  let c1_i32_116_r0 : BitVec 32 := 1#32
  let arg9_r0 : BitVec 32 := Scf.iv c0_i32_115_r0 c1_i32_116_r0 k0_t1
  let c127_i32_r0 : BitVec 32 := 127#32
  let v187_r0 : BitVec 1 := Scalar.cmpi .eq arg9_r0 c127_i32_r0
  let v479_r0 : BitVec 1 := Scalar.ori v478_r0 v187_r0
  let v480_r0 : BitVec 32 := Scalar.extui v479_r0
  let c0_i32_318_r0 : BitVec 32 := 0#32
  let v481_r0 : BitVec 1 := Scalar.cmpi .ne v480_r0 c0_i32_318_r0
  v481_r0

def k0_off68 (arg28_r0 : BitVec 32) (arg29_r0 : BitVec 32) : Fin 2 → Nat :=
  let c1024_i32_365_r0 : BitVec 32 := 1024#32
  let c0_i32_177_r0 : BitVec 32 := 0#32
  let v188_r0 : BitVec 32 := Scalar.addi arg28_r0 c0_i32_177_r0
  let v588_r0 : BitVec 32 := Scalar.muli c1024_i32_365_r0 v188_r0
  let c128_i32_366_r0 : BitVec 32 := 128#32
  let c0_i32_178_r0 : BitVec 32 := 0#32
  let v189_r0 : BitVec 32 := Scalar.addi arg29_r0 c0_i32_178_r0
  let v589_r0 : BitVec 32 := Scalar.muli c128_i32_366_r0 v189_r0
  ![v588_r0.toNat, v589_r0.toNat]
def k0_off69 (arg26_r0 : BitVec 32) : Fin 3 → Nat :=
  let c2_i32_364_r0 : BitVec 32 := 2#32
  let v587_r0 : BitVec 32 := Scalar.remui arg26_r0 c2_i32_364_r0
  let c0_i32_367_r0 : BitVec 32 := 0#32
  let c0_i32_368_r0 : BitVec 32 := 0#32
  ![v587_r0.toNat, 0, 0]
def k0_off70 (arg23_r0 : BitVec 32) : Fin 1 → Nat :=
  let c2_i32_364_r0 : BitVec 32 := 2#32
  let v587_r0 : BitVec 32 := Scalar.remui arg23_r0 c2_i32_364_r0
  ![v587_r0.toNat]
def k0_cond34 (k0_t1 : Fin k0_t1_loop.trips) (arg28_r0 : BitVec 32) (arg29_r0 : BitVec 32) : BitVec 1 :=
  let c0_i32_177_r0 : BitVec 32 := 0#32
  let v188_r0 : BitVec 32 := Scalar.addi arg28_r0 c0_i32_177_r0
  let true_180_r0 : BitVec 1 := 1#1
  let c1_i32_179_r0 : BitVec 32 := 1#32
  let v190_r0 : BitVec 32 := Scalar.subi arg29_r0 c1_i32_179_r0
  let v191_r0 : BitVec 32 := Scalar.select true_180_r0 v190_r0 arg29_r0
  let c_m1_i32_181_r0 : BitVec 32 := 4294967295#32
  let v192_r0 : BitVec 1 := Scalar.cmpi .eq v191_r0 c_m1_i32_181_r0
  let c1_i32_183_r0 : BitVec 32 := 1#32
  let v194_r0 : BitVec 32 := Scalar.subi arg28_r0 c1_i32_183_r0
  let v195_r0 : BitVec 32 := Scalar.select v192_r0 v194_r0 arg28_r0
  let c_m1_i32_184_r0 : BitVec 32 := 4294967295#32
  let v196_r0 : BitVec 1 := Scalar.cmpi .eq v195_r0 c_m1_i32_184_r0
  let c15_i32_185_r0 : BitVec 32 := 15#32
  let v197_r0 : BitVec 32 := Scalar.select v196_r0 c15_i32_185_r0 v195_r0
  let c0_i32_186_r0 : BitVec 32 := 0#32
  let v198_r0 : BitVec 32 := Scalar.addi v197_r0 c0_i32_186_r0
  let v523_r0 : BitVec 1 := Scalar.cmpi .ne v188_r0 v198_r0
  let c0_i32_178_r0 : BitVec 32 := 0#32
  let v189_r0 : BitVec 32 := Scalar.addi arg29_r0 c0_i32_178_r0
  let c7_i32_182_r0 : BitVec 32 := 7#32
  let v193_r0 : BitVec 32 := Scalar.select v192_r0 c7_i32_182_r0 v191_r0
  let c0_i32_187_r0 : BitVec 32 := 0#32
  let v199_r0 : BitVec 32 := Scalar.addi v193_r0 c0_i32_187_r0
  let v524_r0 : BitVec 1 := Scalar.cmpi .ne v189_r0 v199_r0
  let v525_r0 : BitVec 1 := Scalar.ori v523_r0 v524_r0
  let c0_i32_115_r0 : BitVec 32 := 0#32
  let c1_i32_116_r0 : BitVec 32 := 1#32
  let arg9_r0 : BitVec 32 := Scf.iv c0_i32_115_r0 c1_i32_116_r0 k0_t1
  let c0_i32_176_r0 : BitVec 32 := 0#32
  let v186_r0 : BitVec 1 := Scalar.cmpi .eq arg9_r0 c0_i32_176_r0
  let true_339_r0 : BitVec 1 := 1#1
  let v526_r0 : BitVec 1 := Scalar.xori v186_r0 true_339_r0
  let v527_r0 : BitVec 1 := Scalar.andi v525_r0 v526_r0
  let v528_r0 : BitVec 32 := Scalar.extui v527_r0
  let c0_i32_340_r0 : BitVec 32 := 0#32
  let v529_r0 : BitVec 1 := Scalar.cmpi .ne v528_r0 c0_i32_340_r0
  v529_r0

def k0_off71 (arg28_r0 : BitVec 32) (arg29_r0 : BitVec 32) : Fin 2 → Nat :=
  let c1024_i32_365_r0 : BitVec 32 := 1024#32
  let true_180_r0 : BitVec 1 := 1#1
  let c1_i32_179_r0 : BitVec 32 := 1#32
  let v190_r0 : BitVec 32 := Scalar.subi arg29_r0 c1_i32_179_r0
  let v191_r0 : BitVec 32 := Scalar.select true_180_r0 v190_r0 arg29_r0
  let c_m1_i32_181_r0 : BitVec 32 := 4294967295#32
  let v192_r0 : BitVec 1 := Scalar.cmpi .eq v191_r0 c_m1_i32_181_r0
  let c1_i32_183_r0 : BitVec 32 := 1#32
  let v194_r0 : BitVec 32 := Scalar.subi arg28_r0 c1_i32_183_r0
  let v195_r0 : BitVec 32 := Scalar.select v192_r0 v194_r0 arg28_r0
  let c_m1_i32_184_r0 : BitVec 32 := 4294967295#32
  let v196_r0 : BitVec 1 := Scalar.cmpi .eq v195_r0 c_m1_i32_184_r0
  let c15_i32_185_r0 : BitVec 32 := 15#32
  let v197_r0 : BitVec 32 := Scalar.select v196_r0 c15_i32_185_r0 v195_r0
  let c0_i32_186_r0 : BitVec 32 := 0#32
  let v198_r0 : BitVec 32 := Scalar.addi v197_r0 c0_i32_186_r0
  let v588_r0 : BitVec 32 := Scalar.muli c1024_i32_365_r0 v198_r0
  let c512_i32_366_r0 : BitVec 32 := 512#32
  let c7_i32_182_r0 : BitVec 32 := 7#32
  let v193_r0 : BitVec 32 := Scalar.select v192_r0 c7_i32_182_r0 v191_r0
  let c0_i32_187_r0 : BitVec 32 := 0#32
  let v199_r0 : BitVec 32 := Scalar.addi v193_r0 c0_i32_187_r0
  let v589_r0 : BitVec 32 := Scalar.muli c512_i32_366_r0 v199_r0
  ![v588_r0.toNat, v589_r0.toNat]
def k0_off72 (arg23_r0 : BitVec 32) : Fin 3 → Nat :=
  let c2_i32_364_r0 : BitVec 32 := 2#32
  let v587_r0 : BitVec 32 := Scalar.remui arg23_r0 c2_i32_364_r0
  let c0_i32_367_r0 : BitVec 32 := 0#32
  let c0_i32_368_r0 : BitVec 32 := 0#32
  ![v587_r0.toNat, 0, 0]
def k0_off73 (arg25_r0 : BitVec 32) : Fin 1 → Nat :=
  let c2_i32_364_r0 : BitVec 32 := 2#32
  let v587_r0 : BitVec 32 := Scalar.remui arg25_r0 c2_i32_364_r0
  ![v587_r0.toNat]
def k0_cond35 (k0_t1 : Fin k0_t1_loop.trips) (arg28_r0 : BitVec 32) (arg29_r0 : BitVec 32) : BitVec 1 :=
  let c0_i32_177_r0 : BitVec 32 := 0#32
  let v188_r0 : BitVec 32 := Scalar.addi arg28_r0 c0_i32_177_r0
  let true_180_r0 : BitVec 1 := 1#1
  let c1_i32_179_r0 : BitVec 32 := 1#32
  let v190_r0 : BitVec 32 := Scalar.subi arg29_r0 c1_i32_179_r0
  let v191_r0 : BitVec 32 := Scalar.select true_180_r0 v190_r0 arg29_r0
  let c_m1_i32_181_r0 : BitVec 32 := 4294967295#32
  let v192_r0 : BitVec 1 := Scalar.cmpi .eq v191_r0 c_m1_i32_181_r0
  let c1_i32_183_r0 : BitVec 32 := 1#32
  let v194_r0 : BitVec 32 := Scalar.subi arg28_r0 c1_i32_183_r0
  let v195_r0 : BitVec 32 := Scalar.select v192_r0 v194_r0 arg28_r0
  let c_m1_i32_184_r0 : BitVec 32 := 4294967295#32
  let v196_r0 : BitVec 1 := Scalar.cmpi .eq v195_r0 c_m1_i32_184_r0
  let c15_i32_185_r0 : BitVec 32 := 15#32
  let v197_r0 : BitVec 32 := Scalar.select v196_r0 c15_i32_185_r0 v195_r0
  let c0_i32_186_r0 : BitVec 32 := 0#32
  let v198_r0 : BitVec 32 := Scalar.addi v197_r0 c0_i32_186_r0
  let v533_r0 : BitVec 1 := Scalar.cmpi .ne v188_r0 v198_r0
  let c0_i32_178_r0 : BitVec 32 := 0#32
  let v189_r0 : BitVec 32 := Scalar.addi arg29_r0 c0_i32_178_r0
  let c7_i32_182_r0 : BitVec 32 := 7#32
  let v193_r0 : BitVec 32 := Scalar.select v192_r0 c7_i32_182_r0 v191_r0
  let c0_i32_187_r0 : BitVec 32 := 0#32
  let v199_r0 : BitVec 32 := Scalar.addi v193_r0 c0_i32_187_r0
  let v534_r0 : BitVec 1 := Scalar.cmpi .ne v189_r0 v199_r0
  let v535_r0 : BitVec 1 := Scalar.ori v533_r0 v534_r0
  let c0_i32_115_r0 : BitVec 32 := 0#32
  let c1_i32_116_r0 : BitVec 32 := 1#32
  let arg9_r0 : BitVec 32 := Scf.iv c0_i32_115_r0 c1_i32_116_r0 k0_t1
  let c0_i32_176_r0 : BitVec 32 := 0#32
  let v186_r0 : BitVec 1 := Scalar.cmpi .eq arg9_r0 c0_i32_176_r0
  let true_343_r0 : BitVec 1 := 1#1
  let v536_r0 : BitVec 1 := Scalar.xori v186_r0 true_343_r0
  let v537_r0 : BitVec 1 := Scalar.andi v535_r0 v536_r0
  let v538_r0 : BitVec 32 := Scalar.extui v537_r0
  let c0_i32_344_r0 : BitVec 32 := 0#32
  let v539_r0 : BitVec 1 := Scalar.cmpi .ne v538_r0 c0_i32_344_r0
  v539_r0

def k0_off74 (arg28_r0 : BitVec 32) (arg29_r0 : BitVec 32) : Fin 2 → Nat :=
  let c1024_i32_365_r0 : BitVec 32 := 1024#32
  let true_180_r0 : BitVec 1 := 1#1
  let c1_i32_179_r0 : BitVec 32 := 1#32
  let v190_r0 : BitVec 32 := Scalar.subi arg29_r0 c1_i32_179_r0
  let v191_r0 : BitVec 32 := Scalar.select true_180_r0 v190_r0 arg29_r0
  let c_m1_i32_181_r0 : BitVec 32 := 4294967295#32
  let v192_r0 : BitVec 1 := Scalar.cmpi .eq v191_r0 c_m1_i32_181_r0
  let c1_i32_183_r0 : BitVec 32 := 1#32
  let v194_r0 : BitVec 32 := Scalar.subi arg28_r0 c1_i32_183_r0
  let v195_r0 : BitVec 32 := Scalar.select v192_r0 v194_r0 arg28_r0
  let c_m1_i32_184_r0 : BitVec 32 := 4294967295#32
  let v196_r0 : BitVec 1 := Scalar.cmpi .eq v195_r0 c_m1_i32_184_r0
  let c15_i32_185_r0 : BitVec 32 := 15#32
  let v197_r0 : BitVec 32 := Scalar.select v196_r0 c15_i32_185_r0 v195_r0
  let c0_i32_186_r0 : BitVec 32 := 0#32
  let v198_r0 : BitVec 32 := Scalar.addi v197_r0 c0_i32_186_r0
  let v588_r0 : BitVec 32 := Scalar.muli c1024_i32_365_r0 v198_r0
  let c512_i32_366_r0 : BitVec 32 := 512#32
  let c7_i32_182_r0 : BitVec 32 := 7#32
  let v193_r0 : BitVec 32 := Scalar.select v192_r0 c7_i32_182_r0 v191_r0
  let c0_i32_187_r0 : BitVec 32 := 0#32
  let v199_r0 : BitVec 32 := Scalar.addi v193_r0 c0_i32_187_r0
  let v589_r0 : BitVec 32 := Scalar.muli c512_i32_366_r0 v199_r0
  ![v588_r0.toNat, v589_r0.toNat]
def k0_off75 (arg25_r0 : BitVec 32) : Fin 3 → Nat :=
  let c2_i32_364_r0 : BitVec 32 := 2#32
  let v587_r0 : BitVec 32 := Scalar.remui arg25_r0 c2_i32_364_r0
  let c0_i32_367_r0 : BitVec 32 := 0#32
  let c0_i32_368_r0 : BitVec 32 := 0#32
  ![v587_r0.toNat, 0, 0]
def k0_off76 (arg27_r0 : BitVec 32) : Fin 1 → Nat :=
  let c2_i32_364_r0 : BitVec 32 := 2#32
  let v587_r0 : BitVec 32 := Scalar.remui arg27_r0 c2_i32_364_r0
  ![v587_r0.toNat]
def k0_cond36 (k0_t1 : Fin k0_t1_loop.trips) (arg28_r0 : BitVec 32) (arg29_r0 : BitVec 32) : BitVec 1 :=
  let c0_i32_177_r0 : BitVec 32 := 0#32
  let v188_r0 : BitVec 32 := Scalar.addi arg28_r0 c0_i32_177_r0
  let true_180_r0 : BitVec 1 := 1#1
  let c1_i32_179_r0 : BitVec 32 := 1#32
  let v190_r0 : BitVec 32 := Scalar.subi arg29_r0 c1_i32_179_r0
  let v191_r0 : BitVec 32 := Scalar.select true_180_r0 v190_r0 arg29_r0
  let c_m1_i32_181_r0 : BitVec 32 := 4294967295#32
  let v192_r0 : BitVec 1 := Scalar.cmpi .eq v191_r0 c_m1_i32_181_r0
  let c1_i32_183_r0 : BitVec 32 := 1#32
  let v194_r0 : BitVec 32 := Scalar.subi arg28_r0 c1_i32_183_r0
  let v195_r0 : BitVec 32 := Scalar.select v192_r0 v194_r0 arg28_r0
  let c_m1_i32_184_r0 : BitVec 32 := 4294967295#32
  let v196_r0 : BitVec 1 := Scalar.cmpi .eq v195_r0 c_m1_i32_184_r0
  let c15_i32_185_r0 : BitVec 32 := 15#32
  let v197_r0 : BitVec 32 := Scalar.select v196_r0 c15_i32_185_r0 v195_r0
  let c0_i32_186_r0 : BitVec 32 := 0#32
  let v198_r0 : BitVec 32 := Scalar.addi v197_r0 c0_i32_186_r0
  let v543_r0 : BitVec 1 := Scalar.cmpi .ne v188_r0 v198_r0
  let c0_i32_178_r0 : BitVec 32 := 0#32
  let v189_r0 : BitVec 32 := Scalar.addi arg29_r0 c0_i32_178_r0
  let c7_i32_182_r0 : BitVec 32 := 7#32
  let v193_r0 : BitVec 32 := Scalar.select v192_r0 c7_i32_182_r0 v191_r0
  let c0_i32_187_r0 : BitVec 32 := 0#32
  let v199_r0 : BitVec 32 := Scalar.addi v193_r0 c0_i32_187_r0
  let v544_r0 : BitVec 1 := Scalar.cmpi .ne v189_r0 v199_r0
  let v545_r0 : BitVec 1 := Scalar.ori v543_r0 v544_r0
  let c0_i32_115_r0 : BitVec 32 := 0#32
  let c1_i32_116_r0 : BitVec 32 := 1#32
  let arg9_r0 : BitVec 32 := Scf.iv c0_i32_115_r0 c1_i32_116_r0 k0_t1
  let c0_i32_176_r0 : BitVec 32 := 0#32
  let v186_r0 : BitVec 1 := Scalar.cmpi .eq arg9_r0 c0_i32_176_r0
  let true_347_r0 : BitVec 1 := 1#1
  let v546_r0 : BitVec 1 := Scalar.xori v186_r0 true_347_r0
  let v547_r0 : BitVec 1 := Scalar.andi v545_r0 v546_r0
  let v548_r0 : BitVec 32 := Scalar.extui v547_r0
  let c0_i32_348_r0 : BitVec 32 := 0#32
  let v549_r0 : BitVec 1 := Scalar.cmpi .ne v548_r0 c0_i32_348_r0
  v549_r0

def k0_off77 (arg28_r0 : BitVec 32) (arg29_r0 : BitVec 32) : Fin 2 → Nat :=
  let c1024_i32_365_r0 : BitVec 32 := 1024#32
  let true_180_r0 : BitVec 1 := 1#1
  let c1_i32_179_r0 : BitVec 32 := 1#32
  let v190_r0 : BitVec 32 := Scalar.subi arg29_r0 c1_i32_179_r0
  let v191_r0 : BitVec 32 := Scalar.select true_180_r0 v190_r0 arg29_r0
  let c_m1_i32_181_r0 : BitVec 32 := 4294967295#32
  let v192_r0 : BitVec 1 := Scalar.cmpi .eq v191_r0 c_m1_i32_181_r0
  let c1_i32_183_r0 : BitVec 32 := 1#32
  let v194_r0 : BitVec 32 := Scalar.subi arg28_r0 c1_i32_183_r0
  let v195_r0 : BitVec 32 := Scalar.select v192_r0 v194_r0 arg28_r0
  let c_m1_i32_184_r0 : BitVec 32 := 4294967295#32
  let v196_r0 : BitVec 1 := Scalar.cmpi .eq v195_r0 c_m1_i32_184_r0
  let c15_i32_185_r0 : BitVec 32 := 15#32
  let v197_r0 : BitVec 32 := Scalar.select v196_r0 c15_i32_185_r0 v195_r0
  let c0_i32_186_r0 : BitVec 32 := 0#32
  let v198_r0 : BitVec 32 := Scalar.addi v197_r0 c0_i32_186_r0
  let v588_r0 : BitVec 32 := Scalar.muli c1024_i32_365_r0 v198_r0
  let c128_i32_366_r0 : BitVec 32 := 128#32
  let c7_i32_182_r0 : BitVec 32 := 7#32
  let v193_r0 : BitVec 32 := Scalar.select v192_r0 c7_i32_182_r0 v191_r0
  let c0_i32_187_r0 : BitVec 32 := 0#32
  let v199_r0 : BitVec 32 := Scalar.addi v193_r0 c0_i32_187_r0
  let v589_r0 : BitVec 32 := Scalar.muli c128_i32_366_r0 v199_r0
  ![v588_r0.toNat, v589_r0.toNat]
def k0_off78 (arg27_r0 : BitVec 32) : Fin 3 → Nat :=
  let c2_i32_364_r0 : BitVec 32 := 2#32
  let v587_r0 : BitVec 32 := Scalar.remui arg27_r0 c2_i32_364_r0
  let c0_i32_367_r0 : BitVec 32 := 0#32
  let c0_i32_368_r0 : BitVec 32 := 0#32
  ![v587_r0.toNat, 0, 0]

def k0_chk1_0 (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) : Prop :=
  (∀ (k0_h4 : k0_cond4 k0_t1 arg28_r0 arg29_r0 = 1#1), ∀ a, (k0_off16 arg10_r0) a + S1.size a ≤ S2.size a) ∧
  (∀ (k0_h4 : k0_cond4 k0_t1 arg28_r0 arg29_r0 = 1#1), ∀ a, (k0_off17 arg10_r0) a + S1x1024x2048.size a ≤ S2x1024x2048.size a) ∧
  (∀ (k0_h4 : k0_cond4 k0_t1 arg28_r0 arg29_r0 = 1#1), ∀ a, (k0_off18 arg28_r0 arg29_r0) a + S1024x2048.size a ≤ S16384x2048.size a) ∧
  (∀ (k0_h4 : k0_cond4 k0_t1 arg28_r0 arg29_r0 = 1#1), ∀ (hinb : ∀ a, (k0_off18 arg28_r0 arg29_r0) a + S1024x2048.size a ≤ S16384x2048.size a), (Rect.unit (s := S16384x2048) (k0_off18 arg28_r0 arg29_r0) S1024x2048.size hinb).WholeWords (EltTy.packing .bf16)) ∧
  (∀ (k0_h4 : k0_cond4 k0_t1 arg28_r0 arg29_r0 = 1#1), ∀ (hinb : ∀ a, (k0_off17 arg10_r0) a + S1x1024x2048.size a ≤ S2x1024x2048.size a), (Rect.unit (s := S2x1024x2048) (k0_off17 arg10_r0) S1x1024x2048.size hinb).WholeWords (EltTy.packing .bf16)) ∧
  (∀ (k0_h5 : k0_cond5 k0_t1 arg28_r0 arg29_r0 = 1#1), ∀ a, (k0_off19 arg12_r0) a + S1.size a ≤ S2.size a) ∧
  (∀ (k0_h5 : k0_cond5 k0_t1 arg28_r0 arg29_r0 = 1#1), ∀ a, (k0_off20 arg12_r0) a + S1x1024x2048.size a ≤ S2x1024x2048.size a) ∧
  (∀ (k0_h5 : k0_cond5 k0_t1 arg28_r0 arg29_r0 = 1#1), ∀ a, (k0_off21 arg28_r0 arg29_r0) a + S1024x2048.size a ≤ S16384x2048.size a) ∧
  (∀ (k0_h5 : k0_cond5 k0_t1 arg28_r0 arg29_r0 = 1#1), ∀ (hinb : ∀ a, (k0_off21 arg28_r0 arg29_r0) a + S1024x2048.size a ≤ S16384x2048.size a), (Rect.unit (s := S16384x2048) (k0_off21 arg28_r0 arg29_r0) S1024x2048.size hinb).WholeWords (EltTy.packing .bf16)) ∧
  (∀ (k0_h5 : k0_cond5 k0_t1 arg28_r0 arg29_r0 = 1#1), ∀ (hinb : ∀ a, (k0_off20 arg12_r0) a + S1x1024x2048.size a ≤ S2x1024x2048.size a), (Rect.unit (s := S2x1024x2048) (k0_off20 arg12_r0) S1x1024x2048.size hinb).WholeWords (EltTy.packing .bf16)) ∧
  (∀ (k0_h6 : k0_cond6 k0_t1 arg29_r0 = 1#1), ∀ a, (k0_off22 arg14_r0) a + S1.size a ≤ S3.size a) ∧
  (∀ (k0_h6 : k0_cond6 k0_t1 arg29_r0 = 1#1), ∀ a, (k0_off23 arg14_r0) a + S1x2048x512.size a ≤ S3x2048x512.size a) ∧
  (∀ (k0_h6 : k0_cond6 k0_t1 arg29_r0 = 1#1), ∀ a, (k0_off24 arg29_r0) a + S2048x512.size a ≤ S4096x4096.size a) ∧
  (∀ (k0_h6 : k0_cond6 k0_t1 arg29_r0 = 1#1), ∀ (hinb : ∀ a, (k0_off24 arg29_r0) a + S2048x512.size a ≤ S4096x4096.size a), (Rect.unit (s := S4096x4096) (k0_off24 arg29_r0) S2048x512.size hinb).WholeWords (EltTy.packing .bf16)) ∧
  (∀ (k0_h6 : k0_cond6 k0_t1 arg29_r0 = 1#1), ∀ (hinb : ∀ a, (k0_off23 arg14_r0) a + S1x2048x512.size a ≤ S3x2048x512.size a), (Rect.unit (s := S3x2048x512) (k0_off23 arg14_r0) S1x2048x512.size hinb).WholeWords (EltTy.packing .bf16)) ∧
  (∀ (k0_h7 : k0_cond7 k0_t1 arg29_r0 = 1#1), ∀ a, (k0_off25 arg16_r0) a + S1.size a ≤ S3.size a) ∧
  (∀ (k0_h7 : k0_cond7 k0_t1 arg29_r0 = 1#1), ∀ a, (k0_off26 arg16_r0) a + S1x2048x512.size a ≤ S3x2048x512.size a) ∧
  (∀ (k0_h7 : k0_cond7 k0_t1 arg29_r0 = 1#1), ∀ a, (k0_off27 arg29_r0) a + S2048x512.size a ≤ S4096x4096.size a) ∧
  (∀ (k0_h7 : k0_cond7 k0_t1 arg29_r0 = 1#1), ∀ (hinb : ∀ a, (k0_off27 arg29_r0) a + S2048x512.size a ≤ S4096x4096.size a), (Rect.unit (s := S4096x4096) (k0_off27 arg29_r0) S2048x512.size hinb).WholeWords (EltTy.packing .bf16)) ∧
  (∀ (k0_h7 : k0_cond7 k0_t1 arg29_r0 = 1#1), ∀ (hinb : ∀ a, (k0_off26 arg16_r0) a + S1x2048x512.size a ≤ S3x2048x512.size a), (Rect.unit (s := S3x2048x512) (k0_off26 arg16_r0) S1x2048x512.size hinb).WholeWords (EltTy.packing .bf16)) ∧
  (∀ (k0_h8 : k0_cond8 k0_t1 arg28_r0 arg29_r0 = 1#1), ∀ a, (k0_off28 arg18_r0) a + S1.size a ≤ S3.size a) ∧
  (∀ (k0_h8 : k0_cond8 k0_t1 arg28_r0 arg29_r0 = 1#1), ∀ a, (k0_off29 arg18_r0) a + S1x1024x512.size a ≤ S3x1024x512.size a) ∧
  (∀ (k0_h8 : k0_cond8 k0_t1 arg28_r0 arg29_r0 = 1#1), ∀ a, (k0_off30 arg28_r0 arg29_r0) a + S1024x512.size a ≤ S16384x4096.size a) ∧
  (∀ (k0_h9 : k0_cond9 k0_t1 arg29_r0 = 1#1), ∀ a, (k0_off31 arg20_r0) a + S1.size a ≤ S2.size a) ∧
  (∀ (k0_h9 : k0_cond9 k0_t1 arg29_r0 = 1#1), ∀ a, (k0_off32 arg20_r0) a + S1x1x512.size a ≤ S2x1x512.size a) ∧
  (∀ (k0_h9 : k0_cond9 k0_t1 arg29_r0 = 1#1), ∀ a, (k0_off33 arg29_r0) a + S1x512.size a ≤ S1x4096.size a) ∧
  (∀ (k0_h10 : k0_cond10 k0_t1 arg28_r0 arg29_r0 = 1#1), ∀ a, (k0_off34 arg11_r0) a + S1.size a ≤ S2.size a) ∧
  (∀ (k0_h10 : k0_cond10 k0_t1 arg28_r0 arg29_r0 = 1#1), ∀ a, (k0_off35 arg11_r0) a + S1x1024x2048.size a ≤ S2x1024x2048.size a) ∧
  (∀ (k0_h10 : k0_cond10 k0_t1 arg28_r0 arg29_r0 = 1#1), ∀ a, (k0_off36 arg28_r0) a + S1024x2048.size a ≤ S16384x2048.size a) ∧
  (∀ (k0_h10 : k0_cond10 k0_t1 arg28_r0 arg29_r0 = 1#1), ∀ (hinb : ∀ a, (k0_off36 arg28_r0) a + S1024x2048.size a ≤ S16384x2048.size a), (Rect.unit (s := S16384x2048) (k0_off36 arg28_r0) S1024x2048.size hinb).WholeWords (EltTy.packing .bf16)) ∧
  (∀ (k0_h10 : k0_cond10 k0_t1 arg28_r0 arg29_r0 = 1#1), ∀ (hinb : ∀ a, (k0_off35 arg11_r0) a + S1x1024x2048.size a ≤ S2x1024x2048.size a), (Rect.unit (s := S2x1024x2048) (k0_off35 arg11_r0) S1x1024x2048.size hinb).WholeWords (EltTy.packing .bf16)) ∧
  (∀ (k0_h11 : k0_cond11 k0_t1 arg28_r0 arg29_r0 = 1#1), ∀ a, (k0_off37 arg13_r0) a + S1.size a ≤ S2.size a)
def k0_chk1_1 (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) : Prop :=
  (∀ (k0_h11 : k0_cond11 k0_t1 arg28_r0 arg29_r0 = 1#1), ∀ a, (k0_off38 arg13_r0) a + S1x1024x2048.size a ≤ S2x1024x2048.size a) ∧
  (∀ (k0_h11 : k0_cond11 k0_t1 arg28_r0 arg29_r0 = 1#1), ∀ a, (k0_off39 arg28_r0) a + S1024x2048.size a ≤ S16384x2048.size a) ∧
  (∀ (k0_h11 : k0_cond11 k0_t1 arg28_r0 arg29_r0 = 1#1), ∀ (hinb : ∀ a, (k0_off39 arg28_r0) a + S1024x2048.size a ≤ S16384x2048.size a), (Rect.unit (s := S16384x2048) (k0_off39 arg28_r0) S1024x2048.size hinb).WholeWords (EltTy.packing .bf16)) ∧
  (∀ (k0_h11 : k0_cond11 k0_t1 arg28_r0 arg29_r0 = 1#1), ∀ (hinb : ∀ a, (k0_off38 arg13_r0) a + S1x1024x2048.size a ≤ S2x1024x2048.size a), (Rect.unit (s := S2x1024x2048) (k0_off38 arg13_r0) S1x1024x2048.size hinb).WholeWords (EltTy.packing .bf16)) ∧
  (∀ (k0_h12 : k0_cond12 k0_t1 arg29_r0 = 1#1), ∀ a, (k0_off40 arg15_r0) a + S1.size a ≤ S3.size a) ∧
  (∀ (k0_h12 : k0_cond12 k0_t1 arg29_r0 = 1#1), ∀ a, (k0_off41 arg15_r0) a + S1x2048x512.size a ≤ S3x2048x512.size a) ∧
  (∀ (k0_h12 : k0_cond12 k0_t1 arg29_r0 = 1#1), ∀ a, (k0_off42 arg29_r0) a + S2048x512.size a ≤ S4096x4096.size a) ∧
  (∀ (k0_h12 : k0_cond12 k0_t1 arg29_r0 = 1#1), ∀ (hinb : ∀ a, (k0_off42 arg29_r0) a + S2048x512.size a ≤ S4096x4096.size a), (Rect.unit (s := S4096x4096) (k0_off42 arg29_r0) S2048x512.size hinb).WholeWords (EltTy.packing .bf16)) ∧
  (∀ (k0_h12 : k0_cond12 k0_t1 arg29_r0 = 1#1), ∀ (hinb : ∀ a, (k0_off41 arg15_r0) a + S1x2048x512.size a ≤ S3x2048x512.size a), (Rect.unit (s := S3x2048x512) (k0_off41 arg15_r0) S1x2048x512.size hinb).WholeWords (EltTy.packing .bf16)) ∧
  (∀ (k0_h13 : k0_cond13 k0_t1 arg29_r0 = 1#1), ∀ a, (k0_off43 arg17_r0) a + S1.size a ≤ S3.size a) ∧
  (∀ (k0_h13 : k0_cond13 k0_t1 arg29_r0 = 1#1), ∀ a, (k0_off44 arg17_r0) a + S1x2048x512.size a ≤ S3x2048x512.size a) ∧
  (∀ (k0_h13 : k0_cond13 k0_t1 arg29_r0 = 1#1), ∀ a, (k0_off45 arg29_r0) a + S2048x512.size a ≤ S4096x4096.size a) ∧
  (∀ (k0_h13 : k0_cond13 k0_t1 arg29_r0 = 1#1), ∀ (hinb : ∀ a, (k0_off45 arg29_r0) a + S2048x512.size a ≤ S4096x4096.size a), (Rect.unit (s := S4096x4096) (k0_off45 arg29_r0) S2048x512.size hinb).WholeWords (EltTy.packing .bf16)) ∧
  (∀ (k0_h13 : k0_cond13 k0_t1 arg29_r0 = 1#1), ∀ (hinb : ∀ a, (k0_off44 arg17_r0) a + S1x2048x512.size a ≤ S3x2048x512.size a), (Rect.unit (s := S3x2048x512) (k0_off44 arg17_r0) S1x2048x512.size hinb).WholeWords (EltTy.packing .bf16)) ∧
  (∀ (k0_h14 : k0_cond14 k0_t1 arg28_r0 arg29_r0 = 1#1), ∀ a, (k0_off46 arg19_r0) a + S1.size a ≤ S3.size a) ∧
  (∀ (k0_h14 : k0_cond14 k0_t1 arg28_r0 arg29_r0 = 1#1), ∀ a, (k0_off47 arg19_r0) a + S1x1024x512.size a ≤ S3x1024x512.size a) ∧
  (∀ (k0_h14 : k0_cond14 k0_t1 arg28_r0 arg29_r0 = 1#1), ∀ a, (k0_off48 arg28_r0 arg29_r0) a + S1024x512.size a ≤ S16384x4096.size a) ∧
  (∀ (k0_h15 : k0_cond15 k0_t1 arg29_r0 = 1#1), ∀ a, (k0_off49 arg21_r0) a + S1.size a ≤ S2.size a) ∧
  (∀ (k0_h15 : k0_cond15 k0_t1 arg29_r0 = 1#1), ∀ a, (k0_off50 arg21_r0) a + S1x1x512.size a ≤ S2x1x512.size a) ∧
  (∀ (k0_h15 : k0_cond15 k0_t1 arg29_r0 = 1#1), ∀ a, (k0_off51 arg29_r0) a + S1x512.size a ≤ S1x4096.size a) ∧
  (∀ (k0_h25 : k0_cond25 k0_t1 arg28_r0 arg29_r0 = 1#1), ∀ a, (k0_off61 arg22_r0) a + S1.size a ≤ S2.size a) ∧
  (∀ (k0_h25 : k0_cond25 k0_t1 arg28_r0 arg29_r0 = 1#1), ∀ a, (k0_off62 arg28_r0 arg29_r0) a + S1024x512.size a ≤ S16384x4096.size a) ∧
  (∀ (k0_h25 : k0_cond25 k0_t1 arg28_r0 arg29_r0 = 1#1), ∀ a, (k0_off63 arg22_r0) a + S1x1024x512.size a ≤ S2x1024x512.size a) ∧
  (∀ (k0_h26 : k0_cond26 k0_t1 arg28_r0 arg29_r0 = 1#1), ∀ a, (k0_off64 arg24_r0) a + S1.size a ≤ S2.size a) ∧
  (∀ (k0_h26 : k0_cond26 k0_t1 arg28_r0 arg29_r0 = 1#1), ∀ a, (k0_off65 arg28_r0 arg29_r0) a + S1024x512.size a ≤ S16384x4096.size a) ∧
  (∀ (k0_h26 : k0_cond26 k0_t1 arg28_r0 arg29_r0 = 1#1), ∀ a, (k0_off66 arg24_r0) a + S1x1024x512.size a ≤ S2x1024x512.size a) ∧
  (∀ (k0_h26 : k0_cond26 k0_t1 arg28_r0 arg29_r0 = 1#1), ∀ (hinb : ∀ a, (k0_off66 arg24_r0) a + S1x1024x512.size a ≤ S2x1024x512.size a), (Rect.unit (s := S2x1024x512) (k0_off66 arg24_r0) S1x1024x512.size hinb).WholeWords (EltTy.packing .bf16)) ∧
  (∀ (k0_h26 : k0_cond26 k0_t1 arg28_r0 arg29_r0 = 1#1), ∀ (hinb : ∀ a, (k0_off65 arg28_r0 arg29_r0) a + S1024x512.size a ≤ S16384x4096.size a), (Rect.unit (s := S16384x4096) (k0_off65 arg28_r0 arg29_r0) S1024x512.size hinb).WholeWords (EltTy.packing .bf16)) ∧
  (∀ (k0_h27 : k0_cond27 k0_t1 arg28_r0 arg29_r0 = 1#1), ∀ a, (k0_off67 arg26_r0) a + S1.size a ≤ S2.size a) ∧
  (∀ (k0_h27 : k0_cond27 k0_t1 arg28_r0 arg29_r0 = 1#1), ∀ a, (k0_off68 arg28_r0 arg29_r0) a + S1024x128.size a ≤ S16384x1024.size a) ∧
  (∀ (k0_h27 : k0_cond27 k0_t1 arg28_r0 arg29_r0 = 1#1), ∀ a, (k0_off69 arg26_r0) a + S1x1024x128.size a ≤ S2x1024x128.size a) ∧
  (∀ (k0_h34 : k0_cond34 k0_t1 arg28_r0 arg29_r0 = 1#1), ∀ a, (k0_off70 arg23_r0) a + S1.size a ≤ S2.size a)
def k0_chk1_2 (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) : Prop :=
  (∀ (k0_h34 : k0_cond34 k0_t1 arg28_r0 arg29_r0 = 1#1), ∀ a, (k0_off71 arg28_r0 arg29_r0) a + S1024x512.size a ≤ S16384x4096.size a) ∧
  (∀ (k0_h34 : k0_cond34 k0_t1 arg28_r0 arg29_r0 = 1#1), ∀ a, (k0_off72 arg23_r0) a + S1x1024x512.size a ≤ S2x1024x512.size a) ∧
  (∀ (k0_h35 : k0_cond35 k0_t1 arg28_r0 arg29_r0 = 1#1), ∀ a, (k0_off73 arg25_r0) a + S1.size a ≤ S2.size a) ∧
  (∀ (k0_h35 : k0_cond35 k0_t1 arg28_r0 arg29_r0 = 1#1), ∀ a, (k0_off74 arg28_r0 arg29_r0) a + S1024x512.size a ≤ S16384x4096.size a) ∧
  (∀ (k0_h35 : k0_cond35 k0_t1 arg28_r0 arg29_r0 = 1#1), ∀ a, (k0_off75 arg25_r0) a + S1x1024x512.size a ≤ S2x1024x512.size a) ∧
  (∀ (k0_h35 : k0_cond35 k0_t1 arg28_r0 arg29_r0 = 1#1), ∀ (hinb : ∀ a, (k0_off75 arg25_r0) a + S1x1024x512.size a ≤ S2x1024x512.size a), (Rect.unit (s := S2x1024x512) (k0_off75 arg25_r0) S1x1024x512.size hinb).WholeWords (EltTy.packing .bf16)) ∧
  (∀ (k0_h35 : k0_cond35 k0_t1 arg28_r0 arg29_r0 = 1#1), ∀ (hinb : ∀ a, (k0_off74 arg28_r0 arg29_r0) a + S1024x512.size a ≤ S16384x4096.size a), (Rect.unit (s := S16384x4096) (k0_off74 arg28_r0 arg29_r0) S1024x512.size hinb).WholeWords (EltTy.packing .bf16)) ∧
  (∀ (k0_h36 : k0_cond36 k0_t1 arg28_r0 arg29_r0 = 1#1), ∀ a, (k0_off76 arg27_r0) a + S1.size a ≤ S2.size a) ∧
  (∀ (k0_h36 : k0_cond36 k0_t1 arg28_r0 arg29_r0 = 1#1), ∀ a, (k0_off77 arg28_r0 arg29_r0) a + S1024x128.size a ≤ S16384x1024.size a) ∧
  (∀ (k0_h36 : k0_cond36 k0_t1 arg28_r0 arg29_r0 = 1#1), ∀ a, (k0_off78 arg27_r0) a + S1x1024x128.size a ≤ S2x1024x128.size a)
def k0_chk1 (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) : Prop :=
  k0_chk1_0 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 ∧
  k0_chk1_1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 ∧
  k0_chk1_2 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0
theorem k0_off16_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h4 : k0_cond4 k0_t1 arg28_r0 arg29_r0 = 1#1), ∀ a, (k0_off16 arg10_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h4 => k0_hw1.1.1 k0_h4
theorem k0_off17_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h4 : k0_cond4 k0_t1 arg28_r0 arg29_r0 = 1#1), ∀ a, (k0_off17 arg10_r0) a + S1x1024x2048.size a ≤ S2x1024x2048.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h4 => k0_hw1.1.2.1 k0_h4
theorem k0_off18_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h4 : k0_cond4 k0_t1 arg28_r0 arg29_r0 = 1#1), ∀ a, (k0_off18 arg28_r0 arg29_r0) a + S1024x2048.size a ≤ S16384x2048.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h4 => k0_hw1.1.2.2.1 k0_h4
theorem k0_off18_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h4 : k0_cond4 k0_t1 arg28_r0 arg29_r0 = 1#1), (Rect.unit (s := S16384x2048) (k0_off18 arg28_r0 arg29_r0) S1024x2048.size (k0_off18_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h4)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h4 => k0_hw1.1.2.2.2.1 k0_h4 (k0_off18_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h4)
theorem k0_off17_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h4 : k0_cond4 k0_t1 arg28_r0 arg29_r0 = 1#1), (Rect.unit (s := S2x1024x2048) (k0_off17 arg10_r0) S1x1024x2048.size (k0_off17_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h4)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h4 => k0_hw1.1.2.2.2.2.1 k0_h4 (k0_off17_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h4)
theorem k0_off19_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h5 : k0_cond5 k0_t1 arg28_r0 arg29_r0 = 1#1), ∀ a, (k0_off19 arg12_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h5 => k0_hw1.1.2.2.2.2.2.1 k0_h5
theorem k0_off20_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h5 : k0_cond5 k0_t1 arg28_r0 arg29_r0 = 1#1), ∀ a, (k0_off20 arg12_r0) a + S1x1024x2048.size a ≤ S2x1024x2048.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h5 => k0_hw1.1.2.2.2.2.2.2.1 k0_h5
theorem k0_off21_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h5 : k0_cond5 k0_t1 arg28_r0 arg29_r0 = 1#1), ∀ a, (k0_off21 arg28_r0 arg29_r0) a + S1024x2048.size a ≤ S16384x2048.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h5 => k0_hw1.1.2.2.2.2.2.2.2.1 k0_h5
theorem k0_off21_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h5 : k0_cond5 k0_t1 arg28_r0 arg29_r0 = 1#1), (Rect.unit (s := S16384x2048) (k0_off21 arg28_r0 arg29_r0) S1024x2048.size (k0_off21_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h5)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h5 => k0_hw1.1.2.2.2.2.2.2.2.2.1 k0_h5 (k0_off21_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h5)
theorem k0_off20_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h5 : k0_cond5 k0_t1 arg28_r0 arg29_r0 = 1#1), (Rect.unit (s := S2x1024x2048) (k0_off20 arg12_r0) S1x1024x2048.size (k0_off20_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h5)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h5 => k0_hw1.1.2.2.2.2.2.2.2.2.2.1 k0_h5 (k0_off20_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h5)
theorem k0_off22_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h6 : k0_cond6 k0_t1 arg29_r0 = 1#1), ∀ a, (k0_off22 arg14_r0) a + S1.size a ≤ S3.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h6 => k0_hw1.1.2.2.2.2.2.2.2.2.2.2.1 k0_h6
theorem k0_off23_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h6 : k0_cond6 k0_t1 arg29_r0 = 1#1), ∀ a, (k0_off23 arg14_r0) a + S1x2048x512.size a ≤ S3x2048x512.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h6 => k0_hw1.1.2.2.2.2.2.2.2.2.2.2.2.1 k0_h6
theorem k0_off24_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h6 : k0_cond6 k0_t1 arg29_r0 = 1#1), ∀ a, (k0_off24 arg29_r0) a + S2048x512.size a ≤ S4096x4096.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h6 => k0_hw1.1.2.2.2.2.2.2.2.2.2.2.2.2.1 k0_h6
theorem k0_off24_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h6 : k0_cond6 k0_t1 arg29_r0 = 1#1), (Rect.unit (s := S4096x4096) (k0_off24 arg29_r0) S2048x512.size (k0_off24_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h6)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h6 => k0_hw1.1.2.2.2.2.2.2.2.2.2.2.2.2.2.1 k0_h6 (k0_off24_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h6)
theorem k0_off23_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h6 : k0_cond6 k0_t1 arg29_r0 = 1#1), (Rect.unit (s := S3x2048x512) (k0_off23 arg14_r0) S1x2048x512.size (k0_off23_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h6)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h6 => k0_hw1.1.2.2.2.2.2.2.2.2.2.2.2.2.2.2.1 k0_h6 (k0_off23_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h6)
theorem k0_off25_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h7 : k0_cond7 k0_t1 arg29_r0 = 1#1), ∀ a, (k0_off25 arg16_r0) a + S1.size a ≤ S3.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h7 => k0_hw1.1.2.2.2.2.2.2.2.2.2.2.2.2.2.2.2.1 k0_h7
theorem k0_off26_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h7 : k0_cond7 k0_t1 arg29_r0 = 1#1), ∀ a, (k0_off26 arg16_r0) a + S1x2048x512.size a ≤ S3x2048x512.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h7 => k0_hw1.1.2.2.2.2.2.2.2.2.2.2.2.2.2.2.2.2.1 k0_h7
theorem k0_off27_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h7 : k0_cond7 k0_t1 arg29_r0 = 1#1), ∀ a, (k0_off27 arg29_r0) a + S2048x512.size a ≤ S4096x4096.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h7 => k0_hw1.1.2.2.2.2.2.2.2.2.2.2.2.2.2.2.2.2.2.1 k0_h7
theorem k0_off27_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h7 : k0_cond7 k0_t1 arg29_r0 = 1#1), (Rect.unit (s := S4096x4096) (k0_off27 arg29_r0) S2048x512.size (k0_off27_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h7)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h7 => k0_hw1.1.2.2.2.2.2.2.2.2.2.2.2.2.2.2.2.2.2.2.1 k0_h7 (k0_off27_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h7)
theorem k0_off26_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h7 : k0_cond7 k0_t1 arg29_r0 = 1#1), (Rect.unit (s := S3x2048x512) (k0_off26 arg16_r0) S1x2048x512.size (k0_off26_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h7)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h7 => k0_hw1.1.2.2.2.2.2.2.2.2.2.2.2.2.2.2.2.2.2.2.2.1 k0_h7 (k0_off26_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h7)
theorem k0_off28_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h8 : k0_cond8 k0_t1 arg28_r0 arg29_r0 = 1#1), ∀ a, (k0_off28 arg18_r0) a + S1.size a ≤ S3.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h8 => k0_hw1.1.2.2.2.2.2.2.2.2.2.2.2.2.2.2.2.2.2.2.2.2.1 k0_h8
theorem k0_off29_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h8 : k0_cond8 k0_t1 arg28_r0 arg29_r0 = 1#1), ∀ a, (k0_off29 arg18_r0) a + S1x1024x512.size a ≤ S3x1024x512.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h8 => k0_hw1.1.2.2.2.2.2.2.2.2.2.2.2.2.2.2.2.2.2.2.2.2.2.1 k0_h8
theorem k0_off30_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h8 : k0_cond8 k0_t1 arg28_r0 arg29_r0 = 1#1), ∀ a, (k0_off30 arg28_r0 arg29_r0) a + S1024x512.size a ≤ S16384x4096.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h8 => k0_hw1.1.2.2.2.2.2.2.2.2.2.2.2.2.2.2.2.2.2.2.2.2.2.2.1 k0_h8
theorem k0_off31_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h9 : k0_cond9 k0_t1 arg29_r0 = 1#1), ∀ a, (k0_off31 arg20_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h9 => k0_hw1.1.2.2.2.2.2.2.2.2.2.2.2.2.2.2.2.2.2.2.2.2.2.2.2.1 k0_h9
theorem k0_off32_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h9 : k0_cond9 k0_t1 arg29_r0 = 1#1), ∀ a, (k0_off32 arg20_r0) a + S1x1x512.size a ≤ S2x1x512.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h9 => k0_hw1.1.2.2.2.2.2.2.2.2.2.2.2.2.2.2.2.2.2.2.2.2.2.2.2.2.1 k0_h9
theorem k0_off33_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h9 : k0_cond9 k0_t1 arg29_r0 = 1#1), ∀ a, (k0_off33 arg29_r0) a + S1x512.size a ≤ S1x4096.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h9 => k0_hw1.1.2.2.2.2.2.2.2.2.2.2.2.2.2.2.2.2.2.2.2.2.2.2.2.2.2.1 k0_h9
theorem k0_off34_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h10 : k0_cond10 k0_t1 arg28_r0 arg29_r0 = 1#1), ∀ a, (k0_off34 arg11_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h10 => k0_hw1.1.2.2.2.2.2.2.2.2.2.2.2.2.2.2.2.2.2.2.2.2.2.2.2.2.2.2.1 k0_h10
theorem k0_off35_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h10 : k0_cond10 k0_t1 arg28_r0 arg29_r0 = 1#1), ∀ a, (k0_off35 arg11_r0) a + S1x1024x2048.size a ≤ S2x1024x2048.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h10 => k0_hw1.1.2.2.2.2.2.2.2.2.2.2.2.2.2.2.2.2.2.2.2.2.2.2.2.2.2.2.2.1 k0_h10
theorem k0_off36_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h10 : k0_cond10 k0_t1 arg28_r0 arg29_r0 = 1#1), ∀ a, (k0_off36 arg28_r0) a + S1024x2048.size a ≤ S16384x2048.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h10 => k0_hw1.1.2.2.2.2.2.2.2.2.2.2.2.2.2.2.2.2.2.2.2.2.2.2.2.2.2.2.2.2.1 k0_h10
theorem k0_off36_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h10 : k0_cond10 k0_t1 arg28_r0 arg29_r0 = 1#1), (Rect.unit (s := S16384x2048) (k0_off36 arg28_r0) S1024x2048.size (k0_off36_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h10)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h10 => k0_hw1.1.2.2.2.2.2.2.2.2.2.2.2.2.2.2.2.2.2.2.2.2.2.2.2.2.2.2.2.2.2.1 k0_h10 (k0_off36_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h10)
theorem k0_off35_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h10 : k0_cond10 k0_t1 arg28_r0 arg29_r0 = 1#1), (Rect.unit (s := S2x1024x2048) (k0_off35 arg11_r0) S1x1024x2048.size (k0_off35_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h10)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h10 => k0_hw1.1.2.2.2.2.2.2.2.2.2.2.2.2.2.2.2.2.2.2.2.2.2.2.2.2.2.2.2.2.2.2.1 k0_h10 (k0_off35_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h10)
theorem k0_off37_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h11 : k0_cond11 k0_t1 arg28_r0 arg29_r0 = 1#1), ∀ a, (k0_off37 arg13_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h11 => k0_hw1.1.2.2.2.2.2.2.2.2.2.2.2.2.2.2.2.2.2.2.2.2.2.2.2.2.2.2.2.2.2.2.2 k0_h11
theorem k0_off38_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h11 : k0_cond11 k0_t1 arg28_r0 arg29_r0 = 1#1), ∀ a, (k0_off38 arg13_r0) a + S1x1024x2048.size a ≤ S2x1024x2048.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h11 => k0_hw1.2.1.1 k0_h11
theorem k0_off39_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h11 : k0_cond11 k0_t1 arg28_r0 arg29_r0 = 1#1), ∀ a, (k0_off39 arg28_r0) a + S1024x2048.size a ≤ S16384x2048.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h11 => k0_hw1.2.1.2.1 k0_h11
theorem k0_off39_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h11 : k0_cond11 k0_t1 arg28_r0 arg29_r0 = 1#1), (Rect.unit (s := S16384x2048) (k0_off39 arg28_r0) S1024x2048.size (k0_off39_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h11)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h11 => k0_hw1.2.1.2.2.1 k0_h11 (k0_off39_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h11)
theorem k0_off38_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h11 : k0_cond11 k0_t1 arg28_r0 arg29_r0 = 1#1), (Rect.unit (s := S2x1024x2048) (k0_off38 arg13_r0) S1x1024x2048.size (k0_off38_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h11)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h11 => k0_hw1.2.1.2.2.2.1 k0_h11 (k0_off38_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h11)
theorem k0_off40_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h12 : k0_cond12 k0_t1 arg29_r0 = 1#1), ∀ a, (k0_off40 arg15_r0) a + S1.size a ≤ S3.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h12 => k0_hw1.2.1.2.2.2.2.1 k0_h12
theorem k0_off41_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h12 : k0_cond12 k0_t1 arg29_r0 = 1#1), ∀ a, (k0_off41 arg15_r0) a + S1x2048x512.size a ≤ S3x2048x512.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h12 => k0_hw1.2.1.2.2.2.2.2.1 k0_h12
theorem k0_off42_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h12 : k0_cond12 k0_t1 arg29_r0 = 1#1), ∀ a, (k0_off42 arg29_r0) a + S2048x512.size a ≤ S4096x4096.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h12 => k0_hw1.2.1.2.2.2.2.2.2.1 k0_h12
theorem k0_off42_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h12 : k0_cond12 k0_t1 arg29_r0 = 1#1), (Rect.unit (s := S4096x4096) (k0_off42 arg29_r0) S2048x512.size (k0_off42_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h12)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h12 => k0_hw1.2.1.2.2.2.2.2.2.2.1 k0_h12 (k0_off42_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h12)
theorem k0_off41_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h12 : k0_cond12 k0_t1 arg29_r0 = 1#1), (Rect.unit (s := S3x2048x512) (k0_off41 arg15_r0) S1x2048x512.size (k0_off41_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h12)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h12 => k0_hw1.2.1.2.2.2.2.2.2.2.2.1 k0_h12 (k0_off41_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h12)
theorem k0_off43_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h13 : k0_cond13 k0_t1 arg29_r0 = 1#1), ∀ a, (k0_off43 arg17_r0) a + S1.size a ≤ S3.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h13 => k0_hw1.2.1.2.2.2.2.2.2.2.2.2.1 k0_h13
theorem k0_off44_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h13 : k0_cond13 k0_t1 arg29_r0 = 1#1), ∀ a, (k0_off44 arg17_r0) a + S1x2048x512.size a ≤ S3x2048x512.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h13 => k0_hw1.2.1.2.2.2.2.2.2.2.2.2.2.1 k0_h13
theorem k0_off45_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h13 : k0_cond13 k0_t1 arg29_r0 = 1#1), ∀ a, (k0_off45 arg29_r0) a + S2048x512.size a ≤ S4096x4096.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h13 => k0_hw1.2.1.2.2.2.2.2.2.2.2.2.2.2.1 k0_h13
theorem k0_off45_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h13 : k0_cond13 k0_t1 arg29_r0 = 1#1), (Rect.unit (s := S4096x4096) (k0_off45 arg29_r0) S2048x512.size (k0_off45_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h13)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h13 => k0_hw1.2.1.2.2.2.2.2.2.2.2.2.2.2.2.1 k0_h13 (k0_off45_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h13)
theorem k0_off44_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h13 : k0_cond13 k0_t1 arg29_r0 = 1#1), (Rect.unit (s := S3x2048x512) (k0_off44 arg17_r0) S1x2048x512.size (k0_off44_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h13)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h13 => k0_hw1.2.1.2.2.2.2.2.2.2.2.2.2.2.2.2.1 k0_h13 (k0_off44_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h13)
theorem k0_off46_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h14 : k0_cond14 k0_t1 arg28_r0 arg29_r0 = 1#1), ∀ a, (k0_off46 arg19_r0) a + S1.size a ≤ S3.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h14 => k0_hw1.2.1.2.2.2.2.2.2.2.2.2.2.2.2.2.2.1 k0_h14
theorem k0_off47_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h14 : k0_cond14 k0_t1 arg28_r0 arg29_r0 = 1#1), ∀ a, (k0_off47 arg19_r0) a + S1x1024x512.size a ≤ S3x1024x512.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h14 => k0_hw1.2.1.2.2.2.2.2.2.2.2.2.2.2.2.2.2.2.1 k0_h14
theorem k0_off48_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h14 : k0_cond14 k0_t1 arg28_r0 arg29_r0 = 1#1), ∀ a, (k0_off48 arg28_r0 arg29_r0) a + S1024x512.size a ≤ S16384x4096.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h14 => k0_hw1.2.1.2.2.2.2.2.2.2.2.2.2.2.2.2.2.2.2.1 k0_h14
theorem k0_off49_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h15 : k0_cond15 k0_t1 arg29_r0 = 1#1), ∀ a, (k0_off49 arg21_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h15 => k0_hw1.2.1.2.2.2.2.2.2.2.2.2.2.2.2.2.2.2.2.2.1 k0_h15
theorem k0_off50_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h15 : k0_cond15 k0_t1 arg29_r0 = 1#1), ∀ a, (k0_off50 arg21_r0) a + S1x1x512.size a ≤ S2x1x512.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h15 => k0_hw1.2.1.2.2.2.2.2.2.2.2.2.2.2.2.2.2.2.2.2.2.1 k0_h15
theorem k0_off51_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h15 : k0_cond15 k0_t1 arg29_r0 = 1#1), ∀ a, (k0_off51 arg29_r0) a + S1x512.size a ≤ S1x4096.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h15 => k0_hw1.2.1.2.2.2.2.2.2.2.2.2.2.2.2.2.2.2.2.2.2.2.1 k0_h15
theorem k0_off61_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h25 : k0_cond25 k0_t1 arg28_r0 arg29_r0 = 1#1), ∀ a, (k0_off61 arg22_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h25 => k0_hw1.2.1.2.2.2.2.2.2.2.2.2.2.2.2.2.2.2.2.2.2.2.2.1 k0_h25
theorem k0_off62_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h25 : k0_cond25 k0_t1 arg28_r0 arg29_r0 = 1#1), ∀ a, (k0_off62 arg28_r0 arg29_r0) a + S1024x512.size a ≤ S16384x4096.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h25 => k0_hw1.2.1.2.2.2.2.2.2.2.2.2.2.2.2.2.2.2.2.2.2.2.2.2.1 k0_h25
theorem k0_off63_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h25 : k0_cond25 k0_t1 arg28_r0 arg29_r0 = 1#1), ∀ a, (k0_off63 arg22_r0) a + S1x1024x512.size a ≤ S2x1024x512.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h25 => k0_hw1.2.1.2.2.2.2.2.2.2.2.2.2.2.2.2.2.2.2.2.2.2.2.2.2.1 k0_h25
theorem k0_off64_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h26 : k0_cond26 k0_t1 arg28_r0 arg29_r0 = 1#1), ∀ a, (k0_off64 arg24_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h26 => k0_hw1.2.1.2.2.2.2.2.2.2.2.2.2.2.2.2.2.2.2.2.2.2.2.2.2.2.1 k0_h26
theorem k0_off65_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h26 : k0_cond26 k0_t1 arg28_r0 arg29_r0 = 1#1), ∀ a, (k0_off65 arg28_r0 arg29_r0) a + S1024x512.size a ≤ S16384x4096.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h26 => k0_hw1.2.1.2.2.2.2.2.2.2.2.2.2.2.2.2.2.2.2.2.2.2.2.2.2.2.2.1 k0_h26
theorem k0_off66_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h26 : k0_cond26 k0_t1 arg28_r0 arg29_r0 = 1#1), ∀ a, (k0_off66 arg24_r0) a + S1x1024x512.size a ≤ S2x1024x512.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h26 => k0_hw1.2.1.2.2.2.2.2.2.2.2.2.2.2.2.2.2.2.2.2.2.2.2.2.2.2.2.2.1 k0_h26
theorem k0_off66_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h26 : k0_cond26 k0_t1 arg28_r0 arg29_r0 = 1#1), (Rect.unit (s := S2x1024x512) (k0_off66 arg24_r0) S1x1024x512.size (k0_off66_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h26)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h26 => k0_hw1.2.1.2.2.2.2.2.2.2.2.2.2.2.2.2.2.2.2.2.2.2.2.2.2.2.2.2.2.1 k0_h26 (k0_off66_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h26)
theorem k0_off65_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h26 : k0_cond26 k0_t1 arg28_r0 arg29_r0 = 1#1), (Rect.unit (s := S16384x4096) (k0_off65 arg28_r0 arg29_r0) S1024x512.size (k0_off65_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h26)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h26 => k0_hw1.2.1.2.2.2.2.2.2.2.2.2.2.2.2.2.2.2.2.2.2.2.2.2.2.2.2.2.2.2.1 k0_h26 (k0_off65_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h26)
theorem k0_off67_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h27 : k0_cond27 k0_t1 arg28_r0 arg29_r0 = 1#1), ∀ a, (k0_off67 arg26_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h27 => k0_hw1.2.1.2.2.2.2.2.2.2.2.2.2.2.2.2.2.2.2.2.2.2.2.2.2.2.2.2.2.2.2.1 k0_h27
theorem k0_off68_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h27 : k0_cond27 k0_t1 arg28_r0 arg29_r0 = 1#1), ∀ a, (k0_off68 arg28_r0 arg29_r0) a + S1024x128.size a ≤ S16384x1024.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h27 => k0_hw1.2.1.2.2.2.2.2.2.2.2.2.2.2.2.2.2.2.2.2.2.2.2.2.2.2.2.2.2.2.2.2.1 k0_h27
theorem k0_off69_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h27 : k0_cond27 k0_t1 arg28_r0 arg29_r0 = 1#1), ∀ a, (k0_off69 arg26_r0) a + S1x1024x128.size a ≤ S2x1024x128.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h27 => k0_hw1.2.1.2.2.2.2.2.2.2.2.2.2.2.2.2.2.2.2.2.2.2.2.2.2.2.2.2.2.2.2.2.2.1 k0_h27
theorem k0_off70_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h34 : k0_cond34 k0_t1 arg28_r0 arg29_r0 = 1#1), ∀ a, (k0_off70 arg23_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h34 => k0_hw1.2.1.2.2.2.2.2.2.2.2.2.2.2.2.2.2.2.2.2.2.2.2.2.2.2.2.2.2.2.2.2.2.2 k0_h34
theorem k0_off71_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h34 : k0_cond34 k0_t1 arg28_r0 arg29_r0 = 1#1), ∀ a, (k0_off71 arg28_r0 arg29_r0) a + S1024x512.size a ≤ S16384x4096.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h34 => k0_hw1.2.2.1 k0_h34
theorem k0_off72_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h34 : k0_cond34 k0_t1 arg28_r0 arg29_r0 = 1#1), ∀ a, (k0_off72 arg23_r0) a + S1x1024x512.size a ≤ S2x1024x512.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h34 => k0_hw1.2.2.2.1 k0_h34
theorem k0_off73_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h35 : k0_cond35 k0_t1 arg28_r0 arg29_r0 = 1#1), ∀ a, (k0_off73 arg25_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h35 => k0_hw1.2.2.2.2.1 k0_h35
theorem k0_off74_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h35 : k0_cond35 k0_t1 arg28_r0 arg29_r0 = 1#1), ∀ a, (k0_off74 arg28_r0 arg29_r0) a + S1024x512.size a ≤ S16384x4096.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h35 => k0_hw1.2.2.2.2.2.1 k0_h35
theorem k0_off75_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h35 : k0_cond35 k0_t1 arg28_r0 arg29_r0 = 1#1), ∀ a, (k0_off75 arg25_r0) a + S1x1024x512.size a ≤ S2x1024x512.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h35 => k0_hw1.2.2.2.2.2.2.1 k0_h35
theorem k0_off75_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h35 : k0_cond35 k0_t1 arg28_r0 arg29_r0 = 1#1), (Rect.unit (s := S2x1024x512) (k0_off75 arg25_r0) S1x1024x512.size (k0_off75_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h35)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h35 => k0_hw1.2.2.2.2.2.2.2.1 k0_h35 (k0_off75_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h35)
theorem k0_off74_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h35 : k0_cond35 k0_t1 arg28_r0 arg29_r0 = 1#1), (Rect.unit (s := S16384x4096) (k0_off74 arg28_r0 arg29_r0) S1024x512.size (k0_off74_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h35)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h35 => k0_hw1.2.2.2.2.2.2.2.2.1 k0_h35 (k0_off74_inb k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h35)
theorem k0_off76_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h36 : k0_cond36 k0_t1 arg28_r0 arg29_r0 = 1#1), ∀ a, (k0_off76 arg27_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h36 => k0_hw1.2.2.2.2.2.2.2.2.2.1 k0_h36
theorem k0_off77_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h36 : k0_cond36 k0_t1 arg28_r0 arg29_r0 = 1#1), ∀ a, (k0_off77 arg28_r0 arg29_r0) a + S1024x128.size a ≤ S16384x1024.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h36 => k0_hw1.2.2.2.2.2.2.2.2.2.2.1 k0_h36
theorem k0_off78_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0), ∀ (k0_h36 : k0_cond36 k0_t1 arg28_r0 arg29_r0 = 1#1), ∀ a, (k0_off78 arg27_r0) a + S1x1024x128.size a ≤ S2x1024x128.size a := fun k0_t1 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 k0_hw1 k0_h36 => k0_hw1.2.2.2.2.2.2.2.2.2.2.2 k0_h36

def k0_off79 (v111_13_r0 : BitVec 32) : Fin 1 → Nat :=
  let c2_i32_163_r0 : BitVec 32 := 2#32
  let v162_r0 : BitVec 32 := Scalar.remui v111_13_r0 c2_i32_163_r0
  ![v162_r0.toNat]

def k0_off80 (v111_19_r0 : BitVec 32) (v111_18_r0 : BitVec 32) : Fin 2 → Nat :=
  let c1024_i32_r0 : BitVec 32 := 1024#32
  let true_119_r0 : BitVec 1 := 1#1
  let c1_i32_118_r0 : BitVec 32 := 1#32
  let v112_r0 : BitVec 32 := Scalar.subi v111_19_r0 c1_i32_118_r0
  let v113_r0 : BitVec 32 := Scalar.select true_119_r0 v112_r0 v111_19_r0
  let c_m1_i32_120_r0 : BitVec 32 := 4294967295#32
  let v114_r0 : BitVec 1 := Scalar.cmpi .eq v113_r0 c_m1_i32_120_r0
  let c1_i32_122_r0 : BitVec 32 := 1#32
  let v116_r0 : BitVec 32 := Scalar.subi v111_18_r0 c1_i32_122_r0
  let v117_r0 : BitVec 32 := Scalar.select v114_r0 v116_r0 v111_18_r0
  let c_m1_i32_123_r0 : BitVec 32 := 4294967295#32
  let v118_r0 : BitVec 1 := Scalar.cmpi .eq v117_r0 c_m1_i32_123_r0
  let c15_i32_124_r0 : BitVec 32 := 15#32
  let v119_r0 : BitVec 32 := Scalar.select v118_r0 c15_i32_124_r0 v117_r0
  let c0_i32_125_r0 : BitVec 32 := 0#32
  let v120_r0 : BitVec 32 := Scalar.addi v119_r0 c0_i32_125_r0
  let v163_r0 : BitVec 32 := Scalar.muli c1024_i32_r0 v120_r0
  let c512_i32_r0 : BitVec 32 := 512#32
  let c7_i32_121_r0 : BitVec 32 := 7#32
  let v115_r0 : BitVec 32 := Scalar.select v114_r0 c7_i32_121_r0 v113_r0
  let c0_i32_126_r0 : BitVec 32 := 0#32
  let v121_r0 : BitVec 32 := Scalar.addi v115_r0 c0_i32_126_r0
  let v164_r0 : BitVec 32 := Scalar.muli c512_i32_r0 v121_r0
  ![v163_r0.toNat, v164_r0.toNat]

def k0_off81 (v111_13_r0 : BitVec 32) : Fin 3 → Nat :=
  let c2_i32_163_r0 : BitVec 32 := 2#32
  let v162_r0 : BitVec 32 := Scalar.remui v111_13_r0 c2_i32_163_r0
  let c0_i32_164_r0 : BitVec 32 := 0#32
  let c0_i32_165_r0 : BitVec 32 := 0#32
  ![v162_r0.toNat, 0, 0]

def k0_chk11 (v111_13_r0 : BitVec 32) : Prop :=
  (∀ a, (k0_off79 v111_13_r0) a + S1.size a ≤ S2.size a) ∧
  (∀ a, (k0_off81 v111_13_r0) a + S1x1024x512.size a ≤ S2x1024x512.size a)
theorem k0_off79_inb : ∀ (v111_13_r0 : BitVec 32) (k0_hw11 : k0_chk11 v111_13_r0), ∀ a, (k0_off79 v111_13_r0) a + S1.size a ≤ S2.size a := fun v111_13_r0 k0_hw11 => k0_hw11.1
theorem k0_off81_inb : ∀ (v111_13_r0 : BitVec 32) (k0_hw11 : k0_chk11 v111_13_r0), ∀ a, (k0_off81 v111_13_r0) a + S1x1024x512.size a ≤ S2x1024x512.size a := fun v111_13_r0 k0_hw11 => k0_hw11.2

def k0_off82 (v111_15_r0 : BitVec 32) : Fin 1 → Nat :=
  let c2_i32_166_r0 : BitVec 32 := 2#32
  let v170_r0 : BitVec 32 := Scalar.remui v111_15_r0 c2_i32_166_r0
  ![v170_r0.toNat]

def k0_off83 (v111_19_r0 : BitVec 32) (v111_18_r0 : BitVec 32) : Fin 2 → Nat :=
  let c1024_i32_167_r0 : BitVec 32 := 1024#32
  let true_119_r0 : BitVec 1 := 1#1
  let c1_i32_118_r0 : BitVec 32 := 1#32
  let v112_r0 : BitVec 32 := Scalar.subi v111_19_r0 c1_i32_118_r0
  let v113_r0 : BitVec 32 := Scalar.select true_119_r0 v112_r0 v111_19_r0
  let c_m1_i32_120_r0 : BitVec 32 := 4294967295#32
  let v114_r0 : BitVec 1 := Scalar.cmpi .eq v113_r0 c_m1_i32_120_r0
  let c1_i32_122_r0 : BitVec 32 := 1#32
  let v116_r0 : BitVec 32 := Scalar.subi v111_18_r0 c1_i32_122_r0
  let v117_r0 : BitVec 32 := Scalar.select v114_r0 v116_r0 v111_18_r0
  let c_m1_i32_123_r0 : BitVec 32 := 4294967295#32
  let v118_r0 : BitVec 1 := Scalar.cmpi .eq v117_r0 c_m1_i32_123_r0
  let c15_i32_124_r0 : BitVec 32 := 15#32
  let v119_r0 : BitVec 32 := Scalar.select v118_r0 c15_i32_124_r0 v117_r0
  let c0_i32_125_r0 : BitVec 32 := 0#32
  let v120_r0 : BitVec 32 := Scalar.addi v119_r0 c0_i32_125_r0
  let v171_r0 : BitVec 32 := Scalar.muli c1024_i32_167_r0 v120_r0
  let c512_i32_168_r0 : BitVec 32 := 512#32
  let c7_i32_121_r0 : BitVec 32 := 7#32
  let v115_r0 : BitVec 32 := Scalar.select v114_r0 c7_i32_121_r0 v113_r0
  let c0_i32_126_r0 : BitVec 32 := 0#32
  let v121_r0 : BitVec 32 := Scalar.addi v115_r0 c0_i32_126_r0
  let v172_r0 : BitVec 32 := Scalar.muli c512_i32_168_r0 v121_r0
  ![v171_r0.toNat, v172_r0.toNat]
def k0_off84 (v111_15_r0 : BitVec 32) : Fin 3 → Nat :=
  let c2_i32_166_r0 : BitVec 32 := 2#32
  let v170_r0 : BitVec 32 := Scalar.remui v111_15_r0 c2_i32_166_r0
  let c0_i32_169_r0 : BitVec 32 := 0#32
  let c0_i32_170_r0 : BitVec 32 := 0#32
  ![v170_r0.toNat, 0, 0]

def k0_chk13 (v111_15_r0 : BitVec 32) : Prop :=
  (∀ a, (k0_off82 v111_15_r0) a + S1.size a ≤ S2.size a) ∧
  (∀ a, (k0_off84 v111_15_r0) a + S1x1024x512.size a ≤ S2x1024x512.size a) ∧
  (∀ (hinb : ∀ a, (k0_off84 v111_15_r0) a + S1x1024x512.size a ≤ S2x1024x512.size a), (Rect.unit (s := S2x1024x512) (k0_off84 v111_15_r0) S1x1024x512.size hinb).WholeWords (EltTy.packing .bf16))
theorem k0_off82_inb : ∀ (v111_15_r0 : BitVec 32) (k0_hw13 : k0_chk13 v111_15_r0), ∀ a, (k0_off82 v111_15_r0) a + S1.size a ≤ S2.size a := fun v111_15_r0 k0_hw13 => k0_hw13.1
theorem k0_off84_inb : ∀ (v111_15_r0 : BitVec 32) (k0_hw13 : k0_chk13 v111_15_r0), ∀ a, (k0_off84 v111_15_r0) a + S1x1024x512.size a ≤ S2x1024x512.size a := fun v111_15_r0 k0_hw13 => k0_hw13.2.1
theorem k0_off84_wordsbf16 : ∀ (v111_15_r0 : BitVec 32) (k0_hw13 : k0_chk13 v111_15_r0), (Rect.unit (s := S2x1024x512) (k0_off84 v111_15_r0) S1x1024x512.size (k0_off84_inb v111_15_r0 k0_hw13)).WholeWords (EltTy.packing .bf16) := fun v111_15_r0 k0_hw13 => k0_hw13.2.2 (k0_off84_inb v111_15_r0 k0_hw13)

def k0_off85 (v111_17_r0 : BitVec 32) : Fin 1 → Nat :=
  let c2_i32_171_r0 : BitVec 32 := 2#32
  let v178_r0 : BitVec 32 := Scalar.remui v111_17_r0 c2_i32_171_r0
  ![v178_r0.toNat]

def k0_off86 (v111_19_r0 : BitVec 32) (v111_18_r0 : BitVec 32) : Fin 2 → Nat :=
  let c1024_i32_172_r0 : BitVec 32 := 1024#32
  let true_119_r0 : BitVec 1 := 1#1
  let c1_i32_118_r0 : BitVec 32 := 1#32
  let v112_r0 : BitVec 32 := Scalar.subi v111_19_r0 c1_i32_118_r0
  let v113_r0 : BitVec 32 := Scalar.select true_119_r0 v112_r0 v111_19_r0
  let c_m1_i32_120_r0 : BitVec 32 := 4294967295#32
  let v114_r0 : BitVec 1 := Scalar.cmpi .eq v113_r0 c_m1_i32_120_r0
  let c1_i32_122_r0 : BitVec 32 := 1#32
  let v116_r0 : BitVec 32 := Scalar.subi v111_18_r0 c1_i32_122_r0
  let v117_r0 : BitVec 32 := Scalar.select v114_r0 v116_r0 v111_18_r0
  let c_m1_i32_123_r0 : BitVec 32 := 4294967295#32
  let v118_r0 : BitVec 1 := Scalar.cmpi .eq v117_r0 c_m1_i32_123_r0
  let c15_i32_124_r0 : BitVec 32 := 15#32
  let v119_r0 : BitVec 32 := Scalar.select v118_r0 c15_i32_124_r0 v117_r0
  let c0_i32_125_r0 : BitVec 32 := 0#32
  let v120_r0 : BitVec 32 := Scalar.addi v119_r0 c0_i32_125_r0
  let v179_r0 : BitVec 32 := Scalar.muli c1024_i32_172_r0 v120_r0
  let c128_i32_173_r0 : BitVec 32 := 128#32
  let c7_i32_121_r0 : BitVec 32 := 7#32
  let v115_r0 : BitVec 32 := Scalar.select v114_r0 c7_i32_121_r0 v113_r0
  let c0_i32_126_r0 : BitVec 32 := 0#32
  let v121_r0 : BitVec 32 := Scalar.addi v115_r0 c0_i32_126_r0
  let v180_r0 : BitVec 32 := Scalar.muli c128_i32_173_r0 v121_r0
  ![v179_r0.toNat, v180_r0.toNat]

def k0_chk12 (v111_19_r0 : BitVec 32) (v111_18_r0 : BitVec 32) : Prop :=
  (∀ a, (k0_off80 v111_19_r0 v111_18_r0) a + S1024x512.size a ≤ S16384x4096.size a) ∧
  (∀ a, (k0_off83 v111_19_r0 v111_18_r0) a + S1024x512.size a ≤ S16384x4096.size a) ∧
  (∀ (hinb : ∀ a, (k0_off83 v111_19_r0 v111_18_r0) a + S1024x512.size a ≤ S16384x4096.size a), (Rect.unit (s := S16384x4096) (k0_off83 v111_19_r0 v111_18_r0) S1024x512.size hinb).WholeWords (EltTy.packing .bf16)) ∧
  (∀ a, (k0_off86 v111_19_r0 v111_18_r0) a + S1024x128.size a ≤ S16384x1024.size a)
theorem k0_off80_inb : ∀ (v111_19_r0 : BitVec 32) (v111_18_r0 : BitVec 32) (k0_hw12 : k0_chk12 v111_19_r0 v111_18_r0), ∀ a, (k0_off80 v111_19_r0 v111_18_r0) a + S1024x512.size a ≤ S16384x4096.size a := fun v111_19_r0 v111_18_r0 k0_hw12 => k0_hw12.1
theorem k0_off83_inb : ∀ (v111_19_r0 : BitVec 32) (v111_18_r0 : BitVec 32) (k0_hw12 : k0_chk12 v111_19_r0 v111_18_r0), ∀ a, (k0_off83 v111_19_r0 v111_18_r0) a + S1024x512.size a ≤ S16384x4096.size a := fun v111_19_r0 v111_18_r0 k0_hw12 => k0_hw12.2.1
theorem k0_off83_wordsbf16 : ∀ (v111_19_r0 : BitVec 32) (v111_18_r0 : BitVec 32) (k0_hw12 : k0_chk12 v111_19_r0 v111_18_r0), (Rect.unit (s := S16384x4096) (k0_off83 v111_19_r0 v111_18_r0) S1024x512.size (k0_off83_inb v111_19_r0 v111_18_r0 k0_hw12)).WholeWords (EltTy.packing .bf16) := fun v111_19_r0 v111_18_r0 k0_hw12 => k0_hw12.2.2.1 (k0_off83_inb v111_19_r0 v111_18_r0 k0_hw12)
theorem k0_off86_inb : ∀ (v111_19_r0 : BitVec 32) (v111_18_r0 : BitVec 32) (k0_hw12 : k0_chk12 v111_19_r0 v111_18_r0), ∀ a, (k0_off86 v111_19_r0 v111_18_r0) a + S1024x128.size a ≤ S16384x1024.size a := fun v111_19_r0 v111_18_r0 k0_hw12 => k0_hw12.2.2.2

def k0_off87 (v111_17_r0 : BitVec 32) : Fin 3 → Nat :=
  let c2_i32_171_r0 : BitVec 32 := 2#32
  let v178_r0 : BitVec 32 := Scalar.remui v111_17_r0 c2_i32_171_r0
  let c0_i32_174_r0 : BitVec 32 := 0#32
  let c0_i32_175_r0 : BitVec 32 := 0#32
  ![v178_r0.toNat, 0, 0]

def k0_chk14 (v111_17_r0 : BitVec 32) : Prop :=
  (∀ a, (k0_off85 v111_17_r0) a + S1.size a ≤ S2.size a) ∧
  (∀ a, (k0_off87 v111_17_r0) a + S1x1024x128.size a ≤ S2x1024x128.size a)
theorem k0_off85_inb : ∀ (v111_17_r0 : BitVec 32) (k0_hw14 : k0_chk14 v111_17_r0), ∀ a, (k0_off85 v111_17_r0) a + S1.size a ≤ S2.size a := fun v111_17_r0 k0_hw14 => k0_hw14.1
theorem k0_off87_inb : ∀ (v111_17_r0 : BitVec 32) (k0_hw14 : k0_chk14 v111_17_r0), ∀ a, (k0_off87 v111_17_r0) a + S1x1024x128.size a ≤ S2x1024x128.size a := fun v111_17_r0 k0_hw14 => k0_hw14.2
-- ==== ReferenceIdeal.lean ====
abbrev S16384x2048 : Shape := ⟨2, ![16384, 2048]⟩
abbrev S4096x4096 : Shape := ⟨2, ![4096, 4096]⟩
abbrev S16384x4096 : Shape := ⟨2, ![16384, 4096]⟩
abbrev S1x4096 : Shape := ⟨2, ![1, 4096]⟩
abbrev S16384x8x4x128 : Shape := ⟨4, ![16384, 8, 4, 128]⟩
abbrev S4096 : Shape := ⟨1, ![4096]⟩
abbrev S_ : Shape := ⟨0, ![]⟩
abbrev S16384x8x128 : Shape := ⟨3, ![16384, 8, 128]⟩
abbrev S16384x1024 : Shape := ⟨2, ![16384, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S1x4096, .f32⟩
  | .hbm, ⟨5, _⟩ => ⟨S16384x4096, .bf16⟩
  | .hbm, ⟨6, _⟩ => ⟨S16384x4096, .f32⟩
  | .hbm, ⟨7, _⟩ => ⟨S4096x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x8x4x128, .f32⟩
  | .hbm, ⟨12, _⟩ => ⟨S4096, .f32⟩
  | .hbm, ⟨13, _⟩ => ⟨S1x4096, .f32⟩
  | .hbm, ⟨14, _⟩ => ⟨S16384x4096, .f32⟩
  | .hbm, ⟨15, _⟩ => ⟨S16384x4096, .f32⟩
  | .hbm, ⟨16, _⟩ => ⟨S16384x4096, .bf16⟩
  | .hbm, ⟨17, _⟩ => ⟨S_, .f32⟩
  | .hbm, ⟨18, _⟩ => ⟨S16384x8x128, .f32⟩
  | .hbm, ⟨19, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Up.lean ====
abbrev S16384x4096 : Shape := ⟨2, ![16384, 4096]⟩
abbrev S16384x1024 : Shape := ⟨2, ![16384, 1024]⟩
abbrev S4096x16384 : Shape := ⟨2, ![4096, 16384]⟩
abbrev S16384x16384 : Shape := ⟨2, ![16384, 16384]⟩
abbrev S1024x4096 : Shape := ⟨2, ![1024, 4096]⟩
abbrev S1024x1024 : Shape := ⟨2, ![1024, 1024]⟩
abbrev S4096x1024 : Shape := ⟨2, ![4096, 1024]⟩
abbrev S64x4096 : Shape := ⟨2, ![64, 4096]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .f32⟩
  | .hbm, ⟨2, _⟩ => ⟨S4096x16384, .bf16⟩
  | .hbm, ⟨3, _⟩ => ⟨S16384x4096, .f32⟩
  | .hbm, ⟨4, _⟩ => ⟨S16384x16384, .bf16⟩
  | .hbm, ⟨5, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .f32⟩
  | .local _ .vmem, ⟨3, _⟩ => ⟨S1024x1024, .f32⟩
  | .local _ .vmem, ⟨4, _⟩ => ⟨S4096x1024, .bf16⟩
  | .local _ .vmem, ⟨5, _⟩ => ⟨S4096x1024, .bf16⟩
  | .local _ .vmem, ⟨6, _⟩ => ⟨S64x4096, .f32⟩
  | .local _ .vmem, ⟨7, _⟩ => ⟨S64x4096, .f32⟩
  | .local _ .vmem, ⟨8, _⟩ => ⟨S1024x1024, .bf16⟩
  | .local _ .vmem, ⟨9, _⟩ => ⟨S1024x1024, .bf16⟩
  | .local _ .vmem, ⟨10, _⟩ => ⟨S64x4096, .bf16⟩
  | .local _ .vmem, ⟨11, _⟩ => ⟨S64x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S16384x4096 : Shape := ⟨2, ![16384, 4096]⟩
abbrev S16384x1024 : Shape := ⟨2, ![16384, 1024]⟩
abbrev S4096x16384 : Shape := ⟨2, ![4096, 16384]⟩
abbrev S_ : Shape := ⟨0, ![]⟩
abbrev S16384 : Shape := ⟨1, ![16384]⟩
abbrev S16384x1 : Shape := ⟨2, ![16384, 1]⟩
abbrev S16384x16384 : Shape := ⟨2, ![16384, 16384]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .f32⟩
  | .hbm, ⟨2, _⟩ => ⟨S4096x16384, .bf16⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S4096x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S16384x16384, .f32⟩
  | .hbm, ⟨23, _⟩ => ⟨S16384x16384, .bf16⟩
  | .hbm, ⟨24, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Down.lean ====
abbrev S16384x16384 : Shape := ⟨2, ![16384, 16384]⟩
abbrev S16384x4096 : Shape := ⟨2, ![16384, 4096]⟩
abbrev S4096 : Shape := ⟨1, ![4096]⟩
abbrev S1x4096 : Shape := ⟨2, ![1, 4096]⟩
abbrev S1024x1024 : Shape := ⟨2, ![1024, 1024]⟩
abbrev S1024x4096 : Shape := ⟨2, ![1024, 4096]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S32x128 : Shape := ⟨2, ![32, 128]⟩
abbrev S1x128 : Shape := ⟨2, ![1, 128]⟩

abbrev nBuf : Space → Nat
  | .hbm => 6
  | .vmem => 10
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .f32⟩
  | .hbm, ⟨3, _⟩ => ⟨S4096, .f32⟩
  | .hbm, ⟨4, _⟩ => ⟨S1x4096, .f32⟩
  | .hbm, ⟨5, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x4096, .bf16⟩
  | .local _ .vmem, ⟨4, _⟩ => ⟨S1024x256, .f32⟩
  | .local _ .vmem, ⟨5, _⟩ => ⟨S1024x256, .f32⟩
  | .local _ .vmem, ⟨6, _⟩ => ⟨S1x4096, .f32⟩
  | .local _ .vmem, ⟨7, _⟩ => ⟨S1024x4096, .f32⟩
  | .local _ .vmem, ⟨8, _⟩ => ⟨S1024x4096, .f32⟩
  | .local _ .vmem, ⟨9, _⟩ => ⟨S1024x128, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let c0_30 : Index := 0#32
  let arg1 : BitVec 32 := BitVec.ofNat 32 (i 1).val
  let c256_i32 : BitVec 32 := 256#32
  let v0 : BitVec 32 := Scalar.muli arg1 c256_i32
  let v1 : BitVec 32 := v0
  let v32 : Index := Scalar.indexCast v1
  ![0, v32.toNat]
def k0_cond2 (i : grid0.Coords) : BitVec 1 :=
  let arg1 : BitVec 32 := BitVec.ofNat 32 (i 1).val
  let c0_i32_1 : BitVec 32 := 0#32
  let v5 : BitVec 1 := Scalar.cmpi .ne arg1 c0_i32_1
  let c15_i32 : BitVec 32 := 15#32
  let v6 : BitVec 1 := Scalar.cmpi .ne arg1 c15_i32
  let v7 : BitVec 1 := Scalar.andi v5 v6
  let v8 : BitVec 32 := Scalar.extui v7
  let c0_i32_2 : BitVec 32 := 0#32
  let v9 : BitVec 1 := Scalar.cmpi .ne v8 c0_i32_2
  v9

def k0_off2 (i : grid0.Coords) : Fin 2 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v16 : Index := Scalar.indexCast v1
  ![0, v16.toNat]
def k0_cond3 (i : grid0.Coords) : BitVec 1 :=
  let arg1 : BitVec 32 := BitVec.ofNat 32 (i 1).val
  let c15_i32_3 : BitVec 32 := 15#32
  let v10 : BitVec 1 := Scalar.cmpi .eq arg1 c15_i32_3
  let v11 : BitVec 32 := Scalar.extui v10
  let c0_i32_4 : BitVec 32 := 0#32
  let v12 : BitVec 1 := Scalar.cmpi .ne v11 c0_i32_4
  v12

def k0_off3 (i : grid0.Coords) : Fin 2 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v16 : Index := Scalar.indexCast v1
  ![0, v16.toNat]
def k0_cond4 (i : grid0.Coords) : BitVec 1 :=
  let arg1 : BitVec 32 := BitVec.ofNat 32 (i 1).val
  let c15_i32_5 : BitVec 32 := 15#32
  let v13 : BitVec 1 := Scalar.cmpi .eq arg1 c15_i32_5
  let v14 : BitVec 32 := Scalar.extui v13
  let c0_i32_6 : BitVec 32 := 0#32
  let v15 : BitVec 1 := Scalar.cmpi .ne v14 c0_i32_6
  v15

@[reducible] def k0_t1_loop : Scf.Loop 32 :=
  let c0_i32_7 : BitVec 32 := 0#32
  let c32_i32 : BitVec 32 := 32#32
  let v16 : BitVec 32 := Scalar.addi c0_i32_7 c32_i32
  let c1_i32 : BitVec 32 := 1#32
  ⟨c0_i32_7, v16, c1_i32⟩
def k0_mult2 (k0_t1 : Fin k0_t1_loop.trips) : BitVec 32 :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  v17
def k0_off4 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v19 : Index := Scalar.indexCast v18
  let c0 : Index := 0#32
  ![v19.toNat, 0]
def k0_off5 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v21 : Index := Scalar.indexCast v18
  let c0_10 : Index := 0#32
  ![v21.toNat, 0]
def k0_off6 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v31 : Index := Scalar.indexCast v18
  let c128 : Index := 128#32
  ![v31.toNat, 128]
def k0_off7 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v41 : Index := Scalar.indexCast v18
  let c256 : Index := 256#32
  ![v41.toNat, 256]
def k0_off8 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v51 : Index := Scalar.indexCast v18
  let c384 : Index := 384#32
  ![v51.toNat, 384]
def k0_off9 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v61 : Index := Scalar.indexCast v18
  let c512 : Index := 512#32
  ![v61.toNat, 512]
def k0_off10 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v71 : Index := Scalar.indexCast v18
  let c640 : Index := 640#32
  ![v71.toNat, 640]
def k0_off11 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v81 : Index := Scalar.indexCast v18
  let c768 : Index := 768#32
  ![v81.toNat, 768]
def k0_off12 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v91 : Index := Scalar.indexCast v18
  let c896 : Index := 896#32
  ![v91.toNat, 896]
def k0_off13 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v101 : Index := Scalar.indexCast v18
  let c1024 : Index := 1024#32
  ![v101.toNat, 1024]
def k0_off14 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v111 : Index := Scalar.indexCast v18
  let c1152 : Index := 1152#32
  ![v111.toNat, 1152]
def k0_off15 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v121 : Index := Scalar.indexCast v18
  let c1280 : Index := 1280#32
  ![v121.toNat, 1280]
def k0_off16 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v131 : Index := Scalar.indexCast v18
  let c1408 : Index := 1408#32
  ![v131.toNat, 1408]
def k0_off17 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v141 : Index := Scalar.indexCast v18
  let c1536 : Index := 1536#32
  ![v141.toNat, 1536]
def k0_off18 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v151 : Index := Scalar.indexCast v18
  let c1664 : Index := 1664#32
  ![v151.toNat, 1664]
def k0_off19 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v161 : Index := Scalar.indexCast v18
  let c1792 : Index := 1792#32
  ![v161.toNat, 1792]
def k0_off20 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v171 : Index := Scalar.indexCast v18
  let c1920 : Index := 1920#32
  ![v171.toNat, 1920]
def k0_off21 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v181 : Index := Scalar.indexCast v18
  let c2048 : Index := 2048#32
  ![v181.toNat, 2048]
def k0_off22 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v191 : Index := Scalar.indexCast v18
  let c2176 : Index := 2176#32
  ![v191.toNat, 2176]
def k0_off23 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v201 : Index := Scalar.indexCast v18
  let c2304 : Index := 2304#32
  ![v201.toNat, 2304]
def k0_off24 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v211 : Index := Scalar.indexCast v18
  let c2432 : Index := 2432#32
  ![v211.toNat, 2432]
def k0_off25 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v221 : Index := Scalar.indexCast v18
  let c2560 : Index := 2560#32
  ![v221.toNat, 2560]
def k0_off26 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v231 : Index := Scalar.indexCast v18
  let c2688 : Index := 2688#32
  ![v231.toNat, 2688]
def k0_off27 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v241 : Index := Scalar.indexCast v18
  let c2816 : Index := 2816#32
  ![v241.toNat, 2816]
def k0_off28 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v251 : Index := Scalar.indexCast v18
  let c2944 : Index := 2944#32
  ![v251.toNat, 2944]
def k0_off29 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v261 : Index := Scalar.indexCast v18
  let c3072 : Index := 3072#32
  ![v261.toNat, 3072]
def k0_off30 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v271 : Index := Scalar.indexCast v18
  let c3200 : Index := 3200#32
  ![v271.toNat, 3200]
def k0_off31 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v281 : Index := Scalar.indexCast v18
  let c3328 : Index := 3328#32
  ![v281.toNat, 3328]
def k0_off32 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v291 : Index := Scalar.indexCast v18
  let c3456 : Index := 3456#32
  ![v291.toNat, 3456]
def k0_off33 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v301 : Index := Scalar.indexCast v18
  let c3584 : Index := 3584#32
  ![v301.toNat, 3584]
def k0_off34 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v311 : Index := Scalar.indexCast v18
  let c3712 : Index := 3712#32
  ![v311.toNat, 3712]
def k0_off35 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v321 : Index := Scalar.indexCast v18
  let c3840 : Index := 3840#32
  ![v321.toNat, 3840]
def k0_off36 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c32_i32_9 : BitVec 32 := 32#32
  let v17 : BitVec 32 := Scalar.muli arg8 c32_i32_9
  let v18 : BitVec 32 := v17
  let v331 : Index := Scalar.indexCast v18
  let c3968 : Index := 3968#32
  ![v331.toNat, 3968]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DownReferenceIdeal.lean ====
abbrev S16384x16384 : Shape := ⟨2, ![16384, 16384]⟩
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .f32⟩
  | .hbm, ⟨3, _⟩ => ⟨S4096, .f32⟩
  | .hbm, ⟨4, _⟩ => ⟨S16384x16384, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x4096, .f32⟩
  | .hbm, ⟨20, _⟩ => ⟨S16384x4096, .f32⟩
  | .hbm, ⟨21, _⟩ => ⟨S1x4096, .f32⟩
  | .hbm, ⟨22, _⟩ => ⟨S16384x4096, .f32⟩
  | .hbm, ⟨23, _⟩ => ⟨S16384x4096, .f32⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== In.lean ====
abbrev S16384x4096 : Shape := ⟨2, ![16384, 4096]⟩
abbrev S4096 : Shape := ⟨1, ![4096]⟩
abbrev S4096x12288 : Shape := ⟨2, ![4096, 12288]⟩
abbrev S8192x128 : Shape := ⟨2, ![8192, 128]⟩
abbrev S1x4096 : Shape := ⟨2, ![1, 4096]⟩
abbrev S16384x6144 : Shape := ⟨2, ![16384, 6144]⟩
abbrev S128x4096 : Shape := ⟨2, ![128, 4096]⟩
abbrev S4096x1024 : Shape := ⟨2, ![4096, 1024]⟩
abbrev S1024x128 : Shape := ⟨2, ![1024, 128]⟩
abbrev S1024x1024 : Shape := ⟨2, ![1024, 1024]⟩
abbrev S2x1024x4096 : Shape := ⟨3, ![2, 1024, 4096]⟩
abbrev S128 : Shape := ⟨1, ![128]⟩
abbrev S128x1 : Shape := ⟨2, ![128, 1]⟩
abbrev S1x128x4096 : Shape := ⟨3, ![1, 128, 4096]⟩
abbrev S1x1024x4096 : Shape := ⟨3, ![1, 1024, 4096]⟩
abbrev S1024x4096 : Shape := ⟨2, ![1024, 4096]⟩

abbrev nBuf : Space → Nat
  | .hbm => 9
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x12288, .f32⟩
  | .hbm, ⟨3, _⟩ => ⟨S8192x128, .f32⟩
  | .hbm, ⟨4, _⟩ => ⟨S8192x128, .f32⟩
  | .hbm, ⟨5, _⟩ => ⟨S4096x12288, .bf16⟩
  | .hbm, ⟨6, _⟩ => ⟨S1x4096, .f32⟩
  | .hbm, ⟨7, _⟩ => ⟨S16384x6144, .bf16⟩
  | .hbm, ⟨8, _⟩ => ⟨S16384x6144, .f32⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S4096x1024, .bf16⟩
  | .local _ .vmem, ⟨4, _⟩ => ⟨S4096x1024, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S2x1024x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![17, 12], ![false, false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let arg1 : BitVec 32 := BitVec.ofNat 32 (i 1).val
  let c8_i32 : BitVec 32 := 8#32
  let v11 : BitVec 1 := Scalar.cmpi .slt arg1 c8_i32
  let v12 : BitVec 1 := Scalar.andi v10 v11
  let v13 : BitVec 32 := Scalar.extui v12
  let c0_i32_4 : BitVec 32 := 0#32
  let v14 : BitVec 1 := Scalar.cmpi .ne v13 c0_i32_4
  v14

def k0_mult1 (i : grid0.Coords) : BitVec 32 :=
  let arg1 : BitVec 32 := BitVec.ofNat 32 (i 1).val
  let c128_i32 : BitVec 32 := 128#32
  let v56 : BitVec 32 := Scalar.muli arg1 c128_i32
  v56
def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v68 : Index := Scalar.indexCast v9
  let arg1 : BitVec 32 := BitVec.ofNat 32 (i 1).val
  let c128_i32 : BitVec 32 := 128#32
  let v56 : BitVec 32 := Scalar.muli arg1 c128_i32
  let v57 : BitVec 32 := v56
  let v69 : Index := Scalar.indexCast v57
  let c0_26 : Index := 0#32
  ![v68.toNat, v69.toNat, 0]
def k0_cond2 (i : grid0.Coords) : BitVec 1 :=
  let arg0 : BitVec 32 := BitVec.ofNat 32 (i 0).val
  let c0_i32_5 : BitVec 32 := 0#32
  let v15 : BitVec 1 := Scalar.cmpi .sgt arg0 c0_i32_5
  let arg1 : BitVec 32 := BitVec.ofNat 32 (i 1).val
  let c0_i32_6 : BitVec 32 := 0#32
  let v16 : BitVec 1 := Scalar.cmpi .sge arg1 c0_i32_6
  let c4_i32 : BitVec 32 := 4#32
  let v17 : BitVec 1 := Scalar.cmpi .slt arg1 c4_i32
  let v18 : BitVec 1 := Scalar.andi v16 v17
  let v19 : BitVec 1 := Scalar.andi v15 v18
  let v20 : BitVec 32 := Scalar.extui v19
  let c0_i32_7 : BitVec 32 := 0#32
  let v21 : BitVec 1 := Scalar.cmpi .ne v20 c0_i32_7
  v21

def k0_off2 (i : grid0.Coords) : Fin 3 → Nat :=
  let c1_i32_21 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v50 : BitVec 32 := Scalar.subi c1_i32_21 v9
  let v51 : Index := Scalar.indexCast v50
  let c0 : Index := 0#32
  let c0_22 : Index := 0#32
  ![v51.toNat, 0, 0]
def k0_mult2 (i : grid0.Coords) : BitVec 32 :=
  let arg1 : BitVec 32 := BitVec.ofNat 32 (i 1).val
  let c128_i32 : BitVec 32 := 128#32
  let v113 : BitVec 32 := Scalar.muli arg1 c128_i32
  v113
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v125 : Index := Scalar.indexCast v9
  let arg1 : BitVec 32 := BitVec.ofNat 32 (i 1).val
  let c128_i32 : BitVec 32 := 128#32
  let v113 : BitVec 32 := Scalar.muli arg1 c128_i32
  let v114 : BitVec 32 := v113
  let v126 : Index := Scalar.indexCast v114
  let c0_45 : Index := 0#32
  ![v125.toNat, v126.toNat, 0]
def k0_cond3 (i : grid0.Coords) : BitVec 1 :=
  let arg0 : BitVec 32 := BitVec.ofNat 32 (i 0).val
  let c0_i32_8 : BitVec 32 := 0#32
  let v22 : BitVec 1 := Scalar.cmpi .sgt arg0 c0_i32_8
  let arg1 : BitVec 32 := BitVec.ofNat 32 (i 1).val
  let c4_i32_9 : BitVec 32 := 4#32
  let v23 : BitVec 1 := Scalar.cmpi .sge arg1 c4_i32_9
  let c6_i32 : BitVec 32 := 6#32
  let v24 : BitVec 1 := Scalar.cmpi .slt arg1 c6_i32
  let v25 : BitVec 1 := Scalar.andi v23 v24
  let v26 : BitVec 1 := Scalar.andi v22 v25
  let v27 : BitVec 32 := Scalar.extui v26
  let c0_i32_10 : BitVec 32 := 0#32
  let v28 : BitVec 1 := Scalar.cmpi .ne v27 c0_i32_10
  v28

def k0_off4 (i : grid0.Coords) : Fin 3 → Nat :=
  let c1_i32_21 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v50 : BitVec 32 := Scalar.subi c1_i32_21 v9
  let v51 : Index := Scalar.indexCast v50
  let c0 : Index := 0#32
  let c0_22 : Index := 0#32
  ![v51.toNat, 0, 0]
def k0_mult3 (i : grid0.Coords) : BitVec 32 :=
  let arg1 : BitVec 32 := BitVec.ofNat 32 (i 1).val
  let c128_i32 : BitVec 32 := 128#32
  let v65 : BitVec 32 := Scalar.muli arg1 c128_i32
  v65
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v77 : Index := Scalar.indexCast v9
  let arg1 : BitVec 32 := BitVec.ofNat 32 (i 1).val
  let c128_i32 : BitVec 32 := 128#32
  let v65 : BitVec 32 := Scalar.muli arg1 c128_i32
  let v66 : BitVec 32 := v65
  let v78 : Index := Scalar.indexCast v66
  let c0_34 : Index := 0#32
  ![v77.toNat, v78.toNat, 0]
def k0_cond4 (i : grid0.Coords) : BitVec 1 :=
  let arg0 : BitVec 32 := BitVec.ofNat 32 (i 0).val
  let c0_i32_11 : BitVec 32 := 0#32
  let v29 : BitVec 1 := Scalar.cmpi .sgt arg0 c0_i32_11
  let arg1 : BitVec 32 := BitVec.ofNat 32 (i 1).val
  let c6_i32_12 : BitVec 32 := 6#32
  let v30 : BitVec 1 := Scalar.cmpi .sge arg1 c6_i32_12
  let c8_i32_13 : BitVec 32 := 8#32
  let v31 : BitVec 1 := Scalar.cmpi .slt arg1 c8_i32_13
  let v32 : BitVec 1 := Scalar.andi v30 v31
  let v33 : BitVec 1 := Scalar.andi v29 v32
  let v34 : BitVec 32 := Scalar.extui v33
  let c0_i32_14 : BitVec 32 := 0#32
  let v35 : BitVec 1 := Scalar.cmpi .ne v34 c0_i32_14
  v35

def k0_off6 (i : grid0.Coords) : Fin 3 → Nat :=
  let c1_i32_21 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v50 : BitVec 32 := Scalar.subi c1_i32_21 v9
  let v51 : Index := Scalar.indexCast v50
  let c0 : Index := 0#32
  let c0_22 : Index := 0#32
  ![v51.toNat, 0, 0]
def k0_mult4 (i : grid0.Coords) : BitVec 32 :=
  let arg1 : BitVec 32 := BitVec.ofNat 32 (i 1).val
  let c128_i32 : BitVec 32 := 128#32
  let v64 : BitVec 32 := Scalar.muli arg1 c128_i32
  v64
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v76 : Index := Scalar.indexCast v9
  let arg1 : BitVec 32 := BitVec.ofNat 32 (i 1).val
  let c128_i32 : BitVec 32 := 128#32
  let v64 : BitVec 32 := Scalar.muli arg1 c128_i32
  let v65 : BitVec 32 := v64
  let v77 : Index := Scalar.indexCast v65
  let c0_34 : Index := 0#32
  ![v76.toNat, v77.toNat, 0]
def k0_cond5 (i : grid0.Coords) : BitVec 1 :=
  let arg0 : BitVec 32 := BitVec.ofNat 32 (i 0).val
  let c0_i32_15 : BitVec 32 := 0#32
  let v36 : BitVec 1 := Scalar.cmpi .sgt arg0 c0_i32_15
  let arg1 : BitVec 32 := BitVec.ofNat 32 (i 1).val
  let c8_i32_16 : BitVec 32 := 8#32
  let v37 : BitVec 1 := Scalar.cmpi .sge arg1 c8_i32_16
  let c10_i32 : BitVec 32 := 10#32
  let v38 : BitVec 1 := Scalar.cmpi .slt arg1 c10_i32
  let v39 : BitVec 1 := Scalar.andi v37 v38
  let v40 : BitVec 1 := Scalar.andi v36 v39
  let v41 : BitVec 32 := Scalar.extui v40
  let c0_i32_17 : BitVec 32 := 0#32
  let v42 : BitVec 1 := Scalar.cmpi .ne v41 c0_i32_17
  v42

def k0_off8 (i : grid0.Coords) : Fin 3 → Nat :=
  let c1_i32_21 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v50 : BitVec 32 := Scalar.subi c1_i32_21 v9
  let v51 : Index := Scalar.indexCast v50
  let c0 : Index := 0#32
  let c0_22 : Index := 0#32
  ![v51.toNat, 0, 0]
def k0_cond6 (i : grid0.Coords) : BitVec 1 :=
  let arg0 : BitVec 32 := BitVec.ofNat 32 (i 0).val
  let c0_i32_18 : BitVec 32 := 0#32
  let v43 : BitVec 1 := Scalar.cmpi .sgt arg0 c0_i32_18
  let arg1 : BitVec 32 := BitVec.ofNat 32 (i 1).val
  let c10_i32_19 : BitVec 32 := 10#32
  let v44 : BitVec 1 := Scalar.cmpi .sge arg1 c10_i32_19
  let c12_i32 : BitVec 32 := 12#32
  let v45 : BitVec 1 := Scalar.cmpi .slt arg1 c12_i32
  let v46 : BitVec 1 := Scalar.andi v44 v45
  let v47 : BitVec 1 := Scalar.andi v43 v46
  let v48 : BitVec 32 := Scalar.extui v47
  let c0_i32_20 : BitVec 32 := 0#32
  let v49 : BitVec 1 := Scalar.cmpi .ne v48 c0_i32_20
  v49

def k0_off9 (i : grid0.Coords) : Fin 3 → Nat :=
  let c1_i32_21 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v50 : BitVec 32 := Scalar.subi c1_i32_21 v9
  let v51 : Index := Scalar.indexCast v50
  let c0 : Index := 0#32
  let c0_22 : Index := 0#32
  ![v51.toNat, 0, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c8_i32 : BitVec 32 := 8#32
  let v1 : BitVec 32 := Scalar.muli v0 c8_i32
  let c7_i32 : BitVec 32 := 7#32
  let v2 : BitVec 32 := Scalar.minsi arg1 c7_i32
  let v3 : BitVec 32 := Scalar.addi v1 v2
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let v2 : BitVec 32 := Scalar.minsi arg1 c5_i32
  let c0_i32_0 : BitVec 32 := 0#32
  let v3 : BitVec 1 := Scalar.cmpi .eq arg0 c0_i32_0
  let c0_i32_1 : BitVec 32 := 0#32
  let v4 : BitVec 32 := Scalar.select v3 c0_i32_1 v2
  let c0_i32_2 : BitVec 32 := 0#32
  ![v1.toNat, v4.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let v2 : BitVec 32 := Scalar.subi arg1 c6_i32
  let c0_i32_0 : BitVec 32 := 0#32
  let v3 : BitVec 32 := Scalar.maxsi v2 c0_i32_0
  let c0_i32_1 : BitVec 32 := 0#32
  let v4 : BitVec 1 := Scalar.cmpi .eq arg0 c0_i32_1
  let c0_i32_2 : BitVec 32 := 0#32
  let v5 : BitVec 32 := Scalar.select v4 c0_i32_2 v3
  let c0_i32_3 : BitVec 32 := 0#32
  ![v1.toNat, v5.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InReferenceIdeal.lean ====
abbrev S16384x4096 : Shape := ⟨2, ![16384, 4096]⟩
abbrev S4096 : Shape := ⟨1, ![4096]⟩
abbrev S4096x12288 : Shape := ⟨2, ![4096, 12288]⟩
abbrev S8192x128 : Shape := ⟨2, ![8192, 128]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x12288 : Shape := ⟨2, ![16384, 12288]⟩
abbrev S16384x2048 : Shape := ⟨2, ![16384, 2048]⟩
abbrev S2x8192x8x256 : Shape := ⟨4, ![2, 8192, 8, 256]⟩
abbrev S1x8192x1x128 : Shape := ⟨4, ![1, 8192, 1, 128]⟩
abbrev S2x8192x8x128 : Shape := ⟨4, ![2, 8192, 8, 128]⟩
abbrev S16384x6144 : Shape := ⟨2, ![16384, 6144]⟩

abbrev nBuf : Space → Nat
  | .hbm => 82
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x12288, .f32⟩
  | .hbm, ⟨3, _⟩ => ⟨S8192x128, .f32⟩
  | .hbm, ⟨4, _⟩ => ⟨S8192x128, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x12288, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S2x8192x8x256, .f32⟩
  | .hbm, ⟨29, _⟩ => ⟨S1x8192x1x128, .f32⟩
  | .hbm, ⟨30, _⟩ => ⟨S1x8192x1x128, .f32⟩
  | .hbm, ⟨31, _⟩ => ⟨S2x8192x8x128, .f32⟩
  | .hbm, ⟨32, _⟩ => ⟨S2x8192x8x128, .f32⟩
  | .hbm, ⟨33, _⟩ => ⟨S2x8192x8x128, .f32⟩
  | .hbm, ⟨34, _⟩ => ⟨S2x8192x8x128, .f32⟩
  | .hbm, ⟨35, _⟩ => ⟨S2x8192x8x128, .f32⟩
  | .hbm, ⟨36, _⟩ => ⟨S2x8192x8x128, .f32⟩
  | .hbm, ⟨37, _⟩ => ⟨S2x8192x8x128, .f32⟩
  | .hbm, ⟨38, _⟩ => ⟨S2x8192x8x128, .f32⟩
  | .hbm, ⟨39, _⟩ => ⟨S2x8192x8x128, .f32⟩
  | .hbm, ⟨40, _⟩ => ⟨S2x8192x8x128, .f32⟩
  | .hbm, ⟨41, _⟩ => ⟨S2x8192x8x128, .f32⟩
  | .hbm, ⟨42, _⟩ => ⟨S2x8192x8x128, .f32⟩
  | .hbm, ⟨43, _⟩ => ⟨S2x8192x8x256, .f32⟩
  | .hbm, ⟨44, _⟩ => ⟨S16384x2048, .f32⟩
  | .hbm, ⟨45, _⟩ => ⟨S2x8192x8x256, .f32⟩
  | .hbm, ⟨46, _⟩ => ⟨S1x8192x1x128, .f32⟩
  | .hbm, ⟨47, _⟩ => ⟨S1x8192x1x128, .f32⟩
  | .hbm, ⟨48, _⟩ => ⟨S2x8192x8x128, .f32⟩
  | .hbm, ⟨49, _⟩ => ⟨S2x8192x8x128, .f32⟩
  | .hbm, ⟨50, _⟩ => ⟨S2x8192x8x128, .f32⟩
  | .hbm, ⟨51, _⟩ => ⟨S2x8192x8x128, .f32⟩
  | .hbm, ⟨52, _⟩ => ⟨S2x8192x8x128, .f32⟩
  | .hbm, ⟨53, _⟩ => ⟨S2x8192x8x128, .f32⟩
  | .hbm, ⟨54, _⟩ => ⟨S2x8192x8x128, .f32⟩
  | .hbm, ⟨55, _⟩ => ⟨S2x8192x8x128, .f32⟩
  | .hbm, ⟨56, _⟩ => ⟨S2x8192x8x128, .f32⟩
  | .hbm, ⟨57, _⟩ => ⟨S2x8192x8x128, .f32⟩
  | .hbm, ⟨58, _⟩ => ⟨S2x8192x8x128, .f32⟩
  | .hbm, ⟨59, _⟩ => ⟨S2x8192x8x128, .f32⟩
  | .hbm, ⟨60, _⟩ => ⟨S2x8192x8x256, .f32⟩
  | .hbm, ⟨61, _⟩ => ⟨S16384x2048, .f32⟩
  | .hbm, ⟨62, _⟩ => ⟨S16384x6144, .f32⟩
  | .hbm, ⟨63, _⟩ => ⟨S16384x6144, .bf16⟩
  | .hbm, ⟨64, _⟩ => ⟨S16384x2048, .f32⟩
  | .hbm, ⟨65, _⟩ => ⟨S16384x2048, .f32⟩
  | .hbm, ⟨66, _⟩ => ⟨S_, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S_, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S_, .f32⟩
  | .hbm, ⟨75, _⟩ => ⟨S16384x2048, .f32⟩
  | .hbm, ⟨76, _⟩ => ⟨S16384x2048, .f32⟩
  | .hbm, ⟨77, _⟩ => ⟨S_, .f32⟩
  | .hbm, ⟨78, _⟩ => ⟨S16384x2048, .f32⟩
  | .hbm, ⟨79, _⟩ => ⟨S16384x2048, .f32⟩
  | .hbm, ⟨80, _⟩ => ⟨S16384x2048, .f32⟩
  | .hbm, ⟨81, _⟩ => ⟨S16384x6144, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_2 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_3 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_4 : Ref sig .tc := ⟨.hbm, 74, rfl⟩
abbrev main_v64 : Ref sig .tc := ⟨.hbm, 75, rfl⟩
abbrev main_v65 : Ref sig .tc := ⟨.hbm, 76, rfl⟩
abbrev main_cst_5 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩

abbrev nD : Nat := 1
abbrev τ : Topo := Topo.v7x

variable {F : FTy → Type} [FloatOps F]
-- ==== Rope.lean ====
abbrev S8192x128 : Shape := ⟨2, ![8192, 128]⟩
abbrev S512x128 : Shape := ⟨2, ![512, 128]⟩

abbrev nBuf : Space → Nat
  | .hbm => 2
  | .vmem => 4
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_v0_0 : Ref sig .tc := ⟨.hbm, 0, rfl⟩
abbrev main_v0_1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RopeReferenceIdeal.lean ====
abbrev S8192 : Shape := ⟨1, ![8192]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x128 : Shape := ⟨2, ![8192, 128]⟩

abbrev nBuf : Space → Nat
  | .hbm => 16
  | .vmem => 0
  | .smem => 0
  | _ => 0

abbrev bufTy : (tb : Table) → Fin (tcTables nBuf tb) → BufTy
  | .hbm, ⟨0, _⟩ => ⟨S8192, .f32⟩
  | .hbm, ⟨1, _⟩ => ⟨S128, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S8192x1, .f32⟩
  | .hbm, ⟨10, _⟩ => ⟨S1x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_v0 : Ref sig .tc := ⟨.hbm, 0, rfl⟩
abbrev main_v1 : Ref sig .tc := ⟨.hbm, 1, rfl⟩
abbrev main_v2 : Ref sig .tc := ⟨.hbm, 2, rfl⟩
abbrev main_cst : Ref sig .tc := ⟨.hbm, 3, rfl⟩
abbrev main_v3 : Ref sig .tc := ⟨.hbm, 4, rfl⟩
abbrev main_v4 : Ref sig .tc := ⟨.hbm, 5, rfl⟩
abbrev main_cst_0 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Proof.Control.lean ====
module

public import proofs.«01_k».proof.Proof.Gen.KernelIdeal

/-!
# The scalar control of the pipelined projection

The loop of the output projection makes 128 trips, one for each pair of a row tile `i = k / 8` and a column tile
`j = k % 8`. It carries twenty words: counters of the transfers issued and awaited for each of the nine buffered
operands, and the two grid indices. This module gives every carried word, every condition and every offset of a trip in
closed form in the trip number.
-/

@[expose] public section

set_option maxRecDepth 16384

noncomputable section

namespace Cert.KernelIdeal

open Idealize.ShloMosaic

/-- Row blocks issued before trip `k`. -/
@[reducible] def wA (k : ℕ) : BitVec 32 := BitVec.ofNat 32 (min (k / 8 + 1) 16)
/-- Row blocks awaited and used up before trip `k`. -/
@[reducible] def wB (k : ℕ) : BitVec 32 := BitVec.ofNat 32 (k / 8)
/-- Tiles issued before trip `k` by a three-slot ring. -/
@[reducible] def wC (k : ℕ) : BitVec 32 := BitVec.ofNat 32 (min (k + 2) 128)
/-- The trip number. -/
@[reducible] def wD (k : ℕ) : BitVec 32 := BitVec.ofNat 32 k
/-- Tiles issued before trip `k` by the two-slot ring of the scale row. -/
@[reducible] def wE (k : ℕ) : BitVec 32 := BitVec.ofNat 32 (min (k + 1) 128)
/-- Output tiles whose write-back has completed before trip `k`. -/
@[reducible] def wG (k : ℕ) : BitVec 32 := BitVec.ofNat 32 (k - 1)
/-- The row tile. -/
@[reducible] def wI (k : ℕ) : BitVec 32 := BitVec.ofNat 32 (k / 8 % 16)
/-- The column tile. -/
@[reducible] def wJ (k : ℕ) : BitVec 32 := BitVec.ofNat 32 (k % 8)

/-- The twenty words carried into trip `k`. -/
def words (k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  (wA k, wB k, wA k, wB k, wC k, wD k, wC k, wD k, wC k, wD k, wE k, wD k, wD k, wG k, wD k, wG k, wD k, wG k, wI k, wJ k)

/-! ## Conditions -/

theorem cond4 : ∀ k : Fin k0_t1_loop.trips, k0_cond4 k (wI k) (wJ k) = 1#1 ↔ k.val % 8 = 7 ∧ k.val < 127 := by decide +kernel
theorem cond5 : ∀ k : Fin k0_t1_loop.trips, k0_cond5 k (wI k) (wJ k) = 1#1 ↔ k.val % 8 = 7 ∧ k.val < 127 := by decide +kernel
theorem cond6 : ∀ k : Fin k0_t1_loop.trips, k0_cond6 k (wJ k) = 1#1 ↔ k.val < 126 := by decide +kernel
theorem cond7 : ∀ k : Fin k0_t1_loop.trips, k0_cond7 k (wJ k) = 1#1 ↔ k.val < 126 := by decide +kernel
theorem cond8 : ∀ k : Fin k0_t1_loop.trips, k0_cond8 k (wI k) (wJ k) = 1#1 ↔ k.val < 126 := by decide +kernel
theorem cond9 : ∀ k : Fin k0_t1_loop.trips, k0_cond9 k (wJ k) = 1#1 ↔ k.val < 127 := by decide +kernel
theorem cond10 : ∀ k : Fin k0_t1_loop.trips, k0_cond10 k (wI k) (wJ k) = 1#1 ↔ k.val % 8 = 0 := by decide +kernel
theorem cond11 : ∀ k : Fin k0_t1_loop.trips, k0_cond11 k (wI k) (wJ k) = 1#1 ↔ k.val % 8 = 0 := by decide +kernel
theorem cond12 : ∀ k : Fin k0_t1_loop.trips, k0_cond12 k (wJ k) = 1#1 := by decide +kernel
theorem cond13 : ∀ k : Fin k0_t1_loop.trips, k0_cond13 k (wJ k) = 1#1 := by decide +kernel
theorem cond14 : ∀ k : Fin k0_t1_loop.trips, k0_cond14 k (wI k) (wJ k) = 1#1 := by decide +kernel
theorem cond15 : ∀ k : Fin k0_t1_loop.trips, k0_cond15 k (wJ k) = 1#1 := by decide +kernel
theorem cond25 : ∀ k : Fin k0_t1_loop.trips, k0_cond25 k (wI k) (wJ k) = 1#1 := by decide +kernel
theorem cond26 : ∀ k : Fin k0_t1_loop.trips, k0_cond26 k (wI k) (wJ k) = 1#1 := by decide +kernel
theorem cond27 : ∀ k : Fin k0_t1_loop.trips, k0_cond27 k (wI k) (wJ k) = 1#1 := by decide +kernel
theorem cond34 : ∀ k : Fin k0_t1_loop.trips, k0_cond34 k (wI k) (wJ k) = 1#1 ↔ 0 < k.val := by decide +kernel
theorem cond35 : ∀ k : Fin k0_t1_loop.trips, k0_cond35 k (wI k) (wJ k) = 1#1 ↔ 0 < k.val := by decide +kernel
theorem cond36 : ∀ k : Fin k0_t1_loop.trips, k0_cond36 k (wI k) (wJ k) = 1#1 ↔ 0 < k.val := by decide +kernel
theorem cond1 : k0_cond1 = 1#1 := by decide +kernel
theorem cond2 : k0_cond2 = 1#1 := by decide +kernel
theorem cond3 : k0_cond3 = 1#1 := by decide +kernel

/-! ## Offsets -/

theorem off16 : ∀ k : Fin k0_t1_loop.trips, k.val % 8 = 7 ∧ k.val < 127 → k0_off16 (wA k) = ![(k.val / 8 + 1) % 2] := by decide +kernel
theorem off17 : ∀ k : Fin k0_t1_loop.trips, k.val % 8 = 7 ∧ k.val < 127 → k0_off17 (wA k) = ![(k.val / 8 + 1) % 2, 0, 0] := by decide +kernel
theorem off18 : ∀ k : Fin k0_t1_loop.trips, k.val % 8 = 7 ∧ k.val < 127 → k0_off18 (wI k) (wJ k) = ![1024 * (k.val / 8 + 1), 0] := by decide +kernel
theorem off19 : ∀ k : Fin k0_t1_loop.trips, k.val % 8 = 7 ∧ k.val < 127 → k0_off19 (wA k) = ![(k.val / 8 + 1) % 2] := by decide +kernel
theorem off20 : ∀ k : Fin k0_t1_loop.trips, k.val % 8 = 7 ∧ k.val < 127 → k0_off20 (wA k) = ![(k.val / 8 + 1) % 2, 0, 0] := by decide +kernel
theorem off21 : ∀ k : Fin k0_t1_loop.trips, k.val % 8 = 7 ∧ k.val < 127 → k0_off21 (wI k) (wJ k) = ![1024 * (k.val / 8 + 1), 0] := by decide +kernel
theorem off22 : ∀ k : Fin k0_t1_loop.trips, k.val < 126 → k0_off22 (wC k) = ![(k.val + 2) % 3] := by decide +kernel
theorem off23 : ∀ k : Fin k0_t1_loop.trips, k.val < 126 → k0_off23 (wC k) = ![(k.val + 2) % 3, 0, 0] := by decide +kernel
theorem off24 : ∀ k : Fin k0_t1_loop.trips, k.val < 126 → k0_off24 (wJ k) = ![0, 512 * ((k.val + 2) % 8)] := by decide +kernel
theorem off25 : ∀ k : Fin k0_t1_loop.trips, k.val < 126 → k0_off25 (wC k) = ![(k.val + 2) % 3] := by decide +kernel
theorem off26 : ∀ k : Fin k0_t1_loop.trips, k.val < 126 → k0_off26 (wC k) = ![(k.val + 2) % 3, 0, 0] := by decide +kernel
theorem off27 : ∀ k : Fin k0_t1_loop.trips, k.val < 126 → k0_off27 (wJ k) = ![2048, 512 * ((k.val + 2) % 8)] := by decide +kernel
theorem off28 : ∀ k : Fin k0_t1_loop.trips, k.val < 126 → k0_off28 (wC k) = ![(k.val + 2) % 3] := by decide +kernel
theorem off29 : ∀ k : Fin k0_t1_loop.trips, k.val < 126 → k0_off29 (wC k) = ![(k.val + 2) % 3, 0, 0] := by decide +kernel
theorem off30 : ∀ k : Fin k0_t1_loop.trips, k.val < 126 → k0_off30 (wI k) (wJ k) = ![1024 * ((k.val + 2) / 8), 512 * ((k.val + 2) % 8)] := by decide +kernel
theorem off31 : ∀ k : Fin k0_t1_loop.trips, k.val < 127 → k0_off31 (wE k) = ![(k.val + 1) % 2] := by decide +kernel
theorem off32 : ∀ k : Fin k0_t1_loop.trips, k.val < 127 → k0_off32 (wE k) = ![(k.val + 1) % 2, 0, 0] := by decide +kernel
theorem off33 : ∀ k : Fin k0_t1_loop.trips, k.val < 127 → k0_off33 (wJ k) = ![0, 512 * ((k.val + 1) % 8)] := by decide +kernel
theorem off34 : ∀ k : Fin k0_t1_loop.trips, k0_off34 (wB k) = ![k.val / 8 % 2] := by decide +kernel
theorem off37 : ∀ k : Fin k0_t1_loop.trips, k0_off37 (wB k) = ![k.val / 8 % 2] := by decide +kernel
theorem off40 : ∀ k : Fin k0_t1_loop.trips, k0_off40 (wD k) = ![k.val % 3] := by decide +kernel
theorem off43 : ∀ k : Fin k0_t1_loop.trips, k0_off43 (wD k) = ![k.val % 3] := by decide +kernel
theorem off46 : ∀ k : Fin k0_t1_loop.trips, k0_off46 (wD k) = ![k.val % 3] := by decide +kernel
theorem off49 : ∀ k : Fin k0_t1_loop.trips, k0_off49 (wD k) = ![k.val % 2] := by decide +kernel
theorem off52 : ∀ k : Fin k0_t1_loop.trips, k0_off52 (wB k) = ![k.val / 8 % 2, 0, 0] := by decide +kernel
theorem off53 : ∀ k : Fin k0_t1_loop.trips, k0_off53 (wD k) = ![k.val % 3, 0, 0] := by decide +kernel
theorem off54 : ∀ k : Fin k0_t1_loop.trips, k0_off54 (wB k) = ![k.val / 8 % 2, 0, 0] := by decide +kernel
theorem off55 : ∀ k : Fin k0_t1_loop.trips, k0_off55 (wD k) = ![k.val % 3, 0, 0] := by decide +kernel
theorem off56 : ∀ k : Fin k0_t1_loop.trips, k0_off56 (wD k) = ![k.val % 3, 0, 0] := by decide +kernel
theorem off57 : ∀ k : Fin k0_t1_loop.trips, k0_off57 (wD k) = ![k.val % 2, 0, 0] := by decide +kernel
theorem off58 : ∀ k : Fin k0_t1_loop.trips, k0_off58 (wD k) = ![k.val % 2, 0, 0] := by decide +kernel
theorem off59 : ∀ k : Fin k0_t1_loop.trips, k0_off59 (wD k) = ![k.val % 2, 0, 0] := by decide +kernel
theorem off60 : ∀ k : Fin k0_t1_loop.trips, k0_off60 (wD k) = ![k.val % 2, 0, 0] := by decide +kernel
theorem off61 : ∀ k : Fin k0_t1_loop.trips, k0_off61 (wD k) = ![k.val % 2] := by decide +kernel
theorem off62 : ∀ k : Fin k0_t1_loop.trips, k0_off62 (wI k) (wJ k) = ![1024 * (k.val / 8), 512 * (k.val % 8)] := by decide +kernel
theorem off63 : ∀ k : Fin k0_t1_loop.trips, k0_off63 (wD k) = ![k.val % 2, 0, 0] := by decide +kernel
theorem off64 : ∀ k : Fin k0_t1_loop.trips, k0_off64 (wD k) = ![k.val % 2] := by decide +kernel
theorem off65 : ∀ k : Fin k0_t1_loop.trips, k0_off65 (wI k) (wJ k) = ![1024 * (k.val / 8), 512 * (k.val % 8)] := by decide +kernel
theorem off66 : ∀ k : Fin k0_t1_loop.trips, k0_off66 (wD k) = ![k.val % 2, 0, 0] := by decide +kernel
theorem off67 : ∀ k : Fin k0_t1_loop.trips, k0_off67 (wD k) = ![k.val % 2] := by decide +kernel
theorem off68 : ∀ k : Fin k0_t1_loop.trips, k0_off68 (wI k) (wJ k) = ![1024 * (k.val / 8), 128 * (k.val % 8)] := by decide +kernel
theorem off69 : ∀ k : Fin k0_t1_loop.trips, k0_off69 (wD k) = ![k.val % 2, 0, 0] := by decide +kernel
theorem off70 : ∀ k : Fin k0_t1_loop.trips, k0_off70 (wG k) = ![(k.val - 1) % 2] := by decide +kernel
theorem off73 : ∀ k : Fin k0_t1_loop.trips, k0_off73 (wG k) = ![(k.val - 1) % 2] := by decide +kernel
theorem off76 : ∀ k : Fin k0_t1_loop.trips, k0_off76 (wG k) = ![(k.val - 1) % 2] := by decide +kernel
theorem off79 : k0_off79 (wG 128) = ![1] := by decide +kernel
theorem off82 : k0_off82 (wG 128) = ![1] := by decide +kernel
theorem off85 : k0_off85 (wG 128) = ![1] := by decide +kernel

/-! ## Checks -/

theorem chk2 : ∀ k : Fin k0_t1_loop.trips, k0_chk2 (wB k) := by decide +kernel
theorem chk3 : ∀ k : Fin k0_t1_loop.trips, k0_chk3 (wD k) := by decide +kernel
theorem chk4 : ∀ k : Fin k0_t1_loop.trips, k0_chk4 (wB k) := by decide +kernel
theorem chk5 : ∀ k : Fin k0_t1_loop.trips, k0_chk5 (wD k) := by decide +kernel
theorem chk6 : ∀ k : Fin k0_t1_loop.trips, k0_chk6 (wD k) := by decide +kernel
theorem chk7 : ∀ k : Fin k0_t1_loop.trips, k0_chk7 (wD k) := by decide +kernel
theorem chk8 : ∀ k : Fin k0_t1_loop.trips, k0_chk8 (wD k) := by decide +kernel
theorem chk9 : ∀ k : Fin k0_t1_loop.trips, k0_chk9 (wD k) := by decide +kernel
theorem chk10 : ∀ k : Fin k0_t1_loop.trips, k0_chk10 (wD k) := by decide +kernel
theorem chk11 : k0_chk11 (wG 128) := by decide +kernel
theorem chk12 : k0_chk12 (wJ 128) (wI 128) := by decide +kernel
theorem chk13 : k0_chk13 (wG 128) := by decide +kernel
theorem chk14 : k0_chk14 (wG 128) := by decide +kernel
theorem chk1 : ∀ k : Fin k0_t1_loop.trips, k0_chk1 k (wA k) (wB k) (wA k) (wB k) (wC k) (wD k) (wC k) (wD k) (wC k) (wD k) (wE k) (wD k) (wD k) (wG k) (wD k) (wG k) (wD k) (wG k) (wI k) (wJ k) := by decide +kernel

end Cert.KernelIdeal

end
-- ==== Proof.Ring.lean ====
module

public import proofs.«01_k».proof.Proof.Gen.KernelIdeal.Frame
public import Idealize.ShloMosaic.Lib.Pipeline.Routed
public import Idealize.ShloMosaic.Lib.Pipeline.Value
public import Idealize.ShloMosaic.Lib.Transfers

/-!
# Rings of buffered tiles

A ring is a buffer of `n` slots, each with a semaphore cell of its own. At every moment a slot is in one of three roles:
it is free, it is the end of a transfer of block `b` in flight, or it has the contents of block `b`. `At ρ` holds a whole
ring whose slots are in the roles `ρ`. The lemmas below run one transfer's start, one wait, one load and one store
against a ring; each start and wait comes under the condition the program tests, and either changes one role or none.
-/

@[expose] public section

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- What a slot of a ring is doing. -/
inductive Role where
  | free
  | fly (b : ℕ)
  | has (b : ℕ)
deriving DecidableEq

/-- A slot that has a block may be taken for free. -/
@[reducible] def Role.Loosens : Role → Role → Prop
  | r, .free => r = .free ∨ (match r with | .has _ => True | _ => False)
  | r, r' => r = r'

instance (r r' : Role) : Decidable (r.Loosens r') := by
  cases r' <;> unfold Role.Loosens <;> cases r <;> infer_instance

variable {F : FTy → Type} [FloatOps F]

local notation "𝕄" => MT nD τ sig Unit (Elt F) ℕ (Pipeline.UC sig nD τ) ℕ

/-- The counters of the transfers in flight. -/
abbrev EC : UEmb Counters 𝕄 := countersEmb

section General

variable {n : ℕ} (c : Dev nD) (sem : Fin n → DmaSem sig) (N : ℕ)
  (fr : Fin n → sProp (MT nD τ sig Unit (Elt F) ℕ (Pipeline.UC sig nD τ) ℕ))
  (ha dl : Fin n → ℕ → sProp (MT nD τ sig Unit (Elt F) ℕ (Pipeline.UC sig nD τ) ℕ))

/-- What is held of slot `i` in a role: its memory and its counter at zero, or the transfer in flight. -/
def slotR (i : Fin n) : Role → sProp 𝕄
  | .free => iprop(fr i ∗ semVal ((c : Thread nD τ), .dma (sem i)) 0)
  | .has b => iprop(ha i b ∗ semVal ((c : Thread nD τ), .dma (sem i)) 0)
  | .fly b => iprop(∃ D : sProp 𝕄, Transfers.Flight (EC (F := F)) (c : Thread nD τ) (.dma (sem i)) () N D ∗ (D -∗ dl i b))

/-- A whole ring with its slots in the roles `ρ`. -/
def At (ρ : Fin n → Role) : sProp 𝕄 := bigSep Finset.univ fun i => slotR c sem N fr ha dl i (ρ i)

variable {c sem N fr ha dl}

theorem At_turn (ρ : Fin n → Role) (i : Fin n) :
    At c sem N fr ha dl ρ ⊢ iprop(slotR c sem N fr ha dl i (ρ i)
      ∗ ∀ r, slotR c sem N fr ha dl i r -∗ At c sem N fr ha dl (Function.update ρ i r)) :=
  bigSep_univ_turn (fun i r => slotR c sem N fr ha dl i r) ρ i

theorem At_loosen (hf : ∀ i b, ha i b ⊢ fr i) {ρ ρ' : Fin n → Role} (h : ∀ i, (ρ i).Loosens (ρ' i)) :
    At c sem N fr ha dl ρ ⊢ At c sem N fr ha dl ρ' := by
  unfold At
  refine bigSep_mono fun i _ => ?_
  have hi := h i
  revert hi
  generalize ρ i = r
  generalize ρ' i = r'
  intro hi
  cases r' with
  | free =>
    rcases hi with rfl | hi
    · exact Entails.refl _
    · cases r with
      | has b => exact BI.sep_mono (hf i b) (Entails.refl _)
      | free => exact hi.elim
      | fly b => exact hi.elim
  | fly b => cases (show r = _ from hi); exact Entails.refl _
  | has b => cases (show r = _ from hi); exact Entails.refl _

theorem slotR_fly (i : Fin n) (b : ℕ) : slotR c sem N fr ha dl i (.fly b)
    = iprop(∃ D : sProp 𝕄, Transfers.Flight (EC (F := F)) (c : Thread nD τ) (.dma (sem i)) () N D ∗ (D -∗ dl i b)) := rfl
theorem slotR_free (i : Fin n) : slotR c sem N fr ha dl i .free
    = iprop(fr i ∗ semVal ((c : Thread nD τ), .dma (sem i)) 0) := rfl
theorem slotR_has (i : Fin n) (b : ℕ) : slotR c sem N fr ha dl i (.has b)
    = iprop(ha i b ∗ semVal ((c : Thread nD τ), .dma (sem i)) 0) := rfl

variable {𝒱 : Variants} {bd : Option 𝒱.V} {α : Type}
  {Q : α → sProp (MT nD τ sig Unit (Elt F) ℕ (Pipeline.UC sig nD τ) ℕ)}

/-- The thread's obligations, of which only the waits made grow. -/
def Owes (c : Dev nD) : sProp 𝕄 := iprop(∃ W, owes (c : Thread nD τ) 0 W)

theorem wait_at {Λ : Labels} {defs : Defs nD τ sig (Elt F) Λ} {ρ : Fin n → Role} (i : Fin n) (b : ℕ) (r : Role) (X X' : sProp 𝕄)
    (hρ : ρ i = .fly b)
    (hD : iprop(dl i b ∗ semVal ((c : Thread nD τ), .dma (sem i)) 0 ∗ X) ⊢ iprop(slotR c sem N fr ha dl i r ∗ X'))
    {s s' : Shape} {e e' : EltTy} {sp sp' : Space} {κ' : Kind} {sm : DmaSem sig}
    {srcw : Memref sig .tc sp' s' e'} {dstw : Memref sig κ' sp s e} {hsrc : srcw.view.WordExact} {hdst : dstw.view.WordExact}
    {k : PUnit → Prog (TpuEff nD τ sig (Elt F) Λ .tc) α} (hsm : sm = sem i) (hN : dstw.view.dmaCredit = N) :
    iprop(At c sem N fr ha dl ρ ∗ X ∗ Owes c)
      ⊢ iprop((iprop(At c sem N fr ha dl (Function.update ρ i r) ∗ X' ∗ Owes c) -∗ wp frame (wpE defs 𝒱 (c : Thread nD τ) bd) Set.univ (k ⟨⟩) Q)
          -∗ wp frame (wpE defs 𝒱 (c : Thread nD τ) bd) Set.univ (.op (.waitDma2 sm srcw dstw hsrc hdst) k) Q) := by
  subst hsm
  iintro ⟨HA, HX, HO⟩ Hk
  ihave HA := (At_turn ρ i) $$ HA
  rw [hρ, slotR_fly]
  icases HA with ⟨Hs, HA⟩
  icases Hs with ⟨%D, HF, HD⟩
  unfold Owes
  icases HO with ⟨%W, HO⟩
  iapply (Transfers.wp_waitLocal (EC (F := F)) 𝒱 (c : Thread nD τ) bd () hN) $$ [HF HO]
  · isplitl [HF] <;> iassumption
  iintro ⟨Hd, Hv, HO⟩
  ihave Hd := HD $$ Hd
  ihave Hd := hD $$ [Hd Hv HX]
  · isplitl [Hd]; · iexact Hd
    isplitl [Hv] <;> iassumption
  icases Hd with ⟨Hs, HX⟩
  ihave HA := HA $$ %r Hs
  iapply Hk
  isplitl [HA]; · iexact HA
  isplitl [HX]; · iexact HX
  iexists _; iexact HO

/-- A transfer started on slot `i`, whose role gives the two ends and takes the delivery. -/
theorem issue_at {Λ : Labels} {defs : Defs nD τ sig (Elt F) Λ} {ρ : Fin n → Role} (i : Fin n) (b : ℕ) (X X' : sProp 𝕄)
    {s : Shape} {e : EltTy} {sp sp' : Space} {sm : SemLoc sig}
    {src : Memref sig (c : Thread nD τ).2.kind sp s e} {dst : Memref sig (c : Thread nD τ).2.kind sp' s e}
    {hsrc : src.view.WordExact} {hdst : dst.view.WordExact} {hsem : DmaTarget.Typed (nD := nD) sp sm (.here dst)}
    {k : PUnit → Prog (TpuEff nD τ sig (Elt F) Λ .tc) α}
    (hsm : sm = .dma (sem i)) (hN : dst.view.dmaCredit = N) (hN0 : 0 < N)
    (hgive : iprop(slotR c sem N fr ha dl i (ρ i) ∗ X)
      ⊢ iprop(∃ (q : PosShare TreeShare) (fs : Buf (Elt F) (src.view.loc (c : Thread nD τ))) (fd : Buf (Elt F) (dst.view.loc (c : Thread nD τ))),
          (src.view.loc (c : Thread nD τ) ↦[src.view.set]{q} fs) ∗ (dst.view.loc (c : Thread nD τ) ↦[dst.view.set]{fullShare} fd)
          ∗ semVal ((c : Thread nD τ), .dma (sem i)) 0
          ∗ (iprop((dst.view.loc (c : Thread nD τ) ↦[dst.view.set]{fullShare} (dst.view.write (Elt F) fd (src.view.read (Elt F) fs) Finset.univ))
              ∗ (src.view.loc (c : Thread nD τ) ↦[src.view.set]{q} fs)) -∗ dl i b) ∗ X')) :
    iprop(At c sem N fr ha dl ρ ∗ X)
      ⊢ iprop((iprop(At c sem N fr ha dl (Function.update ρ i (.fly b)) ∗ X') -∗ wp frame (wpE defs 𝒱 (c : Thread nD τ) bd) Set.univ (k ⟨⟩) Q)
          -∗ wp frame (wpE defs 𝒱 (c : Thread nD τ) bd) Set.univ (.op (.enqueueDma src (.here dst) sm hsrc hdst hsem) k) Q) := by
  subst hsm
  iintro ⟨HA, HX⟩ Hk
  ihave HA := (At_turn ρ i) $$ HA
  icases HA with ⟨Hs, HA⟩
  ihave Hs := hgive $$ [Hs HX]
  · isplitl [Hs] <;> iassumption
  icases Hs with ⟨%q, %fs, %fd, Hs, Hd, Hv, HD, HX⟩
  iapply (Transfers.wp_dmaLocal (EC (F := F)) 𝒱 (c : Thread nD τ) bd () N (sm := .dma (sem i)) (dst := dst) hN hN0 (Finset.Subset.refl _)) $$ [Hs Hd Hv]
  · isplitl [Hs]; · iexact Hs
    isplitl [Hd] <;> iassumption
  iintro HF
  iapply Hk
  isplitr [HX]
  swap; · iexact HX
  iapply HA $$ %(Role.fly b)
  rw [slotR_fly]
  iexists _
  isplitl [HF]; · iexact HF
  iexact HD

/-- A transfer started on slot `i` under a condition, before the rest of the program. -/
theorem issue_if {Λ : Labels} {defs : Defs nD τ sig (Elt F) Λ} {C : Prop} [Decidable C] {ρ ρ' : Fin n → Role} (i : Fin n) (b : ℕ)
    (X X' : sProp 𝕄) (hpos : C → ρ' = Function.update ρ i (.fly b)) (hneg : ¬C → ρ' = ρ ∧ (X ⊢ X'))
    {s : Shape} {e : EltTy} {sp sp' : Space} {sm : C → SemLoc sig}
    {src : C → Memref sig (c : Thread nD τ).2.kind sp s e} {dst : C → Memref sig (c : Thread nD τ).2.kind sp' s e}
    {hsrc : ∀ h, (src h).view.WordExact} {hdst : ∀ h, (dst h).view.WordExact}
    {hsem : ∀ h, DmaTarget.Typed (nD := nD) sp (sm h) (.here (dst h))}
    {rest : Prog (TpuEff nD τ sig (Elt F) Λ .tc) α}
    (hsm : ∀ h, sm h = .dma (sem i)) (hN : ∀ h, (dst h).view.dmaCredit = N) (hN0 : 0 < N)
    (hgive : ∀ h, iprop(slotR c sem N fr ha dl i (ρ i) ∗ X)
      ⊢ iprop(∃ (q : PosShare TreeShare) (fs : Buf (Elt F) ((src h).view.loc (c : Thread nD τ))) (fd : Buf (Elt F) ((dst h).view.loc (c : Thread nD τ))),
          ((src h).view.loc (c : Thread nD τ) ↦[(src h).view.set]{q} fs) ∗ ((dst h).view.loc (c : Thread nD τ) ↦[(dst h).view.set]{fullShare} fd)
          ∗ semVal ((c : Thread nD τ), .dma (sem i)) 0
          ∗ (iprop(((dst h).view.loc (c : Thread nD τ) ↦[(dst h).view.set]{fullShare} ((dst h).view.write (Elt F) fd ((src h).view.read (Elt F) fs) Finset.univ))
              ∗ ((src h).view.loc (c : Thread nD τ) ↦[(src h).view.set]{q} fs)) -∗ dl i b) ∗ X')) :
    iprop(At c sem N fr ha dl ρ ∗ X)
      ⊢ iprop((iprop(At c sem N fr ha dl ρ' ∗ X') -∗ wp frame (wpE defs 𝒱 (c : Thread nD τ) bd) Set.univ rest Q)
          -∗ wp frame (wpE defs 𝒱 (c : Thread nD τ) bd) Set.univ
            (if h : C then Prog.lift (.enqueueDma (src h) (.here (dst h)) (sm h) (hsrc h) (hdst h) (hsem h)) >>= fun _ => rest else rest) Q) := by
  by_cases h : C
  · rw [dif_pos h, hpos h]
    exact issue_at (k := fun _ => rest) i b X X' (hsm h) (hN h) hN0 (hgive h)
  · rw [dif_neg h, (hneg h).1]
    iintro ⟨HA, HX⟩ Hk
    iapply Hk
    isplitl [HA]; · iexact HA
    iapply (hneg h).2; iexact HX

/-- A wait on slot `i` under a condition, before the rest of the program. -/
theorem wait_if {Λ : Labels} {defs : Defs nD τ sig (Elt F) Λ} {C : Prop} [Decidable C] {ρ ρ' : Fin n → Role} (i : Fin n) (b : ℕ)
    (r : Role) (X X' : sProp 𝕄) (hpos : C → ρ i = .fly b ∧ ρ' = Function.update ρ i r) (hneg : ¬C → ρ' = ρ ∧ (X ⊢ X'))
    (hD : C → (iprop(dl i b ∗ semVal ((c : Thread nD τ), .dma (sem i)) 0 ∗ X) ⊢ iprop(slotR c sem N fr ha dl i r ∗ X')))
    {s s' : Shape} {e e' : EltTy} {sp sp' : Space} {κ' : Kind} {sm : C → DmaSem sig}
    {srcw : C → Memref sig (c : Thread nD τ).2.kind sp' s' e'} {dstw : C → Memref sig κ' sp s e}
    {hsrc : ∀ h, (srcw h).view.WordExact} {hdst : ∀ h, (dstw h).view.WordExact}
    {rest : Prog (TpuEff nD τ sig (Elt F) Λ .tc) α} (hsm : ∀ h, sm h = sem i) (hN : ∀ h, (dstw h).view.dmaCredit = N) :
    iprop(At c sem N fr ha dl ρ ∗ X ∗ Owes c)
      ⊢ iprop((iprop(At c sem N fr ha dl ρ' ∗ X' ∗ Owes c) -∗ wp frame (wpE defs 𝒱 (c : Thread nD τ) bd) Set.univ rest Q)
          -∗ wp frame (wpE defs 𝒱 (c : Thread nD τ) bd) Set.univ
            (if h : C then Prog.lift (.waitDma2 (sm h) (srcw h) (dstw h) (hsrc h) (hdst h)) >>= fun _ => rest else rest) Q) := by
  by_cases h : C
  · rw [dif_pos h, (hpos h).2]
    exact wait_at (k := fun _ => rest) i b r X X' (hpos h).1 (hD h) (hsm h) (hN h)
  · rw [dif_neg h, (hneg h).1]
    iintro ⟨HA, HX, HO⟩ Hk
    iapply Hk
    isplitl [HA]; · iexact HA
    isplitl [HX]
    · iapply (hneg h).2; iexact HX
    · iexact HO

/-! ## Slots of an allocation -/

variable {sM s : Shape} {e : EltTy}

/-- The slot of an allocation at an offset: a slice along the leading axis, that axis dropped. -/
abbrev slotM (M : Memref sig .tc .vmem sM e) (off size : Fin sM.rank → ℕ) (inb : ∀ a, off a + size a ≤ sM.size a) (s : Shape)
    (hq : (Rect.unit off size inb).shape.Squeezes s) : Memref sig .tc .vmem s e :=
  (M.slice (Rect.unit off size inb) (fun _ => rfl)).squeeze s hq

theorem slotM_congr {M : Memref sig .tc .vmem sM e} {off off' size : Fin sM.rank → ℕ} (h : off = off') {s : Shape}
    (inb : ∀ a, off a + size a ≤ sM.size a) (inb' : ∀ a, off' a + size a ≤ sM.size a)
    (hq : (Rect.unit off size inb).shape.Squeezes s) (hq' : (Rect.unit off' size inb').shape.Squeezes s) :
    slotM M off size inb s hq = slotM M off' size inb' s hq' := by subst h; rfl

theorem load_at {Λ : Labels} {defs : Defs nD τ sig (Elt F) Λ} {ρ : Fin n → Role} (i : Fin n) (P : (s.Idx → Elt F e) → Prop)
    {M : Memref sig .tc .vmem sM e} {off off' size : Fin sM.rank → ℕ} (hoff : off' = off)
    {inb : ∀ a, off a + size a ≤ sM.size a} {inb' : ∀ a, off' a + size a ≤ sM.size a}
    {hq : (Rect.unit off size inb).shape.Squeezes s} (hc : (⟨sM.rank, size⟩ : Shape).ShapeCasts s)
    (hopen : slotR c sem N fr ha dl i (ρ i) ⊢ iprop(∃ f : Buf (Elt F) ((slotM M off size inb s hq).view.loc (c : Thread nD τ)),
      ((slotM M off size inb s hq).view.loc (c : Thread nD τ) ↦[(slotM M off size inb s hq).view.set]{fullShare} f)
      ∗ ⌜P ((slotM M off size inb s hq).view.read (Elt F) f)⌝
      ∗ (((slotM M off size inb s hq).view.loc (c : Thread nD τ) ↦[(slotM M off size inb s hq).view.set]{fullShare} f)
          -∗ slotR c sem N fr ha dl i (ρ i))))
    {hl : M.view.LoadsAt (Rect.unit off' size inb').toLoadRect}
    {k : ((Rect.unit off' size inb').shape.Idx → Elt F e) → Prog (TpuEff nD τ sig (Elt F) Λ .tc) α} :
    At c sem N fr ha dl ρ
      ⊢ iprop((∀ w : (⟨sM.rank, size⟩ : Shape).Idx → Elt F e, ⌜P (shapeCast s w hc)⌝ -∗ At c sem N fr ha dl ρ
            -∗ wp frame (wpE defs 𝒱 (c : Thread nD τ) bd) Set.univ (k w) Q)
          -∗ wp frame (wpE defs 𝒱 (c : Thread nD τ) bd) Set.univ
            (Prog.lift (.load M (Rect.unit off' size inb').toLoadRect hl) >>= k) Q) := by
  subst hoff
  iintro HA Hk
  ihave HA := (At_turn ρ i) $$ HA
  icases HA with ⟨Hs, HA⟩
  ihave Hs := hopen $$ Hs
  icases Hs with ⟨%f, Hs, %hP, Hc⟩
  have hset : (slotM M off' size inb s hq).view.set = (M.access (Rect.unit off' size inb')).set := View.set_reshape _ _
  iapply (show iprop((M.access (Rect.unit off' size inb')).loc (c : Thread nD τ) ↦[(slotM M off' size inb s hq).view.set]{fullShare} f)
      ⊢ iprop((((M.access (Rect.unit off' size inb')).loc (c : Thread nD τ) ↦[(slotM M off' size inb s hq).view.set]{fullShare} f)
          -∗ wp frame (wpE defs 𝒱 (c : Thread nD τ) bd) Set.univ (k ((M.access (Rect.unit off' size inb')).read (Elt F) f)) Q)
        -∗ wp frame (wpE defs 𝒱 (c : Thread nD τ) bd) Set.univ
            (.op (.load M (Rect.unit off' size inb').toLoadRect hl) k) Q)
      from wp_load_rect 𝒱 (c : Thread nD τ) bd Set.univ (by rw [hset])) $$ [Hs]
  · iexact Hs
  iintro Hs
  ihave Hs := Hc $$ Hs
  ihave HA := HA $$ %(ρ i) Hs
  rw [Function.update_eq_self]
  iapply Hk $$ %_ [] HA
  ipureintro
  exact hP

theorem store_at {Λ : Labels} {defs : Defs nD τ sig (Elt F) Λ} {ρ : Fin n → Role} (i : Fin n) (r : Role)
    {M : Memref sig .tc .vmem sM e} {off off' size : Fin sM.rank → ℕ} (hoff : off' = off)
    {inb : ∀ a, off a + size a ≤ sM.size a} {inb' : ∀ a, off' a + size a ≤ sM.size a}
    {hq : (Rect.unit off size inb).shape.Squeezes s} (hc : (⟨sM.rank, size⟩ : Shape).ShapeCasts s)
    {w : (Rect.unit off' size inb').shape.Idx → Elt F e}
    (hopen : slotR c sem N fr ha dl i (ρ i) ⊢ iprop(∃ f : Buf (Elt F) ((slotM M off size inb s hq).view.loc (c : Thread nD τ)),
      ((slotM M off size inb s hq).view.loc (c : Thread nD τ) ↦[(slotM M off size inb s hq).view.set]{fullShare} f)
      ∗ (∀ f' : Buf (Elt F) ((slotM M off size inb s hq).view.loc (c : Thread nD τ)),
          ⌜(slotM M off size inb s hq).view.read (Elt F) f' = shapeCast s (s := (⟨sM.rank, size⟩ : Shape)) w hc⌝
          -∗ ((slotM M off size inb s hq).view.loc (c : Thread nD τ) ↦[(slotM M off size inb s hq).view.set]{fullShare} f')
          -∗ slotR c sem N fr ha dl i r)))
    {hx : (M.access (Rect.unit off' size inb')).Stores Finset.univ}
    {hm : (Finset.univ : Finset (Rect.unit off' size inb').shape.Idx) = Finset.univ ∨ ∀ a, (Rect.unit off' size inb').stride a = 1}
    {k : PUnit → Prog (TpuEff nD τ sig (Elt F) Λ .tc) α} :
    At c sem N fr ha dl ρ
      ⊢ iprop((At c sem N fr ha dl (Function.update ρ i r)
            -∗ wp frame (wpE defs 𝒱 (c : Thread nD τ) bd) Set.univ (k ⟨⟩) Q)
          -∗ wp frame (wpE defs 𝒱 (c : Thread nD τ) bd) Set.univ
            (Prog.lift (.store M (Rect.unit off' size inb') w Finset.univ hx hm) >>= k) Q) := by
  subst hoff
  iintro HA Hk
  ihave HA := (At_turn ρ i) $$ HA
  icases HA with ⟨Hs, HA⟩
  ihave Hs := hopen $$ Hs
  icases Hs with ⟨%f, Hs, Hc⟩
  have hset : (slotM M off' size inb s hq).view.set = (M.access (Rect.unit off' size inb')).set := View.set_reshape _ _
  iapply (show iprop((M.access (Rect.unit off' size inb')).loc (c : Thread nD τ) ↦[(slotM M off' size inb s hq).view.set]{fullShare} f)
      ⊢ iprop((((M.access (Rect.unit off' size inb')).loc (c : Thread nD τ) ↦[(slotM M off' size inb s hq).view.set]{fullShare}
            ((M.access (Rect.unit off' size inb')).write (Elt F) f w Finset.univ))
          -∗ wp frame (wpE defs 𝒱 (c : Thread nD τ) bd) Set.univ (k ⟨⟩) Q)
        -∗ wp frame (wpE defs 𝒱 (c : Thread nD τ) bd) Set.univ
            (.op (.store M (Rect.unit off' size inb') w Finset.univ hx hm) k) Q)
      from wp_store 𝒱 (c : Thread nD τ) bd Set.univ (by rw [hset]; exact Finset.Subset.refl _)) $$ [Hs]
  · iexact Hs
  iintro Hs
  ihave Hs := Hc $$ %_ [] Hs
  · ipureintro
    have h := View.read_write_univ (v := M.access (Rect.unit off' size inb')) f w
    exact congrArg (fun x => shapeCast s (s := (⟨sM.rank, size⟩ : Shape)) x hc) h
  ihave HA := HA $$ %r Hs
  iapply Hk $$ HA

end General

end Cert.KernelIdeal.Pipe

end
-- ==== Proof.Rings.lean ====
module

public import proofs.«01_k».proof.Proof.Ring
public import Idealize.ShloMosaic.Lib.ViewIndex

/-!
# Rings that read an array, and rings that write one

A read ring's slots each keep a share of the array they are filled from; block `b` of the array is what a slot filled
with it reads. A write ring's slot that has block `b` reads the block to be written; the array itself is held in two
parts, the blocks already written back and the blocks whose write-back has not started.
-/

@[expose] public section

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- A block of an array, as a transfer names it. -/
abbrev blkM {sX : Shape} {e : EltTy} (X : Memref sig .tc .hbm sX e) (off size : Fin sX.rank → ℕ) (inb : ∀ a, off a + size a ≤ sX.size a) :
    Memref sig .tc .hbm ⟨sX.rank, size⟩ e := X.slice (Rect.unit off size inb) (fun _ => rfl)

section Slots

variable (c : Dev nD) {n : ℕ} {sM s : Shape} {e : EltTy} (slot : Fin n → Memref sig .tc .vmem s e)

/-- Slot `i` at contents nothing names. -/
def anyS (i : Fin n) : sProp 𝕄 :=
  iprop(∃ f : Buf (Elt F) ((slot i).view.loc (c : Thread nD τ)), (slot i).view.loc (c : Thread nD τ) ↦[(slot i).view.set]{fullShare} f)

/-- Slot `i` reading `v`. -/
def isS (i : Fin n) (v : s.Idx → Elt F e) : sProp 𝕄 :=
  iprop(∃ f : Buf (Elt F) ((slot i).view.loc (c : Thread nD τ)), ((slot i).view.loc (c : Thread nD τ) ↦[(slot i).view.set]{fullShare} f)
    ∗ ⌜(slot i).view.read (Elt F) f = v⌝)

theorem isS_any (i : Fin n) (v : s.Idx → Elt F e) : isS (F := F) c slot i v ⊢ anyS c slot i := by
  unfold isS anyS
  iintro ⟨%f, H, -⟩
  iexists f; iexact H

end Slots

section Read

variable (c : Dev nD) {n : ℕ} {sM : Shape} {e : EltTy} (M : Memref sig .tc .vmem sM e)
  (offM : Fin n → Fin sM.rank → ℕ) (size : Fin sM.rank → ℕ) (inbM : ∀ i a, offM i a + size a ≤ sM.size a)
  {sX : Shape} (X : Memref sig .tc .hbm sX e) (offX : ℕ → Fin sX.rank → ℕ) (sizeX : Fin sX.rank → ℕ)
  (inbX : ∀ b a, offX b a + sizeX a ≤ sX.size a)
  (hq : (⟨sM.rank, size⟩ : Shape).Squeezes ⟨sX.rank, sizeX⟩)
  (sem : Fin n → DmaSem sig) (q : Fin n → PosShare TreeShare) (fX : Buf (Elt F) (X.view.loc (c : Thread nD τ)))

/-- The slots. -/
abbrev rdSlot (i : Fin n) : Memref sig .tc .vmem ⟨sX.rank, sizeX⟩ e := slotM M (offM i) size (inbM i) ⟨sX.rank, sizeX⟩ hq

/-- Block `b` of the array. -/
def rdVal (b : ℕ) : (⟨sX.rank, sizeX⟩ : Shape).Idx → Elt F e := (blkM X (offX b) sizeX (inbX b)).view.read (Elt F) fX

/-- The share of the array slot `i` lends its transfers. -/
def lent (i : Fin n) : sProp 𝕄 := iprop(X.view.loc (c : Thread nD τ) ↦[X.view.set]{q i} fX)

/-- A read ring with its slots in the roles `ρ`. -/
def RdAt (ρ : Fin n → Role) : sProp 𝕄 :=
  At c sem (M.view.ref.dmaCredit ⟨sX.rank, sizeX⟩ e)
    (fun i => iprop(anyS c (rdSlot M offM size inbM sizeX hq) i ∗ lent c X q fX i))
    (fun i b => iprop(isS c (rdSlot M offM size inbM sizeX hq) i (rdVal c X offX sizeX inbX fX b) ∗ lent c X q fX i))
    (fun i b => iprop(isS c (rdSlot M offM size inbM sizeX hq) i (rdVal c X offX sizeX inbX fX b) ∗ lent c X q fX i)) ρ

variable {c M offM size inbM X offX sizeX inbX hq sem q fX}

theorem RdAt_loosen {ρ ρ' : Fin n → Role} (h : ∀ i, (ρ i).Loosens (ρ' i)) :
    RdAt c M offM size inbM X offX sizeX inbX hq sem q fX ρ ⊢ RdAt c M offM size inbM X offX sizeX inbX hq sem q fX ρ' := by
  unfold RdAt
  refine At_loosen (fun i b => ?_) h
  exact BI.sep_mono (isS_any c _ i _) (Entails.refl _)

variable {𝒱 : Variants} {bd : Option 𝒱.V} {α : Type}
  {Q : α → sProp (MT nD τ sig Unit (Elt F) ℕ (Pipeline.UC sig nD τ) ℕ)}

theorem rd_give (i : Fin n) (b : ℕ) {so : Fin sX.rank → ℕ} {do' : Fin sM.rank → ℕ} (hso : so = offX b) (hdo : do' = offM i)
    (si : ∀ a, so a + sizeX a ≤ sX.size a) (di : ∀ a, do' a + size a ≤ sM.size a) :
    iprop((iprop(anyS c (rdSlot M offM size inbM sizeX hq) i ∗ lent c X q fX i) ∗ semVal ((c : Thread nD τ), .dma (sem i)) 0) ∗ emp)
      ⊢ (iprop(∃ (q' : PosShare TreeShare) (fs : Buf (Elt F) ((blkM X so sizeX si).view.loc (c : Thread nD τ)))
          (fd : Buf (Elt F) ((slotM M do' size di ⟨sX.rank, sizeX⟩ hq).view.loc (c : Thread nD τ))),
          ((blkM X so sizeX si).view.loc (c : Thread nD τ) ↦[(blkM X so sizeX si).view.set]{q'} fs)
          ∗ ((slotM M do' size di ⟨sX.rank, sizeX⟩ hq).view.loc (c : Thread nD τ) ↦[(slotM M do' size di ⟨sX.rank, sizeX⟩ hq).view.set]{fullShare} fd)
          ∗ semVal ((c : Thread nD τ), .dma (sem i)) 0
          ∗ (iprop(((slotM M do' size di ⟨sX.rank, sizeX⟩ hq).view.loc (c : Thread nD τ) ↦[(slotM M do' size di ⟨sX.rank, sizeX⟩ hq).view.set]{fullShare}
                ((slotM M do' size di ⟨sX.rank, sizeX⟩ hq).view.write (Elt F) fd ((blkM X so sizeX si).view.read (Elt F) fs) Finset.univ))
              ∗ ((blkM X so sizeX si).view.loc (c : Thread nD τ) ↦[(blkM X so sizeX si).view.set]{q'} fs))
              -∗ iprop(isS c (rdSlot M offM size inbM sizeX hq) i (rdVal c X offX sizeX inbX fX b) ∗ lent c X q fX i)) ∗ emp) : sProp 𝕄) := by
  subst hso hdo
  unfold anyS lent isS
  iintro ⟨⟨⟨⟨%fd, Hd⟩, HX⟩, Hv⟩, He⟩
  have hsub : (blkM X (offX b) sizeX si).view.set ⊆ X.view.set := by
    rw [show (blkM X (offX b) sizeX si).view.set = (Rect.unit (offX b) sizeX si).set.map X.view.emb from View.set_slice _ _]
    intro x hx
    obtain ⟨y, -, rfl⟩ := Finset.mem_map.mp hx
    exact Finset.mem_map_of_mem _ (Finset.mem_univ y)
  ihave HX := (pointsTo_split_subset hsub).1 $$ HX
  icases HX with ⟨HX, HR⟩
  iexists (q i), fX, fd
  isplitl [HX]; · iexact HX
  isplitl [Hd]; · iexact Hd
  isplitl [Hv]; · iexact Hv
  isplitl [HR]
  · iintro ⟨Hd, HX⟩
    isplitl [Hd]
    · iexists _
      isplitl [Hd]; · iexact Hd
      ipureintro
      exact View.read_write_univ _ _
    · iapply (pointsTo_split_subset hsub).2
      isplitl [HX] <;> iassumption
  · iexact He

/-- A slot of a read ring is filled with block `b`, under a condition. -/
theorem rd_issue_if {Λ : Labels} {defs : Defs nD τ sig (Elt F) Λ} {C : Prop} [Decidable C] {ρ ρ' : Fin n → Role} (i : Fin n) (b : ℕ)
    (hpos : C → ρ i = .free ∧ ρ' = Function.update ρ i (.fly b)) (hneg : ¬C → ρ' = ρ)
    {so : C → Fin sX.rank → ℕ} {do' : C → Fin sM.rank → ℕ} (hso : ∀ h, so h = offX b) (hdo : ∀ h, do' h = offM i)
    {si : ∀ h a, so h a + sizeX a ≤ sX.size a} {di : ∀ h a, do' h a + size a ≤ sM.size a} {sm : C → SemLoc sig}
    (hsm : ∀ h, sm h = .dma (sem i)) (hN0 : 0 < M.view.ref.dmaCredit ⟨sX.rank, sizeX⟩ e)
    {hsrc : ∀ h, (blkM X (so h) sizeX (si h)).view.WordExact}
    {hdst : ∀ h, (slotM M (do' h) size (di h) ⟨sX.rank, sizeX⟩ hq).view.WordExact}
    {hsem : ∀ h, DmaTarget.Typed (nD := nD) (τ := τ) (p := Proc.tc) .hbm (sm h) (.here (slotM M (do' h) size (di h) ⟨sX.rank, sizeX⟩ hq))}
    {rest : Prog (TpuEff nD τ sig (Elt F) Λ .tc) α} :
    RdAt c M offM size inbM X offX sizeX inbX hq sem q fX ρ
      ⊢ iprop((RdAt c M offM size inbM X offX sizeX inbX hq sem q fX ρ' -∗ wp frame (wpE defs 𝒱 (c : Thread nD τ) bd) Set.univ rest Q)
          -∗ wp frame (wpE defs 𝒱 (c : Thread nD τ) bd) Set.univ
            (if h : C then Prog.lift (.enqueueDma (blkM X (so h) sizeX (si h)) (.here (slotM M (do' h) size (di h) ⟨sX.rank, sizeX⟩ hq))
              (sm h) (hsrc h) (hdst h) (hsem h)) >>= fun _ => rest else rest) Q) := by
  iintro HA Hk
  unfold RdAt
  iapply (issue_if (F := F) (c := c) (src := fun h => blkM X (so h) sizeX (si h))
    (dst := fun h => slotM M (do' h) size (di h) ⟨sX.rank, sizeX⟩ hq)
    (N := M.view.ref.dmaCredit ⟨sX.rank, sizeX⟩ e)
    (fr := fun i => iprop(anyS c (rdSlot M offM size inbM sizeX hq) i ∗ lent c X q fX i))
    (ha := fun i b => iprop(isS c (rdSlot M offM size inbM sizeX hq) i (rdVal c X offX sizeX inbX fX b) ∗ lent c X q fX i))
    (dl := fun i b => iprop(isS c (rdSlot M offM size inbM sizeX hq) i (rdVal c X offX sizeX inbX fX b) ∗ lent c X q fX i))
    i b iprop(emp) iprop(emp) (fun h => (hpos h).2) (fun h => ⟨hneg h, Entails.refl _⟩) hsm (fun _ => rfl) hN0
    (fun h => by rw [(hpos h).1]; exact rd_give (fX := fX) i b (hso h) (hdo h) (si h) (di h))) $$ [HA]
  · isplitl [HA]; · iexact HA
    iempintro
  iintro ⟨HA, -⟩
  iapply Hk $$ HA

/-- The transfer of block `b` into a slot is waited for, under a condition. -/
theorem rd_wait_if {Λ : Labels} {defs : Defs nD τ sig (Elt F) Λ} {C : Prop} [Decidable C] {ρ ρ' : Fin n → Role} (i : Fin n) (b : ℕ)
    (hpos : C → ρ i = .fly b ∧ ρ' = Function.update ρ i (.has b)) (hneg : ¬C → ρ' = ρ)
    {s s' : Shape} {e' e'' : EltTy} {sp sp' : Space} {κ' : Kind} {sm : C → DmaSem sig}
    {srcw : C → Memref sig (c : Thread nD τ).2.kind sp' s' e'} {dstw : C → Memref sig κ' sp s e''}
    {hsrc : ∀ h, (srcw h).view.WordExact} {hdst : ∀ h, (dstw h).view.WordExact}
    {rest : Prog (TpuEff nD τ sig (Elt F) Λ .tc) α} (hsm : ∀ h, sm h = sem i)
    (hN : ∀ h, (dstw h).view.dmaCredit = M.view.ref.dmaCredit ⟨sX.rank, sizeX⟩ e) :
    iprop(RdAt c M offM size inbM X offX sizeX inbX hq sem q fX ρ ∗ Owes c)
      ⊢ iprop((iprop(RdAt c M offM size inbM X offX sizeX inbX hq sem q fX ρ' ∗ Owes c)
            -∗ wp frame (wpE defs 𝒱 (c : Thread nD τ) bd) Set.univ rest Q)
          -∗ wp frame (wpE defs 𝒱 (c : Thread nD τ) bd) Set.univ
            (if h : C then Prog.lift (.waitDma2 (sm h) (srcw h) (dstw h) (hsrc h) (hdst h)) >>= fun _ => rest else rest) Q) := by
  iintro ⟨HA, HO⟩ Hk
  unfold RdAt
  iapply (wait_if (F := F) (c := c) (srcw := srcw) (dstw := dstw)
    (N := M.view.ref.dmaCredit ⟨sX.rank, sizeX⟩ e)
    (fr := fun i => iprop(anyS c (rdSlot M offM size inbM sizeX hq) i ∗ lent c X q fX i))
    (ha := fun i b => iprop(isS c (rdSlot M offM size inbM sizeX hq) i (rdVal c X offX sizeX inbX fX b) ∗ lent c X q fX i))
    (dl := fun i b => iprop(isS c (rdSlot M offM size inbM sizeX hq) i (rdVal c X offX sizeX inbX fX b) ∗ lent c X q fX i))
    i b (.has b) iprop(emp) iprop(emp) hpos (fun h => ⟨hneg h, Entails.refl _⟩)
    (fun h => by
      rw [slotR_has]
      iintro ⟨H, Hv, -⟩
      isplitr []
      · isplitl [H]
        · iexact H
        · iexact Hv
      · iempintro) hsm hN) $$ [HA HO]
  · isplitl [HA]; · iexact HA
    isplitr [HO]; · iempintro
    iexact HO
  iintro ⟨HA, -, HO⟩
  iapply Hk
  isplitl [HA]
  · iexact HA
  · iexact HO

/-- A slot that has block `b` is loaded whole. -/
theorem rd_load {Λ : Labels} {defs : Defs nD τ sig (Elt F) Λ} {ρ : Fin n → Role} (i : Fin n) (b : ℕ) (hρ : ρ i = .has b)
    {off' : Fin sM.rank → ℕ} (hoff : off' = offM i) {inb' : ∀ a, off' a + size a ≤ sM.size a}
    (hc : (⟨sM.rank, size⟩ : Shape).ShapeCasts ⟨sX.rank, sizeX⟩)
    {hl : M.view.LoadsAt (Rect.unit off' size inb').toLoadRect}
    {k : ((Rect.unit off' size inb').shape.Idx → Elt F e) → Prog (TpuEff nD τ sig (Elt F) Λ .tc) α} :
    RdAt c M offM size inbM X offX sizeX inbX hq sem q fX ρ
      ⊢ iprop((∀ w : (⟨sM.rank, size⟩ : Shape).Idx → Elt F e, ⌜shapeCast ⟨sX.rank, sizeX⟩ w hc = rdVal c X offX sizeX inbX fX b⌝
            -∗ RdAt c M offM size inbM X offX sizeX inbX hq sem q fX ρ
            -∗ wp frame (wpE defs 𝒱 (c : Thread nD τ) bd) Set.univ (k w) Q)
          -∗ wp frame (wpE defs 𝒱 (c : Thread nD τ) bd) Set.univ
            (Prog.lift (.load M (Rect.unit off' size inb').toLoadRect hl) >>= k) Q) := by
  unfold RdAt
  refine load_at (F := F) (c := c) i (fun v => v = rdVal c X offX sizeX inbX fX b) hoff (inb := inbM i) (hq := hq) hc ?_
  rw [hρ, slotR_has]
  unfold isS
  iintro ⟨⟨⟨%f, Hs, %hf⟩, HX⟩, Hv⟩
  iexists f
  isplitl [Hs]; · iexact Hs
  isplitr; · ipureintro; exact hf
  iintro Hs
  isplitr [Hv]
  · isplitr [HX]
    · iexists f
      isplitl [Hs]; · iexact Hs
      ipureintro; exact hf
    · iexact HX
  · iexact Hv

end Read

section Write

variable (c : Dev nD) {n : ℕ} {sM : Shape} {e : EltTy} (M : Memref sig .tc .vmem sM e)
  (offM : Fin n → Fin sM.rank → ℕ) (size : Fin sM.rank → ℕ) (inbM : ∀ i a, offM i a + size a ≤ sM.size a)
  {sX : Shape} (X : Memref sig .tc .hbm sX e) (offX : ℕ → Fin sX.rank → ℕ) (sizeX : Fin sX.rank → ℕ)
  (inbX : ∀ b a, offX b a + sizeX a ≤ sX.size a)
  (hq : (⟨sM.rank, size⟩ : Shape).Squeezes ⟨sX.rank, sizeX⟩)
  (sem : Fin n → DmaSem sig) (fX : Buf (Elt F) (X.view.loc (c : Thread nD τ)))

/-- A write ring with its slots in the roles `ρ`; the contents `fX` of the array are what the ring writes. -/
def WrAt (ρ : Fin n → Role) : sProp 𝕄 :=
  At c sem (X.view.ref.dmaCredit ⟨sX.rank, sizeX⟩ e)
    (anyS c (rdSlot M offM size inbM sizeX hq))
    (fun i b => isS c (rdSlot M offM size inbM sizeX hq) i (rdVal c X offX sizeX inbX fX b))
    (fun i b => iprop(anyS c (rdSlot M offM size inbM sizeX hq) i
      ∗ X.view.loc (c : Thread nD τ) ↦[(blkM X (offX b) sizeX (inbX b)).view.set]{fullShare} fX)) ρ

variable (lo hi : ℕ → Finset (Idx (X.view.loc (c : Thread nD τ))))

/-- The array, where blocks below `a` are written and blocks from `b` on are not yet started. -/
def Out (a b : ℕ) : sProp 𝕄 :=
  iprop((X.view.loc (c : Thread nD τ) ↦[lo a]{fullShare} fX)
    ∗ ∃ f : Buf (Elt F) (X.view.loc (c : Thread nD τ)), X.view.loc (c : Thread nD τ) ↦[hi b]{fullShare} f)

variable {c M offM size inbM X offX sizeX inbX hq sem fX lo hi}

variable {𝒱 : Variants} {bd : Option 𝒱.V} {α : Type}
  {Q : α → sProp (MT nD τ sig Unit (Elt F) ℕ (Pipeline.UC sig nD τ) ℕ)}

theorem wr_give (i : Fin n) (a b : ℕ) (hsub : (blkM X (offX b) sizeX (inbX b)).view.set ⊆ hi b)
    (hrest : hi b \ (blkM X (offX b) sizeX (inbX b)).view.set = hi (b + 1))
    {so : Fin sX.rank → ℕ} {do' : Fin sM.rank → ℕ} (hso : so = offX b) (hdo : do' = offM i)
    (si : ∀ a, so a + sizeX a ≤ sX.size a) (di : ∀ a, do' a + size a ≤ sM.size a) :
    iprop((isS c (rdSlot M offM size inbM sizeX hq) i (rdVal c X offX sizeX inbX fX b) ∗ semVal ((c : Thread nD τ), .dma (sem i)) 0)
        ∗ Out c X fX lo hi a b)
      ⊢ (iprop(∃ (q' : PosShare TreeShare) (fs : Buf (Elt F) ((slotM M do' size di ⟨sX.rank, sizeX⟩ hq).view.loc (c : Thread nD τ)))
          (fd : Buf (Elt F) ((blkM X so sizeX si).view.loc (c : Thread nD τ))),
          ((slotM M do' size di ⟨sX.rank, sizeX⟩ hq).view.loc (c : Thread nD τ) ↦[(slotM M do' size di ⟨sX.rank, sizeX⟩ hq).view.set]{q'} fs)
          ∗ ((blkM X so sizeX si).view.loc (c : Thread nD τ) ↦[(blkM X so sizeX si).view.set]{fullShare} fd)
          ∗ semVal ((c : Thread nD τ), .dma (sem i)) 0
          ∗ (iprop(((blkM X so sizeX si).view.loc (c : Thread nD τ) ↦[(blkM X so sizeX si).view.set]{fullShare}
                ((blkM X so sizeX si).view.write (Elt F) fd ((slotM M do' size di ⟨sX.rank, sizeX⟩ hq).view.read (Elt F) fs) Finset.univ))
              ∗ ((slotM M do' size di ⟨sX.rank, sizeX⟩ hq).view.loc (c : Thread nD τ) ↦[(slotM M do' size di ⟨sX.rank, sizeX⟩ hq).view.set]{q'} fs))
              -∗ iprop(anyS c (rdSlot M offM size inbM sizeX hq) i
                  ∗ X.view.loc (c : Thread nD τ) ↦[(blkM X (offX b) sizeX (inbX b)).view.set]{fullShare} fX))
          ∗ Out c X fX lo hi a (b + 1)) : sProp 𝕄) := by
  subst hso hdo
  unfold anyS Out isS
  iintro ⟨⟨⟨%fs, Hs, %hf⟩, Hv⟩, ⟨HL, ⟨%fd, HX⟩⟩⟩
  ihave HX := (pointsTo_split_subset hsub).1 $$ HX
  icases HX with ⟨HX, HR⟩
  iexists fullShare, fs, fd
  isplitl [Hs]; · iexact Hs
  isplitl [HX]; · iexact HX
  isplitl [Hv]; · iexact Hv
  isplitr [HL HR]
  · iintro ⟨HX, Hs⟩
    isplitl [Hs]
    · iexists _; iexact Hs
    · iapply (Entails.of_eq (pointsTo_congr (q := fullShare) (ℓ := X.view.loc (c : Thread nD τ)) fun x hx => ?_)) $$ HX
      obtain ⟨y, -, rfl⟩ := Finset.mem_map.mp hx
      refine View.eq_of_read_eq (v := (blkM X (offX b) sizeX (inbX b)).view) (x := y) ?_
      rw [View.read_write_univ, hf]; rfl
  · isplitl [HL]; · iexact HL
    iexists fd
    rw [hrest]
    iexact HR

/-- The write-back of block `b` is started, under a condition that holds. -/
theorem wr_issue_if {Λ : Labels} {defs : Defs nD τ sig (Elt F) Λ} {C : Prop} [Decidable C] {ρ ρ' : Fin n → Role} (i : Fin n) (a b : ℕ)
    (hC : C) (hρ : ρ i = .has b) (hρ' : ρ' = Function.update ρ i (.fly b))
    (hsub : (blkM X (offX b) sizeX (inbX b)).view.set ⊆ hi b)
    (hrest : hi b \ (blkM X (offX b) sizeX (inbX b)).view.set = hi (b + 1))
    {so : C → Fin sX.rank → ℕ} {do' : C → Fin sM.rank → ℕ} (hso : ∀ h, so h = offX b) (hdo : ∀ h, do' h = offM i)
    {si : ∀ h a, so h a + sizeX a ≤ sX.size a} {di : ∀ h a, do' h a + size a ≤ sM.size a} {sm : C → SemLoc sig}
    (hsm : ∀ h, sm h = .dma (sem i)) (hN0 : 0 < X.view.ref.dmaCredit ⟨sX.rank, sizeX⟩ e)
    {hdst : ∀ h, (blkM X (so h) sizeX (si h)).view.WordExact}
    {hsrc : ∀ h, (slotM M (do' h) size (di h) ⟨sX.rank, sizeX⟩ hq).view.WordExact}
    {hsem : ∀ h, DmaTarget.Typed (nD := nD) (τ := τ) (p := Proc.tc) .vmem (sm h) (.here (blkM X (so h) sizeX (si h)))}
    {rest : Prog (TpuEff nD τ sig (Elt F) Λ .tc) α} :
    iprop(WrAt c M offM size inbM X offX sizeX inbX hq sem fX ρ ∗ Out c X fX lo hi a b)
      ⊢ iprop((iprop(WrAt c M offM size inbM X offX sizeX inbX hq sem fX ρ' ∗ Out c X fX lo hi a (b + 1))
            -∗ wp frame (wpE defs 𝒱 (c : Thread nD τ) bd) Set.univ rest Q)
          -∗ wp frame (wpE defs 𝒱 (c : Thread nD τ) bd) Set.univ
            (if h : C then Prog.lift (.enqueueDma (slotM M (do' h) size (di h) ⟨sX.rank, sizeX⟩ hq) (.here (blkM X (so h) sizeX (si h)))
              (sm h) (hsrc h) (hdst h) (hsem h)) >>= fun _ => rest else rest) Q) := by
  unfold WrAt
  refine issue_if (F := F) (c := c) (dst := fun h => blkM X (so h) sizeX (si h))
    (src := fun h => slotM M (do' h) size (di h) ⟨sX.rank, sizeX⟩ hq) i b _ _ (fun h => hρ') (fun h => absurd hC h) hsm (fun _ => rfl) hN0
    (fun h => ?_)
  rw [hρ]
  exact wr_give (fX := fX) i a b hsub hrest (hso h) (hdo h) (si h) (di h)

/-- The write-back of block `b` is waited for, under a condition. -/
theorem wr_wait_if {Λ : Labels} {defs : Defs nD τ sig (Elt F) Λ} {C : Prop} [Decidable C] {ρ ρ' : Fin n → Role} (i : Fin n) (a a' b hh : ℕ)
    (hpos : C → ρ i = .fly b ∧ ρ' = Function.update ρ i .free ∧ a = b ∧ a' = b + 1) (hneg : ¬C → ρ' = ρ ∧ a' = a)
    (hdisj : Disjoint (lo b) (blkM X (offX b) sizeX (inbX b)).view.set)
    (hlo : lo b ∪ (blkM X (offX b) sizeX (inbX b)).view.set = lo (b + 1))
    {s s' : Shape} {e' e'' : EltTy} {sp sp' : Space} {κ' : Kind} {sm : C → DmaSem sig}
    {srcw : C → Memref sig (c : Thread nD τ).2.kind sp' s' e'} {dstw : C → Memref sig κ' sp s e''}
    {hsrc : ∀ h, (srcw h).view.WordExact} {hdst : ∀ h, (dstw h).view.WordExact}
    {rest : Prog (TpuEff nD τ sig (Elt F) Λ .tc) α} (hsm : ∀ h, sm h = sem i)
    (hN : ∀ h, (dstw h).view.dmaCredit = X.view.ref.dmaCredit ⟨sX.rank, sizeX⟩ e) :
    iprop(WrAt c M offM size inbM X offX sizeX inbX hq sem fX ρ ∗ Out c X fX lo hi a hh ∗ Owes c)
      ⊢ iprop((iprop(WrAt c M offM size inbM X offX sizeX inbX hq sem fX ρ' ∗ Out c X fX lo hi a' hh ∗ Owes c)
            -∗ wp frame (wpE defs 𝒱 (c : Thread nD τ) bd) Set.univ rest Q)
          -∗ wp frame (wpE defs 𝒱 (c : Thread nD τ) bd) Set.univ
            (if h : C then Prog.lift (.waitDma2 (sm h) (srcw h) (dstw h) (hsrc h) (hdst h)) >>= fun _ => rest else rest) Q) := by
  unfold WrAt
  refine wait_if (F := F) (c := c) (srcw := srcw) (dstw := dstw) i b .free _ _ (fun h => ⟨(hpos h).1, (hpos h).2.1⟩)
    (fun h => ⟨(hneg h).1, by rw [(hneg h).2]⟩) (fun h => ?_) hsm hN
  obtain ⟨-, -, rfl, rfl⟩ := hpos h
  rw [slotR_free]
  unfold Out
  iintro ⟨⟨Hs, HB⟩, Hv, HL, HH⟩
  isplitl [Hs Hv]
  · isplitl [Hs] <;> iassumption
  · isplitr [HH]
    · rw [← hlo]
      iapply (pointsTo_union hdisj).2
      isplitl [HL] <;> iassumption
    · iexact HH

/-- A free slot of a write ring is loaded; what is read is not named. -/
theorem wr_load {Λ : Labels} {defs : Defs nD τ sig (Elt F) Λ} {ρ : Fin n → Role} (i : Fin n) (hρ : ρ i = .free)
    {off' : Fin sM.rank → ℕ} (hoff : off' = offM i) {inb' : ∀ a, off' a + size a ≤ sM.size a}
    (hc : (⟨sM.rank, size⟩ : Shape).ShapeCasts ⟨sX.rank, sizeX⟩)
    {hl : M.view.LoadsAt (Rect.unit off' size inb').toLoadRect}
    {k : ((Rect.unit off' size inb').shape.Idx → Elt F e) → Prog (TpuEff nD τ sig (Elt F) Λ .tc) α} :
    WrAt c M offM size inbM X offX sizeX inbX hq sem fX ρ
      ⊢ iprop((∀ w : (⟨sM.rank, size⟩ : Shape).Idx → Elt F e, ⌜True⌝
            -∗ WrAt c M offM size inbM X offX sizeX inbX hq sem fX ρ
            -∗ wp frame (wpE defs 𝒱 (c : Thread nD τ) bd) Set.univ (k w) Q)
          -∗ wp frame (wpE defs 𝒱 (c : Thread nD τ) bd) Set.univ
            (Prog.lift (.load M (Rect.unit off' size inb').toLoadRect hl) >>= k) Q) := by
  unfold WrAt
  refine load_at (F := F) (c := c) i (fun v => True) hoff (inb := inbM i) (hq := hq) hc ?_
  rw [hρ, slotR_free]
  unfold anyS
  iintro ⟨⟨%f, Hs⟩, Hv⟩
  iexists f
  isplitl [Hs]; · iexact Hs
  isplitr; · ipureintro; trivial
  iintro Hs
  isplitr [Hv]
  · iexists f; iexact Hs
  · iexact Hv

/-- Block `b` is stored to a free slot. -/
theorem wr_store {Λ : Labels} {defs : Defs nD τ sig (Elt F) Λ} {ρ ρ' : Fin n → Role} (i : Fin n) (b : ℕ) (hρ : ρ i = .free)
    (hρ' : ρ' = Function.update ρ i (.has b))
    {off' : Fin sM.rank → ℕ} (hoff : off' = offM i) {inb' : ∀ a, off' a + size a ≤ sM.size a}
    (hc : (⟨sM.rank, size⟩ : Shape).ShapeCasts ⟨sX.rank, sizeX⟩)
    {w : (Rect.unit off' size inb').shape.Idx → Elt F e}
    (hw : shapeCast ⟨sX.rank, sizeX⟩ (s := (⟨sM.rank, size⟩ : Shape)) w hc = rdVal c X offX sizeX inbX fX b)
    {hx : (M.access (Rect.unit off' size inb')).Stores Finset.univ}
    {hm : (Finset.univ : Finset (Rect.unit off' size inb').shape.Idx) = Finset.univ ∨ ∀ a, (Rect.unit off' size inb').stride a = 1}
    {k : PUnit → Prog (TpuEff nD τ sig (Elt F) Λ .tc) α} :
    WrAt c M offM size inbM X offX sizeX inbX hq sem fX ρ
      ⊢ iprop((WrAt c M offM size inbM X offX sizeX inbX hq sem fX ρ'
            -∗ wp frame (wpE defs 𝒱 (c : Thread nD τ) bd) Set.univ (k ⟨⟩) Q)
          -∗ wp frame (wpE defs 𝒱 (c : Thread nD τ) bd) Set.univ
            (Prog.lift (.store M (Rect.unit off' size inb') w Finset.univ hx hm) >>= k) Q) := by
  unfold WrAt
  subst hρ'
  refine store_at (F := F) (c := c) i (.has b) hoff (inb := inbM i) (hq := hq) hc ?_
  rw [hρ, slotR_free, slotR_has, hw]
  unfold anyS isS
  iintro ⟨⟨%f, Hs⟩, Hv⟩
  iexists f
  isplitl [Hs]; · iexact Hs
  iintro %f' %hf Hs
  isplitr [Hv]
  · iexists f'
    isplitl [Hs]; · iexact Hs
    ipureintro; exact hf
  · iexact Hv

end Write

end Cert.KernelIdeal.Pipe

end
-- ==== Proof.Stage.lean ====
module

public import proofs.«01_k».proof.Proof.Control
public import proofs.«01_k».proof.Proof.Rings
public import proofs.«01_k».proof.Proof.Gen.KernelIdeal.Skeleton

/-!
# The nine rings of the pipelined projection

The six input operands and three results of the output projection each pass through a few slots of on-chip memory. This
module names, for each, the slots, the block of the array a slot holds and the role every slot has at every stage of a
trip; the results' contents are put together from the value each trip computes.
-/

@[expose] public section

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-! ## Roles -/

/-- The roles of a read ring of `n` slots that holds the blocks `lo ≤ b < hi`, block `b` in slot `b % n`: block `lo` has
    arrived when `w`, the others are on their way. -/
def rr (n lo hi : ℕ) (w : Bool) (s : Fin n) : Role :=
  let b := lo + (s.val + n - lo % n) % n
  if b < hi then (if b = lo ∧ w = true then .has b else .fly b) else .free

/-- The row blocks issued once trip `k` has issued. -/
@[reducible] def rowHi (k : ℕ) : ℕ := if k % 8 = 7 ∧ k < 127 then k / 8 + 2 else min (k / 8 + 1) 16

def row0 (k : ℕ) : Fin 2 → Role := rr 2 (k / 8) (min (k / 8 + 1) 16) (k % 8 != 0)
def row1 (k : ℕ) : Fin 2 → Role := rr 2 (k / 8) (rowHi k) (k % 8 != 0)
def row2 (k : ℕ) : Fin 2 → Role := rr 2 (k / 8) (rowHi k) true
def til0 (k : ℕ) : Fin 3 → Role := rr 3 k (min (k + 2) 128) false
def til1 (k : ℕ) : Fin 3 → Role := rr 3 k (min (k + 3) 128) false
def til2 (k : ℕ) : Fin 3 → Role := rr 3 k (min (k + 3) 128) true
def sca0 (k : ℕ) : Fin 2 → Role := rr 2 k (min (k + 1) 128) false
def sca1 (k : ℕ) : Fin 2 → Role := rr 2 k (min (k + 2) 128) false
def sca2 (k : ℕ) : Fin 2 → Role := rr 2 k (min (k + 2) 128) true
/-- The roles of a result's slots before trip `k`: the last trip's block is being written back. -/
def out0 (k : ℕ) (s : Fin 2) : Role := if 0 < k ∧ s.val = (k - 1) % 2 then .fly (k - 1) else .free
/-- Once the trip's block is stored. -/
def out1 (k : ℕ) (s : Fin 2) : Role := if s.val = k % 2 then .has k else out0 k s
/-- Once its write-back is started. -/
def out2 (k : ℕ) (s : Fin 2) : Role := if s.val = k % 2 then .fly k else out0 k s

abbrev f2 (k : ℕ) : Fin 2 := ⟨k % 2, Nat.mod_lt _ (by decide)⟩
abbrev f3 (k : ℕ) : Fin 3 := ⟨k % 3, Nat.mod_lt _ (by decide)⟩

theorem row_issue : ∀ k : Fin k0_t1_loop.trips, (k.val % 8 = 7 ∧ k.val < 127 → row0 k (f2 (k / 8 + 1)) = .free
    ∧ row1 k = Function.update (row0 k) (f2 (k / 8 + 1)) (.fly (k / 8 + 1))) ∧ (¬(k.val % 8 = 7 ∧ k.val < 127) → row1 k = row0 k) := by decide +kernel
theorem row_wait : ∀ k : Fin k0_t1_loop.trips, (k.val % 8 = 0 → row1 k (f2 (k / 8)) = .fly (k / 8)
    ∧ row2 k = Function.update (row1 k) (f2 (k / 8)) (.has (k / 8))) ∧ (¬(k.val % 8 = 0) → row2 k = row1 k) := by decide +kernel
theorem row_has : ∀ k : Fin k0_t1_loop.trips, row2 k (f2 (k / 8)) = .has (k / 8) := by decide +kernel
theorem row_next : ∀ k : Fin k0_t1_loop.trips, ∀ i, (row2 k i).Loosens (row0 (k + 1) i) := by decide +kernel
theorem til_issue : ∀ k : Fin k0_t1_loop.trips, (k.val < 126 → til0 k (f3 (k + 2)) = .free
    ∧ til1 k = Function.update (til0 k) (f3 (k + 2)) (.fly (k + 2))) ∧ (¬(k.val < 126) → til1 k = til0 k) := by decide +kernel
theorem til_wait : ∀ k : Fin k0_t1_loop.trips, til1 k (f3 k) = .fly k
    ∧ til2 k = Function.update (til1 k) (f3 k) (.has k) := by decide +kernel
theorem til_has : ∀ k : Fin k0_t1_loop.trips, til2 k (f3 k) = .has k := by decide +kernel
theorem til_next : ∀ k : Fin k0_t1_loop.trips, ∀ i, (til2 k i).Loosens (til0 (k + 1) i) := by decide +kernel
theorem sca_issue : ∀ k : Fin k0_t1_loop.trips, (k.val < 127 → sca0 k (f2 (k + 1)) = .free
    ∧ sca1 k = Function.update (sca0 k) (f2 (k + 1)) (.fly (k + 1))) ∧ (¬(k.val < 127) → sca1 k = sca0 k) := by decide +kernel
theorem sca_wait : ∀ k : Fin k0_t1_loop.trips, sca1 k (f2 k) = .fly k
    ∧ sca2 k = Function.update (sca1 k) (f2 k) (.has k) := by decide +kernel
theorem sca_has : ∀ k : Fin k0_t1_loop.trips, sca2 k (f2 k) = .has k := by decide +kernel
theorem sca_next : ∀ k : Fin k0_t1_loop.trips, ∀ i, (sca2 k i).Loosens (sca0 (k + 1) i) := by decide +kernel
theorem out_store : ∀ k : Fin k0_t1_loop.trips, out0 k (f2 k) = .free ∧ out1 k = Function.update (out0 k) (f2 k) (.has k) := by decide +kernel
theorem out_issue : ∀ k : Fin k0_t1_loop.trips, out1 k (f2 k) = .has k ∧ out2 k = Function.update (out1 k) (f2 k) (.fly k) := by decide +kernel
theorem out_wait : ∀ k : Fin k0_t1_loop.trips, (0 < k.val → out2 k (f2 (k - 1)) = .fly (k - 1)
    ∧ out0 (k + 1) = Function.update (out2 k) (f2 (k - 1)) .free ∧ k.val - 1 = k - 1 ∧ k.val = k - 1 + 1)
    ∧ (¬(0 < k.val) → out0 (k + 1) = out2 k ∧ k.val = k - 1) := by decide +kernel

/-! ## Blocks of the arrays -/

/-- The offsets of row block `b`. -/
@[reducible] def rowOff (b : ℕ) : Fin 2 → ℕ := ![1024 * (b % 16), 0]
theorem rowOff_inb (b : ℕ) : ∀ a, rowOff b a + S1024x2048.size a ≤ S16384x2048.size a := by
  intro a; fin_cases a <;> simp [rowOff] <;> omega
/-- The offsets of the upper half of column block `b`. -/
@[reducible] def colOff (b : ℕ) : Fin 2 → ℕ := ![0, 512 * (b % 8)]
theorem colOff_inb (b : ℕ) : ∀ a, colOff b a + S2048x512.size a ≤ S4096x4096.size a := by
  intro a; fin_cases a <;> simp [colOff] <;> omega
/-- The offsets of the lower half of column block `b`. -/
@[reducible] def lowOff (b : ℕ) : Fin 2 → ℕ := ![2048, 512 * (b % 8)]
theorem lowOff_inb (b : ℕ) : ∀ a, lowOff b a + S2048x512.size a ≤ S4096x4096.size a := by
  intro a; fin_cases a <;> simp [lowOff] <;> omega
theorem scaOff_inb (b : ℕ) : ∀ a, colOff b a + S1x512.size a ≤ S1x4096.size a := by
  intro a; fin_cases a <;> simp [colOff] <;> omega
/-- The offsets of tile `b`, whose width is `w`. -/
@[reducible] def tilOff (w b : ℕ) : Fin 2 → ℕ := ![1024 * (b / 8 % 16), w * (b % 8)]
theorem tilOff_inb (b : ℕ) : ∀ a, tilOff 512 b a + S1024x512.size a ≤ S16384x4096.size a := by
  intro a; fin_cases a <;> simp [tilOff] <;> omega
theorem sumOff_inb (b : ℕ) : ∀ a, tilOff 128 b a + S1024x128.size a ≤ S16384x1024.size a := by
  intro a; fin_cases a <;> simp [tilOff] <;> omega

@[reducible] def at3 {n : ℕ} (i : Fin n) : Fin 3 → ℕ := ![i.val, 0, 0]

/-- The semaphore of slot `i` of a two-slot ring. -/
def sem2 (S : DmaSems sig S2) (i : Fin 2) : DmaSem sig :=
  ((S.slice (Rect.unit (s := S2) ![i.val] S1.size (by intro a; fin_cases a; simp; omega))).squeeze S_ Gen.squeezes_S1_S_).sem
/-- The semaphore of slot `i` of a three-slot ring. -/
def sem3 (S : DmaSems sig S3) (i : Fin 3) : DmaSem sig :=
  ((S.slice (Rect.unit (s := S3) ![i.val] S1.size (by intro a; fin_cases a; simp; omega))).squeeze S_ Gen.squeezes_S1_S_).sem

theorem sem2_eq (S : DmaSems sig S2) (i : Fin 2) {off : Fin S2.rank → ℕ} (h : off = ![i.val]) (inb) (hq) :
    ((S.slice (Rect.unit (s := S2) off S1.size inb)).squeeze S_ hq).sem = sem2 S i := by
  subst h; rfl
theorem sem3_eq (S : DmaSems sig S3) (i : Fin 3) {off : Fin S3.rank → ℕ} (h : off = ![i.val]) (inb) (hq) :
    ((S.slice (Rect.unit (s := S3) off S1.size inb)).squeeze S_ hq).sem = sem3 S i := by
  subst h; rfl

/-! ## The rings -/

variable (c : Dev nD) (V : (b : Ref sig .tc) → Buf (Elt F) ((c : Thread nD τ).loc b))

def qHalf (i : Fin 2) : PosShare TreeShare := if i = 0 then fullShare.left else fullShare.right
/-- Three shares that make the full share. -/
def third (q : PosShare TreeShare) (i : Fin 3) : PosShare TreeShare := if i = 0 then q.left else if i = 1 then q.right.left else q.right.right
abbrev qThird : Fin 3 → PosShare TreeShare := third fullShare
abbrev qUp : Fin 3 → PosShare TreeShare := third fullShare.left
abbrev qLow : Fin 3 → PosShare TreeShare := third fullShare.right

theorem at3_Ret : ∀ (i : Fin 2) a, at3 i a + S1x1024x2048.size a ≤ S2x1024x2048.size a := by
  intro i a; fin_cases a <;> simp [at3] <;> omega
theorem at3_Lru : ∀ (i : Fin 2) a, at3 i a + S1x1024x2048.size a ≤ S2x1024x2048.size a := by
  intro i a; fin_cases a <;> simp [at3] <;> omega
theorem at3_Up : ∀ (i : Fin 3) a, at3 i a + S1x2048x512.size a ≤ S3x2048x512.size a := by
  intro i a; fin_cases a <;> simp [at3] <;> omega
theorem at3_Low : ∀ (i : Fin 3) a, at3 i a + S1x2048x512.size a ≤ S3x2048x512.size a := by
  intro i a; fin_cases a <;> simp [at3] <;> omega
theorem at3_Res : ∀ (i : Fin 3) a, at3 i a + S1x1024x512.size a ≤ S3x1024x512.size a := by
  intro i a; fin_cases a <;> simp [at3] <;> omega
theorem at3_Sca : ∀ (i : Fin 2) a, at3 i a + S1x1x512.size a ≤ S2x1x512.size a := by
  intro i a; fin_cases a <;> simp [at3] <;> omega
theorem at3_Sum : ∀ (i : Fin 2) a, at3 i a + S1x1024x512.size a ≤ S2x1024x512.size a := by
  intro i a; fin_cases a <;> simp [at3] <;> omega
theorem at3_Prd : ∀ (i : Fin 2) a, at3 i a + S1x1024x512.size a ≤ S2x1024x512.size a := by
  intro i a; fin_cases a <;> simp [at3] <;> omega
theorem at3_Sqs : ∀ (i : Fin 2) a, at3 i a + S1x1024x128.size a ≤ S2x1024x128.size a := by
  intro i a; fin_cases a <;> simp [at3] <;> omega
/-- The ring of the retention rows in the roles `ρ`. -/
abbrev RetAt (ρ : Fin 2 → Role) : sProp 𝕄 :=
  RdAt c (Memref.whole cc0_scoped0 : Memref sig .tc .vmem S2x1024x2048 _) (fun i => at3 i) S1x1024x2048.size at3_Ret
    (Memref.whole main_arg0 : Memref sig .tc .hbm _ _) rowOff S1024x2048.size rowOff_inb Gen.squeezes_S1x1024x2048_S1024x2048 (sem2 cc0_scoped1) qHalf (V main_arg0) ρ
/-- Block `b` of the retention rows. -/
abbrev retV (b : ℕ) : S1024x2048.Idx → Elt F .bf16 :=
  rdVal c (Memref.whole main_arg0 : Memref sig .tc .hbm _ _) rowOff S1024x2048.size rowOff_inb (V main_arg0) b

/-- The ring of the recurrence rows in the roles `ρ`. -/
abbrev LruAt (ρ : Fin 2 → Role) : sProp 𝕄 :=
  RdAt c (Memref.whole cc0_scoped2 : Memref sig .tc .vmem S2x1024x2048 _) (fun i => at3 i) S1x1024x2048.size at3_Lru
    (Memref.whole main_arg1 : Memref sig .tc .hbm _ _) rowOff S1024x2048.size rowOff_inb Gen.squeezes_S1x1024x2048_S1024x2048 (sem2 cc0_scoped3) qHalf (V main_arg1) ρ
/-- Block `b` of the recurrence rows. -/
abbrev lruV (b : ℕ) : S1024x2048.Idx → Elt F .bf16 :=
  rdVal c (Memref.whole main_arg1 : Memref sig .tc .hbm _ _) rowOff S1024x2048.size rowOff_inb (V main_arg1) b

/-- The ring of the upper half of the weights in the roles `ρ`. -/
abbrev UpAt (ρ : Fin 3 → Role) : sProp 𝕄 :=
  RdAt c (Memref.whole cc0_scoped4 : Memref sig .tc .vmem S3x2048x512 _) (fun i => at3 i) S1x2048x512.size at3_Up
    (Memref.whole main_arg2 : Memref sig .tc .hbm _ _) colOff S2048x512.size colOff_inb Gen.squeezes_S1x2048x512_S2048x512 (sem3 cc0_scoped5) qUp (V main_arg2) ρ
/-- Block `b` of the upper half of the weights. -/
abbrev upV (b : ℕ) : S2048x512.Idx → Elt F .bf16 :=
  rdVal c (Memref.whole main_arg2 : Memref sig .tc .hbm _ _) colOff S2048x512.size colOff_inb (V main_arg2) b

/-- The ring of the lower half of the weights in the roles `ρ`. -/
abbrev LowAt (ρ : Fin 3 → Role) : sProp 𝕄 :=
  RdAt c (Memref.whole cc0_scoped6 : Memref sig .tc .vmem S3x2048x512 _) (fun i => at3 i) S1x2048x512.size at3_Low
    (Memref.whole main_arg2 : Memref sig .tc .hbm _ _) lowOff S2048x512.size lowOff_inb Gen.squeezes_S1x2048x512_S2048x512 (sem3 cc0_scoped7) qLow (V main_arg2) ρ
/-- Block `b` of the lower half of the weights. -/
abbrev lowV (b : ℕ) : S2048x512.Idx → Elt F .bf16 :=
  rdVal c (Memref.whole main_arg2 : Memref sig .tc .hbm _ _) lowOff S2048x512.size lowOff_inb (V main_arg2) b

/-- The ring of the residual tiles in the roles `ρ`. -/
abbrev ResAt (ρ : Fin 3 → Role) : sProp 𝕄 :=
  RdAt c (Memref.whole cc0_scoped8 : Memref sig .tc .vmem S3x1024x512 _) (fun i => at3 i) S1x1024x512.size at3_Res
    (Memref.whole main_arg3 : Memref sig .tc .hbm _ _) (tilOff 512) S1024x512.size tilOff_inb Gen.squeezes_S1x1024x512_S1024x512 (sem3 cc0_scoped9) qThird (V main_arg3) ρ
/-- Block `b` of the residual tiles. -/
abbrev resV (b : ℕ) : S1024x512.Idx → Elt F .f32 :=
  rdVal c (Memref.whole main_arg3 : Memref sig .tc .hbm _ _) (tilOff 512) S1024x512.size tilOff_inb (V main_arg3) b

/-- The ring of the scale row in the roles `ρ`. -/
abbrev ScaAt (ρ : Fin 2 → Role) : sProp 𝕄 :=
  RdAt c (Memref.whole cc0_scoped10 : Memref sig .tc .vmem S2x1x512 _) (fun i => at3 i) S1x1x512.size at3_Sca
    (Memref.whole main_v1 : Memref sig .tc .hbm _ _) colOff S1x512.size scaOff_inb Gen.squeezes_S1x1x512_S1x512 (sem2 cc0_scoped11) qHalf (V main_v1) ρ
/-- Block `b` of the scale row. -/
abbrev scaV (b : ℕ) : S1x512.Idx → Elt F .f32 :=
  rdVal c (Memref.whole main_v1 : Memref sig .tc .hbm _ _) colOff S1x512.size scaOff_inb (V main_v1) b

/-! ## What a trip computes -/

/-- The two products' sum at trip `b`. -/
def accV (b : ℕ) : FVec F S1024x512 .f32 :=
  Gen.k0_pay1 (shapeCast S1x1024x2048 (retV c V (b / 8)) (by decide)) (shapeCast S1x2048x512 (upV c V b) (by decide))
    (shapeCast S1x1024x2048 (lruV c V (b / 8)) (by decide)) (shapeCast S1x2048x512 (lowV c V b) (by decide))
/-- The residual tile of trip `b`. -/
def oldV (b : ℕ) : FVec F S1024x512 .f32 := Gen.k0_pay2 (shapeCast S1x1024x512 (resV c V b) (by decide))
/-- The tile of the sum trip `b` writes. -/
def sumV (b : ℕ) : FVec F S1024x512 .f32 :=
  shapeCast S1024x512 (Gen.k0_pay4 (accV c V b) (oldV c V b)) Gen.shapeCasts_S1x1024x512_S1024x512
/-- The tile of the scaled sum trip `b` writes. -/
def prdV (b : ℕ) : FVec F S1024x512 .bf16 :=
  shapeCast S1024x512 (Gen.k0_pay5 (accV c V b) (oldV c V b) (shapeCast S1x1x512 (scaV c V b) (by decide))) Gen.shapeCasts_S1x1024x512_S1024x512
/-- The partial sums of squares trip `b` writes. -/
def sqsV (b : ℕ) : FVec F S1024x128 .f32 :=
  shapeCast S1024x128 (Gen.k0_pay6 (accV c V b) (oldV c V b)) Gen.shapeCasts_S1x1024x128_S1024x128

/-- The tile an element lies in, when tiles are `w` wide. -/
def tileOf (w : ℕ) {C : ℕ} (x : (⟨2, ![16384, C]⟩ : Shape).Idx) : ℕ := (x 0).val / 1024 * 8 + (x 1).val / w

/-- An element's place in its tile. -/
def inTile (w : ℕ) (hw : 0 < w) {C : ℕ} (x : (⟨2, ![16384, C]⟩ : Shape).Idx) : (⟨2, ![1024, w]⟩ : Shape).Idx :=
  fun a => match a with
    | ⟨0, _⟩ => ⟨(x 0).val % 1024, Nat.mod_lt _ (by decide)⟩
    | ⟨1, _⟩ => ⟨(x 1).val % w, Nat.mod_lt _ hw⟩

/-- An array put together from its tiles. -/
def spread (w : ℕ) (hw : 0 < w) {C : ℕ} {α : Type} (val : ℕ → (⟨2, ![1024, w]⟩ : Shape).Idx → α) (x : (⟨2, ![16384, C]⟩ : Shape).Idx) : α :=
  val (tileOf w x) (inTile w hw x)

/-- The first result. -/
def sumG : S16384x4096.Idx → Elt F .f32 := spread 512 (by decide) (sumV c V)
/-- The second result. -/
def prdG : S16384x4096.Idx → Elt F .bf16 := spread 512 (by decide) (prdV c V)
/-- The third result. -/
def sqsG : S16384x1024.Idx → Elt F .f32 := spread 128 (by decide) (sqsV c V)

/-- The ring of the first result in the roles `ρ`. -/
abbrev SumAt (ρ : Fin 2 → Role) : sProp 𝕄 :=
  WrAt c (Memref.whole cc0_scoped12 : Memref sig .tc .vmem S2x1024x512 _) (fun i => at3 i) S1x1024x512.size at3_Sum
    (Memref.whole main_v2_0 : Memref sig .tc .hbm _ _) (tilOff 512) S1024x512.size tilOff_inb Gen.squeezes_S1x1024x512_S1024x512 (sem2 cc0_scoped13) (sumG c V) ρ
/-- The array of the first result, where tiles below `a` are written and tiles from `b` on not yet started. -/
abbrev SumOut (a b : ℕ) : sProp 𝕄 :=
  Out c (Memref.whole main_v2_0 : Memref sig .tc .hbm S16384x4096 _) (sumG c V) (fun a => Finset.univ.filter fun x => tileOf 512 x < a)
    (fun b => Finset.univ.filter fun x => b ≤ tileOf 512 x) a b

/-- The ring of the second result in the roles `ρ`. -/
abbrev PrdAt (ρ : Fin 2 → Role) : sProp 𝕄 :=
  WrAt c (Memref.whole cc0_scoped14 : Memref sig .tc .vmem S2x1024x512 _) (fun i => at3 i) S1x1024x512.size at3_Prd
    (Memref.whole main_v2_1 : Memref sig .tc .hbm _ _) (tilOff 512) S1024x512.size tilOff_inb Gen.squeezes_S1x1024x512_S1024x512 (sem2 cc0_scoped15) (prdG c V) ρ
/-- The array of the second result, where tiles below `a` are written and tiles from `b` on not yet started. -/
abbrev PrdOut (a b : ℕ) : sProp 𝕄 :=
  Out c (Memref.whole main_v2_1 : Memref sig .tc .hbm S16384x4096 _) (prdG c V) (fun a => Finset.univ.filter fun x => tileOf 512 x < a)
    (fun b => Finset.univ.filter fun x => b ≤ tileOf 512 x) a b

/-- The ring of the third result in the roles `ρ`. -/
abbrev SqsAt (ρ : Fin 2 → Role) : sProp 𝕄 :=
  WrAt c (Memref.whole cc0_scoped16 : Memref sig .tc .vmem S2x1024x128 _) (fun i => at3 i) S1x1024x128.size at3_Sqs
    (Memref.whole main_v2_2 : Memref sig .tc .hbm _ _) (tilOff 128) S1024x128.size sumOff_inb Gen.squeezes_S1x1024x128_S1024x128 (sem2 cc0_scoped17) (sqsG c V) ρ
/-- The array of the third result, where tiles below `a` are written and tiles from `b` on not yet started. -/
abbrev SqsOut (a b : ℕ) : sProp 𝕄 :=
  Out c (Memref.whole main_v2_2 : Memref sig .tc .hbm S16384x1024 _) (sqsG c V) (fun a => Finset.univ.filter fun x => tileOf 128 x < a)
    (fun b => Finset.univ.filter fun x => b ≤ tileOf 128 x) a b

/-! ## The tiles partition the arrays -/

theorem mem_tile (w C : ℕ) (hw : w = 512 ∧ C = 4096 ∨ w = 128 ∧ C = 1024) (b : ℕ) (hb : b < 128)
    (inb : ∀ a, tilOff w b a + (⟨2, ![1024, w]⟩ : Shape).size a ≤ (⟨2, ![16384, C]⟩ : Shape).size a) (x : (⟨2, ![16384, C]⟩ : Shape).Idx) :
    x ∈ (Rect.unit (s := ⟨2, ![16384, C]⟩) (tilOff w b) ![1024, w] inb).set ↔ tileOf w x = b := by
  rw [Rect.mem_set_unit]
  unfold tileOf
  have h0 : (x 0).val < 16384 := (x 0).isLt
  have h1 : (x 1).val < C := (x 1).isLt
  rw [Fin.forall_fin_two]
  simp only [tilOff, Matrix.cons_val_zero, Matrix.cons_val_one]
  rcases hw with ⟨rfl, rfl⟩ | ⟨rfl, rfl⟩ <;> constructor <;> intro h <;> omega

theorem spread_tile (w C : ℕ) (hw : w = 512 ∧ C = 4096 ∨ w = 128 ∧ C = 1024) (h0 : 0 < w) (b : ℕ) (hb : b < 128) {α : Type}
    (val : ℕ → (⟨2, ![1024, w]⟩ : Shape).Idx → α)
    (inb : ∀ a, tilOff w b a + (⟨2, ![1024, w]⟩ : Shape).size a ≤ (⟨2, ![16384, C]⟩ : Shape).size a) (y : (⟨2, ![1024, w]⟩ : Shape).Idx) :
    spread w h0 val ((Rect.unit (s := ⟨2, ![16384, C]⟩) (tilOff w b) ![1024, w] inb).emb y) = val b y := by
  have hy0 : (y 0).val < 1024 := (y 0).isLt
  have hy1 : (y 1).val < w := (y 1).isLt
  have e0 : ((Rect.unit (s := ⟨2, ![16384, C]⟩) (tilOff w b) ![1024, w] inb).emb y 0).val = 1024 * (b / 8 % 16) + 1 * (y 0).val := rfl
  have e1 : ((Rect.unit (s := ⟨2, ![16384, C]⟩) (tilOff w b) ![1024, w] inb).emb y 1).val = w * (b % 8) + 1 * (y 1).val := rfl
  have hb' : tileOf w ((Rect.unit (s := ⟨2, ![16384, C]⟩) (tilOff w b) ![1024, w] inb).emb y) = b := by
    unfold tileOf; rw [e0, e1]
    rcases hw with ⟨rfl, rfl⟩ | ⟨rfl, rfl⟩ <;> omega
  have hi : inTile w h0 ((Rect.unit (s := ⟨2, ![16384, C]⟩) (tilOff w b) ![1024, w] inb).emb y) = y := by
    funext a
    fin_cases a
    · refine Fin.ext ?_
      show ((Rect.unit (s := ⟨2, ![16384, C]⟩) (tilOff w b) ![1024, w] inb).emb y 0).val % 1024 = (y 0).val
      rw [e0]; omega
    · refine Fin.ext ?_
      show ((Rect.unit (s := ⟨2, ![16384, C]⟩) (tilOff w b) ![1024, w] inb).emb y 1).val % w = (y 1).val
      rw [e1]
      rcases hw with ⟨rfl, rfl⟩ | ⟨rfl, rfl⟩ <;> omega
  unfold spread
  rw [hb', hi]

theorem sum_read (b : ℕ) (hb : b < 128) :
    rdVal c (Memref.whole main_v2_0 : Memref sig .tc .hbm S16384x4096 _) (tilOff 512) S1024x512.size tilOff_inb (sumG c V) b = sumV c V b := by
  funext y
  exact spread_tile 512 4096 (.inl ⟨rfl, rfl⟩) (by decide) b hb (sumV c V) (tilOff_inb b) y
theorem sum_set (b : ℕ) (hb : b < 128) (x : S16384x4096.Idx) :
    x ∈ (blkM (Memref.whole main_v2_0 : Memref sig .tc .hbm S16384x4096 _) ((tilOff 512) b) S1024x512.size (tilOff_inb b)).view.set ↔ tileOf 512 x = b := by
  have h : (blkM (Memref.whole main_v2_0 : Memref sig .tc .hbm S16384x4096 _) ((tilOff 512) b) S1024x512.size (tilOff_inb b)).view.set
      = (Rect.unit (s := S16384x4096) ((tilOff 512) b) S1024x512.size (tilOff_inb b)).set := View.set_slice_whole _ _
  rw [h]
  exact mem_tile 512 4096 (.inl ⟨rfl, rfl⟩) b hb (tilOff_inb b) x

theorem prd_read (b : ℕ) (hb : b < 128) :
    rdVal c (Memref.whole main_v2_1 : Memref sig .tc .hbm S16384x4096 _) (tilOff 512) S1024x512.size tilOff_inb (prdG c V) b = prdV c V b := by
  funext y
  exact spread_tile 512 4096 (.inl ⟨rfl, rfl⟩) (by decide) b hb (prdV c V) (tilOff_inb b) y
theorem prd_set (b : ℕ) (hb : b < 128) (x : S16384x4096.Idx) :
    x ∈ (blkM (Memref.whole main_v2_1 : Memref sig .tc .hbm S16384x4096 _) ((tilOff 512) b) S1024x512.size (tilOff_inb b)).view.set ↔ tileOf 512 x = b := by
  have h : (blkM (Memref.whole main_v2_1 : Memref sig .tc .hbm S16384x4096 _) ((tilOff 512) b) S1024x512.size (tilOff_inb b)).view.set
      = (Rect.unit (s := S16384x4096) ((tilOff 512) b) S1024x512.size (tilOff_inb b)).set := View.set_slice_whole _ _
  rw [h]
  exact mem_tile 512 4096 (.inl ⟨rfl, rfl⟩) b hb (tilOff_inb b) x

theorem sqs_read (b : ℕ) (hb : b < 128) :
    rdVal c (Memref.whole main_v2_2 : Memref sig .tc .hbm S16384x1024 _) (tilOff 128) S1024x128.size sumOff_inb (sqsG c V) b = sqsV c V b := by
  funext y
  exact spread_tile 128 1024 (.inr ⟨rfl, rfl⟩) (by decide) b hb (sqsV c V) (sumOff_inb b) y
theorem sqs_set (b : ℕ) (hb : b < 128) (x : S16384x1024.Idx) :
    x ∈ (blkM (Memref.whole main_v2_2 : Memref sig .tc .hbm S16384x1024 _) ((tilOff 128) b) S1024x128.size (sumOff_inb b)).view.set ↔ tileOf 128 x = b := by
  have h : (blkM (Memref.whole main_v2_2 : Memref sig .tc .hbm S16384x1024 _) ((tilOff 128) b) S1024x128.size (sumOff_inb b)).view.set
      = (Rect.unit (s := S16384x1024) ((tilOff 128) b) S1024x128.size (sumOff_inb b)).set := View.set_slice_whole _ _
  rw [h]
  exact mem_tile 128 1024 (.inr ⟨rfl, rfl⟩) b hb (sumOff_inb b) x

end Cert.KernelIdeal.Pipe
-- ==== Proof.Trip.lean ====
module

public import proofs.«01_k».proof.Proof.Control
public import proofs.«01_k».proof.Proof.Rings
public import proofs.«01_k».proof.Proof.Gen.KernelIdeal.Frame
public import proofs.«01_k».proof.Proof.Stage

/-!
# One trip of the pipelined projection

A trip starts the transfers of later blocks, waits for its own, computes its tile of each result, starts their write-back
and waits for the write-back of the trip before.
-/

@[expose] public section

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-! ## The offsets of a trip's blocks -/

theorem blk18 : ∀ k : Fin k0_t1_loop.trips, k.val % 8 = 7 ∧ k.val < 127 → k0_off18 (wI k) (wJ k) = rowOff (k.val / 8 + 1) := by decide +kernel
theorem blk21 : ∀ k : Fin k0_t1_loop.trips, k.val % 8 = 7 ∧ k.val < 127 → k0_off21 (wI k) (wJ k) = rowOff (k.val / 8 + 1) := by decide +kernel
theorem blk24 : ∀ k : Fin k0_t1_loop.trips, k.val < 126 → k0_off24 (wJ k) = colOff (k + 2) := by decide +kernel
theorem blk27 : ∀ k : Fin k0_t1_loop.trips, k.val < 126 → k0_off27 (wJ k) = lowOff (k + 2) := by decide +kernel
theorem blk30 : ∀ k : Fin k0_t1_loop.trips, k.val < 126 → k0_off30 (wI k) (wJ k) = tilOff 512 (k + 2) := by decide +kernel
theorem blk33 : ∀ k : Fin k0_t1_loop.trips, k.val < 127 → k0_off33 (wJ k) = colOff (k + 1) := by decide +kernel
theorem blk62 : ∀ k : Fin k0_t1_loop.trips, True → k0_off62 (wI k) (wJ k) = tilOff 512 k := by decide +kernel
theorem blk65 : ∀ k : Fin k0_t1_loop.trips, True → k0_off65 (wI k) (wJ k) = tilOff 512 k := by decide +kernel
theorem blk68 : ∀ k : Fin k0_t1_loop.trips, True → k0_off68 (wI k) (wJ k) = tilOff 128 k := by decide +kernel

/-! ## Steps that touch no memory -/

section Steps

variable (c : Dev nD) {Λ : Labels} {defs : Defs nD τ sig (Elt F) Λ} {𝒱 : Variants} {bd : Option 𝒱.V} {α β : Type}
  {Q : α → sProp (MT nD τ sig Unit (Elt F) ℕ (Pipeline.UC sig nD τ) ℕ)}

theorem assume_bind {P : Prop} {d : Decidable P} {k : PLift P → Prog (TpuEff nD τ sig (Elt F) Λ .tc) α} (h : P) :
    wp frame (wpE defs 𝒱 (c : Thread nD τ) bd) Set.univ (Prog.lift (.assume P d) >>= k) Q
      = wp frame (wpE defs 𝒱 (c : Thread nD τ) bd) Set.univ (k ⟨h⟩) Q :=
  wp_assume_of (c := (c : Thread nD τ)) (k := k) 𝒱 bd Set.univ h

theorem pure_then (a : β) {K : β → Prog (TpuEff nD τ sig (Elt F) Λ .tc) α} :
    wp frame (wpE defs 𝒱 (c : Thread nD τ) bd) Set.univ (Pure.pure a) (fun r => wp frame (wpE defs 𝒱 (c : Thread nD τ) bd) Set.univ (K r) Q)
      = wp frame (wpE defs 𝒱 (c : Thread nD τ) bd) Set.univ (K a) Q :=
  (wp_bind (p := Pure.pure a) (k := K) (Q := Q) _ _ _).symm

theorem pure_done (a : α) :
    Q a ⊢ wp frame (wpE defs 𝒱 (c : Thread nD τ) bd) Set.univ (Pure.pure a) Q := Idealize.SL.BI.fupd_intro

theorem pure_done_eq {a : α} (b : α) :
    Q b ⊢ iprop(⌜a = b⌝ -∗ wp frame (wpE defs 𝒱 (c : Thread nD τ) bd) Set.univ (Pure.pure a) Q) := by
  iintro H %h
  subst h
  iapply (pure_done c a) $$ H

end Steps

/-- A set of the elements of tile `b` splits off the elements from tile `b` on, and adds to those below. -/
theorem tile_facts {ι : Type} [Fintype ι] [DecidableEq ι] (t : ι → ℕ) (S : Finset ι) (b : ℕ) (h : ∀ x, x ∈ S ↔ t x = b) :
    (S ⊆ Finset.univ.filter fun x => b ≤ t x) ∧ ((Finset.univ.filter fun x => b ≤ t x) \ S = Finset.univ.filter fun x => b + 1 ≤ t x)
      ∧ Disjoint (Finset.univ.filter fun x => t x < b) S ∧ ((Finset.univ.filter fun x => t x < b) ∪ S = Finset.univ.filter fun x => t x < b + 1) := by
  refine ⟨fun x hx => ?_, ?_, ?_, ?_⟩
  · simp [(h x).1 hx]
  · ext x; simp only [Finset.mem_sdiff, Finset.mem_filter, Finset.mem_univ, true_and, h]; omega
  · rw [Finset.disjoint_left]; intro x hx hs
    have := (h x).1 hs
    simp only [Finset.mem_filter, Finset.mem_univ, true_and] at hx; omega
  · ext x; simp only [Finset.mem_union, Finset.mem_filter, Finset.mem_univ, true_and, h]; omega

/-- What reads `v` reshaped is `v` reshaped back. -/
theorem eq_back {s t : Shape} {α : Type} {w : s.Idx → α} {v : t.Idx → α} (h : s.ShapeCasts t) (h' : t.ShapeCasts s)
    (hw : shapeCast t w h = v) : w = shapeCast s v h' := by
  rw [← hw, shapeCast_shapeCast]

/-! ## One trip -/

variable (c : Dev nD) (V : (b : Ref sig .tc) → Buf (Elt F) ((c : Thread nD τ).loc b))

/-- What a trip starts from: each ring in its roles before trip `k`, each result's array written below tile `k - 1` and not
    yet started from tile `k` on. -/
def Inv (k : ℕ) : sProp 𝕄 :=
  iprop(RetAt c V (row0 k) ∗ LruAt c V (row0 k) ∗ UpAt c V (til0 k) ∗ LowAt c V (til0 k) ∗ ResAt c V (til0 k) ∗ ScaAt c V (sca0 k) ∗ SumAt c V (out0 k) ∗ SumOut c V (k - 1) k ∗ PrdAt c V (out0 k) ∗ PrdOut c V (k - 1) k ∗ SqsAt c V (out0 k) ∗ SqsOut c V (k - 1) k ∗ Owes c)

set_option maxHeartbeats 4000000 in
/-- One trip of the loop. -/
theorem trip (k : Fin k0_t1_loop.trips) (v23 v24 v51 v58 v65 v72 v79 v86 : BitVec 32) (v88 : BitVec 1) (v90 v91 : BitVec 32)
    (Q : BitVec 32 × BitVec 32 × BitVec 32 × BitVec 32 × BitVec 32 × BitVec 32 × BitVec 32 × BitVec 32 × BitVec 32 × BitVec 32
      × BitVec 32 × BitVec 32 × BitVec 32 × BitVec 32 × BitVec 32 × BitVec 32 × BitVec 32 × BitVec 32 × BitVec 32 × BitVec 32 → sProp 𝕄) :
    Inv c V k ⊢ iprop((Inv c V (k + 1) -∗ Q (words (k + 1))) -∗ wp Idealize.ShloMosaic.frame (wpE defs₀ (Variants.none) (c : Thread nD τ) none) Set.univ
      (Gen.k0_t1_body (F := F) (Memref.whole main_arg0) (Memref.isWhole_whole _) (Memref.whole main_arg1) (Memref.isWhole_whole _) (Memref.whole main_arg2) (Memref.isWhole_whole _) (Memref.whole main_arg2) (Memref.isWhole_whole _) (Memref.whole main_arg3) (Memref.isWhole_whole _) (Memref.whole main_v1) (Memref.isWhole_whole _) (Memref.whole main_v2_0) (Memref.isWhole_whole _) (Memref.whole main_v2_1) (Memref.isWhole_whole _) (Memref.whole main_v2_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17
        v23 v24 v51 v58 v65 v72 v79 v86 v88 v90 v91 k (words k)) Q) := by
  have hk : k.val < 128 := k.isLt
  have hk' : k.val - 1 < 128 := by omega
  generalize hw : words (k + 1) = w
  unfold Gen.k0_t1_body
  dsimp only [words]
  rw [wp_bind]
  rw [Gen.k0_part1_eq_skeleton]; unfold Gen.k0_part1_skel
  dsimp only [bind_assoc]
  rw [assume_bind c (chk10 k), assume_bind c (chk9 k), assume_bind c (chk8 k), assume_bind c (chk7 k), assume_bind c (chk6 k),
    assume_bind c (chk5 k), assume_bind c (chk4 k), assume_bind c (chk3 k), assume_bind c (chk2 k), assume_bind c (chk1 k)]
  rw [pure_then]
  dsimp only
  rw [Inv]
  iintro ⟨HRet, HLru, HUp, HLow, HRes, HSca, HSum, GSum, HPrd, GPrd, HSqs, GSqs, HO⟩ HQ
  rw [wp_bind]
  rw [Gen.k0_part2_eq_skeleton]; unfold Gen.k0_part2_skel
  dsimp only
  try simp only [ite_self]
  iapply (rd_issue_if (c := c) (M := (Memref.whole cc0_scoped0 : Memref sig .tc .vmem S2x1024x2048 _)) (offM := (fun i => at3 i)) (size := S1x1024x2048.size) (inbM := at3_Ret) (X := (Memref.whole main_arg0 : Memref sig .tc .hbm _ _)) (offX := rowOff) (sizeX := S1024x2048.size) (inbX := rowOff_inb) (hq := Gen.squeezes_S1x1024x2048_S1024x2048) (sem := (sem2 cc0_scoped1)) (q := qHalf) (fX := (V main_arg0)) (f2 (k.val / 8 + 1)) (k.val / 8 + 1)
    (fun h => (row_issue k).1 ((cond4 k).1 h)) (fun h => (row_issue k).2 (fun h' => h ((cond4 k).2 h')))
    (so := fun _ => k0_off18 (wI k) (wJ k)) (do' := fun _ => k0_off17 (wA k))
    (fun h => blk18 k ((cond4 k).1 h)) (fun h => off17 k ((cond4 k).1 h))
    (fun h => congrArg SemLoc.dma (sem2_eq cc0_scoped1 (f2 (k.val / 8 + 1)) (off16 k ((cond4 k).1 h)) _ _)) (by decide)) $$ [HRet]
  · iexact HRet
  iintro HRet
  rw [pure_then]
  dsimp only
  rw [wp_bind]
  rw [Gen.k0_part3_eq_skeleton]; unfold Gen.k0_part3_skel
  dsimp only
  try simp only [ite_self]
  iapply (rd_issue_if (c := c) (M := (Memref.whole cc0_scoped2 : Memref sig .tc .vmem S2x1024x2048 _)) (offM := (fun i => at3 i)) (size := S1x1024x2048.size) (inbM := at3_Lru) (X := (Memref.whole main_arg1 : Memref sig .tc .hbm _ _)) (offX := rowOff) (sizeX := S1024x2048.size) (inbX := rowOff_inb) (hq := Gen.squeezes_S1x1024x2048_S1024x2048) (sem := (sem2 cc0_scoped3)) (q := qHalf) (fX := (V main_arg1)) (f2 (k.val / 8 + 1)) (k.val / 8 + 1)
    (fun h => (row_issue k).1 ((cond5 k).1 h)) (fun h => (row_issue k).2 (fun h' => h ((cond5 k).2 h')))
    (so := fun _ => k0_off21 (wI k) (wJ k)) (do' := fun _ => k0_off20 (wA k))
    (fun h => blk21 k ((cond5 k).1 h)) (fun h => off20 k ((cond5 k).1 h))
    (fun h => congrArg SemLoc.dma (sem2_eq cc0_scoped3 (f2 (k.val / 8 + 1)) (off19 k ((cond5 k).1 h)) _ _)) (by decide)) $$ [HLru]
  · iexact HLru
  iintro HLru
  iapply (rd_issue_if (c := c) (M := (Memref.whole cc0_scoped4 : Memref sig .tc .vmem S3x2048x512 _)) (offM := (fun i => at3 i)) (size := S1x2048x512.size) (inbM := at3_Up) (X := (Memref.whole main_arg2 : Memref sig .tc .hbm _ _)) (offX := colOff) (sizeX := S2048x512.size) (inbX := colOff_inb) (hq := Gen.squeezes_S1x2048x512_S2048x512) (sem := (sem3 cc0_scoped5)) (q := qUp) (fX := (V main_arg2)) (f3 (k.val + 2)) (k.val + 2)
    (fun h => (til_issue k).1 ((cond6 k).1 h)) (fun h => (til_issue k).2 (fun h' => h ((cond6 k).2 h')))
    (so := fun _ => k0_off24 (wJ k)) (do' := fun _ => k0_off23 (wC k))
    (fun h => blk24 k ((cond6 k).1 h)) (fun h => off23 k ((cond6 k).1 h))
    (fun h => congrArg SemLoc.dma (sem3_eq cc0_scoped5 (f3 (k.val + 2)) (off22 k ((cond6 k).1 h)) _ _)) (by decide)) $$ [HUp]
  · iexact HUp
  iintro HUp
  iapply (rd_issue_if (c := c) (M := (Memref.whole cc0_scoped6 : Memref sig .tc .vmem S3x2048x512 _)) (offM := (fun i => at3 i)) (size := S1x2048x512.size) (inbM := at3_Low) (X := (Memref.whole main_arg2 : Memref sig .tc .hbm _ _)) (offX := lowOff) (sizeX := S2048x512.size) (inbX := lowOff_inb) (hq := Gen.squeezes_S1x2048x512_S2048x512) (sem := (sem3 cc0_scoped7)) (q := qLow) (fX := (V main_arg2)) (f3 (k.val + 2)) (k.val + 2)
    (fun h => (til_issue k).1 ((cond7 k).1 h)) (fun h => (til_issue k).2 (fun h' => h ((cond7 k).2 h')))
    (so := fun _ => k0_off27 (wJ k)) (do' := fun _ => k0_off26 (wC k))
    (fun h => blk27 k ((cond7 k).1 h)) (fun h => off26 k ((cond7 k).1 h))
    (fun h => congrArg SemLoc.dma (sem3_eq cc0_scoped7 (f3 (k.val + 2)) (off25 k ((cond7 k).1 h)) _ _)) (by decide)) $$ [HLow]
  · iexact HLow
  iintro HLow
  iapply (rd_issue_if (c := c) (M := (Memref.whole cc0_scoped8 : Memref sig .tc .vmem S3x1024x512 _)) (offM := (fun i => at3 i)) (size := S1x1024x512.size) (inbM := at3_Res) (X := (Memref.whole main_arg3 : Memref sig .tc .hbm _ _)) (offX := (tilOff 512)) (sizeX := S1024x512.size) (inbX := tilOff_inb) (hq := Gen.squeezes_S1x1024x512_S1024x512) (sem := (sem3 cc0_scoped9)) (q := qThird) (fX := (V main_arg3)) (f3 (k.val + 2)) (k.val + 2)
    (fun h => (til_issue k).1 ((cond8 k).1 h)) (fun h => (til_issue k).2 (fun h' => h ((cond8 k).2 h')))
    (so := fun _ => k0_off30 (wI k) (wJ k)) (do' := fun _ => k0_off29 (wC k))
    (fun h => blk30 k ((cond8 k).1 h)) (fun h => off29 k ((cond8 k).1 h))
    (fun h => congrArg SemLoc.dma (sem3_eq cc0_scoped9 (f3 (k.val + 2)) (off28 k ((cond8 k).1 h)) _ _)) (by decide)) $$ [HRes]
  · iexact HRes
  iintro HRes
  rw [pure_then]
  dsimp only
  rw [wp_bind]
  rw [Gen.k0_part4_eq_skeleton]; unfold Gen.k0_part4_skel
  dsimp only
  try simp only [ite_self]
  iapply (rd_issue_if (c := c) (M := (Memref.whole cc0_scoped10 : Memref sig .tc .vmem S2x1x512 _)) (offM := (fun i => at3 i)) (size := S1x1x512.size) (inbM := at3_Sca) (X := (Memref.whole main_v1 : Memref sig .tc .hbm _ _)) (offX := colOff) (sizeX := S1x512.size) (inbX := scaOff_inb) (hq := Gen.squeezes_S1x1x512_S1x512) (sem := (sem2 cc0_scoped11)) (q := qHalf) (fX := (V main_v1)) (f2 (k.val + 1)) (k.val + 1)
    (fun h => (sca_issue k).1 ((cond9 k).1 h)) (fun h => (sca_issue k).2 (fun h' => h ((cond9 k).2 h')))
    (so := fun _ => k0_off33 (wJ k)) (do' := fun _ => k0_off32 (wE k))
    (fun h => blk33 k ((cond9 k).1 h)) (fun h => off32 k ((cond9 k).1 h))
    (fun h => congrArg SemLoc.dma (sem2_eq cc0_scoped11 (f2 (k.val + 1)) (off31 k ((cond9 k).1 h)) _ _)) (by decide)) $$ [HSca]
  · iexact HSca
  iintro HSca
  iapply (rd_wait_if (c := c) (M := (Memref.whole cc0_scoped0 : Memref sig .tc .vmem S2x1024x2048 _)) (offM := (fun i => at3 i)) (size := S1x1024x2048.size) (inbM := at3_Ret) (X := (Memref.whole main_arg0 : Memref sig .tc .hbm _ _)) (offX := rowOff) (sizeX := S1024x2048.size) (inbX := rowOff_inb) (hq := Gen.squeezes_S1x1024x2048_S1024x2048) (sem := (sem2 cc0_scoped1)) (q := qHalf) (fX := (V main_arg0)) (f2 (k.val / 8)) (k.val / 8)
    (fun h => (row_wait k).1 ((cond10 k).1 h)) (fun h => (row_wait k).2 (fun h' => h ((cond10 k).2 h')))
    (fun h => sem2_eq cc0_scoped1 (f2 (k.val / 8)) (off34 k) _ _) (fun _ => rfl)) $$ [HRet HO]
  · isplitl [HRet]
    · iexact HRet
    · iexact HO
  iintro ⟨HRet, HO⟩
  rw [pure_then]
  dsimp only
  rw [wp_bind]
  rw [Gen.k0_part5_eq_skeleton]; unfold Gen.k0_part5_skel
  dsimp only
  try simp only [ite_self]
  iapply (rd_wait_if (c := c) (M := (Memref.whole cc0_scoped2 : Memref sig .tc .vmem S2x1024x2048 _)) (offM := (fun i => at3 i)) (size := S1x1024x2048.size) (inbM := at3_Lru) (X := (Memref.whole main_arg1 : Memref sig .tc .hbm _ _)) (offX := rowOff) (sizeX := S1024x2048.size) (inbX := rowOff_inb) (hq := Gen.squeezes_S1x1024x2048_S1024x2048) (sem := (sem2 cc0_scoped3)) (q := qHalf) (fX := (V main_arg1)) (f2 (k.val / 8)) (k.val / 8)
    (fun h => (row_wait k).1 ((cond11 k).1 h)) (fun h => (row_wait k).2 (fun h' => h ((cond11 k).2 h')))
    (fun h => sem2_eq cc0_scoped3 (f2 (k.val / 8)) (off37 k) _ _) (fun _ => rfl)) $$ [HLru HO]
  · isplitl [HLru]
    · iexact HLru
    · iexact HO
  iintro ⟨HLru, HO⟩
  iapply (rd_wait_if (c := c) (M := (Memref.whole cc0_scoped4 : Memref sig .tc .vmem S3x2048x512 _)) (offM := (fun i => at3 i)) (size := S1x2048x512.size) (inbM := at3_Up) (X := (Memref.whole main_arg2 : Memref sig .tc .hbm _ _)) (offX := colOff) (sizeX := S2048x512.size) (inbX := colOff_inb) (hq := Gen.squeezes_S1x2048x512_S2048x512) (sem := (sem3 cc0_scoped5)) (q := qUp) (fX := (V main_arg2)) (f3 (k.val)) (k.val)
    (fun _ => til_wait k) (fun h => absurd (cond12 k) h)
    (fun h => sem3_eq cc0_scoped5 (f3 (k.val)) (off40 k) _ _) (fun _ => rfl)) $$ [HUp HO]
  · isplitl [HUp]
    · iexact HUp
    · iexact HO
  iintro ⟨HUp, HO⟩
  iapply (rd_wait_if (c := c) (M := (Memref.whole cc0_scoped6 : Memref sig .tc .vmem S3x2048x512 _)) (offM := (fun i => at3 i)) (size := S1x2048x512.size) (inbM := at3_Low) (X := (Memref.whole main_arg2 : Memref sig .tc .hbm _ _)) (offX := lowOff) (sizeX := S2048x512.size) (inbX := lowOff_inb) (hq := Gen.squeezes_S1x2048x512_S2048x512) (sem := (sem3 cc0_scoped7)) (q := qLow) (fX := (V main_arg2)) (f3 (k.val)) (k.val)
    (fun _ => til_wait k) (fun h => absurd (cond13 k) h)
    (fun h => sem3_eq cc0_scoped7 (f3 (k.val)) (off43 k) _ _) (fun _ => rfl)) $$ [HLow HO]
  · isplitl [HLow]
    · iexact HLow
    · iexact HO
  iintro ⟨HLow, HO⟩
  iapply (rd_wait_if (c := c) (M := (Memref.whole cc0_scoped8 : Memref sig .tc .vmem S3x1024x512 _)) (offM := (fun i => at3 i)) (size := S1x1024x512.size) (inbM := at3_Res) (X := (Memref.whole main_arg3 : Memref sig .tc .hbm _ _)) (offX := (tilOff 512)) (sizeX := S1024x512.size) (inbX := tilOff_inb) (hq := Gen.squeezes_S1x1024x512_S1024x512) (sem := (sem3 cc0_scoped9)) (q := qThird) (fX := (V main_arg3)) (f3 (k.val)) (k.val)
    (fun _ => til_wait k) (fun h => absurd (cond14 k) h)
    (fun h => sem3_eq cc0_scoped9 (f3 (k.val)) (off46 k) _ _) (fun _ => rfl)) $$ [HRes HO]
  · isplitl [HRes]
    · iexact HRes
    · iexact HO
  iintro ⟨HRes, HO⟩
  iapply (rd_wait_if (c := c) (M := (Memref.whole cc0_scoped10 : Memref sig .tc .vmem S2x1x512 _)) (offM := (fun i => at3 i)) (size := S1x1x512.size) (inbM := at3_Sca) (X := (Memref.whole main_v1 : Memref sig .tc .hbm _ _)) (offX := colOff) (sizeX := S1x512.size) (inbX := scaOff_inb) (hq := Gen.squeezes_S1x1x512_S1x512) (sem := (sem2 cc0_scoped11)) (q := qHalf) (fX := (V main_v1)) (f2 (k.val)) (k.val)
    (fun _ => sca_wait k) (fun h => absurd (cond15 k) h)
    (fun h => sem2_eq cc0_scoped11 (f2 (k.val)) (off49 k) _ _) (fun _ => rfl)) $$ [HSca HO]
  · isplitl [HSca]
    · iexact HSca
    · iexact HO
  iintro ⟨HSca, HO⟩
  rw [pure_then]
  dsimp only
  rw [wp_bind]
  rw [Gen.k0_part6_eq_skeleton]; unfold Gen.k0_part6_skel
  dsimp only
  try simp only [ite_self]
  iapply (rd_load (c := c) (M := (Memref.whole cc0_scoped0 : Memref sig .tc .vmem S2x1024x2048 _)) (offM := (fun i => at3 i)) (size := S1x1024x2048.size) (inbM := at3_Ret) (X := (Memref.whole main_arg0 : Memref sig .tc .hbm _ _)) (offX := rowOff) (sizeX := S1024x2048.size) (inbX := rowOff_inb) (hq := Gen.squeezes_S1x1024x2048_S1024x2048) (sem := (sem2 cc0_scoped1)) (q := qHalf) (fX := (V main_arg0)) (f2 (k.val / 8)) (k.val / 8) (row_has k) (off52 k) Gen.shapeCasts_S1x1024x2048_S1024x2048) $$ [HRet]
  · iexact HRet
  iintro %wRet %hRet HRet
  obtain rfl : wRet = shapeCast S1x1024x2048 (retV c V (k.val / 8)) (by decide) :=
    eq_back _ _ hRet
  iapply (rd_load (c := c) (M := (Memref.whole cc0_scoped4 : Memref sig .tc .vmem S3x2048x512 _)) (offM := (fun i => at3 i)) (size := S1x2048x512.size) (inbM := at3_Up) (X := (Memref.whole main_arg2 : Memref sig .tc .hbm _ _)) (offX := colOff) (sizeX := S2048x512.size) (inbX := colOff_inb) (hq := Gen.squeezes_S1x2048x512_S2048x512) (sem := (sem3 cc0_scoped5)) (q := qUp) (fX := (V main_arg2)) (f3 (k.val)) (k.val) (til_has k) (off53 k) Gen.shapeCasts_S1x2048x512_S2048x512) $$ [HUp]
  · iexact HUp
  iintro %wUp %hUp HUp
  obtain rfl : wUp = shapeCast S1x2048x512 (upV c V (k.val)) (by decide) :=
    eq_back _ _ hUp
  iapply (rd_load (c := c) (M := (Memref.whole cc0_scoped2 : Memref sig .tc .vmem S2x1024x2048 _)) (offM := (fun i => at3 i)) (size := S1x1024x2048.size) (inbM := at3_Lru) (X := (Memref.whole main_arg1 : Memref sig .tc .hbm _ _)) (offX := rowOff) (sizeX := S1024x2048.size) (inbX := rowOff_inb) (hq := Gen.squeezes_S1x1024x2048_S1024x2048) (sem := (sem2 cc0_scoped3)) (q := qHalf) (fX := (V main_arg1)) (f2 (k.val / 8)) (k.val / 8) (row_has k) (off54 k) Gen.shapeCasts_S1x1024x2048_S1024x2048) $$ [HLru]
  · iexact HLru
  iintro %wLru %hLru HLru
  obtain rfl : wLru = shapeCast S1x1024x2048 (lruV c V (k.val / 8)) (by decide) :=
    eq_back _ _ hLru
  iapply (rd_load (c := c) (M := (Memref.whole cc0_scoped6 : Memref sig .tc .vmem S3x2048x512 _)) (offM := (fun i => at3 i)) (size := S1x2048x512.size) (inbM := at3_Low) (X := (Memref.whole main_arg2 : Memref sig .tc .hbm _ _)) (offX := lowOff) (sizeX := S2048x512.size) (inbX := lowOff_inb) (hq := Gen.squeezes_S1x2048x512_S2048x512) (sem := (sem3 cc0_scoped7)) (q := qLow) (fX := (V main_arg2)) (f3 (k.val)) (k.val) (til_has k) (off55 k) Gen.shapeCasts_S1x2048x512_S2048x512) $$ [HLow]
  · iexact HLow
  iintro %wLow %hLow HLow
  obtain rfl : wLow = shapeCast S1x2048x512 (lowV c V (k.val)) (by decide) :=
    eq_back _ _ hLow
  iapply (rd_load (c := c) (M := (Memref.whole cc0_scoped8 : Memref sig .tc .vmem S3x1024x512 _)) (offM := (fun i => at3 i)) (size := S1x1024x512.size) (inbM := at3_Res) (X := (Memref.whole main_arg3 : Memref sig .tc .hbm _ _)) (offX := (tilOff 512)) (sizeX := S1024x512.size) (inbX := tilOff_inb) (hq := Gen.squeezes_S1x1024x512_S1024x512) (sem := (sem3 cc0_scoped9)) (q := qThird) (fX := (V main_arg3)) (f3 (k.val)) (k.val) (til_has k) (off56 k) Gen.shapeCasts_S1x1024x512_S1024x512) $$ [HRes]
  · iexact HRes
  iintro %wRes %hRes HRes
  obtain rfl : wRes = shapeCast S1x1024x512 (resV c V (k.val)) (by decide) :=
    eq_back _ _ hRes
  rw [pure_then]
  dsimp only
  rw [wp_bind]
  rw [Gen.k0_part7_eq_skeleton]; unfold Gen.k0_part7_skel
  dsimp only
  try simp only [ite_self]
  iapply (wr_load (c := c) (M := (Memref.whole cc0_scoped12 : Memref sig .tc .vmem S2x1024x512 _)) (offM := (fun i => at3 i)) (size := S1x1024x512.size) (inbM := at3_Sum) (X := (Memref.whole main_v2_0 : Memref sig .tc .hbm _ _)) (offX := (tilOff 512)) (sizeX := S1024x512.size) (inbX := tilOff_inb) (hq := Gen.squeezes_S1x1024x512_S1024x512) (sem := (sem2 cc0_scoped13)) (fX := (sumG c V)) (f2 k) (out_store k).1 (off57 k) Gen.shapeCasts_S1x1024x512_S1024x512) $$ [HSum]
  · iexact HSum
  iintro %wSum - HSum
  iapply (wr_store (c := c) (M := (Memref.whole cc0_scoped12 : Memref sig .tc .vmem S2x1024x512 _)) (offM := (fun i => at3 i)) (size := S1x1024x512.size) (inbM := at3_Sum) (X := (Memref.whole main_v2_0 : Memref sig .tc .hbm _ _)) (offX := (tilOff 512)) (sizeX := S1024x512.size) (inbX := tilOff_inb) (hq := Gen.squeezes_S1x1024x512_S1024x512) (sem := (sem2 cc0_scoped13)) (fX := (sumG c V)) (f2 k) k.val (out_store k).1 (out_store k).2 (off57 k) Gen.shapeCasts_S1x1024x512_S1024x512
    (by rw [sum_read c V k hk]; rfl)) $$ [HSum]
  · iexact HSum
  iintro HSum
  iapply (rd_load (c := c) (M := (Memref.whole cc0_scoped10 : Memref sig .tc .vmem S2x1x512 _)) (offM := (fun i => at3 i)) (size := S1x1x512.size) (inbM := at3_Sca) (X := (Memref.whole main_v1 : Memref sig .tc .hbm _ _)) (offX := colOff) (sizeX := S1x512.size) (inbX := scaOff_inb) (hq := Gen.squeezes_S1x1x512_S1x512) (sem := (sem2 cc0_scoped11)) (q := qHalf) (fX := (V main_v1)) (f2 (k.val)) (k.val) (sca_has k) (off58 k) Gen.shapeCasts_S1x1x512_S1x512) $$ [HSca]
  · iexact HSca
  iintro %wSca %hSca HSca
  obtain rfl : wSca = shapeCast S1x1x512 (scaV c V (k.val)) (by decide) :=
    eq_back _ _ hSca
  iapply (wr_load (c := c) (M := (Memref.whole cc0_scoped14 : Memref sig .tc .vmem S2x1024x512 _)) (offM := (fun i => at3 i)) (size := S1x1024x512.size) (inbM := at3_Prd) (X := (Memref.whole main_v2_1 : Memref sig .tc .hbm _ _)) (offX := (tilOff 512)) (sizeX := S1024x512.size) (inbX := tilOff_inb) (hq := Gen.squeezes_S1x1024x512_S1024x512) (sem := (sem2 cc0_scoped15)) (fX := (prdG c V)) (f2 k) (out_store k).1 (off59 k) Gen.shapeCasts_S1x1024x512_S1024x512) $$ [HPrd]
  · iexact HPrd
  iintro %wPrd - HPrd
  iapply (wr_store (c := c) (M := (Memref.whole cc0_scoped14 : Memref sig .tc .vmem S2x1024x512 _)) (offM := (fun i => at3 i)) (size := S1x1024x512.size) (inbM := at3_Prd) (X := (Memref.whole main_v2_1 : Memref sig .tc .hbm _ _)) (offX := (tilOff 512)) (sizeX := S1024x512.size) (inbX := tilOff_inb) (hq := Gen.squeezes_S1x1024x512_S1024x512) (sem := (sem2 cc0_scoped15)) (fX := (prdG c V)) (f2 k) k.val (out_store k).1 (out_store k).2 (off59 k) Gen.shapeCasts_S1x1024x512_S1024x512
    (by rw [prd_read c V k hk]; rfl)) $$ [HPrd]
  · iexact HPrd
  iintro HPrd
  iapply (wr_load (c := c) (M := (Memref.whole cc0_scoped16 : Memref sig .tc .vmem S2x1024x128 _)) (offM := (fun i => at3 i)) (size := S1x1024x128.size) (inbM := at3_Sqs) (X := (Memref.whole main_v2_2 : Memref sig .tc .hbm _ _)) (offX := (tilOff 128)) (sizeX := S1024x128.size) (inbX := sumOff_inb) (hq := Gen.squeezes_S1x1024x128_S1024x128) (sem := (sem2 cc0_scoped17)) (fX := (sqsG c V)) (f2 k) (out_store k).1 (off60 k) Gen.shapeCasts_S1x1024x128_S1024x128) $$ [HSqs]
  · iexact HSqs
  iintro %wSqs - HSqs
  iapply (wr_store (c := c) (M := (Memref.whole cc0_scoped16 : Memref sig .tc .vmem S2x1024x128 _)) (offM := (fun i => at3 i)) (size := S1x1024x128.size) (inbM := at3_Sqs) (X := (Memref.whole main_v2_2 : Memref sig .tc .hbm _ _)) (offX := (tilOff 128)) (sizeX := S1024x128.size) (inbX := sumOff_inb) (hq := Gen.squeezes_S1x1024x128_S1024x128) (sem := (sem2 cc0_scoped17)) (fX := (sqsG c V)) (f2 k) k.val (out_store k).1 (out_store k).2 (off60 k) Gen.shapeCasts_S1x1024x128_S1024x128
    (by rw [sqs_read c V k hk]; rfl)) $$ [HSqs]
  · iexact HSqs
  iintro HSqs
  rw [pure_then]
  dsimp only
  rw [wp_bind]
  rw [Gen.k0_part8_eq_skeleton]; unfold Gen.k0_part8_skel
  dsimp only
  try simp only [ite_self]
  iapply (wr_issue_if (c := c) (M := (Memref.whole cc0_scoped12 : Memref sig .tc .vmem S2x1024x512 _)) (offM := (fun i => at3 i)) (size := S1x1024x512.size) (inbM := at3_Sum) (X := (Memref.whole main_v2_0 : Memref sig .tc .hbm _ _)) (offX := (tilOff 512)) (sizeX := S1024x512.size) (inbX := tilOff_inb) (hq := Gen.squeezes_S1x1024x512_S1024x512) (sem := (sem2 cc0_scoped13)) (fX := (sumG c V)) (lo := (fun a => Finset.univ.filter fun x => tileOf 512 x < a)) (hi := (fun b => Finset.univ.filter fun x => b ≤ tileOf 512 x)) (f2 k) (k.val - 1) k.val (cond25 k) (out_issue k).1 (out_issue k).2
    (tile_facts (tileOf 512) _ k.val (sum_set k hk)).1 (tile_facts (tileOf 512) _ k.val (sum_set k hk)).2.1
    (so := fun _ => k0_off62 (wI k) (wJ k)) (do' := fun _ => k0_off63 (wD k))
    (fun _ => blk62 k trivial) (fun _ => off63 k) (fun _ => congrArg SemLoc.dma (sem2_eq cc0_scoped13 (f2 k) (off61 k) _ _)) (by decide)) $$ [HSum GSum]
  · isplitl [HSum]
    · iexact HSum
    · iexact GSum
  iintro ⟨HSum, GSum⟩
  iapply (wr_issue_if (c := c) (M := (Memref.whole cc0_scoped14 : Memref sig .tc .vmem S2x1024x512 _)) (offM := (fun i => at3 i)) (size := S1x1024x512.size) (inbM := at3_Prd) (X := (Memref.whole main_v2_1 : Memref sig .tc .hbm _ _)) (offX := (tilOff 512)) (sizeX := S1024x512.size) (inbX := tilOff_inb) (hq := Gen.squeezes_S1x1024x512_S1024x512) (sem := (sem2 cc0_scoped15)) (fX := (prdG c V)) (lo := (fun a => Finset.univ.filter fun x => tileOf 512 x < a)) (hi := (fun b => Finset.univ.filter fun x => b ≤ tileOf 512 x)) (f2 k) (k.val - 1) k.val (cond26 k) (out_issue k).1 (out_issue k).2
    (tile_facts (tileOf 512) _ k.val (prd_set k hk)).1 (tile_facts (tileOf 512) _ k.val (prd_set k hk)).2.1
    (so := fun _ => k0_off65 (wI k) (wJ k)) (do' := fun _ => k0_off66 (wD k))
    (fun _ => blk65 k trivial) (fun _ => off66 k) (fun _ => congrArg SemLoc.dma (sem2_eq cc0_scoped15 (f2 k) (off64 k) _ _)) (by decide)) $$ [HPrd GPrd]
  · isplitl [HPrd]
    · iexact HPrd
    · iexact GPrd
  iintro ⟨HPrd, GPrd⟩
  rw [pure_then]
  dsimp only
  rw [wp_bind]
  rw [Gen.k0_part9_eq_skeleton]; unfold Gen.k0_part9_skel
  dsimp only
  try simp only [ite_self]
  iapply (wr_issue_if (c := c) (M := (Memref.whole cc0_scoped16 : Memref sig .tc .vmem S2x1024x128 _)) (offM := (fun i => at3 i)) (size := S1x1024x128.size) (inbM := at3_Sqs) (X := (Memref.whole main_v2_2 : Memref sig .tc .hbm _ _)) (offX := (tilOff 128)) (sizeX := S1024x128.size) (inbX := sumOff_inb) (hq := Gen.squeezes_S1x1024x128_S1024x128) (sem := (sem2 cc0_scoped17)) (fX := (sqsG c V)) (lo := (fun a => Finset.univ.filter fun x => tileOf 128 x < a)) (hi := (fun b => Finset.univ.filter fun x => b ≤ tileOf 128 x)) (f2 k) (k.val - 1) k.val (cond27 k) (out_issue k).1 (out_issue k).2
    (tile_facts (tileOf 128) _ k.val (sqs_set k hk)).1 (tile_facts (tileOf 128) _ k.val (sqs_set k hk)).2.1
    (so := fun _ => k0_off68 (wI k) (wJ k)) (do' := fun _ => k0_off69 (wD k))
    (fun _ => blk68 k trivial) (fun _ => off69 k) (fun _ => congrArg SemLoc.dma (sem2_eq cc0_scoped17 (f2 k) (off67 k) _ _)) (by decide)) $$ [HSqs GSqs]
  · isplitl [HSqs]
    · iexact HSqs
    · iexact GSqs
  iintro ⟨HSqs, GSqs⟩
  rw [pure_then]
  dsimp only
  rw [wp_bind]
  rw [Gen.k0_part10_eq_skeleton]; unfold Gen.k0_part10_skel
  dsimp only
  try simp only [ite_self]
  iapply (wr_wait_if (c := c) (M := (Memref.whole cc0_scoped12 : Memref sig .tc .vmem S2x1024x512 _)) (offM := (fun i => at3 i)) (size := S1x1024x512.size) (inbM := at3_Sum) (X := (Memref.whole main_v2_0 : Memref sig .tc .hbm _ _)) (offX := (tilOff 512)) (sizeX := S1024x512.size) (inbX := tilOff_inb) (hq := Gen.squeezes_S1x1024x512_S1024x512) (sem := (sem2 cc0_scoped13)) (fX := (sumG c V)) (lo := (fun a => Finset.univ.filter fun x => tileOf 512 x < a)) (hi := (fun b => Finset.univ.filter fun x => b ≤ tileOf 512 x)) (f2 (k.val - 1)) (k.val - 1) k.val (k.val - 1) (k.val + 1)
    (fun h => (out_wait k).1 ((cond34 k).1 h)) (fun h => (out_wait k).2 (fun h' => h ((cond34 k).2 h')))
    (tile_facts (tileOf 512) _ (k.val - 1) (sum_set (k.val - 1) hk')).2.2.1 (tile_facts (tileOf 512) _ (k.val - 1) (sum_set (k.val - 1) hk')).2.2.2
    (fun h => sem2_eq cc0_scoped13 (f2 (k.val - 1)) (off70 k) _ _) (fun _ => rfl)) $$ [HSum GSum HO]
  · isplitl [HSum]
    · iexact HSum
    isplitl [GSum]
    · iexact GSum
    · iexact HO
  iintro ⟨HSum, GSum, HO⟩
  iapply (wr_wait_if (c := c) (M := (Memref.whole cc0_scoped14 : Memref sig .tc .vmem S2x1024x512 _)) (offM := (fun i => at3 i)) (size := S1x1024x512.size) (inbM := at3_Prd) (X := (Memref.whole main_v2_1 : Memref sig .tc .hbm _ _)) (offX := (tilOff 512)) (sizeX := S1024x512.size) (inbX := tilOff_inb) (hq := Gen.squeezes_S1x1024x512_S1024x512) (sem := (sem2 cc0_scoped15)) (fX := (prdG c V)) (lo := (fun a => Finset.univ.filter fun x => tileOf 512 x < a)) (hi := (fun b => Finset.univ.filter fun x => b ≤ tileOf 512 x)) (f2 (k.val - 1)) (k.val - 1) k.val (k.val - 1) (k.val + 1)
    (fun h => (out_wait k).1 ((cond35 k).1 h)) (fun h => (out_wait k).2 (fun h' => h ((cond35 k).2 h')))
    (tile_facts (tileOf 512) _ (k.val - 1) (prd_set (k.val - 1) hk')).2.2.1 (tile_facts (tileOf 512) _ (k.val - 1) (prd_set (k.val - 1) hk')).2.2.2
    (fun h => sem2_eq cc0_scoped15 (f2 (k.val - 1)) (off73 k) _ _) (fun _ => rfl)) $$ [HPrd GPrd HO]
  · isplitl [HPrd]
    · iexact HPrd
    isplitl [GPrd]
    · iexact GPrd
    · iexact HO
  iintro ⟨HPrd, GPrd, HO⟩
  iapply (wr_wait_if (c := c) (M := (Memref.whole cc0_scoped16 : Memref sig .tc .vmem S2x1024x128 _)) (offM := (fun i => at3 i)) (size := S1x1024x128.size) (inbM := at3_Sqs) (X := (Memref.whole main_v2_2 : Memref sig .tc .hbm _ _)) (offX := (tilOff 128)) (sizeX := S1024x128.size) (inbX := sumOff_inb) (hq := Gen.squeezes_S1x1024x128_S1024x128) (sem := (sem2 cc0_scoped17)) (fX := (sqsG c V)) (lo := (fun a => Finset.univ.filter fun x => tileOf 128 x < a)) (hi := (fun b => Finset.univ.filter fun x => b ≤ tileOf 128 x)) (f2 (k.val - 1)) (k.val - 1) k.val (k.val - 1) (k.val + 1)
    (fun h => (out_wait k).1 ((cond36 k).1 h)) (fun h => (out_wait k).2 (fun h' => h ((cond36 k).2 h')))
    (tile_facts (tileOf 128) _ (k.val - 1) (sqs_set (k.val - 1) hk')).2.2.1 (tile_facts (tileOf 128) _ (k.val - 1) (sqs_set (k.val - 1) hk')).2.2.2
    (fun h => sem2_eq cc0_scoped17 (f2 (k.val - 1)) (off76 k) _ _) (fun _ => rfl)) $$ [HSqs GSqs HO]
  · isplitl [HSqs]
    · iexact HSqs
    isplitl [GSqs]
    · iexact GSqs
    · iexact HO
  iintro ⟨HSqs, GSqs, HO⟩
  rw [pure_then]
  dsimp only
  iapply (pure_done_eq c w) $$ [HQ HO HRet HLru HUp HLow HRes HSca HSum GSum HPrd GPrd HSqs GSqs]
  rotate_left
  · ipureintro
    clear * - hw
    subst hw
    dsimp only [words]
    refine Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ ?_))))))))))))))))))
    all_goals
      dsimp only
      revert k
      decide +kernel
  iapply HQ
  unfold Inv
  isplitl [HRet]
  · iapply (RdAt_loosen (row_next k)) $$ HRet
  isplitl [HLru]
  · iapply (RdAt_loosen (row_next k)) $$ HLru
  isplitl [HUp]
  · iapply (RdAt_loosen (til_next k)) $$ HUp
  isplitl [HLow]
  · iapply (RdAt_loosen (til_next k)) $$ HLow
  isplitl [HRes]
  · iapply (RdAt_loosen (til_next k)) $$ HRes
  isplitl [HSca]
  · iapply (RdAt_loosen (sca_next k)) $$ HSca
  isplitl [HSum]
  · iexact HSum
  isplitl [GSum]
  · iexact GSum
  isplitl [HPrd]
  · iexact HPrd
  isplitl [GPrd]
  · iexact GPrd
  isplitl [HSqs]
  · iexact HSqs
  isplitl [GSqs]
  · iexact GSqs
  iexact HO

end Cert.KernelIdeal.Pipe
-- ==== Proof.Whole.lean ====
module

public import proofs.«01_k».proof.Proof.Control
public import proofs.«01_k».proof.Proof.Rings
public import proofs.«01_k».proof.Proof.Gen.KernelIdeal.Frame
public import proofs.«01_k».proof.Proof.Trip

/-!
# The whole pipelined projection

The first transfers of each ring, the loop over the 128 tiles, and the waits for the last tile's write-back.
-/

@[expose] public section

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-! ## Transfers without a condition -/

section

variable {c : Dev nD} {n : ℕ} {sM : Shape} {e : EltTy} {M : Memref sig .tc .vmem sM e}
  {offM : Fin n → Fin sM.rank → ℕ} {size : Fin sM.rank → ℕ} {inbM : ∀ i a, offM i a + size a ≤ sM.size a}
  {sX : Shape} {X : Memref sig .tc .hbm sX e} {offX : ℕ → Fin sX.rank → ℕ} {sizeX : Fin sX.rank → ℕ}
  {inbX : ∀ b a, offX b a + sizeX a ≤ sX.size a}
  {hq : (⟨sM.rank, size⟩ : Shape).Squeezes ⟨sX.rank, sizeX⟩}
  {sem : Fin n → DmaSem sig} {fX : Buf (Elt F) (X.view.loc (c : Thread nD τ))}
  {lo hi : ℕ → Finset (Idx (X.view.loc (c : Thread nD τ)))} {q : Fin n → PosShare TreeShare}
  {𝒱 : Variants} {bd : Option 𝒱.V} {α : Type} {Q : α → sProp (MT nD τ sig Unit (Elt F) ℕ (Pipeline.UC sig nD τ) ℕ)}

theorem rd_issue {Λ : Labels} {defs : Defs nD τ sig (Elt F) Λ} {ρ ρ' : Fin n → Role} (i : Fin n) (b : ℕ)
    (hρ : ρ i = .free) (hρ' : ρ' = Function.update ρ i (.fly b))
    {so : Fin sX.rank → ℕ} {do' : Fin sM.rank → ℕ} (hso : so = offX b) (hdo : do' = offM i)
    {si : ∀ a, so a + sizeX a ≤ sX.size a} {di : ∀ a, do' a + size a ≤ sM.size a} {sm : SemLoc sig}
    (hsm : sm = .dma (sem i)) (hN0 : 0 < M.view.ref.dmaCredit ⟨sX.rank, sizeX⟩ e)
    {hsrc : (blkM X so sizeX si).view.WordExact} {hdst : (slotM M do' size di ⟨sX.rank, sizeX⟩ hq).view.WordExact}
    {hsem : DmaTarget.Typed (nD := nD) (τ := τ) (p := Proc.tc) .hbm sm (.here (slotM M do' size di ⟨sX.rank, sizeX⟩ hq))}
    {rest : Prog (TpuEff nD τ sig (Elt F) Λ .tc) α} :
    RdAt c M offM size inbM X offX sizeX inbX hq sem q fX ρ
      ⊢ iprop((RdAt c M offM size inbM X offX sizeX inbX hq sem q fX ρ' -∗ wp frame (wpE defs 𝒱 (c : Thread nD τ) bd) Set.univ rest Q)
          -∗ wp frame (wpE defs 𝒱 (c : Thread nD τ) bd) Set.univ
            (Prog.lift (.enqueueDma (blkM X so sizeX si) (.here (slotM M do' size di ⟨sX.rank, sizeX⟩ hq)) sm hsrc hdst hsem) >>= fun _ => rest) Q) := by
  have h := rd_issue_if (c := c) (M := M) (offM := offM) (size := size) (inbM := inbM) (X := X) (offX := offX) (sizeX := sizeX) (inbX := inbX)
    (hq := hq) (sem := sem) (q := q) (fX := fX) (𝒱 := 𝒱) (bd := bd) (Q := Q) (defs := defs) (C := True) (ρ := ρ) (ρ' := ρ') i b
    (fun _ => ⟨hρ, hρ'⟩) (fun h => absurd trivial h) (so := fun _ => so) (do' := fun _ => do') (fun _ => hso) (fun _ => hdo)
    (si := fun _ => si) (di := fun _ => di) (sm := fun _ => sm) (fun _ => hsm) hN0 (hsrc := fun _ => hsrc) (hdst := fun _ => hdst)
    (hsem := fun _ => hsem) (rest := rest)
  rw [dif_pos trivial] at h
  exact h

theorem wr_wait {Λ : Labels} {defs : Defs nD τ sig (Elt F) Λ} {ρ ρ' : Fin n → Role} (i : Fin n) (b hh : ℕ)
    (hρ : ρ i = .fly b) (hρ' : ρ' = Function.update ρ i .free)
    (hdisj : Disjoint (lo b) (blkM X (offX b) sizeX (inbX b)).view.set)
    (hlo : lo b ∪ (blkM X (offX b) sizeX (inbX b)).view.set = lo (b + 1))
    {s s' : Shape} {e' e'' : EltTy} {sp sp' : Space} {κ' : Kind} {sm : DmaSem sig}
    {srcw : Memref sig (c : Thread nD τ).2.kind sp' s' e'} {dstw : Memref sig κ' sp s e''}
    {hsrc : srcw.view.WordExact} {hdst : dstw.view.WordExact}
    {rest : Prog (TpuEff nD τ sig (Elt F) Λ .tc) α} (hsm : sm = sem i)
    (hN : dstw.view.dmaCredit = X.view.ref.dmaCredit ⟨sX.rank, sizeX⟩ e) :
    iprop(WrAt c M offM size inbM X offX sizeX inbX hq sem fX ρ ∗ Out c X fX lo hi b hh ∗ Owes c)
      ⊢ iprop((iprop(WrAt c M offM size inbM X offX sizeX inbX hq sem fX ρ' ∗ Out c X fX lo hi (b + 1) hh ∗ Owes c)
            -∗ wp frame (wpE defs 𝒱 (c : Thread nD τ) bd) Set.univ rest Q)
          -∗ wp frame (wpE defs 𝒱 (c : Thread nD τ) bd) Set.univ (Prog.lift (.waitDma2 sm srcw dstw hsrc hdst) >>= fun _ => rest) Q) := by
  have h := wr_wait_if (c := c) (M := M) (offM := offM) (size := size) (inbM := inbM) (X := X) (offX := offX) (sizeX := sizeX) (inbX := inbX)
    (hq := hq) (sem := sem) (fX := fX) (lo := lo) (hi := hi) (𝒱 := 𝒱) (bd := bd) (Q := Q) (defs := defs) (C := True) (ρ := ρ) (ρ' := ρ') i b (b + 1) b hh
    (fun _ => ⟨hρ, hρ', rfl, rfl⟩) (fun h => absurd trivial h) hdisj hlo (sm := fun _ => sm) (srcw := fun _ => srcw) (dstw := fun _ => dstw)
    (hsrc := fun _ => hsrc) (hdst := fun _ => hdst) (rest := rest) (fun _ => hsm) (fun _ => hN)
  rw [dif_pos trivial] at h
  exact h

end

/-- A ring of three slots once its first transfer is started. -/
def til00 : Fin 3 → Role := Function.update (fun _ => .free) (f3 0) (.fly 0)

variable (c : Dev nD) (V : (b : Ref sig .tc) → Buf (Elt F) ((c : Thread nD τ).loc b))

set_option maxHeartbeats 4000000 in
/-- The whole pipeline: from free slots and any contents of the three results' arrays to free slots and the results. -/
theorem project (Q : PUnit → sProp 𝕄) :
    iprop(RetAt c V (fun _ => .free) ∗ LruAt c V (fun _ => .free) ∗ UpAt c V (fun _ => .free) ∗ LowAt c V (fun _ => .free) ∗ ResAt c V (fun _ => .free) ∗ ScaAt c V (fun _ => .free) ∗ SumAt c V (fun _ => .free) ∗ SumOut c V 0 0 ∗ PrdAt c V (fun _ => .free) ∗ PrdOut c V 0 0 ∗ SqsAt c V (fun _ => .free) ∗ SqsOut c V 0 0 ∗ Owes c) ⊢ iprop((iprop(RetAt c V (fun _ => .free) ∗ LruAt c V (fun _ => .free) ∗ UpAt c V (fun _ => .free) ∗ LowAt c V (fun _ => .free) ∗ ResAt c V (fun _ => .free) ∗ ScaAt c V (fun _ => .free) ∗ SumAt c V (fun _ => .free) ∗ SumOut c V 128 128 ∗ PrdAt c V (fun _ => .free) ∗ PrdOut c V 128 128 ∗ SqsAt c V (fun _ => .free) ∗ SqsOut c V 128 128 ∗ Owes c) -∗ Q ⟨⟩) -∗ wp Idealize.ShloMosaic.frame (wpE defs₀ (Variants.none) (c : Thread nD τ) none) Set.univ (cc0_out_proj (F := F) (Memref.whole main_arg0) (Memref.isWhole_whole _) (Memref.whole main_arg1) (Memref.isWhole_whole _) (Memref.whole main_arg2) (Memref.isWhole_whole _) (Memref.whole main_arg2) (Memref.isWhole_whole _) (Memref.whole main_arg3) (Memref.isWhole_whole _) (Memref.whole main_v1) (Memref.isWhole_whole _) (Memref.whole main_v2_0) (Memref.isWhole_whole _) (Memref.whole main_v2_1) (Memref.isWhole_whole _) (Memref.whole main_v2_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17) Q) := by
  rw [Gen.cc0_out_proj_eq_skeleton]; unfold Gen.cc0_out_proj_skel
  iintro ⟨HRet, HLru, HUp, HLow, HRes, HSca, HSum, GSum, HPrd, GPrd, HSqs, GSqs, HO⟩ HQ
  rw [wp_bind]
  rw [Gen.k0_part11_eq_skeleton]; unfold Gen.k0_part11_skel
  dsimp only
  rw [pure_then]
  dsimp only
  rw [wp_bind]
  rw [Gen.k0_part12_eq_skeleton]; unfold Gen.k0_part12_skel
  dsimp only
  iapply (rd_issue (c := c) (M := (Memref.whole cc0_scoped0 : Memref sig .tc .vmem S2x1024x2048 _)) (offM := (fun i => at3 i)) (size := S1x1024x2048.size) (inbM := at3_Ret) (X := (Memref.whole main_arg0 : Memref sig .tc .hbm _ _)) (offX := rowOff) (sizeX := S1024x2048.size) (inbX := rowOff_inb) (hq := Gen.squeezes_S1x1024x2048_S1024x2048) (sem := (sem2 cc0_scoped1)) (q := qHalf) (fX := (V main_arg0)) (ρ := fun _ => .free) (ρ' := row0 0)
    (f2 0) 0 (by decide) (by decide) (so := ![0, 0]) (do' := k0_off2) (by decide) (by decide)
    (congrArg SemLoc.dma (sem2_eq cc0_scoped1 (f2 0) (by decide) _ _)) (by decide)) $$ [HRet]
  · iexact HRet
  iintro HRet
  iapply (rd_issue (c := c) (M := (Memref.whole cc0_scoped2 : Memref sig .tc .vmem S2x1024x2048 _)) (offM := (fun i => at3 i)) (size := S1x1024x2048.size) (inbM := at3_Lru) (X := (Memref.whole main_arg1 : Memref sig .tc .hbm _ _)) (offX := rowOff) (sizeX := S1024x2048.size) (inbX := rowOff_inb) (hq := Gen.squeezes_S1x1024x2048_S1024x2048) (sem := (sem2 cc0_scoped3)) (q := qHalf) (fX := (V main_arg1)) (ρ := fun _ => .free) (ρ' := row0 0)
    (f2 0) 0 (by decide) (by decide) (so := ![0, 0]) (do' := k0_off2) (by decide) (by decide)
    (congrArg SemLoc.dma (sem2_eq cc0_scoped3 (f2 0) (by decide) _ _)) (by decide)) $$ [HLru]
  · iexact HLru
  iintro HLru
  rw [pure_then]
  dsimp only
  rw [wp_bind]
  rw [Gen.k0_part13_eq_skeleton]; unfold Gen.k0_part13_skel
  dsimp only
  iapply (rd_issue (c := c) (M := (Memref.whole cc0_scoped4 : Memref sig .tc .vmem S3x2048x512 _)) (offM := (fun i => at3 i)) (size := S1x2048x512.size) (inbM := at3_Up) (X := (Memref.whole main_arg2 : Memref sig .tc .hbm _ _)) (offX := colOff) (sizeX := S2048x512.size) (inbX := colOff_inb) (hq := Gen.squeezes_S1x2048x512_S2048x512) (sem := (sem3 cc0_scoped5)) (q := qUp) (fX := (V main_arg2)) (ρ := fun _ => .free) (ρ' := til00)
    (f3 0) 0 (by decide) (by decide) (so := ![0, 0]) (do' := k0_off4) (by decide) (by decide)
    (congrArg SemLoc.dma (sem3_eq cc0_scoped5 (f3 0) (by decide) _ _)) (by decide)) $$ [HUp]
  · iexact HUp
  iintro HUp
  iapply (rd_issue (c := c) (M := (Memref.whole cc0_scoped6 : Memref sig .tc .vmem S3x2048x512 _)) (offM := (fun i => at3 i)) (size := S1x2048x512.size) (inbM := at3_Low) (X := (Memref.whole main_arg2 : Memref sig .tc .hbm _ _)) (offX := lowOff) (sizeX := S2048x512.size) (inbX := lowOff_inb) (hq := Gen.squeezes_S1x2048x512_S2048x512) (sem := (sem3 cc0_scoped7)) (q := qLow) (fX := (V main_arg2)) (ρ := fun _ => .free) (ρ' := til00)
    (f3 0) 0 (by decide) (by decide) (so := ![2048, 0]) (do' := k0_off4) (by decide) (by decide)
    (congrArg SemLoc.dma (sem3_eq cc0_scoped7 (f3 0) (by decide) _ _)) (by decide)) $$ [HLow]
  · iexact HLow
  iintro HLow
  iapply (rd_issue (c := c) (M := (Memref.whole cc0_scoped8 : Memref sig .tc .vmem S3x1024x512 _)) (offM := (fun i => at3 i)) (size := S1x1024x512.size) (inbM := at3_Res) (X := (Memref.whole main_arg3 : Memref sig .tc .hbm _ _)) (offX := (tilOff 512)) (sizeX := S1024x512.size) (inbX := tilOff_inb) (hq := Gen.squeezes_S1x1024x512_S1024x512) (sem := (sem3 cc0_scoped9)) (q := qThird) (fX := (V main_arg3)) (ρ := fun _ => .free) (ρ' := til00)
    (f3 0) 0 (by decide) (by decide) (so := ![0, 0]) (do' := k0_off5) (by decide) (by decide)
    (congrArg SemLoc.dma (sem3_eq cc0_scoped9 (f3 0) (by decide) _ _)) (by decide)) $$ [HRes]
  · iexact HRes
  iintro HRes
  iapply (rd_issue (c := c) (M := (Memref.whole cc0_scoped10 : Memref sig .tc .vmem S2x1x512 _)) (offM := (fun i => at3 i)) (size := S1x1x512.size) (inbM := at3_Sca) (X := (Memref.whole main_v1 : Memref sig .tc .hbm _ _)) (offX := colOff) (sizeX := S1x512.size) (inbX := scaOff_inb) (hq := Gen.squeezes_S1x1x512_S1x512) (sem := (sem2 cc0_scoped11)) (q := qHalf) (fX := (V main_v1)) (ρ := fun _ => .free) (ρ' := sca0 0)
    (f2 0) 0 (by decide) (by decide) (so := ![0, 0]) (do' := k0_off6) (by decide) (by decide)
    (congrArg SemLoc.dma (sem2_eq cc0_scoped11 (f2 0) (by decide) _ _)) (by decide)) $$ [HSca]
  · iexact HSca
  iintro HSca
  rw [pure_then]
  dsimp only
  rw [wp_bind]
  rw [Gen.k0_part14_eq_skeleton]; unfold Gen.k0_part14_skel
  dsimp only
  iapply (rd_issue_if (c := c) (M := (Memref.whole cc0_scoped4 : Memref sig .tc .vmem S3x2048x512 _)) (offM := (fun i => at3 i)) (size := S1x2048x512.size) (inbM := at3_Up) (X := (Memref.whole main_arg2 : Memref sig .tc .hbm _ _)) (offX := colOff) (sizeX := S2048x512.size) (inbX := colOff_inb) (hq := Gen.squeezes_S1x2048x512_S2048x512) (sem := (sem3 cc0_scoped5)) (q := qUp) (fX := (V main_arg2)) (ρ := til00) (ρ' := til0 0)
    (f3 1) 1 (fun _ => by decide) (fun h => absurd cond1 h) (so := fun _ => k0_off9) (do' := fun _ => k0_off8) (fun _ => by decide) (fun _ => by decide)
    (fun _ => congrArg SemLoc.dma (sem3_eq cc0_scoped5 (f3 1) (by decide) _ _)) (by decide)) $$ [HUp]
  · iexact HUp
  iintro HUp
  iapply (rd_issue_if (c := c) (M := (Memref.whole cc0_scoped6 : Memref sig .tc .vmem S3x2048x512 _)) (offM := (fun i => at3 i)) (size := S1x2048x512.size) (inbM := at3_Low) (X := (Memref.whole main_arg2 : Memref sig .tc .hbm _ _)) (offX := lowOff) (sizeX := S2048x512.size) (inbX := lowOff_inb) (hq := Gen.squeezes_S1x2048x512_S2048x512) (sem := (sem3 cc0_scoped7)) (q := qLow) (fX := (V main_arg2)) (ρ := til00) (ρ' := til0 0)
    (f3 1) 1 (fun _ => by decide) (fun h => absurd cond2 h) (so := fun _ => k0_off12) (do' := fun _ => k0_off11) (fun _ => by decide) (fun _ => by decide)
    (fun _ => congrArg SemLoc.dma (sem3_eq cc0_scoped7 (f3 1) (by decide) _ _)) (by decide)) $$ [HLow]
  · iexact HLow
  iintro HLow
  iapply (rd_issue_if (c := c) (M := (Memref.whole cc0_scoped8 : Memref sig .tc .vmem S3x1024x512 _)) (offM := (fun i => at3 i)) (size := S1x1024x512.size) (inbM := at3_Res) (X := (Memref.whole main_arg3 : Memref sig .tc .hbm _ _)) (offX := (tilOff 512)) (sizeX := S1024x512.size) (inbX := tilOff_inb) (hq := Gen.squeezes_S1x1024x512_S1024x512) (sem := (sem3 cc0_scoped9)) (q := qThird) (fX := (V main_arg3)) (ρ := til00) (ρ' := til0 0)
    (f3 1) 1 (fun _ => by decide) (fun h => absurd cond3 h) (so := fun _ => k0_off15) (do' := fun _ => k0_off14) (fun _ => by decide) (fun _ => by decide)
    (fun _ => congrArg SemLoc.dma (sem3_eq cc0_scoped9 (f3 1) (by decide) _ _)) (by decide)) $$ [HRes]
  · iexact HRes
  iintro HRes
  iapply (Scf.wp_for_bind _ _ _ _ _ _ _ _ _ (fun k acc => iprop(⌜acc = words k⌝ ∗ Inv c V k))
    (fun k acc => by
      iintro ⟨%h, HI⟩
      subst h
      iapply (trip c V k) $$ HI
      iintro HI
      isplitr [HI]
      · ipureintro; rfl
      · iexact HI)) $$ [HRet HLru HUp HLow HRes HSca HSum GSum HPrd GPrd HSqs GSqs HO]
  · isplitr [HRet HLru HUp HLow HRes HSca HSum GSum HPrd GPrd HSqs GSqs HO]
    · ipureintro
      refine Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ ?_)))))))))))))))))) <;> decide +kernel
    unfold Inv
    rw [show out0 0 = fun _ => .free by decide]
    isplitl [HRet]
    · iexact HRet
    isplitl [HLru]
    · iexact HLru
    isplitl [HUp]
    · iexact HUp
    isplitl [HLow]
    · iexact HLow
    isplitl [HRes]
    · iexact HRes
    isplitl [HSca]
    · iexact HSca
    isplitl [HSum]
    · iexact HSum
    isplitl [GSum]
    · iexact GSum
    isplitl [HPrd]
    · iexact HPrd
    isplitl [GPrd]
    · iexact GPrd
    isplitl [HSqs]
    · iexact HSqs
    isplitl [GSqs]
    · iexact GSqs
    iexact HO
  iintro %acc ⟨%h, HI⟩
  obtain rfl : acc = words 128 := h
  rw [show Scf.trips k0_t1_loop.lb k0_t1_loop.ub k0_t1_loop.st = 128 from rfl]
  unfold Inv
  icases HI with ⟨HRet, HLru, HUp, HLow, HRes, HSca, HSum, GSum, HPrd, GPrd, HSqs, GSqs, HO⟩
  dsimp only [words]
  rw [assume_bind c chk14, assume_bind c chk13, assume_bind c chk12, assume_bind c chk11]
  rw [pure_then]
  dsimp only
  rw [wp_bind]
  rw [Gen.k0_part15_eq_skeleton]; unfold Gen.k0_part15_skel
  dsimp only
  rw [pure_then]
  dsimp only
  rw [wp_bind]
  rw [Gen.k0_part16_eq_skeleton]; unfold Gen.k0_part16_skel
  dsimp only
  iapply (wr_wait (c := c) (M := (Memref.whole cc0_scoped12 : Memref sig .tc .vmem S2x1024x512 _)) (offM := (fun i => at3 i)) (size := S1x1024x512.size) (inbM := at3_Sum) (X := (Memref.whole main_v2_0 : Memref sig .tc .hbm _ _)) (offX := (tilOff 512)) (sizeX := S1024x512.size) (inbX := tilOff_inb) (hq := Gen.squeezes_S1x1024x512_S1024x512) (sem := (sem2 cc0_scoped13)) (fX := (sumG c V)) (lo := (fun a => Finset.univ.filter fun x => tileOf 512 x < a)) (hi := (fun b => Finset.univ.filter fun x => b ≤ tileOf 512 x)) (ρ := out0 128) (ρ' := fun _ => .free) (f2 127) 127 128 (by decide) (by decide)
    (tile_facts (tileOf 512) _ 127 (sum_set 127 (by decide))).2.2.1 (tile_facts (tileOf 512) _ 127 (sum_set 127 (by decide))).2.2.2
    (sem2_eq cc0_scoped13 (f2 127) off79 _ _) rfl) $$ [HSum GSum HO]
  · isplitl [HSum]
    · iexact HSum
    isplitl [GSum]
    · iexact GSum
    · iexact HO
  iintro ⟨HSum, GSum, HO⟩
  rw [pure_then]
  dsimp only
  iapply (wr_wait (c := c) (M := (Memref.whole cc0_scoped14 : Memref sig .tc .vmem S2x1024x512 _)) (offM := (fun i => at3 i)) (size := S1x1024x512.size) (inbM := at3_Prd) (X := (Memref.whole main_v2_1 : Memref sig .tc .hbm _ _)) (offX := (tilOff 512)) (sizeX := S1024x512.size) (inbX := tilOff_inb) (hq := Gen.squeezes_S1x1024x512_S1024x512) (sem := (sem2 cc0_scoped15)) (fX := (prdG c V)) (lo := (fun a => Finset.univ.filter fun x => tileOf 512 x < a)) (hi := (fun b => Finset.univ.filter fun x => b ≤ tileOf 512 x)) (ρ := out0 128) (ρ' := fun _ => .free) (f2 127) 127 128 (by decide) (by decide)
    (tile_facts (tileOf 512) _ 127 (prd_set 127 (by decide))).2.2.1 (tile_facts (tileOf 512) _ 127 (prd_set 127 (by decide))).2.2.2
    (sem2_eq cc0_scoped15 (f2 127) off82 _ _) rfl) $$ [HPrd GPrd HO]
  · isplitl [HPrd]
    · iexact HPrd
    isplitl [GPrd]
    · iexact GPrd
    · iexact HO
  iintro ⟨HPrd, GPrd, HO⟩
  iapply (wr_wait (c := c) (M := (Memref.whole cc0_scoped16 : Memref sig .tc .vmem S2x1024x128 _)) (offM := (fun i => at3 i)) (size := S1x1024x128.size) (inbM := at3_Sqs) (X := (Memref.whole main_v2_2 : Memref sig .tc .hbm _ _)) (offX := (tilOff 128)) (sizeX := S1024x128.size) (inbX := sumOff_inb) (hq := Gen.squeezes_S1x1024x128_S1024x128) (sem := (sem2 cc0_scoped17)) (fX := (sqsG c V)) (lo := (fun a => Finset.univ.filter fun x => tileOf 128 x < a)) (hi := (fun b => Finset.univ.filter fun x => b ≤ tileOf 128 x)) (ρ := out0 128) (ρ' := fun _ => .free) (f2 127) 127 128 (by decide) (by decide)
    (tile_facts (tileOf 128) _ 127 (sqs_set 127 (by decide))).2.2.1 (tile_facts (tileOf 128) _ 127 (sqs_set 127 (by decide))).2.2.2
    (sem2_eq cc0_scoped17 (f2 127) off85 _ _) rfl) $$ [HSqs GSqs HO]
  · isplitl [HSqs]
    · iexact HSqs
    isplitl [GSqs]
    · iexact GSqs
    · iexact HO
  iintro ⟨HSqs, GSqs, HO⟩
  iapply (pure_done c _)
  iapply HQ
  isplitl [HRet]
  · rw [show (fun _ => .free : Fin 2 → Role) = row0 128 by decide]
    iexact HRet
  isplitl [HLru]
  · rw [show (fun _ => .free : Fin 2 → Role) = row0 128 by decide]
    iexact HLru
  isplitl [HUp]
  · rw [show (fun _ => .free : Fin 3 → Role) = til0 128 by decide]
    iexact HUp
  isplitl [HLow]
  · rw [show (fun _ => .free : Fin 3 → Role) = til0 128 by decide]
    iexact HLow
  isplitl [HRes]
  · rw [show (fun _ => .free : Fin 3 → Role) = til0 128 by decide]
    iexact HRes
  isplitl [HSca]
  · rw [show (fun _ => .free : Fin 2 → Role) = sca0 128 by decide]
    iexact HSca
  isplitl [HSum]
  · iexact HSum
  isplitl [GSum]
  · iexact GSum
  isplitl [HPrd]
  · iexact HPrd
  isplitl [GPrd]
  · iexact GPrd
  isplitl [HSqs]
  · iexact HSqs
  isplitl [GSqs]
  · iexact GSqs
  iexact HO

end Cert.KernelIdeal.Pipe
-- ==== Proof.Launch.lean ====
module

public import proofs.«01_k».proof.Proof.Whole

/-!
# The launch of the pipelined projection

Each on-chip buffer splits into the slots of its ring and each operand into the shares its slots lend; the body then runs
from the launch's buffers to the same buffers with the three results written.
-/

@[expose] public section

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UC sig nD τ) ℕ

/-! ## Splitting and joining -/

theorem mem_slot {n A B : ℕ} (i : Fin n) (inb : ∀ a, at3 i a + (⟨3, ![1, A, B]⟩ : Shape).size a ≤ (⟨3, ![n, A, B]⟩ : Shape).size a)
    (x : (⟨3, ![n, A, B]⟩ : Shape).Idx) :
    x ∈ (Rect.unit (s := ⟨3, ![n, A, B]⟩) (at3 i) ![1, A, B] inb).set ↔ (x 0 : Fin n) = i := by
  rw [Rect.mem_set_unit]
  have h1 : (x 1).val < A := (x 1).isLt
  have h2 : (x 2).val < B := (x 2).isLt
  constructor
  · intro h
    have h0 : i.val ≤ (x 0).val ∧ (x 0).val < i.val + 1 := h 0
    have h : (x 0).val = i.val := by omega
    exact Fin.ext h
  · intro h a
    have h : (x 0).val = i.val := congrArg Fin.val h
    fin_cases a
    · show i.val ≤ (x 0).val ∧ (x 0).val < i.val + 1
      omega
    · show 0 ≤ (x 1).val ∧ (x 1).val < 0 + A
      omega
    · show 0 ≤ (x 2).val ∧ (x 2).val < 0 + B
      omega

theorem fiber_disjoint {ι X : Type} [DecidableEq X] {I : ι → Finset X} {f : X → ι} (h : ∀ i x, x ∈ I i ↔ f x = i) (b b' : ι) (hb : b ≠ b') :
    Disjoint (I b) (I b') := by
  rw [Finset.disjoint_left]
  intro x hx hx'
  exact hb (((h b x).mp hx).symm.trans ((h b' x).mp hx'))

theorem fiber_cover {ι X : Type} [Fintype ι] [Fintype X] [DecidableEq X] {I : ι → Finset X} {f : X → ι} (h : ∀ i x, x ∈ I i ↔ f x = i) :
    Finset.univ.biUnion I = Finset.univ := by
  ext x
  simp only [Finset.mem_biUnion, Finset.mem_univ, true_and, iff_true]
  exact ⟨f x, (h _ x).mpr rfl⟩

/-- A buffer held whole at some contents is held part by part, each at some contents. -/
theorem parts_eq {ι : Type} [Fintype ι] [DecidableEq ι] {ℓ : Loc nD τ sig} {I : ι → Finset (Idx ℓ)} {f : Idx ℓ → ι}
    (h : ∀ i x, x ∈ I i ↔ f x = i) :
    (bigSep Finset.univ (fun i => iprop(∃ g : Buf (Elt F) ℓ, ℓ ↦[I i]{fullShare} g)) : sProp 𝕄) = iprop(∃ g : Buf (Elt F) ℓ, ℓ ↦{fullShare} g) := by
  have hs : (iprop(∃ g : Buf (Elt F) ℓ, ℓ ↦{fullShare} g) : sProp 𝕄)
      ⊢ bigSep Finset.univ (fun i => iprop(∃ g : Buf (Elt F) ℓ, ℓ ↦[I i]{fullShare} g)) := by
    have hp : ∀ (g : Buf (Elt F) ℓ) (i : ι), (ℓ ↦[I i]{fullShare} g : sProp 𝕄) ⊢ iprop(∃ g : Buf (Elt F) ℓ, ℓ ↦[I i]{fullShare} g) := fun g i => by
      iintro H
      iexists g; iexact H
    have hb : ∀ g : Buf (Elt F) ℓ, (ℓ ↦{fullShare} g : sProp 𝕄) ⊢ bigSep Finset.univ (fun i => iprop(∃ g : Buf (Elt F) ℓ, ℓ ↦[I i]{fullShare} g)) :=
      fun g => (Entails.of_eq (Ring.pointsTo_blocks I (fiber_disjoint h) (fiber_cover h) g)).trans (BI.bigSep_mono fun i _ => hp g i)
    iintro ⟨%g, H⟩
    iapply (hb g); iexact H
  exact equiv_iff.mp ⟨Ring.pointsTo_blocks_join_exists I (fiber_disjoint h) (fiber_cover h) (fun _ => Classical.choice inferInstance), hs⟩

theorem two_shares (q : PosShare TreeShare) {ℓ : Loc nD τ sig} (f : Buf (Elt F) ℓ) :
    (ℓ ↦{q} f : sProp 𝕄) = iprop((ℓ ↦{q.left} f) ∗ ℓ ↦{q.right} f) :=
  equiv_iff.mp ⟨(pointsTo_share (PosShare.mem_left_op_right q)).1, (pointsTo_share (PosShare.mem_left_op_right q)).2⟩

/-- Two halves of a buffer make it. -/
theorem halves_eq {ℓ : Loc nD τ sig} (f : Buf (Elt F) ℓ) :
    (bigSep Finset.univ (fun i => ℓ ↦{qHalf i} f) : sProp 𝕄) = (ℓ ↦{fullShare} f) := by
  rw [bigSep_fin_two]
  exact (two_shares fullShare f).symm

/-- Three thirds of a share of a buffer make it. -/
theorem thirds_eq (q : PosShare TreeShare) {ℓ : Loc nD τ sig} (f : Buf (Elt F) ℓ) :
    (bigSep Finset.univ (fun i => ℓ ↦{third q i} f) : sProp 𝕄) = (ℓ ↦{q} f) := by
  rw [Ring.bigSep_fin3]
  rw [two_shares q, two_shares q.right]
  rfl

section Free

variable (c : Dev nD) {n : ℕ} {sM : Shape} {e : EltTy} (M : Memref sig .tc .vmem sM e)
  (offM : Fin n → Fin sM.rank → ℕ) (size : Fin sM.rank → ℕ) (inbM : ∀ i a, offM i a + size a ≤ sM.size a)
  {sX : Shape} (X : Memref sig .tc .hbm sX e) (offX : ℕ → Fin sX.rank → ℕ) (sizeX : Fin sX.rank → ℕ)
  (inbX : ∀ b a, offX b a + sizeX a ≤ sX.size a)
  (hq : (⟨sM.rank, size⟩ : Shape).Squeezes ⟨sX.rank, sizeX⟩)
  (sem : Fin n → DmaSem sig) (q : Fin n → PosShare TreeShare) (fX : Buf (Elt F) (X.view.loc (c : Thread nD τ)))

/-- The semaphores of a ring at zero. -/
def zeros : sProp 𝕄 := bigSep Finset.univ fun i => semVal ((c : Thread nD τ), .dma (sem i)) 0

theorem RdAt_free :
    RdAt c M offM size inbM X offX sizeX inbX hq sem q fX (fun _ => .free)
      = iprop((bigSep Finset.univ (anyS c (rdSlot M offM size inbM sizeX hq)) ∗ bigSep Finset.univ (lent c X q fX)) ∗ zeros c sem) := by
  have hs : ∀ Φ Ψ : Fin n → sProp 𝕄, bigSep Finset.univ (fun i => iprop(Φ i ∗ Ψ i)) = iprop(bigSep Finset.univ Φ ∗ bigSep Finset.univ Ψ) :=
    fun Φ Ψ => bigSep_sep _ Φ Ψ
  unfold RdAt At zeros
  exact (hs _ _).trans (congrArg (fun a => iprop(a ∗ _)) (hs _ _))

theorem WrAt_free :
    WrAt c M offM size inbM X offX sizeX inbX hq sem fX (fun _ => .free)
      = iprop(bigSep Finset.univ (anyS c (rdSlot M offM size inbM sizeX hq)) ∗ zeros c sem) := by
  unfold WrAt At zeros
  exact bigSep_sep _ _ _

end Free

variable (c : Dev nD) (V : (b : Ref sig .tc) → Buf (Elt F) ((c : Thread nD τ).loc b))

theorem slots_Ret :
    (bigSep Finset.univ (anyS c (rdSlot (Memref.whole cc0_scoped0 : Memref sig .tc .vmem S2x1024x2048 .bf16) (fun i : Fin 2 => at3 i) S1x1024x2048.size at3_Ret (sX := S1024x2048) S1024x2048.size Gen.squeezes_S1x1024x2048_S1024x2048)) : sProp 𝕄)
      = iprop(∃ f : Buf (Elt F) ((c : Thread nD τ).loc cc0_scoped0), ((c : Thread nD τ).loc cc0_scoped0) ↦{fullShare} f) := by
  have h : ∀ i : Fin 2, (rdSlot (Memref.whole cc0_scoped0 : Memref sig .tc .vmem S2x1024x2048 .bf16) (fun i : Fin 2 => at3 i) S1x1024x2048.size at3_Ret (sX := S1024x2048) S1024x2048.size Gen.squeezes_S1x1024x2048_S1024x2048 i).view.set
      = (Rect.unit (s := S2x1024x2048) (at3 i) S1x1024x2048.size (at3_Ret i)).set := fun i => (View.set_reshape _ _).trans (View.set_slice_whole _ _)
  refine Eq.trans ?_ (parts_eq (ℓ := (c : Thread nD τ).loc cc0_scoped0) (I := fun i : Fin 2 => (Rect.unit (s := S2x1024x2048) (at3 i) S1x1024x2048.size (at3_Ret i)).set)
    (f := fun x : (⟨3, ![2, 1024, 2048]⟩ : Shape).Idx => x 0) fun i x => mem_slot i (at3_Ret i) x)
  refine congrArg _ (funext fun i => ?_)
  unfold anyS
  rw [h i]

theorem Ret_free :
    RetAt c V (fun _ => .free) = iprop(((∃ f : Buf (Elt F) ((c : Thread nD τ).loc cc0_scoped0), ((c : Thread nD τ).loc cc0_scoped0) ↦{fullShare} f)
      ∗ ((c : Thread nD τ).loc main_arg0) ↦{fullShare} V main_arg0) ∗ zeros c (sem2 cc0_scoped1)) := by
  have hw : (bigSep Finset.univ (lent c (Memref.whole main_arg0 : Memref sig .tc .hbm _ _) qHalf (V main_arg0)) : sProp 𝕄)
      = (((c : Thread nD τ).loc main_arg0) ↦{fullShare} V main_arg0) := by
    refine Eq.trans (congrArg _ (funext fun i => ?_)) (halves_eq _)
    unfold lent
    rw [show (Memref.whole main_arg0 : Memref sig .tc .hbm _ _).view.set = Finset.univ from View.set_whole _]
  unfold RetAt
  refine (RdAt_free c _ _ _ _ _ _ _ _ _ _ _ _).trans ?_
  exact congrArg₂ (fun a b => iprop((a ∗ b) ∗ zeros c (sem2 cc0_scoped1))) (slots_Ret c) hw

theorem slots_Lru :
    (bigSep Finset.univ (anyS c (rdSlot (Memref.whole cc0_scoped2 : Memref sig .tc .vmem S2x1024x2048 .bf16) (fun i : Fin 2 => at3 i) S1x1024x2048.size at3_Lru (sX := S1024x2048) S1024x2048.size Gen.squeezes_S1x1024x2048_S1024x2048)) : sProp 𝕄)
      = iprop(∃ f : Buf (Elt F) ((c : Thread nD τ).loc cc0_scoped2), ((c : Thread nD τ).loc cc0_scoped2) ↦{fullShare} f) := by
  have h : ∀ i : Fin 2, (rdSlot (Memref.whole cc0_scoped2 : Memref sig .tc .vmem S2x1024x2048 .bf16) (fun i : Fin 2 => at3 i) S1x1024x2048.size at3_Lru (sX := S1024x2048) S1024x2048.size Gen.squeezes_S1x1024x2048_S1024x2048 i).view.set
      = (Rect.unit (s := S2x1024x2048) (at3 i) S1x1024x2048.size (at3_Lru i)).set := fun i => (View.set_reshape _ _).trans (View.set_slice_whole _ _)
  refine Eq.trans ?_ (parts_eq (ℓ := (c : Thread nD τ).loc cc0_scoped2) (I := fun i : Fin 2 => (Rect.unit (s := S2x1024x2048) (at3 i) S1x1024x2048.size (at3_Lru i)).set)
    (f := fun x : (⟨3, ![2, 1024, 2048]⟩ : Shape).Idx => x 0) fun i x => mem_slot i (at3_Lru i) x)
  refine congrArg _ (funext fun i => ?_)
  unfold anyS
  rw [h i]

theorem Lru_free :
    LruAt c V (fun _ => .free) = iprop(((∃ f : Buf (Elt F) ((c : Thread nD τ).loc cc0_scoped2), ((c : Thread nD τ).loc cc0_scoped2) ↦{fullShare} f)
      ∗ ((c : Thread nD τ).loc main_arg1) ↦{fullShare} V main_arg1) ∗ zeros c (sem2 cc0_scoped3)) := by
  have hw : (bigSep Finset.univ (lent c (Memref.whole main_arg1 : Memref sig .tc .hbm _ _) qHalf (V main_arg1)) : sProp 𝕄)
      = (((c : Thread nD τ).loc main_arg1) ↦{fullShare} V main_arg1) := by
    refine Eq.trans (congrArg _ (funext fun i => ?_)) (halves_eq _)
    unfold lent
    rw [show (Memref.whole main_arg1 : Memref sig .tc .hbm _ _).view.set = Finset.univ from View.set_whole _]
  unfold LruAt
  refine (RdAt_free c _ _ _ _ _ _ _ _ _ _ _ _).trans ?_
  exact congrArg₂ (fun a b => iprop((a ∗ b) ∗ zeros c (sem2 cc0_scoped3))) (slots_Lru c) hw

theorem slots_Up :
    (bigSep Finset.univ (anyS c (rdSlot (Memref.whole cc0_scoped4 : Memref sig .tc .vmem S3x2048x512 .bf16) (fun i : Fin 3 => at3 i) S1x2048x512.size at3_Up (sX := S2048x512) S2048x512.size Gen.squeezes_S1x2048x512_S2048x512)) : sProp 𝕄)
      = iprop(∃ f : Buf (Elt F) ((c : Thread nD τ).loc cc0_scoped4), ((c : Thread nD τ).loc cc0_scoped4) ↦{fullShare} f) := by
  have h : ∀ i : Fin 3, (rdSlot (Memref.whole cc0_scoped4 : Memref sig .tc .vmem S3x2048x512 .bf16) (fun i : Fin 3 => at3 i) S1x2048x512.size at3_Up (sX := S2048x512) S2048x512.size Gen.squeezes_S1x2048x512_S2048x512 i).view.set
      = (Rect.unit (s := S3x2048x512) (at3 i) S1x2048x512.size (at3_Up i)).set := fun i => (View.set_reshape _ _).trans (View.set_slice_whole _ _)
  refine Eq.trans ?_ (parts_eq (ℓ := (c : Thread nD τ).loc cc0_scoped4) (I := fun i : Fin 3 => (Rect.unit (s := S3x2048x512) (at3 i) S1x2048x512.size (at3_Up i)).set)
    (f := fun x : (⟨3, ![3, 2048, 512]⟩ : Shape).Idx => x 0) fun i x => mem_slot i (at3_Up i) x)
  refine congrArg _ (funext fun i => ?_)
  unfold anyS
  rw [h i]

theorem Up_free :
    UpAt c V (fun _ => .free) = iprop(((∃ f : Buf (Elt F) ((c : Thread nD τ).loc cc0_scoped4), ((c : Thread nD τ).loc cc0_scoped4) ↦{fullShare} f)
      ∗ ((c : Thread nD τ).loc main_arg2) ↦{fullShare.left} V main_arg2) ∗ zeros c (sem3 cc0_scoped5)) := by
  have hw : (bigSep Finset.univ (lent c (Memref.whole main_arg2 : Memref sig .tc .hbm _ _) qUp (V main_arg2)) : sProp 𝕄)
      = (((c : Thread nD τ).loc main_arg2) ↦{fullShare.left} V main_arg2) := by
    refine Eq.trans (congrArg _ (funext fun i => ?_)) (thirds_eq fullShare.left _)
    unfold lent
    rw [show (Memref.whole main_arg2 : Memref sig .tc .hbm _ _).view.set = Finset.univ from View.set_whole _]
  unfold UpAt
  refine (RdAt_free c _ _ _ _ _ _ _ _ _ _ _ _).trans ?_
  exact congrArg₂ (fun a b => iprop((a ∗ b) ∗ zeros c (sem3 cc0_scoped5))) (slots_Up c) hw

theorem slots_Low :
    (bigSep Finset.univ (anyS c (rdSlot (Memref.whole cc0_scoped6 : Memref sig .tc .vmem S3x2048x512 .bf16) (fun i : Fin 3 => at3 i) S1x2048x512.size at3_Low (sX := S2048x512) S2048x512.size Gen.squeezes_S1x2048x512_S2048x512)) : sProp 𝕄)
      = iprop(∃ f : Buf (Elt F) ((c : Thread nD τ).loc cc0_scoped6), ((c : Thread nD τ).loc cc0_scoped6) ↦{fullShare} f) := by
  have h : ∀ i : Fin 3, (rdSlot (Memref.whole cc0_scoped6 : Memref sig .tc .vmem S3x2048x512 .bf16) (fun i : Fin 3 => at3 i) S1x2048x512.size at3_Low (sX := S2048x512) S2048x512.size Gen.squeezes_S1x2048x512_S2048x512 i).view.set
      = (Rect.unit (s := S3x2048x512) (at3 i) S1x2048x512.size (at3_Low i)).set := fun i => (View.set_reshape _ _).trans (View.set_slice_whole _ _)
  refine Eq.trans ?_ (parts_eq (ℓ := (c : Thread nD τ).loc cc0_scoped6) (I := fun i : Fin 3 => (Rect.unit (s := S3x2048x512) (at3 i) S1x2048x512.size (at3_Low i)).set)
    (f := fun x : (⟨3, ![3, 2048, 512]⟩ : Shape).Idx => x 0) fun i x => mem_slot i (at3_Low i) x)
  refine congrArg _ (funext fun i => ?_)
  unfold anyS
  rw [h i]

theorem Low_free :
    LowAt c V (fun _ => .free) = iprop(((∃ f : Buf (Elt F) ((c : Thread nD τ).loc cc0_scoped6), ((c : Thread nD τ).loc cc0_scoped6) ↦{fullShare} f)
      ∗ ((c : Thread nD τ).loc main_arg2) ↦{fullShare.right} V main_arg2) ∗ zeros c (sem3 cc0_scoped7)) := by
  have hw : (bigSep Finset.univ (lent c (Memref.whole main_arg2 : Memref sig .tc .hbm _ _) qLow (V main_arg2)) : sProp 𝕄)
      = (((c : Thread nD τ).loc main_arg2) ↦{fullShare.right} V main_arg2) := by
    refine Eq.trans (congrArg _ (funext fun i => ?_)) (thirds_eq fullShare.right _)
    unfold lent
    rw [show (Memref.whole main_arg2 : Memref sig .tc .hbm _ _).view.set = Finset.univ from View.set_whole _]
  unfold LowAt
  refine (RdAt_free c _ _ _ _ _ _ _ _ _ _ _ _).trans ?_
  exact congrArg₂ (fun a b => iprop((a ∗ b) ∗ zeros c (sem3 cc0_scoped7))) (slots_Low c) hw

theorem slots_Res :
    (bigSep Finset.univ (anyS c (rdSlot (Memref.whole cc0_scoped8 : Memref sig .tc .vmem S3x1024x512 .f32) (fun i : Fin 3 => at3 i) S1x1024x512.size at3_Res (sX := S1024x512) S1024x512.size Gen.squeezes_S1x1024x512_S1024x512)) : sProp 𝕄)
      = iprop(∃ f : Buf (Elt F) ((c : Thread nD τ).loc cc0_scoped8), ((c : Thread nD τ).loc cc0_scoped8) ↦{fullShare} f) := by
  have h : ∀ i : Fin 3, (rdSlot (Memref.whole cc0_scoped8 : Memref sig .tc .vmem S3x1024x512 .f32) (fun i : Fin 3 => at3 i) S1x1024x512.size at3_Res (sX := S1024x512) S1024x512.size Gen.squeezes_S1x1024x512_S1024x512 i).view.set
      = (Rect.unit (s := S3x1024x512) (at3 i) S1x1024x512.size (at3_Res i)).set := fun i => (View.set_reshape _ _).trans (View.set_slice_whole _ _)
  refine Eq.trans ?_ (parts_eq (ℓ := (c : Thread nD τ).loc cc0_scoped8) (I := fun i : Fin 3 => (Rect.unit (s := S3x1024x512) (at3 i) S1x1024x512.size (at3_Res i)).set)
    (f := fun x : (⟨3, ![3, 1024, 512]⟩ : Shape).Idx => x 0) fun i x => mem_slot i (at3_Res i) x)
  refine congrArg _ (funext fun i => ?_)
  unfold anyS
  rw [h i]

theorem Res_free :
    ResAt c V (fun _ => .free) = iprop(((∃ f : Buf (Elt F) ((c : Thread nD τ).loc cc0_scoped8), ((c : Thread nD τ).loc cc0_scoped8) ↦{fullShare} f)
      ∗ ((c : Thread nD τ).loc main_arg3) ↦{fullShare} V main_arg3) ∗ zeros c (sem3 cc0_scoped9)) := by
  have hw : (bigSep Finset.univ (lent c (Memref.whole main_arg3 : Memref sig .tc .hbm _ _) qThird (V main_arg3)) : sProp 𝕄)
      = (((c : Thread nD τ).loc main_arg3) ↦{fullShare} V main_arg3) := by
    refine Eq.trans (congrArg _ (funext fun i => ?_)) (thirds_eq fullShare _)
    unfold lent
    rw [show (Memref.whole main_arg3 : Memref sig .tc .hbm _ _).view.set = Finset.univ from View.set_whole _]
  unfold ResAt
  refine (RdAt_free c _ _ _ _ _ _ _ _ _ _ _ _).trans ?_
  exact congrArg₂ (fun a b => iprop((a ∗ b) ∗ zeros c (sem3 cc0_scoped9))) (slots_Res c) hw

theorem slots_Sca :
    (bigSep Finset.univ (anyS c (rdSlot (Memref.whole cc0_scoped10 : Memref sig .tc .vmem S2x1x512 .f32) (fun i : Fin 2 => at3 i) S1x1x512.size at3_Sca (sX := S1x512) S1x512.size Gen.squeezes_S1x1x512_S1x512)) : sProp 𝕄)
      = iprop(∃ f : Buf (Elt F) ((c : Thread nD τ).loc cc0_scoped10), ((c : Thread nD τ).loc cc0_scoped10) ↦{fullShare} f) := by
  have h : ∀ i : Fin 2, (rdSlot (Memref.whole cc0_scoped10 : Memref sig .tc .vmem S2x1x512 .f32) (fun i : Fin 2 => at3 i) S1x1x512.size at3_Sca (sX := S1x512) S1x512.size Gen.squeezes_S1x1x512_S1x512 i).view.set
      = (Rect.unit (s := S2x1x512) (at3 i) S1x1x512.size (at3_Sca i)).set := fun i => (View.set_reshape _ _).trans (View.set_slice_whole _ _)
  refine Eq.trans ?_ (parts_eq (ℓ := (c : Thread nD τ).loc cc0_scoped10) (I := fun i : Fin 2 => (Rect.unit (s := S2x1x512) (at3 i) S1x1x512.size (at3_Sca i)).set)
    (f := fun x : (⟨3, ![2, 1, 512]⟩ : Shape).Idx => x 0) fun i x => mem_slot i (at3_Sca i) x)
  refine congrArg _ (funext fun i => ?_)
  unfold anyS
  rw [h i]

theorem Sca_free :
    ScaAt c V (fun _ => .free) = iprop(((∃ f : Buf (Elt F) ((c : Thread nD τ).loc cc0_scoped10), ((c : Thread nD τ).loc cc0_scoped10) ↦{fullShare} f)
      ∗ ((c : Thread nD τ).loc main_v1) ↦{fullShare} V main_v1) ∗ zeros c (sem2 cc0_scoped11)) := by
  have hw : (bigSep Finset.univ (lent c (Memref.whole main_v1 : Memref sig .tc .hbm _ _) qHalf (V main_v1)) : sProp 𝕄)
      = (((c : Thread nD τ).loc main_v1) ↦{fullShare} V main_v1) := by
    refine Eq.trans (congrArg _ (funext fun i => ?_)) (halves_eq _)
    unfold lent
    rw [show (Memref.whole main_v1 : Memref sig .tc .hbm _ _).view.set = Finset.univ from View.set_whole _]
  unfold ScaAt
  refine (RdAt_free c _ _ _ _ _ _ _ _ _ _ _ _).trans ?_
  exact congrArg₂ (fun a b => iprop((a ∗ b) ∗ zeros c (sem2 cc0_scoped11))) (slots_Sca c) hw

theorem slots_Sum :
    (bigSep Finset.univ (anyS c (rdSlot (Memref.whole cc0_scoped12 : Memref sig .tc .vmem S2x1024x512 .f32) (fun i : Fin 2 => at3 i) S1x1024x512.size at3_Sum (sX := S1024x512) S1024x512.size Gen.squeezes_S1x1024x512_S1024x512)) : sProp 𝕄)
      = iprop(∃ f : Buf (Elt F) ((c : Thread nD τ).loc cc0_scoped12), ((c : Thread nD τ).loc cc0_scoped12) ↦{fullShare} f) := by
  have h : ∀ i : Fin 2, (rdSlot (Memref.whole cc0_scoped12 : Memref sig .tc .vmem S2x1024x512 .f32) (fun i : Fin 2 => at3 i) S1x1024x512.size at3_Sum (sX := S1024x512) S1024x512.size Gen.squeezes_S1x1024x512_S1024x512 i).view.set
      = (Rect.unit (s := S2x1024x512) (at3 i) S1x1024x512.size (at3_Sum i)).set := fun i => (View.set_reshape _ _).trans (View.set_slice_whole _ _)
  refine Eq.trans ?_ (parts_eq (ℓ := (c : Thread nD τ).loc cc0_scoped12) (I := fun i : Fin 2 => (Rect.unit (s := S2x1024x512) (at3 i) S1x1024x512.size (at3_Sum i)).set)
    (f := fun x : (⟨3, ![2, 1024, 512]⟩ : Shape).Idx => x 0) fun i x => mem_slot i (at3_Sum i) x)
  refine congrArg _ (funext fun i => ?_)
  unfold anyS
  rw [h i]

theorem Sum_free :
    SumAt c V (fun _ => .free) = iprop((∃ f : Buf (Elt F) ((c : Thread nD τ).loc cc0_scoped12), ((c : Thread nD τ).loc cc0_scoped12) ↦{fullShare} f)
      ∗ zeros c (sem2 cc0_scoped13)) := by
  unfold SumAt
  refine (WrAt_free c _ _ _ _ _ _ _ _ _ _ _).trans ?_
  exact congrArg (fun a => iprop(a ∗ zeros c (sem2 cc0_scoped13))) (slots_Sum c)

theorem Sum_start : (((c : Thread nD τ).loc main_v2_0) ↦{fullShare} V main_v2_0 : sProp 𝕄) ⊢ SumOut c V 0 0 := by
  have e : SumOut c V 0 0 = iprop((((c : Thread nD τ).loc main_v2_0) ↦[∅]{fullShare} sumG c V)
      ∗ ∃ f : Buf (Elt F) ((c : Thread nD τ).loc main_v2_0), ((c : Thread nD τ).loc main_v2_0) ↦{fullShare} f) :=
    congrArg₂ (fun s t => iprop((((c : Thread nD τ).loc main_v2_0) ↦[s]{fullShare} sumG c V)
      ∗ ∃ f : Buf (Elt F) ((c : Thread nD τ).loc main_v2_0), ((c : Thread nD τ).loc main_v2_0) ↦[t]{fullShare} f))
      (Finset.filter_false_of_mem fun x _ => Nat.not_lt_zero _) (Finset.filter_true_of_mem fun x _ => Nat.zero_le _)
  rw [e, pointsTo_empty]
  iintro H
  isplitr
  · iempintro
  · iexists _; iexact H

theorem Sum_end : SumOut c V 128 128 ⊢ (((c : Thread nD τ).loc main_v2_0) ↦{fullShare} sumG c V : sProp 𝕄) := by
  have h : ∀ x : S16384x4096.Idx, tileOf 512 x < 128 := fun x => by
    unfold tileOf
    have h0 : (x 0).val < 16384 := (x 0).isLt
    have h1 : (x 1).val < 4096 := (x 1).isLt
    omega
  have e : SumOut c V 128 128 = iprop((((c : Thread nD τ).loc main_v2_0) ↦{fullShare} sumG c V)
      ∗ ∃ f : Buf (Elt F) ((c : Thread nD τ).loc main_v2_0), ((c : Thread nD τ).loc main_v2_0) ↦[∅]{fullShare} f) :=
    congrArg₂ (fun s t => iprop((((c : Thread nD τ).loc main_v2_0) ↦[s]{fullShare} sumG c V)
      ∗ ∃ f : Buf (Elt F) ((c : Thread nD τ).loc main_v2_0), ((c : Thread nD τ).loc main_v2_0) ↦[t]{fullShare} f))
      (Finset.filter_true_of_mem fun x _ => h x) (Finset.filter_false_of_mem fun x _ => Nat.not_le.mpr (h x))
  rw [e]
  iintro ⟨H, %f, H'⟩
  ihave H' := (Entails.of_eq pointsTo_empty) $$ H'
  iexact H

theorem slots_Prd :
    (bigSep Finset.univ (anyS c (rdSlot (Memref.whole cc0_scoped14 : Memref sig .tc .vmem S2x1024x512 .bf16) (fun i : Fin 2 => at3 i) S1x1024x512.size at3_Prd (sX := S1024x512) S1024x512.size Gen.squeezes_S1x1024x512_S1024x512)) : sProp 𝕄)
      = iprop(∃ f : Buf (Elt F) ((c : Thread nD τ).loc cc0_scoped14), ((c : Thread nD τ).loc cc0_scoped14) ↦{fullShare} f) := by
  have h : ∀ i : Fin 2, (rdSlot (Memref.whole cc0_scoped14 : Memref sig .tc .vmem S2x1024x512 .bf16) (fun i : Fin 2 => at3 i) S1x1024x512.size at3_Prd (sX := S1024x512) S1024x512.size Gen.squeezes_S1x1024x512_S1024x512 i).view.set
      = (Rect.unit (s := S2x1024x512) (at3 i) S1x1024x512.size (at3_Prd i)).set := fun i => (View.set_reshape _ _).trans (View.set_slice_whole _ _)
  refine Eq.trans ?_ (parts_eq (ℓ := (c : Thread nD τ).loc cc0_scoped14) (I := fun i : Fin 2 => (Rect.unit (s := S2x1024x512) (at3 i) S1x1024x512.size (at3_Prd i)).set)
    (f := fun x : (⟨3, ![2, 1024, 512]⟩ : Shape).Idx => x 0) fun i x => mem_slot i (at3_Prd i) x)
  refine congrArg _ (funext fun i => ?_)
  unfold anyS
  rw [h i]

theorem Prd_free :
    PrdAt c V (fun _ => .free) = iprop((∃ f : Buf (Elt F) ((c : Thread nD τ).loc cc0_scoped14), ((c : Thread nD τ).loc cc0_scoped14) ↦{fullShare} f)
      ∗ zeros c (sem2 cc0_scoped15)) := by
  unfold PrdAt
  refine (WrAt_free c _ _ _ _ _ _ _ _ _ _ _).trans ?_
  exact congrArg (fun a => iprop(a ∗ zeros c (sem2 cc0_scoped15))) (slots_Prd c)

theorem Prd_start : (((c : Thread nD τ).loc main_v2_1) ↦{fullShare} V main_v2_1 : sProp 𝕄) ⊢ PrdOut c V 0 0 := by
  have e : PrdOut c V 0 0 = iprop((((c : Thread nD τ).loc main_v2_1) ↦[∅]{fullShare} prdG c V)
      ∗ ∃ f : Buf (Elt F) ((c : Thread nD τ).loc main_v2_1), ((c : Thread nD τ).loc main_v2_1) ↦{fullShare} f) :=
    congrArg₂ (fun s t => iprop((((c : Thread nD τ).loc main_v2_1) ↦[s]{fullShare} prdG c V)
      ∗ ∃ f : Buf (Elt F) ((c : Thread nD τ).loc main_v2_1), ((c : Thread nD τ).loc main_v2_1) ↦[t]{fullShare} f))
      (Finset.filter_false_of_mem fun x _ => Nat.not_lt_zero _) (Finset.filter_true_of_mem fun x _ => Nat.zero_le _)
  rw [e, pointsTo_empty]
  iintro H
  isplitr
  · iempintro
  · iexists _; iexact H

theorem Prd_end : PrdOut c V 128 128 ⊢ (((c : Thread nD τ).loc main_v2_1) ↦{fullShare} prdG c V : sProp 𝕄) := by
  have h : ∀ x : S16384x4096.Idx, tileOf 512 x < 128 := fun x => by
    unfold tileOf
    have h0 : (x 0).val < 16384 := (x 0).isLt
    have h1 : (x 1).val < 4096 := (x 1).isLt
    omega
  have e : PrdOut c V 128 128 = iprop((((c : Thread nD τ).loc main_v2_1) ↦{fullShare} prdG c V)
      ∗ ∃ f : Buf (Elt F) ((c : Thread nD τ).loc main_v2_1), ((c : Thread nD τ).loc main_v2_1) ↦[∅]{fullShare} f) :=
    congrArg₂ (fun s t => iprop((((c : Thread nD τ).loc main_v2_1) ↦[s]{fullShare} prdG c V)
      ∗ ∃ f : Buf (Elt F) ((c : Thread nD τ).loc main_v2_1), ((c : Thread nD τ).loc main_v2_1) ↦[t]{fullShare} f))
      (Finset.filter_true_of_mem fun x _ => h x) (Finset.filter_false_of_mem fun x _ => Nat.not_le.mpr (h x))
  rw [e]
  iintro ⟨H, %f, H'⟩
  ihave H' := (Entails.of_eq pointsTo_empty) $$ H'
  iexact H

theorem slots_Sqs :
    (bigSep Finset.univ (anyS c (rdSlot (Memref.whole cc0_scoped16 : Memref sig .tc .vmem S2x1024x128 .f32) (fun i : Fin 2 => at3 i) S1x1024x128.size at3_Sqs (sX := S1024x128) S1024x128.size Gen.squeezes_S1x1024x128_S1024x128)) : sProp 𝕄)
      = iprop(∃ f : Buf (Elt F) ((c : Thread nD τ).loc cc0_scoped16), ((c : Thread nD τ).loc cc0_scoped16) ↦{fullShare} f) := by
  have h : ∀ i : Fin 2, (rdSlot (Memref.whole cc0_scoped16 : Memref sig .tc .vmem S2x1024x128 .f32) (fun i : Fin 2 => at3 i) S1x1024x128.size at3_Sqs (sX := S1024x128) S1024x128.size Gen.squeezes_S1x1024x128_S1024x128 i).view.set
      = (Rect.unit (s := S2x1024x128) (at3 i) S1x1024x128.size (at3_Sqs i)).set := fun i => (View.set_reshape _ _).trans (View.set_slice_whole _ _)
  refine Eq.trans ?_ (parts_eq (ℓ := (c : Thread nD τ).loc cc0_scoped16) (I := fun i : Fin 2 => (Rect.unit (s := S2x1024x128) (at3 i) S1x1024x128.size (at3_Sqs i)).set)
    (f := fun x : (⟨3, ![2, 1024, 128]⟩ : Shape).Idx => x 0) fun i x => mem_slot i (at3_Sqs i) x)
  refine congrArg _ (funext fun i => ?_)
  unfold anyS
  rw [h i]

theorem Sqs_free :
    SqsAt c V (fun _ => .free) = iprop((∃ f : Buf (Elt F) ((c : Thread nD τ).loc cc0_scoped16), ((c : Thread nD τ).loc cc0_scoped16) ↦{fullShare} f)
      ∗ zeros c (sem2 cc0_scoped17)) := by
  unfold SqsAt
  refine (WrAt_free c _ _ _ _ _ _ _ _ _ _ _).trans ?_
  exact congrArg (fun a => iprop(a ∗ zeros c (sem2 cc0_scoped17))) (slots_Sqs c)

theorem Sqs_start : (((c : Thread nD τ).loc main_v2_2) ↦{fullShare} V main_v2_2 : sProp 𝕄) ⊢ SqsOut c V 0 0 := by
  have e : SqsOut c V 0 0 = iprop((((c : Thread nD τ).loc main_v2_2) ↦[∅]{fullShare} sqsG c V)
      ∗ ∃ f : Buf (Elt F) ((c : Thread nD τ).loc main_v2_2), ((c : Thread nD τ).loc main_v2_2) ↦{fullShare} f) :=
    congrArg₂ (fun s t => iprop((((c : Thread nD τ).loc main_v2_2) ↦[s]{fullShare} sqsG c V)
      ∗ ∃ f : Buf (Elt F) ((c : Thread nD τ).loc main_v2_2), ((c : Thread nD τ).loc main_v2_2) ↦[t]{fullShare} f))
      (Finset.filter_false_of_mem fun x _ => Nat.not_lt_zero _) (Finset.filter_true_of_mem fun x _ => Nat.zero_le _)
  rw [e, pointsTo_empty]
  iintro H
  isplitr
  · iempintro
  · iexists _; iexact H

theorem Sqs_end : SqsOut c V 128 128 ⊢ (((c : Thread nD τ).loc main_v2_2) ↦{fullShare} sqsG c V : sProp 𝕄) := by
  have h : ∀ x : S16384x1024.Idx, tileOf 128 x < 128 := fun x => by
    unfold tileOf
    have h0 : (x 0).val < 16384 := (x 0).isLt
    have h1 : (x 1).val < 1024 := (x 1).isLt
    omega
  have e : SqsOut c V 128 128 = iprop((((c : Thread nD τ).loc main_v2_2) ↦{fullShare} sqsG c V)
      ∗ ∃ f : Buf (Elt F) ((c : Thread nD τ).loc main_v2_2), ((c : Thread nD τ).loc main_v2_2) ↦[∅]{fullShare} f) :=
    congrArg₂ (fun s t => iprop((((c : Thread nD τ).loc main_v2_2) ↦[s]{fullShare} sqsG c V)
      ∗ ∃ f : Buf (Elt F) ((c : Thread nD τ).loc main_v2_2), ((c : Thread nD τ).loc main_v2_2) ↦[t]{fullShare} f))
      (Finset.filter_true_of_mem fun x _ => h x) (Finset.filter_false_of_mem fun x _ => Nat.not_le.mpr (h x))
  rw [e]
  iintro ⟨H, %f, H'⟩
  ihave H' := (Entails.of_eq pointsTo_empty) $$ H'
  iexact H

/-! ## The launch's buffers -/

/-- The kernel's own semaphores. -/
abbrev osem0 : Fin 21 → SemLoc sig := fun j => SemLoc.dma j
theorem ownSemFacts0 : Pipeline.OwnSemFacts (cfgs 0).spec osem0 := by decide

/-- The buffers the body reads or writes by transfers of its own. -/
def R0 : Finset (Ref sig .tc) := {main_arg0, main_arg1, main_arg2, main_arg3, main_v1, main_v2_0, main_v2_1, main_v2_2}
theorem R0_sub : R0 ⊆ Pipeline.restRefs sig spec0 := by decide

theorem zeros_eq :
    (Pipeline.ownSems0 (Ix := Unit) (Name := ℕ) (U := Pipeline.UC sig nD τ) (Lvl := ℕ) (Val := Elt F) (τ := τ) osem0 c : sProp 𝕄)
      = iprop(zeros c (sem2 cc0_scoped1) ∗ zeros c (sem2 cc0_scoped3) ∗ zeros c (sem3 cc0_scoped5) ∗ zeros c (sem3 cc0_scoped7) ∗ zeros c (sem3 cc0_scoped9) ∗ zeros c (sem2 cc0_scoped11) ∗ zeros c (sem2 cc0_scoped13) ∗ zeros c (sem2 cc0_scoped15) ∗ zeros c (sem2 cc0_scoped17)) := by
  rw [Pipeline.ownSems0_eq_of_list c osem0 (List.finRange 21) (by decide) (by decide)]
  unfold zeros
  have h₂ : ∀ Φ : Fin 2 → sProp 𝕄, bigSep Finset.univ Φ = iprop(Φ 0 ∗ Φ 1) := bigSep_fin_two
  have ha : ∀ P Q R : sProp 𝕄, iprop((P ∗ Q) ∗ R) = iprop(P ∗ Q ∗ R) := fun _ _ _ => equiv_iff.mp ⟨sep_assoc, sep_assoc'⟩
  simp only [h₂, Ring.bigSep_fin3, ha]
  rfl

theorem routed_eq (W : (b : Ref sig .tc) → Buf (Elt F) ((c : Thread nD τ).loc b)) :
    (Pipeline.routed R0 c W : sProp 𝕄) = iprop((((c : Thread nD τ).loc main_arg0) ↦{fullShare} W main_arg0) ∗ (((c : Thread nD τ).loc main_arg1) ↦{fullShare} W main_arg1) ∗ (((c : Thread nD τ).loc main_arg2) ↦{fullShare} W main_arg2) ∗ (((c : Thread nD τ).loc main_arg3) ↦{fullShare} W main_arg3) ∗ (((c : Thread nD τ).loc main_v1) ↦{fullShare} W main_v1) ∗ (((c : Thread nD τ).loc main_v2_0) ↦{fullShare} W main_v2_0) ∗ (((c : Thread nD τ).loc main_v2_1) ↦{fullShare} W main_v2_1) ∗ (((c : Thread nD τ).loc main_v2_2) ↦{fullShare} W main_v2_2)) := by
  unfold Pipeline.routed
  rw [BI.bigSep_eq_bigSepL_of_eq [main_arg0, main_arg1, main_arg2, main_arg3, main_v1, main_v2_0, main_v2_1, main_v2_2] (by decide) (by decide)]; rfl

/-- The buffers after the body: the three results written. -/
def after (b : Ref sig .tc) : Buf (Elt F) ((c : Thread nD τ).loc b) :=
  Function.update (Function.update (Function.update V main_v2_0 (sumG c V)) main_v2_1 (prdG c V)) main_v2_2 (sqsG c V) b

theorem after_main_arg0 : after c V main_arg0 = V main_arg0 := by
  unfold after
  rw [Function.update_of_ne (by decide), Function.update_of_ne (by decide), Function.update_of_ne (by decide)]
theorem after_main_arg1 : after c V main_arg1 = V main_arg1 := by
  unfold after
  rw [Function.update_of_ne (by decide), Function.update_of_ne (by decide), Function.update_of_ne (by decide)]
theorem after_main_arg2 : after c V main_arg2 = V main_arg2 := by
  unfold after
  rw [Function.update_of_ne (by decide), Function.update_of_ne (by decide), Function.update_of_ne (by decide)]
theorem after_main_arg3 : after c V main_arg3 = V main_arg3 := by
  unfold after
  rw [Function.update_of_ne (by decide), Function.update_of_ne (by decide), Function.update_of_ne (by decide)]
theorem after_main_v1 : after c V main_v1 = V main_v1 := by
  unfold after
  rw [Function.update_of_ne (by decide), Function.update_of_ne (by decide), Function.update_of_ne (by decide)]
theorem after_main_v2_0 : after c V main_v2_0 = sumG c V := by
  unfold after
  rw [Function.update_of_ne (by decide), Function.update_of_ne (by decide), Function.update_self]
theorem after_main_v2_1 : after c V main_v2_1 = prdG c V := by
  unfold after
  rw [Function.update_of_ne (by decide), Function.update_self]
theorem after_main_v2_2 : after c V main_v2_2 = sqsG c V := by
  unfold after
  rw [Function.update_self]

/-- The body, from the launch's buffers to the launch's buffers. -/
theorem body_ends (Q : PUnit → sProp 𝕄) :
    iprop(Pipeline.Ends cfg0.spec osem0 R0 c V ∗ Owes c)
      ⊢ iprop((iprop(Pipeline.Ends cfg0.spec osem0 R0 c (after c V) ∗ Owes c) -∗ Q ⟨⟩)
        -∗ wp Idealize.ShloMosaic.frame (wpE defs₀ (Variants.none) (c : Thread nD τ) none) Set.univ (Gen.bodyAt0 (F := F) Gen.t0_0) Q) := by
  unfold Pipeline.Ends
  rw [routed_eq, routed_eq, zeros_eq, Gen.scopedRest0_eq]
  rw [after_main_arg0, after_main_arg1, after_main_arg2, after_main_arg3, after_main_v1, after_main_v2_0, after_main_v2_1, after_main_v2_2]
  rw [two_shares fullShare (V main_arg2)]
  iintro ⟨⟨⟨A0, A1, ⟨A2, B2⟩, A3, A4, O0, O1, O2⟩, ⟨ZRet, ZLru, ZUp, ZLow, ZRes, ZSca, ZSum, ZPrd, ZSqs⟩, ⟨SRet, SLru, SUp, SLow, SRes, SSca, SSum, SPrd, SSqs⟩, HG⟩, HO⟩ HQ
  iapply (project c V Q) $$ [A0 A1 A2 B2 A3 A4 O0 O1 O2 ZRet ZLru ZUp ZLow ZRes ZSca ZSum ZPrd ZSqs SRet SLru SUp SLow SRes SSca SSum SPrd SSqs HO]
  · isplitl [SRet A0 ZRet]
    · iapply (Entails.of_eq (Ret_free c V).symm)
      isplitr [ZRet]
      · isplitl [SRet]; · iexact SRet
        iexact A0
      · iexact ZRet
    isplitl [SLru A1 ZLru]
    · iapply (Entails.of_eq (Lru_free c V).symm)
      isplitr [ZLru]
      · isplitl [SLru]; · iexact SLru
        iexact A1
      · iexact ZLru
    isplitl [SUp A2 ZUp]
    · iapply (Entails.of_eq (Up_free c V).symm)
      isplitr [ZUp]
      · isplitl [SUp]; · iexact SUp
        iexact A2
      · iexact ZUp
    isplitl [SLow B2 ZLow]
    · iapply (Entails.of_eq (Low_free c V).symm)
      isplitr [ZLow]
      · isplitl [SLow]; · iexact SLow
        iexact B2
      · iexact ZLow
    isplitl [SRes A3 ZRes]
    · iapply (Entails.of_eq (Res_free c V).symm)
      isplitr [ZRes]
      · isplitl [SRes]; · iexact SRes
        iexact A3
      · iexact ZRes
    isplitl [SSca A4 ZSca]
    · iapply (Entails.of_eq (Sca_free c V).symm)
      isplitr [ZSca]
      · isplitl [SSca]; · iexact SSca
        iexact A4
      · iexact ZSca
    isplitl [SSum ZSum]
    · iapply (Entails.of_eq (Sum_free c V).symm)
      isplitl [SSum]; · iexact SSum
      iexact ZSum
    isplitl [O0]
    · iapply (Sum_start c V) $$ O0
    isplitl [SPrd ZPrd]
    · iapply (Entails.of_eq (Prd_free c V).symm)
      isplitl [SPrd]; · iexact SPrd
      iexact ZPrd
    isplitl [O1]
    · iapply (Prd_start c V) $$ O1
    isplitl [SSqs ZSqs]
    · iapply (Entails.of_eq (Sqs_free c V).symm)
      isplitl [SSqs]; · iexact SSqs
      iexact ZSqs
    isplitl [O2]
    · iapply (Sqs_start c V) $$ O2
    iexact HO
  iintro ⟨HRet, HLru, HUp, HLow, HRes, HSca, HSum, O0, HPrd, O1, HSqs, O2, HO⟩
  ihave HRet := (Entails.of_eq (Ret_free c V)) $$ HRet
  icases HRet with ⟨⟨SRet, A0⟩, ZRet⟩
  ihave HLru := (Entails.of_eq (Lru_free c V)) $$ HLru
  icases HLru with ⟨⟨SLru, A1⟩, ZLru⟩
  ihave HUp := (Entails.of_eq (Up_free c V)) $$ HUp
  icases HUp with ⟨⟨SUp, A2⟩, ZUp⟩
  ihave HLow := (Entails.of_eq (Low_free c V)) $$ HLow
  icases HLow with ⟨⟨SLow, B2⟩, ZLow⟩
  ihave HRes := (Entails.of_eq (Res_free c V)) $$ HRes
  icases HRes with ⟨⟨SRes, A3⟩, ZRes⟩
  ihave HSca := (Entails.of_eq (Sca_free c V)) $$ HSca
  icases HSca with ⟨⟨SSca, A4⟩, ZSca⟩
  ihave HSum := (Entails.of_eq (Sum_free c V)) $$ HSum
  icases HSum with ⟨SSum, ZSum⟩
  ihave O0 := (Sum_end c V) $$ O0
  ihave HPrd := (Entails.of_eq (Prd_free c V)) $$ HPrd
  icases HPrd with ⟨SPrd, ZPrd⟩
  ihave O1 := (Prd_end c V) $$ O1
  ihave HSqs := (Entails.of_eq (Sqs_free c V)) $$ HSqs
  icases HSqs with ⟨SSqs, ZSqs⟩
  ihave O2 := (Sqs_end c V) $$ O2
  iapply HQ
  isplitr [HO]
  · isplitl [A0 A1 A2 B2 A3 A4 O0 O1 O2]
    · isplitl [A0]; · iexact A0
      isplitl [A1]; · iexact A1
      isplitl [A2 B2]
      · isplitl [A2]; · iexact A2
        iexact B2
      isplitl [A3]; · iexact A3
      isplitl [A4]; · iexact A4
      isplitl [O0]; · iexact O0
      isplitl [O1]; · iexact O1
      iexact O2
    isplitl [ZRet ZLru ZUp ZLow ZRes ZSca ZSum ZPrd ZSqs]
    · isplitl [ZRet]; · iexact ZRet
      isplitl [ZLru]; · iexact ZLru
      isplitl [ZUp]; · iexact ZUp
      isplitl [ZLow]; · iexact ZLow
      isplitl [ZRes]; · iexact ZRes
      isplitl [ZSca]; · iexact ZSca
      isplitl [ZSum]; · iexact ZSum
      isplitl [ZPrd]; · iexact ZPrd
      iexact ZSqs
    isplitl [SRet SLru SUp SLow SRes SSca SSum SPrd SSqs]
    · isplitl [SRet]; · iexact SRet
      isplitl [SLru]; · iexact SLru
      isplitl [SUp]; · iexact SUp
      isplitl [SLow]; · iexact SLow
      isplitl [SRes]; · iexact SRes
      isplitl [SSca]; · iexact SSca
      isplitl [SSum]; · iexact SSum
      isplitl [SPrd]; · iexact SPrd
      iexact SSqs
    iexact HG
  · iexact HO

/-! ## The run -/

variable (m : (ℓ : Loc nD τ sig) → Buf (Elt F) ℓ) (ρ : Dev nD → PrngReg)

/-- The proof data of the one call: before its single point the launch's buffers, after it the same with the results. -/
def dats (_ : Fin 1) (c : Dev nD) : Dat τ (Elt F) Unit ℕ (Pipeline.UC sig nD τ) ℕ cfg0 c where
  A w := match w with | ⟨_, h⟩ => absurd h (Nat.not_lt_zero _)
  after w _ := match w with | ⟨_, h⟩ => absurd h (Nat.not_lt_zero _)
  Φ t := Pipeline.Ends cfg0.spec osem0 R0 c (if t.val = 0 then Gen.V m c else after c (Gen.V m c))
  q _ := fullShare
  owed _ := 0

theorem body_point (c : Dev nD) (A B : sProp 𝕄) (hB : (BI.emp : sProp 𝕄) ⊢ B) :
    iprop((dats m 0 c).Φ Gen.t0_0.castSucc ∗ (dats m 0 c).owesAt () Gen.t0_0.castSucc ∗ A)
      ⊢ wp Idealize.ShloMosaic.frame (wpE defs₀ (Variants.none) (c : Thread nD τ) none) Set.univ (Gen.bodyAt0 (F := F) Gen.t0_0)
        (fun _ => iprop((dats m 0 c).Φ Gen.t0_0.succ ∗ (dats m 0 c).owesAt () Gen.t0_0.succ ∗ B)) := by
  rw [show (dats m 0 c).Φ Gen.t0_0.castSucc = Pipeline.Ends cfg0.spec osem0 R0 c (Gen.V m c) from rfl,
    show (dats m 0 c).Φ Gen.t0_0.succ = Pipeline.Ends cfg0.spec osem0 R0 c (after c (Gen.V m c)) from rfl]
  unfold Dat.owesAt Pipeline.owesWithin
  rw [show (dats m 0 c).owed Gen.t0_0.castSucc = 0 from rfl, show (dats m 0 c).owed Gen.t0_0.succ = 0 from rfl]
  iintro ⟨HE, ⟨%W, -, HW⟩, -⟩
  iapply (body_ends c (Gen.V m c) _) $$ [HE HW]
  · isplitl [HE]; · iexact HE
    unfold Owes; iexists W; iexact HW
  iintro ⟨HE, HW⟩
  unfold Owes
  icases HW with ⟨%W', HW⟩
  isplitl [HE]; · iexact HE
  isplitl [HW]
  · iexists W'; isplitr; · ipureintro; exact fun _ _ => Or.inl trivial
    iexact HW
  iapply hB
  iempintro

theorem body_row (t : Fin cfg0.N) :
    defs₀ (F := F) .tc cfg0.body (cfg0.bodyArgs t (cfg0.slots t)) = Gen.bodyAt0 t := by
  unfold defs₀; rw [Defs.onTc_tc]

theorem body_obligation (c : Dev nD) : BodyObligation (dats (F := F) m 0 c) (defs₀ (F := F)) Variants.none () Set.univ := fun t => by
  obtain rfl : t = Gen.t0_0 := Gen.fin_N0 t
  rw [body_row]
  exact triple_restated (body_point m c _ _ (by
    rw [show (Finset.univ : Finset (Fin cfg0.W)) = ∅ from rfl, bigSep_empty])) rfl .rfl fun _ => .rfl

set_option backward.isDefEq.respectTransparency.types false in
theorem run_main : θ_run defs (onTc (τ := τ) (main (F := F))) (s₀ m ρ)
    (fun r => Pipeline.RoutedPost cfgs (dats m) 0 R0 (fun c => Gen.V m c) (fun c => after c (Gen.V m c)) r ∧ r.2.sem = fun _ => 0) :=
  Pipeline.θ_run_frame_routed (Q' := _) cfgs (dats m) (0 : Fin 1) Gen.launch0 (osem := osem0) ownSemFacts0 defs₀ Variants.none m ρ main
    (hbody := fun c => (body_obligation m c).loose) (hshare := fun c => (dats m 0 c).share_full fun _ => rfl)
    (howed := fun _ _ => rfl) (V := fun c => Gen.V m c)
    (hmain := Pipeline.hmain_prefix cfgs 0 defs₀ Variants.none m main Gen.hostOps0 Gen.hostOps0_sub Gen.hostOps0_fresh Gen.main_chain)
    (hA := fun _ w => absurd w.isLt (Nat.not_lt_zero _)) (R := R0) (hR := R0_sub) (Y := fun c => after c (Gen.V m c))
    (hin := fun _ => .rfl) (hout := fun _ => .rfl)

theorem in_rest (b : Ref sig .tc) (h : b ∈ Pipeline.restRefs sig (cfgs 0).spec) (h' : b ∉ R0) : b ∈ Pipeline.restRefs sig (cfgs 0).spec \ R0 :=
  Finset.mem_sdiff.mpr ⟨h, h'⟩

/-- Every run ends with the arguments as launched, every semaphore at zero and the three results as the tiles make them. -/
theorem run_done : θ_run defs (onTc (τ := τ) (main (F := F))) ⟨m, fun _ => 0, ρ⟩ (fun r =>
    ((∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
    ∧ ∀ c : Dev nD, r.2.mem ((c.tc : Thread nD τ).loc main_v2_0) = sumG c (Gen.V m c)
      ∧ r.2.mem ((c.tc : Thread nD τ).loc main_v2_1) = prdG c (Gen.V m c)
      ∧ r.2.mem ((c.tc : Thread nD τ).loc main_v2_2) = sqsG c (Gen.V m c)) := by
  refine (θ_run defs _ _).mono (fun r h => ?_) (run_main m ρ)
  obtain ⟨h, hs⟩ := h
  refine ⟨⟨fun c => ⟨?_, ?_, ?_, ?_, ?_⟩, hs⟩, fun c => ⟨?_, ?_, ?_⟩⟩
  · exact ((h c).2.1 main_arg0 (by decide)).trans ((after_main_arg0 c _).trans (Gen.V_main_arg0 m c))
  · exact ((h c).2.1 main_arg1 (by decide)).trans ((after_main_arg1 c _).trans (Gen.V_main_arg1 m c))
  · exact ((h c).2.1 main_arg2 (by decide)).trans ((after_main_arg2 c _).trans (Gen.V_main_arg2 m c))
  · exact ((h c).2.1 main_arg3 (by decide)).trans ((after_main_arg3 c _).trans (Gen.V_main_arg3 m c))
  · exact ((h c).2.2 main_arg4 (in_rest _ (by decide) (by decide))).trans (Gen.V_main_arg4 m c)
  · exact ((h c).2.1 main_v2_0 (by decide)).trans (after_main_v2_0 c _)
  · exact ((h c).2.1 main_v2_1 (by decide)).trans (after_main_v2_1 c _)
  · exact ((h c).2.1 main_v2_2 (by decide)).trans (after_main_v2_2 c _)

end Cert.KernelIdeal.Pipe

end
-- ==== Proof.Value.lean ====
module

public import proofs.«01_k».proof.Proof.Launch
public import proofs.«01_k».proof.Proof.Gen.ReferenceIdeal.Run
public import Idealize.ShloMosaic.Lib.Pointwise
public import Idealize.ShloMosaic.Lib.Quiescent

/-!
# What the arrays hold

The results of the kernel and of the reference, read at an index over the extended reals.
-/

@[expose] public section

set_option maxRecDepth 16384

noncomputable section

namespace Cert.KernelIdeal.Pipe

open Idealize.ShloMosaic Idealize.ShloMosaic.TcCoe Cert.KernelIdeal

variable (a0 a1 : FVec Ideal S16384x2048 .bf16) (w : FVec Ideal S4096x4096 .bf16) (x : FVec Ideal S16384x4096 .f32) (g : FVec Ideal S1x4096 .f32)

/-- The sum of the residual and the projection of the two mixers' outputs, each by its half of the weights. -/
def projE (r : Fin 16384) (j : Fin 4096) : EReal :=
  x (ix2 r j) + ((∑ k : Fin 2048, a0 (ix2 r k) * w (ix2 ⟨k.val, by omega⟩ j)) + ∑ k : Fin 2048, a1 (ix2 r k) * w (ix2 ⟨2048 + k.val, by omega⟩ j))

/-! ## The reference -/

/-- The reference's first result. -/
abbrev refSum : FVec Ideal S16384x4096 .f32 :=
  addf x (Host.dotGeneral Cert.ReferenceIdeal.dot_S16384x4096_S4096x4096_S16384x4096_1_0_0_1_n_n none
    (extf .f32 (concatenate S16384x4096 1 [⟨S16384x2048, a0⟩, ⟨S16384x2048, a1⟩] Cert.ReferenceIdeal.Gen.facts.concatenates_S16384x2048_S16384x2048_S16384x4096_d1) Cert.ReferenceIdeal.Gen.facts.bitsLt_bf16_f32)
    (extf .f32 w Cert.ReferenceIdeal.Gen.facts.bitsLt_bf16_f32))

theorem refSum_apply (r : Fin 16384) (j : Fin 4096) : refSum a0 a1 w x (ix2 r j) = projE a0 a1 w x r j := by
  pointwise [refSum, projE]

/-- The reference's second result, from the first. -/
abbrev refPrd (s : FVec Ideal S16384x4096 .f32) : FVec Ideal S16384x4096 .bf16 :=
  truncf .bf16 (mulf s (broadcastInDim S16384x4096 ![0, 1] Cert.ReferenceIdeal.Gen.facts.bcast_S1x4096_S16384x4096_0_1
    (broadcastInDim S1x4096 ![1] Cert.ReferenceIdeal.Gen.facts.bcast_S4096_S1x4096_1 (shapeCast _ g Cert.ReferenceIdeal.Gen.facts.shapeCasts_S1x4096_S4096)))) Cert.ReferenceIdeal.Gen.facts.bitsLt_bf16_f32

theorem refPrd_apply (s : FVec Ideal S16384x4096 .f32) (r : Fin 16384) (j : Fin 4096) :
    refPrd g s (ix2 r j) = s (ix2 r j) * g (ix2 0 j) := by
  pointwise [refPrd]

/-- The reference's third result, from the first. -/
abbrev refSqs (s : FVec Ideal S16384x4096 .f32) : FVec Ideal S16384x1024 .f32 :=
  shapeCast _ (Host.reduceAdd (shapeCast _ (mulf s s) Cert.ReferenceIdeal.Gen.facts.shapeCasts_S16384x4096_S16384x8x4x128)
    (constant S_ .f32 0x00000000#32) Cert.ReferenceIdeal.Gen.facts.reducesTo_S16384x8x4x128_S16384x8x128_d2 Cert.ReferenceIdeal.Gen.facts.h_S_) Cert.ReferenceIdeal.Gen.facts.shapeCasts_S16384x8x128_S16384x1024

/-- Four columns' squares, 128 columns apart. -/
def fourSq (s : Fin 16384 → Fin 4096 → EReal) (r : Fin 16384) (l : Fin 1024) : EReal :=
  ∑ q : Fin 4, s r ⟨l.val / 128 * 512 + q.val * 128 + l.val % 128, by omega⟩ * s r ⟨l.val / 128 * 512 + q.val * 128 + l.val % 128, by omega⟩

theorem refSqs_apply (s : FVec Ideal S16384x4096 .f32) (r : Fin 16384) (l : Fin 1024) :
    refSqs s (ix2 r l) = fourSq (fun r j => s (ix2 r j)) r l := by
  pointwise [refSqs, fourSq]

/-! ## The kernel's tiles -/

variable (c : Dev nD) (V : (b : Ref sig .tc) → Buf (Elt Ideal) ((c : Thread nD τ).loc b))

/-- Row `r` of row block `b / 8`. -/
abbrev rowIx (b : ℕ) (r : Fin 1024) : Fin 16384 := ⟨1024 * (b / 8 % 16) + r.val, by omega⟩
/-- Column `j` of column block `b`. -/
abbrev colIx (b : ℕ) (j : Fin 512) : Fin 4096 := ⟨512 * (b % 8) + j.val, by omega⟩

theorem accV_apply (b : ℕ) (r : Fin 1024) (j : Fin 512) : accV c V b (ix2 r j)
    = ((∑ k : Fin 2048, (retV c V (b / 8) : FVec Ideal S1024x2048 .bf16) (ix2 r k) * (upV c V b : FVec Ideal S2048x512 .bf16) (ix2 k j))
      + ∑ k : Fin 2048, (lruV c V (b / 8) : FVec Ideal S1024x2048 .bf16) (ix2 r k) * (lowV c V b : FVec Ideal S2048x512 .bf16) (ix2 k j) : EReal) := by
  pointwise [accV, Gen.k0_pay1]

theorem retV_apply (b : ℕ) (r : Fin 1024) (k : Fin 2048) : retV c V (b / 8) (ix2 r k) = V main_arg0 (ix2 (rowIx b r) k : S16384x2048.Idx) := by
  refine congrArg (V main_arg0) ?_
  funext a; fin_cases a
  · exact Fin.ext (show 1024 * (b / 8 % 16) + 1 * r.val = _ from congrArg _ (one_mul _))
  · exact Fin.ext (show 0 + 1 * k.val = k.val by omega)
theorem lruV_apply (b : ℕ) (r : Fin 1024) (k : Fin 2048) : lruV c V (b / 8) (ix2 r k) = V main_arg1 (ix2 (rowIx b r) k : S16384x2048.Idx) := by
  refine congrArg (V main_arg1) ?_
  funext a; fin_cases a
  · exact Fin.ext (show 1024 * (b / 8 % 16) + 1 * r.val = _ from congrArg _ (one_mul _))
  · exact Fin.ext (show 0 + 1 * k.val = k.val by omega)
theorem upV_apply (b : ℕ) (k : Fin 2048) (j : Fin 512) : upV c V b (ix2 k j) = V main_arg2 (ix2 ⟨k.val, by omega⟩ (colIx b j) : S4096x4096.Idx) := by
  refine congrArg (V main_arg2) ?_
  funext a; fin_cases a
  · exact Fin.ext (show 0 + 1 * k.val = k.val by omega)
  · exact Fin.ext (show 512 * (b % 8) + 1 * j.val = _ from congrArg _ (one_mul _))
theorem lowV_apply (b : ℕ) (k : Fin 2048) (j : Fin 512) : lowV c V b (ix2 k j) = V main_arg2 (ix2 ⟨2048 + k.val, by omega⟩ (colIx b j) : S4096x4096.Idx) := by
  refine congrArg (V main_arg2) ?_
  funext a; fin_cases a
  · exact Fin.ext (show 2048 + 1 * k.val = _ from congrArg _ (one_mul _))
  · exact Fin.ext (show 512 * (b % 8) + 1 * j.val = _ from congrArg _ (one_mul _))
theorem resV_apply (b : ℕ) (r : Fin 1024) (j : Fin 512) : resV c V b (ix2 r j) = V main_arg3 (ix2 (rowIx b r) (colIx b j) : S16384x4096.Idx) := by
  refine congrArg (V main_arg3) ?_
  funext a; fin_cases a
  · exact Fin.ext (show 1024 * (b / 8 % 16) + 1 * r.val = _ from congrArg _ (one_mul _))
  · exact Fin.ext (show 512 * (b % 8) + 1 * j.val = _ from congrArg _ (one_mul _))
theorem scaV_apply (b : ℕ) (j : Fin 512) : scaV c V b (ix2 0 j) = V main_v1 (ix2 0 (colIx b j) : S1x4096.Idx) := by
  refine congrArg (V main_v1) ?_
  funext a; fin_cases a
  · rfl
  · exact Fin.ext (show 512 * (b % 8) + 1 * j.val = _ from congrArg _ (one_mul _))

theorem oldV_apply (b : ℕ) (r : Fin 1024) (j : Fin 512) : oldV c V b (ix2 r j) = resV c V b (ix2 r j) := by
  pointwise [oldV, Gen.k0_pay2]

/-- The projection with the residual, of the arrays the region finds. -/
abbrev projV (r : Fin 16384) (j : Fin 4096) : EReal := projE (V main_arg0) (V main_arg1) (V main_arg2) (V main_arg3) r j

theorem pay3_apply (b : ℕ) (r : Fin 1024) (j : Fin 512) :
    Gen.k0_pay3 (accV c V b) (oldV c V b) (ix2 r j) = projV c V (rowIx b r) (colIx b j) := by
  have h : Gen.k0_pay3 (accV c V b) (oldV c V b) (ix2 r j) = (oldV c V b (ix2 r j) + accV c V b (ix2 r j) : EReal) := rfl
  rw [h, accV_apply, oldV_apply, resV_apply]
  unfold projV projE
  simp only [retV_apply, lruV_apply, upV_apply, lowV_apply]

theorem sumV_apply (b : ℕ) (r : Fin 1024) (j : Fin 512) : sumV c V b (ix2 r j) = projV c V (rowIx b r) (colIx b j) := by
  refine Eq.trans ?_ (pay3_apply c V b r j)
  pointwise [sumV, Gen.k0_pay4]

theorem prdV_apply (b : ℕ) (r : Fin 1024) (j : Fin 512) :
    prdV c V b (ix2 r j) = (projV c V (rowIx b r) (colIx b j) * (V main_v1 : FVec Ideal S1x4096 .f32) (ix2 0 (colIx b j)) : EReal) := by
  rw [← pay3_apply, ← scaV_apply c V]
  pointwise [prdV, Gen.k0_pay5]

theorem sqsV_apply (b : ℕ) (r : Fin 1024) (l : Fin 128) : sqsV c V b (ix2 r l)
    = (∑ q : Fin 4, projV c V (rowIx b r) (colIx b ⟨q.val * 128 + l.val, by omega⟩) * projV c V (rowIx b r) (colIx b ⟨q.val * 128 + l.val, by omega⟩) : EReal) := by
  simp only [← pay3_apply]
  rw [Fin.sum_univ_four]
  pointwise [sqsV, Gen.k0_pay6]

/-! ## The kernel's arrays -/

theorem rowIx_tile (w : ℕ) {C : ℕ} (r : Fin 16384) (j : Fin C) (hj : j.val / w < 8) :
    rowIx (tileOf w (ix2 r j)) ⟨r.val % 1024, Nat.mod_lt _ (by decide)⟩ = r := by
  have h : tileOf w (ix2 r j) = r.val / 1024 * 8 + j.val / w := rfl
  refine Fin.ext ?_
  show 1024 * (tileOf w (ix2 r j) / 8 % 16) + r.val % 1024 = r.val
  rw [h]; generalize j.val / w = t at hj; omega

theorem tile_mod (w : ℕ) {C : ℕ} (r : Fin 16384) (j : Fin C) (hj : j.val / w < 8) : tileOf w (ix2 r j) % 8 = j.val / w := by
  have h : tileOf w (ix2 r j) = r.val / 1024 * 8 + j.val / w := rfl
  rw [h]; generalize j.val / w = t at hj; omega

theorem colIx_tile (r : Fin 16384) (j : Fin 4096) : colIx (tileOf 512 (ix2 r j)) ⟨j.val % 512, Nat.mod_lt _ (by decide)⟩ = j := by
  refine Fin.ext ?_
  show 512 * (tileOf 512 (ix2 r j) % 8) + j.val % 512 = j.val
  rw [tile_mod 512 r j (by omega)]; omega

theorem inTile_ix2 (w : ℕ) (hw : 0 < w) {C : ℕ} (r : Fin 16384) (j : Fin C) :
    inTile w hw (ix2 r j) = ix2 ⟨r.val % 1024, Nat.mod_lt _ (by decide)⟩ ⟨j.val % w, Nat.mod_lt _ hw⟩ := by
  funext a; fin_cases a <;> rfl

theorem sumG_apply (r : Fin 16384) (j : Fin 4096) : sumG c V (ix2 r j) = projV c V r j := by
  unfold sumG spread
  rw [inTile_ix2, sumV_apply, rowIx_tile 512 r j (by omega), colIx_tile]

theorem prdG_apply (r : Fin 16384) (j : Fin 4096) : prdG c V (ix2 r j) = (projV c V r j * (V main_v1 : FVec Ideal S1x4096 .f32) (ix2 0 j) : EReal) := by
  unfold prdG spread
  rw [inTile_ix2, prdV_apply, rowIx_tile 512 r j (by omega), colIx_tile]

theorem sqsG_apply (r : Fin 16384) (l : Fin 1024) : sqsG c V (ix2 r l) = fourSq (projV c V) r l := by
  unfold sqsG spread
  rw [inTile_ix2, sqsV_apply, rowIx_tile 128 r l (by omega)]
  refine Finset.sum_congr rfl fun q _ => ?_
  have h : colIx (tileOf 128 (ix2 r l)) ⟨q.val * 128 + l.val % 128, by omega⟩ = ⟨l.val / 128 * 512 + q.val * 128 + l.val % 128, by omega⟩ := by
    refine Fin.ext ?_
    show 512 * (tileOf 128 (ix2 r l) % 8) + (q.val * 128 + l.val % 128) = _
    rw [tile_mod 128 r l (by omega)]
    show _ = l.val / 128 * 512 + q.val * 128 + l.val % 128
    omega
  exact congrArg₂ (fun a b : EReal => a * b) (congrArg _ h) (congrArg _ h)

/-! ## The equation -/

variable (m : (ℓ : Loc nD τ sig) → Buf (Elt Ideal) ℓ)

theorem V_main_v1 : Gen.V m c main_v1 = m ((c : Thread nD τ).loc main_arg4) := by
  have h : Gen.V m c main_v1 = shapeCast S1x4096 (shapeCast S4096 (m ((c : Thread nD τ).loc main_arg4)) Gen.shapeCasts_S1x4096_S4096) Gen.shapeCasts_S4096_S1x4096 := by
    unfold Gen.V
    after_results <;> rfl
  rw [h]
  funext i
  obtain ⟨r, j, rfl⟩ : ∃ (r : Fin 1) (j : Fin 4096), i = ix2 r j := ⟨i 0, i 1, eq_ix2 i⟩
  obtain rfl : r = 0 := Subsingleton.elim _ _
  pointwise

/-- The first result of the kernel is the reference's. -/
theorem sum_eq : sumG c (Gen.V m c) = refSum (m ((c : Thread nD τ).loc main_arg0)) (m ((c : Thread nD τ).loc main_arg1)) (m ((c : Thread nD τ).loc main_arg2)) (m ((c : Thread nD τ).loc main_arg3)) := by
  funext i
  obtain ⟨r, j, rfl⟩ : ∃ (r : Fin 16384) (j : Fin 4096), i = ix2 r j := ⟨i 0, i 1, eq_ix2 i⟩
  rw [sumG_apply, refSum_apply]
  unfold projV
  rw [Gen.V_main_arg0, Gen.V_main_arg1, Gen.V_main_arg2, Gen.V_main_arg3]

/-- The second result of the kernel is the reference's. -/
theorem prd_eq : prdG c (Gen.V m c) = refPrd (m ((c : Thread nD τ).loc main_arg4)) (refSum (m ((c : Thread nD τ).loc main_arg0)) (m ((c : Thread nD τ).loc main_arg1)) (m ((c : Thread nD τ).loc main_arg2)) (m ((c : Thread nD τ).loc main_arg3))) := by
  funext i
  obtain ⟨r, j, rfl⟩ : ∃ (r : Fin 16384) (j : Fin 4096), i = ix2 r j := ⟨i 0, i 1, eq_ix2 i⟩
  rw [prdG_apply, refPrd_apply, ← sum_eq, sumG_apply, V_main_v1]

/-- The third result of the kernel is the reference's. -/
theorem sqs_eq : sqsG c (Gen.V m c) = refSqs (refSum (m ((c : Thread nD τ).loc main_arg0)) (m ((c : Thread nD τ).loc main_arg1)) (m ((c : Thread nD τ).loc main_arg2)) (m ((c : Thread nD τ).loc main_arg3))) := by
  funext i
  obtain ⟨r, l, rfl⟩ : ∃ (r : Fin 16384) (l : Fin 1024), i = ix2 r l := ⟨i 0, i 1, eq_ix2 i⟩
  rw [sqsG_apply, refSqs_apply, ← sum_eq]
  exact congrArg (fun s => fourSq s r l) (funext fun r => funext fun j => (sumG_apply c (Gen.V m c) r j).symm)

end Cert.KernelIdeal.Pipe

end
-- ==== Proof.UpValue.lean ====
module

public import proofs.«01_k».proof.Defs
public import proofs.«01_k».proof.Proof.Gen.UpIdeal.Value
public import proofs.«01_k».proof.Proof.Gen.UpReferenceIdeal.Run
public import Idealize.ShloMosaic.Lib.Pipeline.ValueKit
public import Idealize.ShloMosaic.Lib.Pointwise

/-!
# What the arrays hold after the first half of the feed-forward layer

The two results, of the kernel and of the reference, read at an index over the extended reals. The kernel scales a row
after the product by the reciprocal root of the row's mean square, the reference before it. The scale is a nonnegative
real number where no partial sum of squares is negative, and a nonnegative real number moves out of the sum.
-/

@[expose] public section

set_option maxRecDepth 16384

noncomputable section

namespace Cert.UpIdeal.Act

open Idealize.ShloMosaic Idealize.ShloMosaic.TcCoe Idealize.ShloMosaic.ValueKit Cert.UpIdeal Cert.UpIdeal.Gen
open Idealize.ShloMosaic.Pipeline (Dat)

/-! ## The scale -/

/-- The reciprocal root of a mean square: the divisor and the shift are the texts' constants. -/
def scale (s : EReal) : EReal :=
  Ideal.rsqrt (Ideal.div s (Ideal.ofBits .f32 0x45800000#32 : EReal) + (Ideal.ofBits .f32 0x358637BD#32 : EReal))

theorem ofBits_4096 : Ideal.ofBits .f32 0x45800000#32 = ((4096 : ℝ) : EReal) := by
  simp [Ideal.ofBits, Ideal.ieee, -EReal.coe_mul]
  norm_num

theorem ofBits_eps : Ideal.ofBits .f32 0x358637BD#32 = ((8796093 / 8796093022208 : ℝ) : EReal) := by
  simp [Ideal.ofBits, Ideal.ieee, -EReal.coe_mul]
  norm_num

/-- Of a nonnegative sum the scale is a nonnegative real number. -/
theorem scale_real {s : EReal} (h : 0 ≤ s) : ∃ c : ℝ, 0 ≤ c ∧ scale s = (c : EReal) := by
  unfold scale
  rw [ofBits_4096, ofBits_eps, Ideal.div_coe (by norm_num)]
  induction s using EReal.rec with
  | bot => exact absurd h (by simp)
  | top =>
    refine ⟨0, le_rfl, ?_⟩
    rw [EReal.top_mul_coe_of_pos (by norm_num), EReal.top_add_coe, Ideal.rsqrt_top]
    rfl
  | coe s =>
    have h0 : 0 ≤ s := EReal.coe_nonneg.mp h
    have h1 : 0 < s * (1 / 4096) + 8796093 / 8796093022208 := by positivity
    refine ⟨(Real.sqrt (s * (1 / 4096) + 8796093 / 8796093022208))⁻¹, by positivity, ?_⟩
    rw [← EReal.coe_mul, ← EReal.coe_add, Ideal.rsqrt_coe, if_neg (not_lt.mpr h1.le), if_neg h1.ne']

/-- A nonnegative real number moves out of a sum. -/
theorem sum_mul_real {ι : Type} (t : Finset ι) (f : ι → EReal) {c : ℝ} (hc : 0 ≤ c) :
    ∑ k ∈ t, f k * (c : EReal) = (∑ k ∈ t, f k) * (c : EReal) := by
  classical
  induction t using Finset.induction_on with
  | empty => simp
  | insert a t ha ih =>
    rw [Finset.sum_insert ha, Finset.sum_insert ha, ih,
      EReal.right_distrib_of_nonneg_of_ne_top (EReal.coe_nonneg.mpr hc) (EReal.coe_ne_top c)]

variable (xg : FVec Ideal S16384x4096 .bf16) (q : FVec Ideal S16384x1024 .f32) (w : FVec Ideal S4096x16384 .bf16)

/-- The squared positive part of the row's product, scaled. -/
def actE (r : Fin 16384) (j : Fin 16384) : EReal :=
  max ((∑ k : Fin 4096, xg (ix2 r k) * w (ix2 k j)) * scale (∑ k : Fin 1024, q (ix2 r k))) 0
    * max ((∑ k : Fin 4096, xg (ix2 r k) * w (ix2 k j)) * scale (∑ k : Fin 1024, q (ix2 r k))) 0

/-! ## A block of the kernel -/

theorem pay1_apply (v0 : FVec Ideal S1024x1024 .f32) (v8 : FVec Ideal S1024x4096 .bf16) (v9 : FVec Ideal S4096x1024 .bf16)
    (r : Fin 1024) (j : Fin 1024) :
    k0_pay1 (F := Ideal) v0 v8 v9 (ix2 r j)
      = max ((∑ k : Fin 4096, v8 (ix2 r k) * v9 (ix2 k j)) * scale (∑ k : Fin 1024, v0 (ix2 r k))) 0
        * max ((∑ k : Fin 4096, v8 (ix2 r k) * v9 (ix2 k j)) * scale (∑ k : Fin 1024, v0 (ix2 r k))) 0 := by
  pointwise [k0_pay1, scale]

/-! ## The reference -/

/-- The reference's first result. -/
abbrev refAct : FVec Ideal S16384x16384 .bf16 :=
  truncf .bf16 (mulf
    (maximumf (Host.dotGeneral Cert.UpReferenceIdeal.dot_S16384x4096_S4096x16384_S16384x16384_1_0_0_1_n_n none (mulf (extf .f32 xg Cert.UpReferenceIdeal.Gen.facts.bitsLt_bf16_f32) (broadcastInDim S16384x4096 ![0, 1] Cert.UpReferenceIdeal.Gen.facts.bcast_S16384x1_S16384x4096_0_1 (Host.rsqrt (addf (Host.divf (broadcastInDim Cert.UpReferenceIdeal.S16384x1 ![0] Cert.UpReferenceIdeal.Gen.facts.bcast_S16384_S16384x1_0 (Host.reduceAdd q (constant Cert.UpReferenceIdeal.S_ .f32 0x00000000#32) Cert.UpReferenceIdeal.Gen.facts.reducesTo_S16384x1024_S16384_d1 Cert.UpReferenceIdeal.Gen.facts.h_S_)) (broadcastInDim Cert.UpReferenceIdeal.S16384x1 ![] Cert.UpReferenceIdeal.Gen.facts.bcast_S_S16384x1 (constant Cert.UpReferenceIdeal.S_ .f32 0x45800000#32))) (broadcastInDim Cert.UpReferenceIdeal.S16384x1 ![] Cert.UpReferenceIdeal.Gen.facts.bcast_S_S16384x1 (constant Cert.UpReferenceIdeal.S_ .f32 0x358637BD#32)))))) (extf .f32 w Cert.UpReferenceIdeal.Gen.facts.bitsLt_bf16_f32)) (broadcastInDim S16384x16384 ![] Cert.UpReferenceIdeal.Gen.facts.bcast_S_S16384x16384 (constant Cert.UpReferenceIdeal.S_ .f32 0x00000000#32)))
    (maximumf (Host.dotGeneral Cert.UpReferenceIdeal.dot_S16384x4096_S4096x16384_S16384x16384_1_0_0_1_n_n none (mulf (extf .f32 xg Cert.UpReferenceIdeal.Gen.facts.bitsLt_bf16_f32) (broadcastInDim S16384x4096 ![0, 1] Cert.UpReferenceIdeal.Gen.facts.bcast_S16384x1_S16384x4096_0_1 (Host.rsqrt (addf (Host.divf (broadcastInDim Cert.UpReferenceIdeal.S16384x1 ![0] Cert.UpReferenceIdeal.Gen.facts.bcast_S16384_S16384x1_0 (Host.reduceAdd q (constant Cert.UpReferenceIdeal.S_ .f32 0x00000000#32) Cert.UpReferenceIdeal.Gen.facts.reducesTo_S16384x1024_S16384_d1 Cert.UpReferenceIdeal.Gen.facts.h_S_)) (broadcastInDim Cert.UpReferenceIdeal.S16384x1 ![] Cert.UpReferenceIdeal.Gen.facts.bcast_S_S16384x1 (constant Cert.UpReferenceIdeal.S_ .f32 0x45800000#32))) (broadcastInDim Cert.UpReferenceIdeal.S16384x1 ![] Cert.UpReferenceIdeal.Gen.facts.bcast_S_S16384x1 (constant Cert.UpReferenceIdeal.S_ .f32 0x358637BD#32)))))) (extf .f32 w Cert.UpReferenceIdeal.Gen.facts.bitsLt_bf16_f32)) (broadcastInDim S16384x16384 ![] Cert.UpReferenceIdeal.Gen.facts.bcast_S_S16384x16384 (constant Cert.UpReferenceIdeal.S_ .f32 0x00000000#32))))
    Cert.UpReferenceIdeal.Gen.facts.bitsLt_bf16_f32

/-- The row's product in the reference: each factor is scaled first. -/
def preE (r : Fin 16384) (j : Fin 16384) : EReal :=
  ∑ k : Fin 4096, xg (ix2 r k) * scale (∑ l : Fin 1024, q (ix2 r l)) * w (ix2 k j)

theorem refAct_pre (r : Fin 16384) (j : Fin 16384) :
    refAct xg q w (ix2 r j) = max (preE xg q w r j) 0 * max (preE xg q w r j) 0 := by
  pointwise [refAct, preE, scale]

theorem preE_eq (hq : ∀ i, 0 ≤ q i) (r : Fin 16384) (j : Fin 16384) :
    preE xg q w r j = (∑ k : Fin 4096, xg (ix2 r k) * w (ix2 k j)) * scale (∑ k : Fin 1024, q (ix2 r k)) := by
  obtain ⟨c, hc, e⟩ := scale_real (Finset.sum_nonneg fun (k : Fin 1024) _ => hq (ix2 r k))
  unfold preE
  rw [e, ← sum_mul_real _ _ hc]
  exact Finset.sum_congr rfl fun k _ => mul_right_comm _ _ _

theorem refAct_apply (hq : ∀ i, 0 ≤ q i) (r : Fin 16384) (j : Fin 16384) :
    refAct xg q w (ix2 r j) = actE xg q w r j := by
  rw [refAct_pre, preE_eq xg q w hq]
  rfl

/-! ## The kernel's arrays -/

variable (m : (ℓ : Loc nD τ sig) → Buf (Elt Ideal) ℓ)

theorem idx0 : ∀ t : Fin cfg0.N, win0_0.index t = ![t.val / 16, 0] := (by decide +kernel : ∀ t : Fin grid0.N, _)
theorem idx1 : ∀ t : Fin cfg0.N, win0_1.index t = ![t.val / 16, 0] := (by decide +kernel : ∀ t : Fin grid0.N, _)
theorem idx2 : ∀ t : Fin cfg0.N, win0_2.index t = ![0, t.val % 16] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val / 16, t.val % 16] := (by decide +kernel : ∀ t : Fin grid0.N, _)
theorem idx5 : ∀ t : Fin cfg0.N, win0_5.index t = ![t.val, 0] := (by decide +kernel : ∀ t : Fin grid0.N, _)

/-- Row `r` of point `t`'s row block. -/
abbrev rowIx (t : Fin cfg0.N) (r : Fin 1024) : Fin 16384 := ⟨1024 * (t.val / 16) + r.val, by have h : t.val < 256 := t.isLt.trans_eq N_0; omega⟩
/-- Column `j` of point `t`'s column block. -/
abbrev colIx (t : Fin cfg0.N) (j : Fin 1024) : Fin 16384 := ⟨1024 * (t.val % 16) + j.val, by omega⟩

theorem blk0_apply (c : Dev nD) (t : Fin cfg0.N) (r : Fin 1024) (k : Fin 4096) :
    iblk m c 0 t (ix2 r k) = m ((c : Thread nD τ).loc main_arg0) (ix2 (rowIx t r) k) := by
  blk_simp [iblk]
  refine (congrFun (V_main_arg0 m c) _).trans (congrArg _ ?_)
  blk_ext [idx0]

theorem blk1_apply (c : Dev nD) (t : Fin cfg0.N) (r : Fin 1024) (k : Fin 1024) :
    iblk m c 1 t (ix2 r k) = m ((c : Thread nD τ).loc main_arg1) (ix2 (rowIx t r) k) := by
  blk_simp [iblk]
  refine (congrFun (V_main_arg1 m c) _).trans (congrArg _ ?_)
  blk_ext [idx1]

theorem blk2_apply (c : Dev nD) (t : Fin cfg0.N) (k : Fin 4096) (j : Fin 1024) :
    iblk m c 2 t (ix2 k j) = m ((c : Thread nD τ).loc main_arg2) (ix2 k (colIx t j)) := by
  blk_simp [iblk]
  refine (congrFun (V_main_arg2 m c) _).trans (congrArg _ ?_)
  blk_ext [idx2]

theorem emb4 (t : Fin cfg0.N) (r j : Fin 1024) :
    (((View.whole main_v0_0).slice (win0_4.rect t)).emb (ix2 r j) : S16384x16384.Idx) = ix2 (rowIx t r) (colIx t j) := by
  blk_ext [idx4]

theorem act_eq (c : Dev nD) : (dats m 0 c).arrAt 4 cfg0.N = (fun i => actE (m ((c : Thread nD τ).loc main_arg0))
    (m ((c : Thread nD τ).loc main_arg1)) (m ((c : Thread nD τ).loc main_arg2)) (i 0) (i 1) : FVec Ideal S16384x16384 .bf16) := by
  refine (dats m 0 c).arrAt_eq_of_covers 4 _ (by decide +kernel) fun t hf y => ?_
  blk_simp
  rw [after0_4]
  frame_out
  obtain ⟨r, j, rfl⟩ : ∃ r j, y = ix2 r j := ⟨y 0, y 1, eq_ix2 y⟩
  rw [pay1_apply, emb4]
  simp only [blk0_apply, blk1_apply, blk2_apply]
  rfl

/-- The reference's first result is what the kernel's first array holds. -/
theorem ref_act (c : Dev nD) (hq : ∀ i : S16384x1024.Idx, (0 : EReal) ≤ (m ((c : Thread nD τ).loc main_arg1) : FVec Ideal S16384x1024 .f32) i) :
    refAct (m ((c : Thread nD τ).loc main_arg0)) (m ((c : Thread nD τ).loc main_arg1)) (m ((c : Thread nD τ).loc main_arg2))
    = (fun i => actE (m ((c : Thread nD τ).loc main_arg0)) (m ((c : Thread nD τ).loc main_arg1)) (m ((c : Thread nD τ).loc main_arg2)) (i 0) (i 1)) := by
  funext i
  obtain ⟨r, j, rfl⟩ : ∃ r j, i = ix2 r j := ⟨i 0, i 1, eq_ix2 i⟩
  exact refAct_apply _ _ _ hq r j

theorem slab_eq (c : Dev nD) : (dats m 0 c).arrAt 5 cfg0.N
    = (truncf .bf16 (m ((c : Thread nD τ).loc main_arg3) : FVec Ideal S16384x4096 .f32) Cert.UpReferenceIdeal.Gen.facts.bitsLt_bf16_f32 : FVec Ideal S16384x4096 .bf16) := by
  refine (dats m 0 c).arrAt_eq_of_covers 5 _ (by decide +kernel) fun t hf y => ?_
  blk_simp
  rw [after0_5]
  frame_out
  blk_simp [iblk]
  refine (congrFun (V_main_arg3 m c) _).trans (congrArg (m ((c : Thread nD τ).loc main_arg3)) ?_)
  blk_ext [idx3, idx5]

/-- Where the stated condition holds, no partial sum of squares is negative. -/
theorem pre_nonneg [self : Cert.Pre_sums_of_squares.Facts] (h : Cert.Pre_UpIdeal_sums_of_squares m) (c : Dev nD) (i : S16384x1024.Idx) :
    (0 : EReal) ≤ (m ((c : Thread nD τ).loc main_arg1) : FVec Ideal S16384x1024 .f32) i := by
  have h1 := congrFun (h c) i
  unfold Cert.Pre_sums_of_squares.fn at h1
  obtain ⟨r, j, rfl⟩ : ∃ r j, i = ix2 r j := ⟨i 0, i 1, eq_ix2 i⟩
  pointwise at h1
  by_contra hn
  rw [decide_eq_false hn] at h1
  exact absurd h1 (by decide)

end Cert.UpIdeal.Act

end
-- ==== Proof.UpClaims.lean ====
module

public import proofs.«01_k».proof.Proof.Gen.Up.Frame
public import proofs.«01_k».proof.Proof.UpValue

/-!
# The claims of the feed-forward layer's first half
-/

@[expose] public section

noncomputable section

namespace Cert.UpIdeal.Act

open Idealize.ShloMosaic Idealize.SL.Sem

theorem facts_pre : Cert.Pre_sums_of_squares.Facts := ⟨by decide⟩

theorem frame_up : Cert.quiescent_Up := fun m ρ _ => Cert.Up.Gen.frame (F := Bits) m ρ

theorem frame_upIdeal : Cert.quiescent_UpIdeal := fun m ρ _ => Cert.UpIdeal.Gen.frame (F := Ideal) m ρ

theorem frame_upIdeal_pre : Cert.quiescent_UpIdeal_pre_sums_of_squares (hPre_sums_of_squares := facts_pre) :=
  fun m ρ _ => Cert.UpIdeal.Gen.frame (F := Ideal) m ρ

theorem frame_upReferenceIdeal : Cert.quiescent_UpReferenceIdeal := fun m ρ _ =>
  (θ_run Cert.UpReferenceIdeal.defs _ _).mono (fun r h => ⟨fun c => (h c).2.2, Idealize.ShloMosaic.sem_eq_zero_of_no_sems (by decide) r.2⟩)
    (Cert.UpReferenceIdeal.Value.run (F := Ideal) m ρ)

theorem frame_upReferenceIdeal_pre : Cert.quiescent_UpReferenceIdeal_pre_sums_of_squares (hPre_sums_of_squares := facts_pre) :=
  fun m ρ _ => frame_upReferenceIdeal m ρ trivial

/-- The kernel's two arrays are the reference's, over the extended reals. -/
theorem algebraic_up : Cert.algebraic_UpIdeal_UpReferenceIdeal_pre_sums_of_squares (hPre_sums_of_squares := facts_pre) := by
  intro m ρ m' ρ' hpre hagree
  refine ⟨_, _, Cert.UpIdeal.Value.run_blocks (F := Ideal) m ρ, ?_⟩
  refine (θ_run Cert.UpReferenceIdeal.defs _ _).mono (fun _ h c => ⟨(h c).1.trans ?_, (h c).2.1.trans ?_, (h c).2.2⟩)
    (Cert.UpReferenceIdeal.Value.run (F := Ideal) m' ρ')
  · rw [(hagree c).1, (hagree c).2.1, (hagree c).2.2.1]
    exact (ref_act m c (pre_nonneg (self := facts_pre) m hpre c)).trans (act_eq m c).symm
  · rw [(hagree c).2.2.2]
    exact (slab_eq m c).symm

end Cert.UpIdeal.Act

end
-- ==== Proof.DownSteps.lean ====
module

public import proofs.«01_k».proof.Proof.Gen.DownIdeal.Frame
public import proofs.«01_k».proof.Proof.Gen.DownIdeal.Skeleton
public import Idealize.ShloMosaic.Lib.Pipeline.ValueKit
public import Idealize.ShloMosaic.Lib.Pointwise

/-!
# Loads and stores of a rectangle of a matrix, by the matrix's contents

A memref held whole is described by the matrix `X` it has. A load of a rectangle gives `sub o₀ o₁ X`, the part of `X` from
row `o₀` and column `o₁` on. A store of a rectangle turns `X` into any `Y` that has the stored part there and is `X`
elsewhere. Three combinations that the kernel repeats are run at once: adding a product into a panel of columns, storing a
product into a panel, and scaling a block of rows in a group of lanes.
-/

@[expose] public section

set_option maxRecDepth 16384

noncomputable section

namespace Cert.DownIdeal.Dn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.DownIdeal.Gen

variable {F : FTy → Type} [FloatOps F]

local notation "𝕄" => MT nD τ sig Unit (Elt F) ℕ (UR sig nD τ) ℕ

/-- The position `i` of a part that begins at row `o₀` and column `o₁`. -/
def pos {N M R C : ℕ} [NeZero N] [NeZero M] (o₀ o₁ : ℕ) (i : (⟨2, ![R, C]⟩ : Shape).Idx) : (⟨2, ![N, M]⟩ : Shape).Idx :=
  ix2 (Fin.ofNat N (o₀ + (i 0).val)) (Fin.ofNat M (o₁ + (i 1).val))

/-- The part of a matrix from row `o₀` and column `o₁` on. -/
def sub {N M R C : ℕ} [NeZero N] [NeZero M] {β : Type} (o₀ o₁ : ℕ) (X : (⟨2, ![N, M]⟩ : Shape).Idx → β) :
    (⟨2, ![R, C]⟩ : Shape).Idx → β :=
  fun i => X (pos o₀ o₁ i)

section Rules

variable {e : EltTy} {s : Shape} (c : Dev nD) {α : Type} {Q : α → sProp (MT nD τ sig Unit (Elt F) ℕ (UR sig nD τ) ℕ)}

/-- The judgement the kernel's body is run in. -/
abbrev run (c : Dev nD) {α : Type} (p : Prog (TpuEff nD τ sig (Elt F) Λ₀ .tc) α)
    (Q : α → sProp (MT nD τ sig Unit (Elt F) ℕ (UR sig nD τ) ℕ)) : sProp (MT nD τ sig Unit (Elt F) ℕ (UR sig nD τ) ℕ) :=
  wp frame (wpE (defs₀ (F := F)) Variants.none c none) Set.univ p Q

theorem load_at {M : Memref sig .tc .vmem s e} {r : Rect s} {hl : M.view.LoadsAt r.toLoadRect}
    {k : (r.shape.Idx → Elt F e) → Prog (TpuEff nD τ sig (Elt F) Λ₀ .tc) α} (X : s.Idx → Elt F e) (x : r.shape.Idx → Elt F e)
    (hx : ∀ i, X (r.idx i) = x i) :
    owns (c : Thread nD τ) M fullShare X
      ⊢ iprop((owns (c : Thread nD τ) M fullShare X -∗ run c (k x) Q)
        -∗ run c (Prog.lift (.load M r.toLoadRect hl) >>= k) Q) := by
  unfold owns
  iintro ⟨%f, %hf, H⟩ Hk
  iapply (show (M.view.loc (c : Thread nD τ) ↦[M.view.set]{fullShare} f)
      ⊢ iprop(((M.view.loc (c : Thread nD τ) ↦[M.view.set]{fullShare} f)
          -∗ run c (k (M.view.readAt (Elt F) r.toLoadRect f)) Q)
        -∗ run c (Prog.lift (.load M r.toLoadRect hl) >>= k) Q)
      from wp_load Variants.none (c : Thread nD τ) none Set.univ (M.view.setOn_subset_set _)) $$ [H]
  · iexact H
  iintro H
  rw [show M.view.readAt (Elt F) r.toLoadRect f = x from funext fun i => by rw [View.readAt_apply, hf]; exact hx i]
  iapply Hk
  iexists f
  isplitr
  · ipureintro; exact hf
  iexact H

theorem store_at {M : Memref sig .tc .vmem s e} {r : Rect s} {w : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ .tc) α} (X Y : s.Idx → Elt F e)
    (hin : ∀ i, Y (r.idx i) = w i) (hout : ∀ j, j ∉ r.set → Y j = X j) :
    owns (c : Thread nD τ) M fullShare X
      ⊢ iprop((owns (c : Thread nD τ) M fullShare Y -∗ run c (k ⟨⟩) Q)
        -∗ run c (Prog.lift (.store M r w Finset.univ hx hm) >>= k) Q) := by
  unfold owns
  iintro ⟨%f, %hf, H⟩ Hk
  iapply (show ((M.access r).loc (c : Thread nD τ) ↦[M.view.set]{fullShare} f)
      ⊢ iprop((((M.access r).loc (c : Thread nD τ) ↦[M.view.set]{fullShare} ((M.access r).write (Elt F) f w Finset.univ))
          -∗ run c (k ⟨⟩) Q)
        -∗ run c (.op (.store M r w Finset.univ hx hm) k) Q)
      from wp_store Variants.none (c : Thread nD τ) none Set.univ
        ((View.setOn_subset_set _ _).trans (View.set_slice_subset _ _))) $$ [H]
  · iexact H
  iintro H
  iapply Hk
  iexists ((M.access r).write (Elt F) f w Finset.univ)
  isplitr
  · ipureintro
    subst hf
    funext j
    by_cases hj : j ∈ r.set
    · rw [← Rect.map_emb_univ] at hj
      obtain ⟨i, -, rfl⟩ := Finset.mem_map.1 hj
      exact (View.read_slice_write_emb r f w (Finset.mem_univ i)).trans (hin i).symm
    · exact (View.read_slice_write_of_not_mem r f w _ (by rwa [Rect.map_emb_univ])).trans (hout j hj).symm
  iexact H

theorem idx_eq {N M R C : ℕ} [NeZero N] [NeZero M] {off : Fin 2 → ℕ} {o₀ o₁ : ℕ} (hoff : off = ![o₀, o₁])
    (inb : ∀ a, off a + (![R, C] : Fin 2 → ℕ) a ≤ (![N, M] : Fin 2 → ℕ) a)
    (i : (Rect.unit (s := ⟨2, ![N, M]⟩) off ![R, C] inb).shape.Idx) :
    (Rect.unit (s := ⟨2, ![N, M]⟩) off ![R, C] inb).idx i = pos (R := R) (C := C) o₀ o₁ i := by
  subst hoff
  have h0 : o₀ + R ≤ N := inb 0
  have h1 : o₁ + C ≤ M := inb 1
  have i0 : (i 0).val < R := (i 0).isLt
  have i1 : (i 1).val < C := (i 1).isLt
  funext a
  apply Fin.ext
  match a with
  | ⟨0, _⟩ =>
    show o₀ + 1 * (i 0).val = (o₀ + (i 0).val) % N
    rw [Nat.mod_eq_of_lt (by omega)]; omega
  | ⟨1, _⟩ =>
    show o₁ + 1 * (i 1).val = (o₁ + (i 1).val) % M
    rw [Nat.mod_eq_of_lt (by omega)]; omega

theorem load2 {N M R C : ℕ} [NeZero N] [NeZero M] {A : Memref sig .tc .vmem ⟨2, ![N, M]⟩ e} {off : Fin 2 → ℕ} (o₀ o₁ : ℕ)
    (hoff : off = ![o₀, o₁]) {inb : ∀ a, off a + (![R, C] : Fin 2 → ℕ) a ≤ (![N, M] : Fin 2 → ℕ) a}
    {hl : A.view.LoadsAt (Rect.unit (s := ⟨2, ![N, M]⟩) off ![R, C] inb).toLoadRect}
    {k : ((⟨2, ![R, C]⟩ : Shape).Idx → Elt F e) → Prog (TpuEff nD τ sig (Elt F) Λ₀ .tc) α}
    (X : (⟨2, ![N, M]⟩ : Shape).Idx → Elt F e) :
    owns (c : Thread nD τ) A fullShare X
      ⊢ iprop((owns (c : Thread nD τ) A fullShare X -∗ run c (k (sub o₀ o₁ X)) Q)
        -∗ run c (Prog.lift (.load A (Rect.unit (s := ⟨2, ![N, M]⟩) off ![R, C] inb).toLoadRect hl) >>= k) Q) :=
  load_at c X (sub (R := R) (C := C) o₀ o₁ X) fun i => congrArg X (idx_eq hoff inb i)

theorem store2 {N M R C : ℕ} [NeZero N] [NeZero M] {A : Memref sig .tc .vmem ⟨2, ![N, M]⟩ e} {off : Fin 2 → ℕ} (o₀ o₁ : ℕ)
    (hoff : off = ![o₀, o₁]) {inb : ∀ a, off a + (![R, C] : Fin 2 → ℕ) a ≤ (![N, M] : Fin 2 → ℕ) a}
    {w : (⟨2, ![R, C]⟩ : Shape).Idx → Elt F e}
    {hx : (A.access (Rect.unit (s := ⟨2, ![N, M]⟩) off ![R, C] inb)).Stores Finset.univ}
    {hm : (Finset.univ : Finset (Rect.unit (s := ⟨2, ![N, M]⟩) off ![R, C] inb).shape.Idx) = Finset.univ
      ∨ ∀ a, (Rect.unit (s := ⟨2, ![N, M]⟩) off ![R, C] inb).stride a = 1}
    {k : PUnit → Prog (TpuEff nD τ sig (Elt F) Λ₀ .tc) α} (X Y : (⟨2, ![N, M]⟩ : Shape).Idx → Elt F e)
    (hin : ∀ i, sub o₀ o₁ Y i = w i)
    (hout : ∀ (i : Fin N) (j : Fin M), ¬(o₀ ≤ i.val ∧ i.val < o₀ + R ∧ o₁ ≤ j.val ∧ j.val < o₁ + C) → Y (ix2 i j) = X (ix2 i j)) :
    owns (c : Thread nD τ) A fullShare X
      ⊢ iprop((owns (c : Thread nD τ) A fullShare Y -∗ run c (k ⟨⟩) Q)
        -∗ run c (Prog.lift (.store A (Rect.unit (s := ⟨2, ![N, M]⟩) off ![R, C] inb) w Finset.univ hx hm) >>= k) Q) :=
  store_at c X Y (fun i => (congrArg Y (idx_eq hoff inb i)).trans (hin i)) fun j hj => by
    subst hoff
    rw [Rect.mem_set_unit] at hj
    rw [eq_ix2 j]
    refine hout _ _ fun h => hj fun a => ?_
    match a with
    | ⟨0, _⟩ => exact ⟨h.1, h.2.1⟩
    | ⟨1, _⟩ => exact ⟨h.2.2.1, h.2.2.2⟩

end Rules

/-! ## What the kernel leaves in a block of the result -/

/-- The product of the two blocks of a step. -/
def dotA (a : Vec F S1024x1024 .bf16) (w : Vec F S1024x4096 .bf16) : Vec F S1024x4096 .f32 := fun j =>
  k0_pay5 a (sub 0 (1024 * ((j 1).val / 1024)) w) (ix2 (j 0) (Fin.ofNat 1024 (j 1).val))

/-- The product added to what the block had. -/
def accB (a : Vec F S1024x1024 .bf16) (w : Vec F S1024x4096 .bf16) (X : Vec F S1024x4096 .f32) : Vec F S1024x4096 .f32 := fun j =>
  k0_pay11 a (sub 0 (1024 * ((j 1).val / 1024)) w) (sub 0 (1024 * ((j 1).val / 1024)) X) (ix2 (j 0) (Fin.ofNat 1024 (j 1).val))

/-- A tile of the residual added in its columns. -/
def addX (n : ℕ) (x : Vec F S1024x256 .f32) (X : Vec F S1024x4096 .f32) : Vec F S1024x4096 .f32 := fun j =>
  if n ≤ (j 1).val ∧ (j 1).val < n + 256 then k0_pay10 (sub 0 n X) x (ix2 (j 0) (Fin.ofNat 256 ((j 1).val - n))) else X j

/-- The scale of each row, from a block whose sum is complete but for its last product. -/
def scaleOf (a : Vec F S1024x1024 .bf16) (w : Vec F S1024x4096 .bf16) (X : Vec F S1024x4096 .f32) : Vec F S1024x128 .f32 :=
  k0_pay3 (k0_pay19 (k0_pay16 a (sub 0 0 w) (sub 0 0 X)) (k0_pay17 a (sub 0 1024 w) (sub 0 1024 X)) a (sub 0 2048 w) (sub 0 2048 X))
    a (sub 0 3072 w) (constant S1024x1024 .f32 0x00000000#32) (sub 0 3072 X)

/-- A block scaled, row by row by `R` and column by column by `g`. -/
def scaled (R : Vec F S1024x128 .f32) (g : Vec F S1x4096 .f32) (Y : Vec F S1024x4096 .f32) : Vec F S1024x4096 .f32 := fun j =>
  k0_pay20 (sub (32 * ((j 0).val / 32)) 0 R) (sub (32 * ((j 0).val / 32)) (128 * ((j 1).val / 128)) Y)
    (sub 0 (128 * ((j 1).val / 128)) g) (ix2 (Fin.ofNat 32 (j 0).val) (Fin.ofNat 128 (j 1).val))

/-- `Y` in the first `n` columns and `X` in the rest. -/
def mixC (n : ℕ) (X Y : Vec F S1024x4096 .f32) : Vec F S1024x4096 .f32 := fun j => if (j 1).val < n then Y j else X j

/-- `Y` in the rows of the first `t` blocks of 32 and in the first `n` lane groups of the next block, and `X` in the rest. -/
def mixL (t n : ℕ) (X Y : Vec F S1024x4096 .f32) : Vec F S1024x4096 .f32 := fun j =>
  if (j 0).val < 32 * t ∨ ((j 0).val < 32 * t + 32 ∧ (j 1).val < 128 * n) then Y j else X j

theorem mixC_zero (X Y : Vec F S1024x4096 .f32) : mixC 0 X Y = X := by funext j; unfold mixC; rw [if_neg (by omega)]

theorem mixC_full (X Y : Vec F S1024x4096 .f32) : mixC 4096 X Y = Y := by
  funext j; unfold mixC
  have : (j 1).val < 4096 := (j 1).isLt
  rw [if_pos this]

theorem mixL_zero (X Y : Vec F S1024x4096 .f32) : mixL 0 0 X Y = X := by funext j; unfold mixL; rw [if_neg (by omega)]

theorem mixL_full (X Y : Vec F S1024x4096 .f32) : mixL 32 0 X Y = Y := by
  funext j; unfold mixL
  have : (j 0).val < 1024 := (j 0).isLt
  rw [if_pos (by omega)]

theorem mixL_next (t : ℕ) (X Y : Vec F S1024x4096 .f32) : mixL t 32 X Y = mixL (t + 1) 0 X Y := by
  funext j; unfold mixL
  have : (j 1).val < 4096 := (j 1).isLt
  by_cases h : (j 0).val < 32 * t + 32
  · rw [if_pos (by omega), if_pos (by omega)]
  · rw [if_neg (by omega), if_neg (by omega)]

end Cert.DownIdeal.Dn

end
-- ==== Proof.DownPanels.lean ====
module

public import proofs.«01_k».proof.Proof.DownSteps

/-!
# The pieces the kernel repeats

A product stored in a panel of 1024 columns, a product added to a panel, a tile of the residual added in its columns, and
a block of 32 rows scaled in a group of 128 lanes: each from the loads it makes to the one store that ends it.
-/

@[expose] public section

set_option maxRecDepth 16384

noncomputable section

namespace Cert.DownIdeal.Dn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.DownIdeal.Gen

variable {F : FTy → Type} [FloatOps F]

local notation "𝕄" => MT nD τ sig Unit (Elt F) ℕ (UR sig nD τ) ℕ

variable (c : Dev nD) {α : Type} {Q : α → sProp (MT nD τ sig Unit (Elt F) ℕ (UR sig nD τ) ℕ)}

theorem sub_whole {N M : ℕ} [NeZero N] [NeZero M] {β : Type} (X : (⟨2, ![N, M]⟩ : Shape).Idx → β) :
    sub (R := N) (C := M) 0 0 X = X := by
  funext i
  have i0 : (i 0).val < N := (i 0).isLt
  have i1 : (i 1).val < M := (i 1).isLt
  refine congrArg X (funext fun a => Fin.ext ?_)
  match a with
  | ⟨0, _⟩ =>
    show (0 + (i 0).val) % N = (i 0).val
    rw [Nat.zero_add, Nat.mod_eq_of_lt i0]
  | ⟨1, _⟩ =>
    show (0 + (i 1).val) % M = (i 1).val
    rw [Nat.zero_add, Nat.mod_eq_of_lt i1]

/-- A part, read at a position, by the coordinates. -/
theorem sub_val {N M R C : ℕ} [NeZero N] [NeZero M] {β : Type} {o₀ o₁ : ℕ} (X : (⟨2, ![N, M]⟩ : Shape).Idx → β)
    (i : (⟨2, ![R, C]⟩ : Shape).Idx) (p : Fin N) (q : Fin M) (hp : o₀ + (i 0).val = p.val) (hq : o₁ + (i 1).val = q.val) :
    sub o₀ o₁ X i = X (ix2 p q) := by
  refine congrArg X (funext fun a => Fin.ext ?_)
  match a with
  | ⟨0, _⟩ =>
    show (o₀ + (i 0).val) % N = p.val
    rw [hp, Nat.mod_eq_of_lt p.isLt]
  | ⟨1, _⟩ =>
    show (o₁ + (i 1).val) % M = q.val
    rw [hq, Nat.mod_eq_of_lt q.isLt]

/-- Two parts agree when the matrices agree under them. -/
theorem sub_congr {N M R C : ℕ} [NeZero N] [NeZero M] {β : Type} {o₀ o₁ : ℕ} (X Y : (⟨2, ![N, M]⟩ : Shape).Idx → β)
    (h0 : o₀ + R ≤ N) (h1 : o₁ + C ≤ M)
    (h : ∀ (p : Fin N) (q : Fin M), o₀ ≤ p.val → p.val < o₀ + R → o₁ ≤ q.val → q.val < o₁ + C → X (ix2 p q) = Y (ix2 p q)) :
    (sub o₀ o₁ X : (⟨2, ![R, C]⟩ : Shape).Idx → β) = sub o₀ o₁ Y := by
  funext i
  have i0 : (i 0).val < R := (i 0).isLt
  have i1 : (i 1).val < C := (i 1).isLt
  rw [sub_val X i ⟨o₀ + (i 0).val, by omega⟩ ⟨o₁ + (i 1).val, by omega⟩ rfl rfl,
    sub_val Y i ⟨o₀ + (i 0).val, by omega⟩ ⟨o₁ + (i 1).val, by omega⟩ rfl rfl]
  exact h _ _ (by simp) (by simp; omega) (by simp) (by simp; omega)

/-- A panel of a matrix given panel by panel. -/
theorem panel_in (p : Fin 4) (G : ℕ → Vec F S1024x1024 .f32) (X Y : Vec F S1024x4096 .f32)
    (hY : ∀ j, Y j = G (1024 * ((j 1).val / 1024)) (ix2 (j 0) (Fin.ofNat 1024 (j 1).val))) (i : S1024x1024.Idx) :
    sub 0 (1024 * p.val) (mixC (1024 * p.val + 1024) X Y) i = G (1024 * p.val) i := by
  have i0 : (i 0).val < 1024 := (i 0).isLt
  have i1 : (i 1).val < 1024 := (i 1).isLt
  have hp := p.isLt
  rw [sub_val _ i (⟨(i 0).val, i0⟩ : Fin 1024) (⟨1024 * p.val + (i 1).val, by omega⟩ : Fin 4096) (Nat.zero_add _) rfl]
  unfold mixC
  refine (if_pos (show 1024 * p.val + (i 1).val < 1024 * p.val + 1024 by omega)).trans ((hY _).trans ?_)
  have hd : (1024 * p.val + (i 1).val) / 1024 = p.val := by omega
  have hm : (1024 * p.val + (i 1).val) % 1024 = (i 1).val := by omega
  show G (1024 * ((1024 * p.val + (i 1).val) / 1024)) (ix2 _ (Fin.ofNat 1024 (1024 * p.val + (i 1).val))) = _
  rw [hd]
  refine congrArg _ (funext fun a => Fin.ext ?_)
  match a with
  | ⟨0, _⟩ => rfl
  | ⟨1, _⟩ => exact hm

theorem panel_out (o : ℕ) (X Y : Vec F S1024x4096 .f32) (i : Fin 1024) (j : Fin 4096)
    (h : ¬(0 ≤ i.val ∧ i.val < 0 + 1024 ∧ o ≤ j.val ∧ j.val < o + 1024)) :
    mixC (o + 1024) X Y (ix2 i j) = mixC o X Y (ix2 i j) := by
  have hi := i.isLt
  unfold mixC
  show (if j.val < o + 1024 then _ else _) = (if j.val < o then _ else _)
  by_cases hj : j.val < o
  · rw [if_pos hj, if_pos (by omega)]
  · rw [if_neg hj, if_neg (by omega)]

theorem sub_mixC (o : ℕ) (ho : o + 1024 ≤ 4096) (X Y : Vec F S1024x4096 .f32) :
    (sub 0 o (mixC o X Y) : Vec F S1024x1024 .f32) = sub 0 o X :=
  sub_congr _ _ (by decide) ho fun p q _ _ hq _ => if_neg (by show ¬q.val < o; omega)

/-- A group of lanes of a block of rows, of a matrix given group by group. -/
theorem group_in (t : Fin 32) (n : Fin 32) (G : ℕ → ℕ → Vec F S32x128 .f32) (X Y : Vec F S1024x4096 .f32)
    (hY : ∀ j, Y j = G (32 * ((j 0).val / 32)) (128 * ((j 1).val / 128)) (ix2 (Fin.ofNat 32 (j 0).val) (Fin.ofNat 128 (j 1).val)))
    (i : S32x128.Idx) :
    sub (32 * t.val) (128 * n.val) (mixL t.val (n.val + 1) X Y) i = G (32 * t.val) (128 * n.val) i := by
  have i0 : (i 0).val < 32 := (i 0).isLt
  have i1 : (i 1).val < 128 := (i 1).isLt
  have ht := t.isLt
  have hn := n.isLt
  rw [sub_val _ i (⟨32 * t.val + (i 0).val, by omega⟩ : Fin 1024) (⟨128 * n.val + (i 1).val, by omega⟩ : Fin 4096) rfl rfl]
  unfold mixL
  refine (if_pos (show 32 * t.val + (i 0).val < 32 * t.val ∨ (32 * t.val + (i 0).val < 32 * t.val + 32
    ∧ 128 * n.val + (i 1).val < 128 * (n.val + 1)) by omega)).trans ((hY _).trans ?_)
  have hd : (32 * t.val + (i 0).val) / 32 = t.val := by omega
  have hm : (32 * t.val + (i 0).val) % 32 = (i 0).val := by omega
  have hd' : (128 * n.val + (i 1).val) / 128 = n.val := by omega
  have hm' : (128 * n.val + (i 1).val) % 128 = (i 1).val := by omega
  show G (32 * ((32 * t.val + (i 0).val) / 32)) (128 * ((128 * n.val + (i 1).val) / 128))
    (ix2 (Fin.ofNat 32 (32 * t.val + (i 0).val)) (Fin.ofNat 128 (128 * n.val + (i 1).val))) = _
  rw [hd, hd']
  refine congrArg _ (funext fun a => Fin.ext ?_)
  match a with
  | ⟨0, _⟩ => exact hm
  | ⟨1, _⟩ => exact hm'

theorem group_out (t n : ℕ) (X Y : Vec F S1024x4096 .f32) (i : Fin 1024) (j : Fin 4096)
    (h : ¬(32 * t ≤ i.val ∧ i.val < 32 * t + 32 ∧ 128 * n ≤ j.val ∧ j.val < 128 * n + 128)) :
    mixL t (n + 1) X Y (ix2 i j) = mixL t n X Y (ix2 i j) := by
  unfold mixL
  show (if i.val < 32 * t ∨ (i.val < 32 * t + 32 ∧ j.val < 128 * (n + 1)) then _ else _)
    = (if i.val < 32 * t ∨ (i.val < 32 * t + 32 ∧ j.val < 128 * n) then _ else _)
  by_cases hj : i.val < 32 * t ∨ (i.val < 32 * t + 32 ∧ j.val < 128 * n)
  · rw [if_pos hj, if_pos (by omega)]
  · rw [if_neg hj, if_neg (by omega)]

theorem sub_mixL (t n : Fin 32) (X Y : Vec F S1024x4096 .f32) :
    (sub (32 * t.val) (128 * n.val) (mixL t.val n.val X Y) : Vec F S32x128 .f32) = sub (32 * t.val) (128 * n.val) X :=
  sub_congr _ _ (by omega) (by omega) fun p q _ _ _ _ => if_neg (by
    show ¬(p.val < 32 * t.val ∨ (p.val < 32 * t.val + 32 ∧ q.val < 128 * n.val)); omega)

section Memrefs

variable {a2 : Memref sig .tc .vmem S1024x1024 .bf16} {a3 : Memref sig .tc .vmem S1024x4096 .bf16}
  {a4 : Memref sig .tc .vmem S1024x256 .f32} {a5 : Memref sig .tc .vmem S1x4096 .f32}
  {a6 : Memref sig .tc .vmem S1024x4096 .f32} {a7 : Memref sig .tc .vmem S1024x128 .f32}

set_option maxHeartbeats 1000000 in
/-- A panel stored: the columns from `o` on get the product. -/
theorem panelA (o : ℕ) (p : Fin 4) (ho : o = 1024 * p.val) {off3 off6 : Fin 2 → ℕ} {inb2 inb3 inb6 hl2 hl3 hl6 hx hm}
    (h3 : off3 = ![0, o]) (h6 : off6 = ![0, o])
    {pay : Vec F S1024x1024 .bf16 → Vec F S1024x1024 .bf16 → Vec F S1024x1024 .f32} (hpay : pay = k0_pay5)
    (A : Vec F S1024x1024 .bf16) (W : Vec F S1024x4096 .bf16) (X : Vec F S1024x4096 .f32)
    {k : PUnit → Prog (TpuEff nD τ sig (Elt F) Λ₀ .tc) α} :
    iprop(owns (c : Thread nD τ) a2 fullShare A ∗ owns (c : Thread nD τ) a3 fullShare W
        ∗ owns (c : Thread nD τ) a6 fullShare (mixC o X (dotA A W)))
      ⊢ iprop((owns (c : Thread nD τ) a2 fullShare A -∗ owns (c : Thread nD τ) a3 fullShare W
          -∗ owns (c : Thread nD τ) a6 fullShare (mixC (o + 1024) X (dotA A W)) -∗ run c (k ⟨⟩) Q)
        -∗ run c (Prog.lift (.load a2 (Rect.unit (s := S1024x1024) ![0, 0] S1024x1024.size inb2).toLoadRect hl2) >>= fun v2 =>
            Prog.lift (.load a3 (Rect.unit (s := S1024x4096) off3 S1024x1024.size inb3).toLoadRect hl3) >>= fun v3 =>
            Prog.lift (.load a6 (Rect.unit (s := S1024x4096) off6 S1024x1024.size inb6).toLoadRect hl6) >>= fun _ =>
            Prog.lift (.store a6 (Rect.unit (s := S1024x4096) off6 S1024x1024.size inb6) (pay v2 v3) Finset.univ hx hm) >>= k) Q) := by
  subst hpay
  iintro ⟨H2, H3, H6⟩ Hk
  iapply (load2 c 0 0 rfl A) $$ H2
  iintro H2
  iapply (load2 c 0 o h3 W) $$ H3
  iintro H3
  iapply (load2 c 0 o h6 _) $$ H6
  iintro H6
  rw [sub_whole A]
  iapply (store2 c 0 o h6 _ (mixC (o + 1024) X (dotA A W)) (fun i => by
    subst ho; exact panel_in p (fun o => k0_pay5 A (sub 0 o W)) X _ (fun _ => rfl) i) (panel_out o X _)) $$ H6
  iintro H6
  iapply Hk $$ H2 H3 H6

set_option maxHeartbeats 1000000 in
/-- A panel added to: the columns from `o` on get what they had and the product. -/
theorem panelB (o : ℕ) (p : Fin 4) (ho : o = 1024 * p.val) {off3 off6 off6' : Fin 2 → ℕ} {inb2 inb3 inb6 inb6' hl2 hl3 hl6 hl6' hx hm}
    (h3 : off3 = ![0, o]) (h6 : off6 = ![0, o]) (h6' : off6' = ![0, o])
    {pay : Vec F S1024x1024 .bf16 → Vec F S1024x1024 .bf16 → Vec F S1024x1024 .f32 → Vec F S1024x1024 .f32} (hpay : pay = k0_pay11)
    (A : Vec F S1024x1024 .bf16) (W : Vec F S1024x4096 .bf16) (X : Vec F S1024x4096 .f32)
    {k : Vec F S1024x1024 .bf16 → Vec F S1024x1024 .bf16 → Vec F S1024x1024 .f32 → Prog (TpuEff nD τ sig (Elt F) Λ₀ .tc) α} :
    iprop(owns (c : Thread nD τ) a2 fullShare A ∗ owns (c : Thread nD τ) a3 fullShare W
        ∗ owns (c : Thread nD τ) a6 fullShare (mixC o X (accB A W X)))
      ⊢ iprop((owns (c : Thread nD τ) a2 fullShare A -∗ owns (c : Thread nD τ) a3 fullShare W
          -∗ owns (c : Thread nD τ) a6 fullShare (mixC (o + 1024) X (accB A W X)) -∗ run c (k A (sub 0 o W) (sub 0 o X)) Q)
        -∗ run c (Prog.lift (.load a2 (Rect.unit (s := S1024x1024) ![0, 0] S1024x1024.size inb2).toLoadRect hl2) >>= fun v2 =>
            Prog.lift (.load a3 (Rect.unit (s := S1024x4096) off3 S1024x1024.size inb3).toLoadRect hl3) >>= fun v3 =>
            Prog.lift (.load a6 (Rect.unit (s := S1024x4096) off6 S1024x1024.size inb6).toLoadRect hl6) >>= fun v6 =>
            Prog.lift (.load a6 (Rect.unit (s := S1024x4096) off6' S1024x1024.size inb6').toLoadRect hl6') >>= fun _ =>
            Prog.lift (.store a6 (Rect.unit (s := S1024x4096) off6' S1024x1024.size inb6') (pay v2 v3 v6) Finset.univ hx hm)
              >>= fun _ => k v2 v3 v6) Q) := by
  subst hpay
  iintro ⟨H2, H3, H6⟩ Hk
  iapply (load2 c 0 0 rfl A) $$ H2
  iintro H2
  iapply (load2 c 0 o h3 W) $$ H3
  iintro H3
  iapply (load2 c 0 o h6 _) $$ H6
  iintro H6
  iapply (load2 c 0 o h6' _) $$ H6
  iintro H6
  rw [sub_whole A, sub_mixC o (by omega) X (accB A W X)]
  iapply (store2 c 0 o h6' _ (mixC (o + 1024) X (accB A W X)) (fun i => by
    subst ho; exact panel_in p (fun o => k0_pay11 A (sub 0 o W) (sub 0 o X)) X _ (fun _ => rfl) i) (panel_out o X _)) $$ H6
  iintro H6
  iapply Hk $$ H2 H3 H6

set_option maxHeartbeats 1000000 in
/-- A tile of the residual added in the columns from `n` on. -/
theorem addTile (n : ℕ) (hn : n + 256 ≤ 4096) {off off' : Fin 2 → ℕ} {inb4 inb6 inb6' hl4 hl6 hl6' hx hm}
    (h6 : off = ![0, n]) (h6' : off' = ![0, n])
    {pay : Vec F S1024x256 .f32 → Vec F S1024x256 .f32 → Vec F S1024x256 .f32} (hpay : pay = k0_pay10)
    (T : Vec F S1024x256 .f32) (X : Vec F S1024x4096 .f32)
    {k : PUnit → Prog (TpuEff nD τ sig (Elt F) Λ₀ .tc) α} :
    iprop(owns (c : Thread nD τ) a4 fullShare T ∗ owns (c : Thread nD τ) a6 fullShare X)
      ⊢ iprop((owns (c : Thread nD τ) a4 fullShare T -∗ owns (c : Thread nD τ) a6 fullShare (addX n T X) -∗ run c (k ⟨⟩) Q)
        -∗ run c (Prog.lift (.load a6 (Rect.unit (s := S1024x4096) off S1024x256.size inb6).toLoadRect hl6) >>= fun v6 =>
            Prog.lift (.load a4 (Rect.unit (s := S1024x256) ![0, 0] S1024x256.size inb4).toLoadRect hl4) >>= fun v4 =>
            Prog.lift (.load a6 (Rect.unit (s := S1024x4096) off' S1024x256.size inb6').toLoadRect hl6') >>= fun _ =>
            Prog.lift (.store a6 (Rect.unit (s := S1024x4096) off' S1024x256.size inb6') (pay v6 v4) Finset.univ hx hm) >>= k) Q) := by
  subst hpay
  iintro ⟨H4, H6⟩ Hk
  iapply (load2 c 0 n h6 X) $$ H6
  iintro H6
  iapply (load2 c 0 0 rfl T) $$ H4
  iintro H4
  iapply (load2 c 0 n h6' _) $$ H6
  iintro H6
  rw [sub_whole T]
  iapply (store2 c 0 n h6' _ (addX n T X) (fun i => by
    have i0 : (i 0).val < 1024 := (i 0).isLt
    have i1 : (i 1).val < 256 := (i 1).isLt
    rw [sub_val _ i (⟨(i 0).val, i0⟩ : Fin 1024) (⟨n + (i 1).val, by omega⟩ : Fin 4096) (Nat.zero_add _) rfl]
    unfold addX
    refine (if_pos (show n ≤ n + (i 1).val ∧ n + (i 1).val < n + 256 by omega)).trans ?_
    refine congrArg _ (funext fun a => Fin.ext ?_)
    match a with
    | ⟨0, _⟩ => rfl
    | ⟨1, _⟩ =>
      show (n + (i 1).val - n) % 256 = (i 1).val
      omega) (fun i j h => by
    have hi := i.isLt
    exact if_neg (by show ¬(n ≤ j.val ∧ j.val < n + 256); omega))) $$ H6
  iintro H6
  iapply Hk $$ H4 H6

set_option maxHeartbeats 1000000 in
/-- A group of lanes of a block of rows scaled. -/
theorem group (t n : Fin 32) {off off' off5 : Fin 2 → ℕ} {inb5 inb6 inb6' hl5 hl6 hl6' hx hm}
    (h6 : off = ![32 * t.val, 128 * n.val]) (h6' : off' = ![32 * t.val, 128 * n.val]) (h5 : off5 = ![0, 128 * n.val])
    (R : Vec F S1024x128 .f32) (g : Vec F S1x4096 .f32) (X : Vec F S1024x4096 .f32)
    {pay : Vec F S32x128 .f32 → Vec F S1x128 .f32 → Vec F S32x128 .f32} (hpay : pay = k0_pay20 (sub (32 * t.val) 0 R))
    {k : PUnit → Prog (TpuEff nD τ sig (Elt F) Λ₀ .tc) α} :
    iprop(owns (c : Thread nD τ) a5 fullShare g ∗ owns (c : Thread nD τ) a6 fullShare (mixL t.val n.val X (scaled R g X)))
      ⊢ iprop((owns (c : Thread nD τ) a5 fullShare g
          -∗ owns (c : Thread nD τ) a6 fullShare (mixL t.val (n.val + 1) X (scaled R g X)) -∗ run c (k ⟨⟩) Q)
        -∗ run c (Prog.lift (.load a6 (Rect.unit (s := S1024x4096) off S32x128.size inb6).toLoadRect hl6) >>= fun v6 =>
            Prog.lift (.load a5 (Rect.unit (s := S1x4096) off5 S1x128.size inb5).toLoadRect hl5) >>= fun v5 =>
            Prog.lift (.load a6 (Rect.unit (s := S1024x4096) off' S32x128.size inb6').toLoadRect hl6') >>= fun _ =>
            Prog.lift (.store a6 (Rect.unit (s := S1024x4096) off' S32x128.size inb6') (pay v6 v5) Finset.univ hx hm) >>= k) Q) := by
  subst hpay
  iintro ⟨H5, H6⟩ Hk
  iapply (load2 c (32 * t.val) (128 * n.val) h6 _) $$ H6
  iintro H6
  iapply (load2 c 0 (128 * n.val) h5 g) $$ H5
  iintro H5
  iapply (load2 c (32 * t.val) (128 * n.val) h6' _) $$ H6
  iintro H6
  rw [sub_mixL t n X (scaled R g X)]
  iapply (store2 c (32 * t.val) (128 * n.val) h6' _ (mixL t.val (n.val + 1) X (scaled R g X))
    (group_in t n (fun o o' => k0_pay20 (sub o 0 R) (sub o o' X) (sub 0 o' g)) X _ (fun _ => rfl)) (group_out t.val n.val X _)) $$ H6
  iintro H6
  iapply Hk $$ H5 H6

end Memrefs

end Cert.DownIdeal.Dn

end
-- ==== Proof.DownTrip.lean ====
module

public import proofs.«01_k».proof.Proof.DownPanels

/-!
# One trip of the loop that scales a block

A trip reads the scales of 32 rows and multiplies the rows by them and by the weight of each column, 128 columns at a time.
-/

@[expose] public section

set_option maxRecDepth 16384

noncomputable section

namespace Cert.DownIdeal.Dn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.DownIdeal.Gen

variable {F : FTy → Type} [FloatOps F]

local notation "𝕄" => MT nD τ sig Unit (Elt F) ℕ (UR sig nD τ) ℕ

variable (c : Dev nD) {α : Type} {Q : α → sProp (MT nD τ sig Unit (Elt F) ℕ (UR sig nD τ) ℕ)}

set_option maxHeartbeats 8000000 in
theorem trip (i : grid0.Coords) (a2 : Memref sig .tc .vmem S1024x1024 .bf16) (h2 : a2.IsWhole)
    (a3 : Memref sig .tc .vmem S1024x4096 .bf16) (h3 : a3.IsWhole) (a4 : Memref sig .tc .vmem S1024x256 .f32) (h4 : a4.IsWhole)
    (a5 : Memref sig .tc .vmem S1x4096 .f32) (h5 : a5.IsWhole) (a6 : Memref sig .tc .vmem S1024x4096 .f32) (h6 : a6.IsWhole)
    (a7 : Memref sig .tc .vmem S1024x128 .f32) (h7 : a7.IsWhole) (h : k0_cond4 i = 1#1)
    (t : Fin k0_t1_loop.trips) (R : Vec F S1024x128 .f32) (g : Vec F S1x4096 .f32) (X : Vec F S1024x4096 .f32)
    (Q : Unit → sProp 𝕄) :
    iprop(owns (c : Thread nD τ) a5 fullShare g ∗ owns (c : Thread nD τ) a6 fullShare (mixL t.val 0 X (scaled R g X))
        ∗ owns (c : Thread nD τ) a7 fullShare R)
      ⊢ iprop((owns (c : Thread nD τ) a5 fullShare g -∗ owns (c : Thread nD τ) a6 fullShare (mixL (t.val + 1) 0 X (scaled R g X))
          -∗ owns (c : Thread nD τ) a7 fullShare R -∗ Q ⟨⟩)
        -∗ run c (k0_t1_body i a2 h2 a3 h3 a4 h4 a5 h5 a6 h6 a7 h7 h t ⟨⟩) Q) := by
  simp only [k0_t1_body, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, bind_assoc, pure_bind]
  iintro ⟨H5, H6, H7⟩ Hk
  iapply (load2 c (32 * t.val) 0 (k0_off4_eq t) R) $$ H7
  iintro H7
  iapply (group c t ⟨0, by decide⟩ (k0_off5_eq t) (k0_off5_eq t) rfl R g X rfl) $$ [H5 H6]
  · isplitl [H5]
    · iexact H5
    · iexact H6
  iintro H5 H6
  iapply (group c t ⟨1, by decide⟩ (k0_off6_eq t) (k0_off6_eq t) rfl R g X rfl) $$ [H5 H6]
  · isplitl [H5]
    · iexact H5
    · iexact H6
  iintro H5 H6
  iapply (group c t ⟨2, by decide⟩ (k0_off7_eq t) (k0_off7_eq t) rfl R g X rfl) $$ [H5 H6]
  · isplitl [H5]
    · iexact H5
    · iexact H6
  iintro H5 H6
  iapply (group c t ⟨3, by decide⟩ (k0_off8_eq t) (k0_off8_eq t) rfl R g X rfl) $$ [H5 H6]
  · isplitl [H5]
    · iexact H5
    · iexact H6
  iintro H5 H6
  iapply (group c t ⟨4, by decide⟩ (k0_off9_eq t) (k0_off9_eq t) rfl R g X rfl) $$ [H5 H6]
  · isplitl [H5]
    · iexact H5
    · iexact H6
  iintro H5 H6
  iapply (group c t ⟨5, by decide⟩ (k0_off10_eq t) (k0_off10_eq t) rfl R g X rfl) $$ [H5 H6]
  · isplitl [H5]
    · iexact H5
    · iexact H6
  iintro H5 H6
  iapply (group c t ⟨6, by decide⟩ (k0_off11_eq t) (k0_off11_eq t) rfl R g X rfl) $$ [H5 H6]
  · isplitl [H5]
    · iexact H5
    · iexact H6
  iintro H5 H6
  iapply (group c t ⟨7, by decide⟩ (k0_off12_eq t) (k0_off12_eq t) rfl R g X rfl) $$ [H5 H6]
  · isplitl [H5]
    · iexact H5
    · iexact H6
  iintro H5 H6
  iapply (group c t ⟨8, by decide⟩ (k0_off13_eq t) (k0_off13_eq t) rfl R g X rfl) $$ [H5 H6]
  · isplitl [H5]
    · iexact H5
    · iexact H6
  iintro H5 H6
  iapply (group c t ⟨9, by decide⟩ (k0_off14_eq t) (k0_off14_eq t) rfl R g X rfl) $$ [H5 H6]
  · isplitl [H5]
    · iexact H5
    · iexact H6
  iintro H5 H6
  iapply (group c t ⟨10, by decide⟩ (k0_off15_eq t) (k0_off15_eq t) rfl R g X rfl) $$ [H5 H6]
  · isplitl [H5]
    · iexact H5
    · iexact H6
  iintro H5 H6
  iapply (group c t ⟨11, by decide⟩ (k0_off16_eq t) (k0_off16_eq t) rfl R g X rfl) $$ [H5 H6]
  · isplitl [H5]
    · iexact H5
    · iexact H6
  iintro H5 H6
  iapply (group c t ⟨12, by decide⟩ (k0_off17_eq t) (k0_off17_eq t) rfl R g X rfl) $$ [H5 H6]
  · isplitl [H5]
    · iexact H5
    · iexact H6
  iintro H5 H6
  iapply (group c t ⟨13, by decide⟩ (k0_off18_eq t) (k0_off18_eq t) rfl R g X rfl) $$ [H5 H6]
  · isplitl [H5]
    · iexact H5
    · iexact H6
  iintro H5 H6
  iapply (group c t ⟨14, by decide⟩ (k0_off19_eq t) (k0_off19_eq t) rfl R g X rfl) $$ [H5 H6]
  · isplitl [H5]
    · iexact H5
    · iexact H6
  iintro H5 H6
  iapply (group c t ⟨15, by decide⟩ (k0_off20_eq t) (k0_off20_eq t) rfl R g X rfl) $$ [H5 H6]
  · isplitl [H5]
    · iexact H5
    · iexact H6
  iintro H5 H6
  iapply (group c t ⟨16, by decide⟩ (k0_off21_eq t) (k0_off21_eq t) rfl R g X rfl) $$ [H5 H6]
  · isplitl [H5]
    · iexact H5
    · iexact H6
  iintro H5 H6
  iapply (group c t ⟨17, by decide⟩ (k0_off22_eq t) (k0_off22_eq t) rfl R g X rfl) $$ [H5 H6]
  · isplitl [H5]
    · iexact H5
    · iexact H6
  iintro H5 H6
  iapply (group c t ⟨18, by decide⟩ (k0_off23_eq t) (k0_off23_eq t) rfl R g X rfl) $$ [H5 H6]
  · isplitl [H5]
    · iexact H5
    · iexact H6
  iintro H5 H6
  iapply (group c t ⟨19, by decide⟩ (k0_off24_eq t) (k0_off24_eq t) rfl R g X rfl) $$ [H5 H6]
  · isplitl [H5]
    · iexact H5
    · iexact H6
  iintro H5 H6
  iapply (group c t ⟨20, by decide⟩ (k0_off25_eq t) (k0_off25_eq t) rfl R g X rfl) $$ [H5 H6]
  · isplitl [H5]
    · iexact H5
    · iexact H6
  iintro H5 H6
  iapply (group c t ⟨21, by decide⟩ (k0_off26_eq t) (k0_off26_eq t) rfl R g X rfl) $$ [H5 H6]
  · isplitl [H5]
    · iexact H5
    · iexact H6
  iintro H5 H6
  iapply (group c t ⟨22, by decide⟩ (k0_off27_eq t) (k0_off27_eq t) rfl R g X rfl) $$ [H5 H6]
  · isplitl [H5]
    · iexact H5
    · iexact H6
  iintro H5 H6
  iapply (group c t ⟨23, by decide⟩ (k0_off28_eq t) (k0_off28_eq t) rfl R g X rfl) $$ [H5 H6]
  · isplitl [H5]
    · iexact H5
    · iexact H6
  iintro H5 H6
  iapply (group c t ⟨24, by decide⟩ (k0_off29_eq t) (k0_off29_eq t) rfl R g X rfl) $$ [H5 H6]
  · isplitl [H5]
    · iexact H5
    · iexact H6
  iintro H5 H6
  iapply (group c t ⟨25, by decide⟩ (k0_off30_eq t) (k0_off30_eq t) rfl R g X rfl) $$ [H5 H6]
  · isplitl [H5]
    · iexact H5
    · iexact H6
  iintro H5 H6
  iapply (group c t ⟨26, by decide⟩ (k0_off31_eq t) (k0_off31_eq t) rfl R g X rfl) $$ [H5 H6]
  · isplitl [H5]
    · iexact H5
    · iexact H6
  iintro H5 H6
  iapply (group c t ⟨27, by decide⟩ (k0_off32_eq t) (k0_off32_eq t) rfl R g X rfl) $$ [H5 H6]
  · isplitl [H5]
    · iexact H5
    · iexact H6
  iintro H5 H6
  iapply (group c t ⟨28, by decide⟩ (k0_off33_eq t) (k0_off33_eq t) rfl R g X rfl) $$ [H5 H6]
  · isplitl [H5]
    · iexact H5
    · iexact H6
  iintro H5 H6
  iapply (group c t ⟨29, by decide⟩ (k0_off34_eq t) (k0_off34_eq t) rfl R g X rfl) $$ [H5 H6]
  · isplitl [H5]
    · iexact H5
    · iexact H6
  iintro H5 H6
  iapply (group c t ⟨30, by decide⟩ (k0_off35_eq t) (k0_off35_eq t) rfl R g X rfl) $$ [H5 H6]
  · isplitl [H5]
    · iexact H5
    · iexact H6
  iintro H5 H6
  iapply (group c t ⟨31, by decide⟩ (k0_off36_eq t) (k0_off36_eq t) rfl R g X rfl) $$ [H5 H6]
  · isplitl [H5]
    · iexact H5
    · iexact H6
  iintro H5 H6
  rw [← mixL_next]
  iapply (show Q ⟨⟩ ⊢ run c (Pure.pure ⟨⟩) Q from Idealize.SL.BI.fupd_intro)
  iapply Hk $$ H5 H6 H7

end Cert.DownIdeal.Dn

end
-- ==== Proof.DownBody.lean ====
module

public import proofs.«01_k».proof.Proof.DownTrip

/-!
# The kernel's body

The first of the sixteen steps of a block stores the product, each later one adds its product, and each adds its tile of the
residual. The last also writes the scale of each row and then scales the block.
-/

@[expose] public section

set_option maxRecDepth 16384

noncomputable section

namespace Cert.DownIdeal.Dn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.DownIdeal.Gen

variable {F : FTy → Type} [FloatOps F]

local notation "𝕄" => MT nD τ sig Unit (Elt F) ℕ (UR sig nD τ) ℕ

variable (c : Dev nD) {α : Type} {Q : α → sProp (MT nD τ sig Unit (Elt F) ℕ (UR sig nD τ) ℕ)}

theorem lt16 (i : grid0.Coords) : 256 * (i 1).val + 256 ≤ 4096 := by
  have : (i 1).val < 16 := (i 1).isLt
  omega

set_option maxHeartbeats 8000000 in
theorem first (i : grid0.Coords) (a2 : Memref sig .tc .vmem S1024x1024 .bf16) (h2 : a2.IsWhole)
    (a3 : Memref sig .tc .vmem S1024x4096 .bf16) (h3 : a3.IsWhole) (a4 : Memref sig .tc .vmem S1024x256 .f32) (h4 : a4.IsWhole)
    (a5 : Memref sig .tc .vmem S1x4096 .f32) (h5 : a5.IsWhole) (a6 : Memref sig .tc .vmem S1024x4096 .f32) (h6 : a6.IsWhole)
    (a7 : Memref sig .tc .vmem S1024x128 .f32) (h7 : a7.IsWhole)
    (e1 : k0_cond1 i = 1#1) (e2 : ¬k0_cond2 i = 1#1) (e3 : ¬k0_cond3 i = 1#1) (e4 : ¬k0_cond4 i = 1#1)
    (A : Vec F S1024x1024 .bf16) (W : Vec F S1024x4096 .bf16) (T : Vec F S1024x256 .f32) (X : Vec F S1024x4096 .f32)
    (Q : PUnit → sProp 𝕄) :
    iprop(owns (c : Thread nD τ) a2 fullShare A ∗ owns (c : Thread nD τ) a3 fullShare W
        ∗ owns (c : Thread nD τ) a4 fullShare T ∗ owns (c : Thread nD τ) a6 fullShare X)
      ⊢ iprop((owns (c : Thread nD τ) a2 fullShare A -∗ owns (c : Thread nD τ) a3 fullShare W -∗ owns (c : Thread nD τ) a4 fullShare T
          -∗ owns (c : Thread nD τ) a6 fullShare (addX (256 * (i 1).val) T (dotA A W)) -∗ Q ⟨⟩)
        -∗ run c (cc0_down_norm i a2 h2 a3 h3 a4 h4 a5 h5 a6 h6 a7 h7) Q) := by
  rw [cc0_down_norm_eq_skeleton, cc0_down_norm_skel]
  simp only [dif_pos e1, dif_neg e2, dif_neg e3, dif_neg e4, k0_part1_eq_skeleton, k0_part1_skel, bind_assoc, pure_bind]
  iintro ⟨H2, H3, H4, H6⟩ Hk
  rw [← mixC_zero X (dotA A W)]
  iapply (panelA c 0 ⟨0, by decide⟩ rfl rfl rfl rfl A W X) $$ [H2 H3 H6]
  · isplitl [H2]
    · iexact H2
    isplitl [H3]
    · iexact H3
    · iexact H6
  iintro H2 H3 H6
  iapply (panelA c 1024 ⟨1, by decide⟩ rfl rfl rfl rfl A W X) $$ [H2 H3 H6]
  · isplitl [H2]
    · iexact H2
    isplitl [H3]
    · iexact H3
    · iexact H6
  iintro H2 H3 H6
  iapply (panelA c 2048 ⟨2, by decide⟩ rfl rfl rfl rfl A W X) $$ [H2 H3 H6]
  · isplitl [H2]
    · iexact H2
    isplitl [H3]
    · iexact H3
    · iexact H6
  iintro H2 H3 H6
  iapply (panelA c 3072 ⟨3, by decide⟩ rfl rfl rfl rfl A W X) $$ [H2 H3 H6]
  · isplitl [H2]
    · iexact H2
    isplitl [H3]
    · iexact H3
    · iexact H6
  iintro H2 H3 H6
  rw [mixC_full]
  iapply (addTile c (256 * (i 1).val) (lt16 i) (k0_off1_eq i) (k0_off1_eq i) rfl T _) $$ [H4 H6]
  · isplitl [H4]
    · iexact H4
    · iexact H6
  iintro H4 H6
  iapply (show Q ⟨⟩ ⊢ run c (Pure.pure ⟨⟩) Q from Idealize.SL.BI.fupd_intro)
  iapply Hk $$ H2 H3 H4 H6

set_option maxHeartbeats 8000000 in
theorem middle (i : grid0.Coords) (a2 : Memref sig .tc .vmem S1024x1024 .bf16) (h2 : a2.IsWhole)
    (a3 : Memref sig .tc .vmem S1024x4096 .bf16) (h3 : a3.IsWhole) (a4 : Memref sig .tc .vmem S1024x256 .f32) (h4 : a4.IsWhole)
    (a5 : Memref sig .tc .vmem S1x4096 .f32) (h5 : a5.IsWhole) (a6 : Memref sig .tc .vmem S1024x4096 .f32) (h6 : a6.IsWhole)
    (a7 : Memref sig .tc .vmem S1024x128 .f32) (h7 : a7.IsWhole)
    (e1 : ¬k0_cond1 i = 1#1) (e2 : k0_cond2 i = 1#1) (e3 : ¬k0_cond3 i = 1#1) (e4 : ¬k0_cond4 i = 1#1)
    (A : Vec F S1024x1024 .bf16) (W : Vec F S1024x4096 .bf16) (T : Vec F S1024x256 .f32) (X : Vec F S1024x4096 .f32)
    (Q : PUnit → sProp 𝕄) :
    iprop(owns (c : Thread nD τ) a2 fullShare A ∗ owns (c : Thread nD τ) a3 fullShare W
        ∗ owns (c : Thread nD τ) a4 fullShare T ∗ owns (c : Thread nD τ) a6 fullShare X)
      ⊢ iprop((owns (c : Thread nD τ) a2 fullShare A -∗ owns (c : Thread nD τ) a3 fullShare W -∗ owns (c : Thread nD τ) a4 fullShare T
          -∗ owns (c : Thread nD τ) a6 fullShare (accB A W (addX (256 * (i 1).val) T X)) -∗ Q ⟨⟩)
        -∗ run c (cc0_down_norm i a2 h2 a3 h3 a4 h4 a5 h5 a6 h6 a7 h7) Q) := by
  rw [cc0_down_norm_eq_skeleton, cc0_down_norm_skel]
  simp only [dif_neg e1, dif_pos e2, dif_neg e3, dif_neg e4, k0_part2_eq_skeleton, k0_part2_skel, bind_assoc, pure_bind]
  iintro ⟨H2, H3, H4, H6⟩ Hk
  iapply (addTile c (256 * (i 1).val) (lt16 i) (k0_off2_eq i) (k0_off2_eq i) rfl T X) $$ [H4 H6]
  · isplitl [H4]
    · iexact H4
    · iexact H6
  iintro H4 H6
  generalize addX (256 * (i 1).val) T X = Z
  rw [← mixC_zero Z (accB A W Z)]
  iapply (panelB c 0 ⟨0, by decide⟩ rfl rfl rfl rfl rfl A W Z) $$ [H2 H3 H6]
  · isplitl [H2]
    · iexact H2
    isplitl [H3]
    · iexact H3
    · iexact H6
  iintro H2 H3 H6
  iapply (panelB c 1024 ⟨1, by decide⟩ rfl rfl rfl rfl rfl A W Z) $$ [H2 H3 H6]
  · isplitl [H2]
    · iexact H2
    isplitl [H3]
    · iexact H3
    · iexact H6
  iintro H2 H3 H6
  iapply (panelB c 2048 ⟨2, by decide⟩ rfl rfl rfl rfl rfl A W Z) $$ [H2 H3 H6]
  · isplitl [H2]
    · iexact H2
    isplitl [H3]
    · iexact H3
    · iexact H6
  iintro H2 H3 H6
  iapply (panelB c 3072 ⟨3, by decide⟩ rfl rfl rfl rfl rfl A W Z) $$ [H2 H3 H6]
  · isplitl [H2]
    · iexact H2
    isplitl [H3]
    · iexact H3
    · iexact H6
  iintro H2 H3 H6
  rw [mixC_full, mixC_zero]
  iapply (show Q ⟨⟩ ⊢ run c (Pure.pure ⟨⟩) Q from Idealize.SL.BI.fupd_intro)
  iapply Hk $$ H2 H3 H4 H6

set_option maxHeartbeats 8000000 in
theorem last (i : grid0.Coords) (a2 : Memref sig .tc .vmem S1024x1024 .bf16) (h2 : a2.IsWhole)
    (a3 : Memref sig .tc .vmem S1024x4096 .bf16) (h3 : a3.IsWhole) (a4 : Memref sig .tc .vmem S1024x256 .f32) (h4 : a4.IsWhole)
    (a5 : Memref sig .tc .vmem S1x4096 .f32) (h5 : a5.IsWhole) (a6 : Memref sig .tc .vmem S1024x4096 .f32) (h6 : a6.IsWhole)
    (a7 : Memref sig .tc .vmem S1024x128 .f32) (h7 : a7.IsWhole)
    (e1 : ¬k0_cond1 i = 1#1) (e2 : ¬k0_cond2 i = 1#1) (e3 : k0_cond3 i = 1#1) (e4 : k0_cond4 i = 1#1)
    (A : Vec F S1024x1024 .bf16) (W : Vec F S1024x4096 .bf16) (T : Vec F S1024x256 .f32) (g : Vec F S1x4096 .f32)
    (X : Vec F S1024x4096 .f32) (R : Vec F S1024x128 .f32) (Q : PUnit → sProp 𝕄) :
    iprop(owns (c : Thread nD τ) a2 fullShare A ∗ owns (c : Thread nD τ) a3 fullShare W
        ∗ owns (c : Thread nD τ) a4 fullShare T ∗ owns (c : Thread nD τ) a5 fullShare g ∗ owns (c : Thread nD τ) a6 fullShare X ∗ owns (c : Thread nD τ) a7 fullShare R)
      ⊢ iprop((owns (c : Thread nD τ) a2 fullShare A -∗ owns (c : Thread nD τ) a3 fullShare W -∗ owns (c : Thread nD τ) a4 fullShare T -∗ owns (c : Thread nD τ) a5 fullShare g
          -∗ owns (c : Thread nD τ) a6 fullShare (scaled (scaleOf A W (addX (256 * (i 1).val) T X)) g (accB A W (addX (256 * (i 1).val) T X)))
          -∗ owns (c : Thread nD τ) a7 fullShare (scaleOf A W (addX (256 * (i 1).val) T X)) -∗ Q ⟨⟩)
        -∗ run c (cc0_down_norm i a2 h2 a3 h3 a4 h4 a5 h5 a6 h6 a7 h7) Q) := by
  rw [cc0_down_norm_eq_skeleton, cc0_down_norm_skel]
  simp only [dif_neg e1, dif_neg e2, dif_pos e3, dif_pos e4, k0_part3_eq_skeleton, k0_part3_skel, k0_part4_eq_skeleton,
    k0_part4_skel, bind_assoc, pure_bind]
  iintro ⟨H2, H3, H4, H5, H6, H7⟩ Hk
  iapply (addTile c (256 * (i 1).val) (lt16 i) (k0_off3_eq i) (k0_off3_eq i) rfl T X) $$ [H4 H6]
  · isplitl [H4]
    · iexact H4
    · iexact H6
  iintro H4 H6
  generalize addX (256 * (i 1).val) T X = Z
  rw [← mixC_zero Z (accB A W Z)]
  iapply (panelB c 0 ⟨0, by decide⟩ rfl rfl rfl rfl rfl A W Z) $$ [H2 H3 H6]
  · isplitl [H2]
    · iexact H2
    isplitl [H3]
    · iexact H3
    · iexact H6
  iintro H2 H3 H6
  iapply (panelB c 1024 ⟨1, by decide⟩ rfl rfl rfl rfl rfl A W Z) $$ [H2 H3 H6]
  · isplitl [H2]
    · iexact H2
    isplitl [H3]
    · iexact H3
    · iexact H6
  iintro H2 H3 H6
  iapply (panelB c 2048 ⟨2, by decide⟩ rfl rfl rfl rfl rfl A W Z) $$ [H2 H3 H6]
  · isplitl [H2]
    · iexact H2
    isplitl [H3]
    · iexact H3
    · iexact H6
  iintro H2 H3 H6
  iapply (panelB c 3072 ⟨3, by decide⟩ rfl rfl rfl rfl rfl A W Z) $$ [H2 H3 H6]
  · isplitl [H2]
    · iexact H2
    isplitl [H3]
    · iexact H3
    · iexact H6
  iintro H2 H3 H6
  rw [mixC_full, mixC_zero]
  iapply (load2 c 0 0 rfl R) $$ H7
  iintro H7
  iapply (store2 c 0 0 rfl R (scaleOf A W Z) (fun i => congrFun (sub_whole _) i) (fun i j h => absurd ⟨by omega, by omega, by omega, by omega⟩ h)) $$ H7
  iintro H7
  generalize accB A W Z = Y
  generalize scaleOf A W Z = S
  iapply (Scf.wp_for_bind _ _ _ _ _ _ _ _ _ (fun k _ => iprop(owns (c : Thread nD τ) a5 fullShare g
      ∗ owns (c : Thread nD τ) a6 fullShare (mixL k 0 Y (scaled S g Y)) ∗ owns (c : Thread nD τ) a7 fullShare S))
    (fun t _ => by
      iintro H
      iapply (trip c i a2 h2 a3 h3 a4 h4 a5 h5 a6 h6 a7 h7 e4 t S g Y) $$ H
      iintro H5 H6 H7
      isplitl [H5]
      · iexact H5
      isplitl [H6]
      · iexact H6
      · iexact H7)) $$ [H5 H6 H7]
  · rw [mixL_zero]
    isplitl [H5]
    · iexact H5
    isplitl [H6]
    · iexact H6
    · iexact H7
  iintro %acc ⟨H5, H6, H7⟩
  rw [show Scf.trips k0_t1_loop.lb k0_t1_loop.ub k0_t1_loop.st = 32 from rfl, mixL_full]
  iapply (show Q ⟨⟩ ⊢ run c (Pure.pure ⟨⟩) Q from Idealize.SL.BI.fupd_intro)
  iapply Hk $$ H2 H3 H4 H5 H6 H7

end Cert.DownIdeal.Dn

end
-- ==== Proof.DownRun.lean ====
module

public import proofs.«01_k».proof.Proof.DownBody
public import Idealize.ShloMosaic.Lib.Claim

/-!
# The run of the down projection

What the block of the result holds after each step, the pipeline's data, and the run: every execution ends, with each array
at what the data says and no counter left raised.
-/

@[expose] public section

set_option maxRecDepth 16384

noncomputable section

namespace Cert.DownIdeal.Dn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which step a point is -/

theorem cond1 : ∀ t : Fin grid0.N, k0_cond1 (grid0.coords t) = 1#1 ↔ t.val % 16 = 0 := by decide +kernel
theorem cond2 : ∀ t : Fin grid0.N, k0_cond2 (grid0.coords t) = 1#1 ↔ t.val % 16 ≠ 0 ∧ t.val % 16 ≠ 15 := by decide +kernel
theorem cond3 : ∀ t : Fin grid0.N, k0_cond3 (grid0.coords t) = 1#1 ↔ t.val % 16 = 15 := by decide +kernel
theorem cond4 : ∀ t : Fin grid0.N, k0_cond4 (grid0.coords t) = 1#1 ↔ t.val % 16 = 15 := by decide +kernel
theorem coord1 : ∀ t : Fin grid0.N, (grid0.coords t 1).val = t.val % 16 := by decide +kernel

/-- Every step stores to the block of the result. -/
theorem live : ∀ i, cfg0.idle (4 : Fin cfg0.W) i = false :=
  (by decide +kernel : ∀ i : grid0.Coords, idle0 4 i = false)

/-! ## The block of the result after each step -/

/-- The block after the step at `t`, from what it had before. -/
def stepOut (t : Fin cfg0.N) (A : Vec F S1024x1024 .bf16) (W : Vec F S1024x4096 .bf16) (T : Vec F S1024x256 .f32)
    (g : Vec F S1x4096 .f32) (X : Vec F S1024x4096 .f32) : Vec F S1024x4096 .f32 :=
  if t.val % 16 = 0 then addX (256 * (t.val % 16)) T (dotA A W)
  else if t.val % 16 = 15 then
    scaled (scaleOf A W (addX (256 * (t.val % 16)) T X)) g (accB A W (addX (256 * (t.val % 16)) T X))
  else accB A W (addX (256 * (t.val % 16)) T X)

/-- The block after the step at `n`. -/
def outN (c : Dev nD) : (n : ℕ) → n < cfg0.N → Vec F S1024x4096 .f32
  | 0, h => stepOut ⟨0, h⟩ (iblk m c 0 ⟨0, h⟩) (iblk m c 1 ⟨0, h⟩) (iblk m c 2 ⟨0, h⟩) (iblk m c 3 ⟨0, h⟩) (constant S1024x4096 .f32 0x00000000#32)
  | n + 1, h => stepOut ⟨n + 1, h⟩ (iblk m c 0 ⟨n + 1, h⟩) (iblk m c 1 ⟨n + 1, h⟩) (iblk m c 2 ⟨n + 1, h⟩) (iblk m c 3 ⟨n + 1, h⟩)
      (outN c n (Nat.lt_of_succ_lt h))

theorem outN_first (c : Dev nD) (t : Fin cfg0.N) (h : t.val % 16 = 0) :
    outN m c t.val t.isLt = addX (256 * (t.val % 16)) (iblk m c 2 t) (dotA (iblk m c 0 t) (iblk m c 1 t)) := by
  obtain ⟨n, hn⟩ := t
  cases n with
  | zero => unfold outN stepOut; rw [if_pos h]
  | succ n => unfold outN stepOut; rw [if_pos h]

theorem outN_next (c : Dev nD) (t : Fin cfg0.N) (h : t.val % 16 ≠ 0) :
    outN m c t.val t.isLt = stepOut t (iblk m c 0 t) (iblk m c 1 t) (iblk m c 2 t) (iblk m c 3 t)
      (outN m c (t.val - 1) (Nat.lt_of_le_of_lt (Nat.sub_le _ _) t.isLt)) := by
  obtain ⟨n, hn⟩ := t
  cases n with
  | zero => exact absurd rfl h
  | succ n => rfl

/-! ## The pipeline's data -/

/-- The arrays as the region finds them; after a step, each input's buffer at its block and the output's at `outN`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outN m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outN m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Within a block, the output's buffer holds what the step before left. -/
theorem before0_4 (c : Dev nD) (t : Fin cfg0.N) (h : t.val % 16 ≠ 0) (d) :
    (dats m 0 c).before 4 t d = outN m c (t.val - 1) (Nat.lt_of_le_of_lt (Nat.sub_le _ _) t.isLt) :=
  ((dats m 0 c).before_out_kept 4 rfl t (fun e => h (by rw [e])) (Bool.eq_false_iff.2 fun e => h (by
    have := (flush0_4 ⟨t.val - 1, Nat.lt_of_le_of_lt (Nat.sub_le _ _) t.isLt⟩).1 e
    simp only at this
    omega)) live (fun _ _ => rfl) d).trans (after0_4 m c _)

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The pipeline's own state: the scratch buffer, and the generator's register. -/
theorem phi (c : Dev nD) (t : Fin (cfg0.N + 1)) : (dats m 0 c).Φ t
    = iprop((∃ f, (c.tc.loc cc0_scratch0) ↦{fullShare} f) ∗ ∃ r, prngReg c r) := by
  rw [← scopedRest0_eq]
  rfl

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, phi]
  iintro ⟨HΦ, Ho, ⟨%d0, H0⟩, ⟨%d1, H1⟩, ⟨%d2, H2⟩, ⟨%d3, H3⟩, ⟨%d4, H4⟩⟩
  by_cases h0 : t.val % 16 = 0
  · rw [outN_first m c t h0, ← coord1 t]
    iapply (first c (grid0.coords t) _ _ _ _ _ _ _ _ _ _ _ _ ((cond1 t).2 h0) (fun e => ((cond2 t).1 e).1 h0)
      (fun e => by have := (cond3 t).1 e; omega) (fun e => by have := (cond4 t).1 e; omega)
      (iblk m c 0 t) (iblk m c 1 t) (iblk m c 2 t) _) $$ [H0 H1 H2 H4]
    · isplitl [H0]; · iexact H0
      isplitl [H1]; · iexact H1
      isplitl [H2]; · iexact H2
      iexact H4
    iintro H0 H1 H2 H4
    isplitl [HΦ]; · iexact HΦ
    isplitl [Ho]; · iexact Ho
    isplitl [H0]; · iexact H0
    isplitl [H1]; · iexact H1
    isplitl [H2]; · iexact H2
    isplitl [H3]; · iexact H3
    iexact H4
  rw [before0_4 m c t h0 d4, outN_next m c t h0]
  generalize outN m c (t.val - 1) (Nat.lt_of_le_of_lt (Nat.sub_le _ _) t.isLt) = X
  by_cases h15 : t.val % 16 = 15
  · unfold stepOut
    rw [if_neg h0, if_pos h15, ← coord1 t]
    icases HΦ with ⟨⟨%f, Hf⟩, Hr⟩
    iapply (last c (grid0.coords t) _ _ _ _ _ _ _ _ _ _ _ _ (fun e => h0 ((cond1 t).1 e)) (fun e => ((cond2 t).1 e).2 h15)
      ((cond3 t).2 h15) ((cond4 t).2 h15)
      (iblk m c 0 t) (iblk m c 1 t) (iblk m c 2 t) (iblk m c 3 t) X f _) $$ [H0 H1 H2 H3 H4 Hf]
    · isplitl [H0]; · iexact H0
      isplitl [H1]; · iexact H1
      isplitl [H2]; · iexact H2
      isplitl [H3]; · iexact H3
      isplitl [H4]; · iexact H4
      rw [owns_whole]
      iexact Hf
    iintro H0 H1 H2 H3 H4 H5
    isplitl [Hr H5]
    · isplitl [H5]
      · iexists _
        iapply (show owns (c : Thread nD τ) (Memref.whole cc0_scratch0) fullShare _ ⊢ _ from
          .of_eq (owns_whole (c : Thread nD τ) cc0_scratch0 fullShare _)) $$ H5
      · iexact Hr
    isplitl [Ho]; · iexact Ho
    isplitl [H0]; · iexact H0
    isplitl [H1]; · iexact H1
    isplitl [H2]; · iexact H2
    isplitl [H3]; · iexact H3
    iexact H4
  · unfold stepOut
    rw [if_neg h0, if_neg h15, ← coord1 t]
    iapply (middle c (grid0.coords t) _ _ _ _ _ _ _ _ _ _ _ _ (fun e => h0 ((cond1 t).1 e)) ((cond2 t).2 ⟨h0, h15⟩)
      (fun e => h15 ((cond3 t).1 e)) (fun e => h15 ((cond4 t).1 e))
      (iblk m c 0 t) (iblk m c 1 t) (iblk m c 2 t) X _) $$ [H0 H1 H2 H4]
    · isplitl [H0]; · iexact H0
      isplitl [H1]; · iexact H1
      isplitl [H2]; · iexact H2
      iexact H4
    iintro H0 H1 H2 H4
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  rw [show cfg0.idle 4 (cfg0.grid.coords t) = false from live _]
  exact .rfl

/-! ## The run -/

set_option backward.isDefEq.respectTransparency.types false in
set_option maxHeartbeats 800000 in
/-- Every execution ends, with the arrays as the data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame_at : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.DownIdeal.Dn

end
-- ==== Proof.DownValue.lean ====
module

public import proofs.«01_k».proof.Proof.DownRun
public import proofs.«01_k».proof.Proof.UpValue
public import proofs.«01_k».proof.Proof.Gen.DownReferenceIdeal.Run

/-!
# What the result holds after the down projection

The result of the kernel and of the reference, read at an index over the extended reals. The kernel sums the products of a
row block over sixteen blocks of the inner dimension and adds the residual a tile at a time. The reference adds the whole
product to the residual. Sums of extended reals may be taken in any order, so the two agree. The sum of squares of a row,
which the kernel takes group by group, is the reference's sum over the row.
-/

@[expose] public section

set_option maxRecDepth 16384

noncomputable section

namespace Cert.DownIdeal.Dn

open Idealize.ShloMosaic Idealize.ShloMosaic.TcCoe Idealize.ShloMosaic.ValueKit Cert.DownIdeal Cert.DownIdeal.Gen
open Idealize.ShloMosaic.Pipeline (Dat)
open Cert.UpIdeal.Act (scale)

/-! ## Sums taken in parts -/

/-- A sum over `m * n` terms, taken `n` at a time. -/
theorem sum_parts (m n N : ℕ) (hN : N = m * n) (f : ℕ → EReal) :
    ∑ j : Fin N, f j.val = ∑ i : Fin m, ∑ k : Fin n, f (n * i.val + k.val) := by
  subst hN
  rw [← Fintype.sum_prod_type', ← Equiv.sum_comp finProdFinEquiv]
  refine Finset.sum_congr rfl fun x _ => congrArg f ?_
  show x.2.val + n * x.1.val = n * x.1.val + x.2.val
  omega

/-! ## The values the kernel stores, at an index -/

theorem pay5_apply (a w : FVec Ideal S1024x1024 .bf16) (r j : Fin 1024) :
    k0_pay5 (F := Ideal) a w (ix2 r j) = ∑ k : Fin 1024, a (ix2 r k) * w (ix2 k j) := by
  pointwise [k0_pay5]

theorem pay11_apply (a w : FVec Ideal S1024x1024 .bf16) (x : FVec Ideal S1024x1024 .f32) (r j : Fin 1024) :
    k0_pay11 (F := Ideal) a w x (ix2 r j) = x (ix2 r j) + ∑ k : Fin 1024, a (ix2 r k) * w (ix2 k j) := by
  pointwise [k0_pay11]

theorem pay10_apply (x y : FVec Ideal S1024x256 .f32) (r : Fin 1024) (j : Fin 256) :
    k0_pay10 (F := Ideal) x y (ix2 r j) = x (ix2 r j) + y (ix2 r j) := by
  pointwise [k0_pay10]

theorem pay20_apply (s y : FVec Ideal S32x128 .f32) (g : FVec Ideal S1x128 .f32) (r : Fin 32) (j : Fin 128) :
    k0_pay20 (F := Ideal) s y g (ix2 r j) = y (ix2 r j) * s (ix2 r j) * g (ix2 0 j) := by
  pointwise [k0_pay20]

/-- Column `l` of group `n` of a panel. -/
abbrev grp (n : Fin 8) (l : Fin 128) : Fin 1024 := ⟨128 * n.val + l.val, by omega⟩

/-- The squares of a panel's row, summed over the groups. -/
def sq8 (v : FVec Ideal S1024x1024 .f32) (r : Fin 1024) (l : Fin 128) : EReal :=
  ∑ n : Fin 8, v (ix2 r (grp n l)) * v (ix2 r (grp n l))

theorem pay16_apply (a w : FVec Ideal S1024x1024 .bf16) (x : FVec Ideal S1024x1024 .f32) (r : Fin 1024) (l : Fin 128) :
    k0_pay16 (F := Ideal) a w x (ix2 r l) = sq8 (k0_pay11 a w x) r l := by
  unfold sq8 grp
  rw [Fin.sum_univ_eight]
  rw [← show k0_pay15 (F := Ideal) a w x = k0_pay11 a w x from rfl]
  pointwise [k0_pay16]

theorem pay19_apply (q : FVec Ideal S1024x128 .f32) (v : FVec Ideal S1024x1024 .f32) (a w : FVec Ideal S1024x1024 .bf16)
    (x : FVec Ideal S1024x1024 .f32) (r : Fin 1024) (l : Fin 128) :
    k0_pay19 (F := Ideal) q v a w x (ix2 r l) = q (ix2 r l) + sq8 v r l + sq8 (k0_pay11 a w x) r l := by
  unfold sq8 grp
  rw [Fin.sum_univ_eight, Fin.sum_univ_eight]
  rw [← show k0_pay18 (F := Ideal) a w x = k0_pay11 a w x from rfl]
  simp only [← add_assoc]
  pointwise [k0_pay19]

theorem pay3_apply (q : FVec Ideal S1024x128 .f32) (a w : FVec Ideal S1024x1024 .bf16) (z x : FVec Ideal S1024x1024 .f32)
    (r : Fin 1024) (l : Fin 128) :
    k0_pay3 (F := Ideal) q a w z x (ix2 r l) = scale (∑ l : Fin 128, (q (ix2 r l) + sq8 (k0_pay2 a w z x) r l)) := by
  unfold sq8 grp scale
  simp only [Fin.sum_univ_eight, ← add_assoc]
  pointwise [k0_pay3]

/-! ## The block of the result, at an index -/

variable (a : FVec Ideal S1024x1024 .bf16) (w : FVec Ideal S1024x4096 .bf16) (X : FVec Ideal S1024x4096 .f32)

theorem panel_col (p : Fin 4) (k : Fin 1024) (q : Fin 1024) :
    (sub 0 (1024 * p.val) w : FVec Ideal S1024x1024 .bf16) (ix2 k q) = w (ix2 k ⟨1024 * p.val + q.val, by omega⟩) :=
  sub_val w _ k ⟨1024 * p.val + q.val, by omega⟩ (Nat.zero_add _) rfl

theorem part_col {e : EltTy} (Z : (⟨2, ![1024, 4096]⟩ : Shape).Idx → Elt Ideal e) (k : Fin 1024) (j : Fin 4096) :
    (sub 0 (1024 * (j.val / 1024)) Z : S1024x1024.Idx → Elt Ideal e) (ix2 k (Fin.ofNat 1024 j.val)) = Z (ix2 k j) :=
  sub_val Z _ k j (Nat.zero_add _) (by show 1024 * (j.val / 1024) + j.val % 1024 = j.val; omega)

theorem dotA_apply (r : Fin 1024) (j : Fin 4096) :
    dotA (F := Ideal) a w (ix2 r j) = ∑ k : Fin 1024, a (ix2 r k) * w (ix2 k j) := by
  refine (pay5_apply a _ r (Fin.ofNat 1024 j.val)).trans (Finset.sum_congr rfl fun k _ => ?_)
  exact congrArg (fun x : EReal => a (ix2 r k) * x) (part_col (e := .bf16) w k j)

theorem accB_apply (r : Fin 1024) (j : Fin 4096) :
    accB (F := Ideal) a w X (ix2 r j) = X (ix2 r j) + ∑ k : Fin 1024, a (ix2 r k) * w (ix2 k j) := by
  refine (pay11_apply a _ _ r (Fin.ofNat 1024 j.val)).trans (congrArg₂ (fun x y : EReal => x + y) (part_col (e := .f32) X r j)
    (Finset.sum_congr rfl fun k _ => ?_))
  exact congrArg (fun x : EReal => a (ix2 r k) * x) (part_col (e := .bf16) w k j)

theorem addX_apply (n : ℕ) (x : FVec Ideal S1024x256 .f32) (r : Fin 1024) (j : Fin 4096) :
    addX (F := Ideal) n x X (ix2 r j) = if n ≤ j.val ∧ j.val < n + 256 then X (ix2 r j) + x (ix2 r (Fin.ofNat 256 (j.val - n))) else X (ix2 r j) := by
  unfold addX
  show (if n ≤ j.val ∧ j.val < n + 256 then _ else _) = _
  split
  · next h =>
    refine (pay10_apply _ x r (Fin.ofNat 256 (j.val - n))).trans (congrArg (fun y : EReal => y + _) ?_)
    exact sub_val X _ r j (Nat.zero_add _) (by show n + (j.val - n) % 256 = j.val; omega)
  · rfl

theorem scaled_apply (R : FVec Ideal S1024x128 .f32) (g : FVec Ideal S1x4096 .f32) (r : Fin 1024) (j : Fin 4096) :
    scaled (F := Ideal) R g X (ix2 r j) = X (ix2 r j) * R (ix2 r (Fin.ofNat 128 j.val)) * g (ix2 0 j) := by
  have e0 : 32 * (r.val / 32) + r.val % 32 = r.val := by omega
  have e1 : 128 * (j.val / 128) + j.val % 128 = j.val := by omega
  refine (pay20_apply _ _ _ (Fin.ofNat 32 r.val) (Fin.ofNat 128 j.val)).trans ?_
  refine congrArg₂ (fun x y : EReal => x * y) (congrArg₂ (fun x y : EReal => x * y) ?_ ?_) ?_
  · exact sub_val X _ r j e0 e1
  · exact sub_val R _ r (Fin.ofNat 128 j.val) e0 (Nat.zero_add _)
  · exact sub_val g _ (0 : Fin 1) j rfl e1

/-- A panel of the accumulated block. -/
theorem panel_acc (p : Fin 4) (r q : Fin 1024) :
    k0_pay11 (F := Ideal) a (sub 0 (1024 * p.val) w) (sub 0 (1024 * p.val) X) (ix2 r q)
      = accB (F := Ideal) a w X (ix2 r ⟨1024 * p.val + q.val, by omega⟩) := by
  rw [pay11_apply, accB_apply]
  refine congrArg₂ (fun x y : EReal => x + y) (sub_val X _ r ⟨1024 * p.val + q.val, by omega⟩ (Nat.zero_add _) rfl)
    (Finset.sum_congr rfl fun k _ => ?_)
  exact congrArg (fun x : EReal => a (ix2 r k) * x) (panel_col w p k q)

/-- The scale of a row is that of the sum of its squares. -/
theorem scaleOf_apply (r : Fin 1024) (l : Fin 128) :
    scaleOf (F := Ideal) a w X (ix2 r l) = scale (∑ j : Fin 4096, accB (F := Ideal) a w X (ix2 r j) * accB (F := Ideal) a w X (ix2 r j)) := by
  unfold scaleOf
  rw [pay3_apply]
  refine congrArg scale ?_
  have e : ∀ p : Fin 4, ∀ l : Fin 128, sq8 (k0_pay11 (F := Ideal) a (sub 0 (1024 * p.val) w) (sub 0 (1024 * p.val) X)) r l
      = ∑ n : Fin 8, (fun j : ℕ => accB (F := Ideal) a w X (ix2 r (Fin.ofNat 4096 j)) * accB (F := Ideal) a w X (ix2 r (Fin.ofNat 4096 j)))
          (1024 * p.val + (128 * n.val + l.val)) := fun p l => by
    unfold sq8
    refine Finset.sum_congr rfl fun n _ => ?_
    rw [panel_acc]
    have hj : (⟨1024 * p.val + (128 * n.val + l.val), by omega⟩ : Fin 4096) = Fin.ofNat 4096 (1024 * p.val + (128 * n.val + l.val)) :=
      Fin.ext (Nat.mod_eq_of_lt (by omega)).symm
    exact congrArg (fun j => accB (F := Ideal) a w X (ix2 r j) * accB (F := Ideal) a w X (ix2 r j)) hj
  have e0 : ∀ l : Fin 128, k0_pay19 (F := Ideal) (k0_pay16 a (sub 0 0 w) (sub 0 0 X)) (k0_pay17 a (sub 0 1024 w) (sub 0 1024 X)) a
        (sub 0 2048 w) (sub 0 2048 X) (ix2 r l)
      + sq8 (k0_pay2 a (sub 0 3072 w) (constant S1024x1024 .f32 0x00000000#32) (sub 0 3072 X)) r l
      = ∑ p : Fin 4, sq8 (k0_pay11 (F := Ideal) a (sub 0 (1024 * p.val) w) (sub 0 (1024 * p.val) X)) r l := fun l => by
    rw [pay19_apply, pay16_apply, Fin.sum_univ_four]
    rfl
  rw [Finset.sum_congr rfl fun l _ => e0 l, Finset.sum_comm]
  refine Eq.trans ?_ ((Finset.sum_congr rfl fun j _ => congrArg (fun j => accB (F := Ideal) a w X (ix2 r j) * accB (F := Ideal) a w X (ix2 r j))
    (Fin.ext (Nat.mod_eq_of_lt j.isLt) : Fin.ofNat 4096 j.val = j)).symm.trans (sum_parts 4 1024 4096 rfl
    fun j : ℕ => accB (F := Ideal) a w X (ix2 r (Fin.ofNat 4096 j)) * accB (F := Ideal) a w X (ix2 r (Fin.ofNat 4096 j)))).symm
  refine Finset.sum_congr rfl fun p _ => ?_
  refine Eq.trans ?_ (sum_parts 8 128 1024 rfl
    (fun k => (fun j : ℕ => accB (F := Ideal) a w X (ix2 r (Fin.ofNat 4096 j)) * accB (F := Ideal) a w X (ix2 r (Fin.ofNat 4096 j))) (1024 * p.val + k))).symm
  rw [Finset.sum_comm (s := (Finset.univ : Finset (Fin 8)))]
  exact Finset.sum_congr rfl fun l _ => e p l

/-! ## The kernel's array -/

variable (m : (ℓ : Loc nD τ sig) → Buf (Elt Ideal) ℓ)

theorem N_0 : cfg0.N = 256 := by decide +kernel

theorem idx0 : ∀ t : Fin cfg0.N, win0_0.index t = ![t.val / 16, t.val % 16] := (by decide +kernel : ∀ t : Fin grid0.N, _)
theorem idx1 : ∀ t : Fin cfg0.N, win0_1.index t = ![t.val % 16, 0] := (by decide +kernel : ∀ t : Fin grid0.N, _)
theorem idx2 : ∀ t : Fin cfg0.N, win0_2.index t = ![t.val / 16, t.val % 16] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 16, 0] := (by decide +kernel : ∀ t : Fin grid0.N, _)

/-- Row `r` of point `t`'s row block. -/
abbrev rowIx (t : Fin cfg0.N) (r : Fin 1024) : Fin 16384 := ⟨1024 * (t.val / 16) + r.val, by have h : t.val < 256 := t.isLt.trans_eq N_0; omega⟩
/-- Place `k` of point `t`'s stretch of the contraction. -/
abbrev midIx (t : Fin cfg0.N) (k : Fin 1024) : Fin 16384 := ⟨1024 * (t.val % 16) + k.val, by omega⟩

theorem blk0_apply (c : Dev nD) (t : Fin cfg0.N) (r : Fin 1024) (k : Fin 1024) :
    iblk m c 0 t (ix2 r k) = m ((c : Thread nD τ).loc main_arg0) (ix2 (rowIx t r) (midIx t k)) := by
  blk_simp [iblk]
  refine (congrFun (V_main_arg0 m c) _).trans (congrArg _ ?_)
  blk_ext [idx0]

theorem blk1_apply (c : Dev nD) (t : Fin cfg0.N) (k : Fin 1024) (j : Fin 4096) :
    iblk m c 1 t (ix2 k j) = m ((c : Thread nD τ).loc main_arg1) (ix2 (midIx t k) j) := by
  blk_simp [iblk]
  refine (congrFun (V_main_arg1 m c) _).trans (congrArg _ ?_)
  blk_ext [idx1]

theorem blk2_apply (c : Dev nD) (t : Fin cfg0.N) (r : Fin 1024) (j : Fin 256) :
    iblk m c 2 t (ix2 r j) = m ((c : Thread nD τ).loc main_arg2) (ix2 (rowIx t r) ⟨256 * (t.val % 16) + j.val, by omega⟩) := by
  blk_simp [iblk]
  refine (congrFun (V_main_arg2 m c) _).trans (congrArg _ ?_)
  blk_ext [idx2]

theorem V_main_v0 (c : Dev nD) (j : Fin 4096) :
    V m c main_v0 (ix2 0 j) = m ((c : Thread nD τ).loc main_arg3) (ix1 j) := by
  have h : V m c main_v0 = shapeCast S1x4096 (m ((c : Thread nD τ).loc main_arg3)) shapeCasts_S4096_S1x4096 := by
    unfold V
    after_results <;> rfl
  rw [h]
  exact (shapeCast_addUnit_apply ![4096] (m ((c : Thread nD τ).loc main_arg3)) shapeCasts_S4096_S1x4096 (ix2 (0 : Fin 1) j)).trans
    (congrArg (m ((c : Thread nD τ).loc main_arg3)) (funext fun a => by fin_cases a; rfl))

theorem blk3_apply (c : Dev nD) (t : Fin cfg0.N) (j : Fin 4096) :
    iblk m c 3 t (ix2 0 j) = m ((c : Thread nD τ).loc main_arg3) (ix1 j) := by
  blk_simp [iblk]
  refine Eq.trans (congrArg _ ?_) (V_main_v0 m c j)
  blk_ext [idx3]

theorem emb4 (t : Fin cfg0.N) (r : Fin 1024) (j : Fin 4096) :
    (((View.whole main_v1).slice (win0_4.rect t)).emb (ix2 r j) : S16384x4096.Idx) = ix2 (rowIx t r) j := by
  blk_ext [idx4]

/-! ## The accumulation -/

section

variable (A : FVec Ideal S16384x16384 .bf16) (W : FVec Ideal S16384x4096 .bf16) (x : FVec Ideal S16384x4096 .f32) (g : FVec Ideal S4096 .f32)

/-- A stretch of 1024 of the product's contraction, the `s`th of sixteen. -/
def stretch (R : Fin 16384) (j : Fin 4096) (s : ℕ) : EReal :=
  ∑ k : Fin 1024, A (ix2 R (Fin.ofNat 16384 (1024 * s + k.val))) * W (ix2 (Fin.ofNat 16384 (1024 * s + k.val)) j)

/-- The sum so far: `s` stretches, and the residual on the columns already reached. -/
def partE (R : Fin 16384) (j : Fin 4096) (s : ℕ) : EReal :=
  ∑ i ∈ Finset.range s, stretch A W R j i + if j.val < 256 * s then (x (ix2 R j) : EReal) else 0

/-- The new stream. -/
def sumE (R : Fin 16384) (j : Fin 4096) : EReal :=
  x (ix2 R j) + ∑ k : Fin 16384, A (ix2 R k) * W (ix2 k j)

/-- The new stream, normalised. -/
def normE (R : Fin 16384) (j : Fin 4096) : EReal :=
  sumE A W x R j * scale (∑ l : Fin 4096, sumE A W x R l * sumE A W x R l) * g (ix1 j)

theorem partE_all (R : Fin 16384) (j : Fin 4096) : partE A W x R j 16 = sumE A W x R j := by
  unfold partE sumE
  rw [if_pos (by have := j.isLt; omega), add_comm, Finset.sum_range]
  refine congrArg (fun y : EReal => x (ix2 R j) + y) ?_
  refine Eq.trans ?_ ((Finset.sum_congr rfl fun k _ => congrArg (fun k => A (ix2 R k) * W (ix2 k j))
    (Fin.ext (Nat.mod_eq_of_lt k.isLt) : Fin.ofNat 16384 k.val = k)).symm.trans (sum_parts 16 1024 16384 rfl
    fun k : ℕ => A (ix2 R (Fin.ofNat 16384 k)) * W (ix2 (Fin.ofNat 16384 k) j))).symm
  rfl

/-- One more stretch, and the residual on 256 columns more. -/
theorem partE_succ (R : Fin 16384) (j : Fin 4096) (s : ℕ) :
    partE A W x R j (s + 1) = (if 256 * s ≤ j.val ∧ j.val < 256 * s + 256 then partE A W x R j s + x (ix2 R j) else partE A W x R j s)
      + stretch A W R j s := by
  unfold partE
  rw [Finset.sum_range_succ]
  by_cases h0 : j.val < 256 * s
  · rw [if_pos (by omega), if_pos h0, if_neg (by omega), add_right_comm]
  · by_cases h1 : j.val < 256 * s + 256
    · rw [if_pos (by omega), if_neg h0, if_pos (by omega), add_zero, add_right_comm]
    · rw [if_neg (by omega), if_neg h0, if_neg (by omega), add_zero, add_zero]

end

variable (c : Dev nD)

theorem dot_blk (t : Fin cfg0.N) (r : Fin 1024) (j : Fin 4096) (a : FVec Ideal S1024x1024 .bf16) (w : FVec Ideal S1024x4096 .bf16)
    (ha : ∀ k, a (ix2 r k) = m ((c : Thread nD τ).loc main_arg0) (ix2 (rowIx t r) (midIx t k)))
    (hw : ∀ k, w (ix2 k j) = m ((c : Thread nD τ).loc main_arg1) (ix2 (midIx t k) j)) :
    ∑ k : Fin 1024, a (ix2 r k) * w (ix2 k j)
      = stretch (m ((c : Thread nD τ).loc main_arg0)) (m ((c : Thread nD τ).loc main_arg1)) (rowIx t r) j (t.val % 16) := by
  unfold stretch
  refine Finset.sum_congr rfl fun k _ => ?_
  rw [ha, hw]
  have e : midIx t k = Fin.ofNat 16384 (1024 * (t.val % 16) + k.val) := Fin.ext (Nat.mod_eq_of_lt (by omega)).symm
  rw [e]

theorem add_blk (t : Fin cfg0.N) (X : FVec Ideal S1024x4096 .f32) (r : Fin 1024) (j : Fin 4096) :
    addX (F := Ideal) (256 * (t.val % 16)) (iblk m c 2 t) X (ix2 r j)
      = if 256 * (t.val % 16) ≤ j.val ∧ j.val < 256 * (t.val % 16) + 256 then
          X (ix2 r j) + m ((c : Thread nD τ).loc main_arg2) (ix2 (rowIx t r) j) else X (ix2 r j) := by
  rw [addX_apply]
  split
  · next h =>
    rw [blk2_apply]
    have e : (⟨256 * (t.val % 16) + (Fin.ofNat 256 (j.val - 256 * (t.val % 16))).val, by omega⟩ : Fin 4096) = j :=
      Fin.ext (by show 256 * (t.val % 16) + (j.val - 256 * (t.val % 16)) % 256 = j.val; omega)
    exact congrArg (fun y : EReal => X (ix2 r j) + y) (congrArg (fun j => m ((c : Thread nD τ).loc main_arg2) (ix2 (rowIx t r) j)) e)
  · rfl

/-- A step's sum, over what the steps before have left. -/
theorem acc_blk (t : Fin cfg0.N) (X : FVec Ideal S1024x4096 .f32) (r : Fin 1024) (j : Fin 4096)
    (hX : X (ix2 r j) = partE (m ((c : Thread nD τ).loc main_arg0)) (m ((c : Thread nD τ).loc main_arg1))
      (m ((c : Thread nD τ).loc main_arg2)) (rowIx t r) j (t.val % 16)) :
    accB (F := Ideal) (iblk m c 0 t) (iblk m c 1 t) (addX (256 * (t.val % 16)) (iblk m c 2 t) X) (ix2 r j)
      = partE (m ((c : Thread nD τ).loc main_arg0)) (m ((c : Thread nD τ).loc main_arg1))
          (m ((c : Thread nD τ).loc main_arg2)) (rowIx t r) j (t.val % 16 + 1) := by
  rw [partE_succ, accB_apply, add_blk, hX, dot_blk m c t r j _ _ (blk0_apply m c t r) (fun k => blk1_apply m c t k j)]

/-- What the block holds after the first step of its row block. -/
theorem outN_zero (t : Fin cfg0.N) (h : t.val % 16 = 0) (r : Fin 1024) (j : Fin 4096) :
    outN m c t.val t.isLt (ix2 r j) = partE (m ((c : Thread nD τ).loc main_arg0)) (m ((c : Thread nD τ).loc main_arg1))
      (m ((c : Thread nD τ).loc main_arg2)) (rowIx t r) j (t.val % 16 + 1) := by
  rw [outN_first m c t h, add_blk, dotA_apply, dot_blk m c t r j _ _ (blk0_apply m c t r) (fun k => blk1_apply m c t k j), partE_succ]
  have e : ∀ x, partE (m ((c : Thread nD τ).loc main_arg0)) (m ((c : Thread nD τ).loc main_arg1)) x (rowIx t r) j (t.val % 16) = 0 := by
    intro x
    unfold partE
    rw [h, if_neg (by omega), Finset.sum_range_zero, add_zero]
  rw [e]
  split
  · rw [zero_add, add_comm]
  · rw [zero_add]

/-- What the block holds after each step but the last of its row block. -/
theorem outN_part (n : ℕ) : ∀ (h : n < cfg0.N), n % 16 ≠ 15 → ∀ (r : Fin 1024) (j : Fin 4096),
    outN m c n h (ix2 r j) = partE (m ((c : Thread nD τ).loc main_arg0)) (m ((c : Thread nD τ).loc main_arg1))
      (m ((c : Thread nD τ).loc main_arg2)) (rowIx ⟨n, h⟩ r) j (n % 16 + 1) := by
  induction n with
  | zero => exact fun h _ r j => outN_zero m c ⟨0, h⟩ rfl r j
  | succ n ih =>
    intro h hn r j
    by_cases h0 : (n + 1) % 16 = 0
    · exact outN_zero m c ⟨n + 1, h⟩ h0 r j
    · refine (congrFun (outN_next m c ⟨n + 1, h⟩ h0) (ix2 r j)).trans ?_
      unfold stepOut
      rw [if_neg h0, if_neg hn]
      refine acc_blk m c ⟨n + 1, h⟩ _ r j ((ih (Nat.lt_of_succ_lt h) (by omega) r j).trans ?_)
      have e0 : rowIx ⟨n, Nat.lt_of_succ_lt h⟩ r = rowIx ⟨n + 1, h⟩ r :=
        Fin.ext (by show 1024 * (n / 16) + r.val = 1024 * ((n + 1) / 16) + r.val; omega)
      have e1 : n % 16 + 1 = (n + 1) % 16 := by omega
      rw [e0, e1]

/-- What the block holds after the last step: the new stream's rows, normalised. -/
theorem outN_last (t : Fin cfg0.N) (h : t.val % 16 = 15) (r : Fin 1024) (j : Fin 4096) :
    outN m c t.val t.isLt (ix2 r j) = normE (m ((c : Thread nD τ).loc main_arg0)) (m ((c : Thread nD τ).loc main_arg1))
      (m ((c : Thread nD τ).loc main_arg2)) (m ((c : Thread nD τ).loc main_arg3)) (rowIx t r) j := by
  have h0 : t.val % 16 ≠ 0 := by omega
  refine (congrFun (outN_next m c t h0) (ix2 r j)).trans ?_
  unfold stepOut
  rw [if_neg h0, if_pos h]
  have e : ∀ j, accB (F := Ideal) (iblk m c 0 t) (iblk m c 1 t) (addX (256 * (t.val % 16)) (iblk m c 2 t)
        (outN m c (t.val - 1) (Nat.lt_of_le_of_lt (Nat.sub_le _ _) t.isLt))) (ix2 r j)
      = sumE (m ((c : Thread nD τ).loc main_arg0)) (m ((c : Thread nD τ).loc main_arg1)) (m ((c : Thread nD τ).loc main_arg2)) (rowIx t r) j := by
    intro j
    refine (acc_blk m c t _ r j ((outN_part m c (t.val - 1) _ (by omega) r j).trans ?_)).trans ?_
    · have e0 : rowIx ⟨t.val - 1, Nat.lt_of_le_of_lt (Nat.sub_le _ _) t.isLt⟩ r = rowIx t r :=
        Fin.ext (by show 1024 * ((t.val - 1) / 16) + r.val = 1024 * (t.val / 16) + r.val; omega)
      have e1 : (t.val - 1) % 16 + 1 = t.val % 16 := by omega
      rw [e0, e1]
    · rw [h]
      exact partE_all _ _ _ _ _
  rw [scaled_apply, scaleOf_apply, blk3_apply, e]
  simp only [e]
  rfl

theorem down_eq : (dats m 0 c).arrAt 4 cfg0.N = (fun i => normE (m ((c : Thread nD τ).loc main_arg0)) (m ((c : Thread nD τ).loc main_arg1))
    (m ((c : Thread nD τ).loc main_arg2)) (m ((c : Thread nD τ).loc main_arg3)) (i 0) (i 1) : FVec Ideal S16384x4096 .f32) := by
  refine (dats m 0 c).arrAt_eq_of_covers 4 _ (by decide +kernel) fun t hf y => ?_
  blk_simp
  rw [after0_4]
  obtain ⟨r, j, rfl⟩ : ∃ r j, y = ix2 r j := ⟨y 0, y 1, eq_ix2 y⟩
  rw [emb4]
  exact outN_last m c t ((flush0_4 t).mp hf) r j

/-! ## The reference -/

/-- The reference's sum. -/
abbrev refSum (A : FVec Ideal S16384x16384 .bf16) (W : FVec Ideal S16384x4096 .bf16) (x : FVec Ideal S16384x4096 .f32) : FVec Ideal S16384x4096 .f32 :=
  addf x (Host.dotGeneral Cert.DownReferenceIdeal.dot_S16384x16384_S16384x4096_S16384x4096_1_0_0_1_n_n none (extf .f32 A Cert.DownReferenceIdeal.Gen.facts.bitsLt_bf16_f32) (extf .f32 W Cert.DownReferenceIdeal.Gen.facts.bitsLt_bf16_f32))

/-- The reference's result, of its sum. -/
abbrev refNorm (z : FVec Ideal S16384x4096 .f32) (g : FVec Ideal S4096 .f32) : FVec Ideal S16384x4096 .f32 :=
  mulf (mulf z (broadcastInDim S16384x4096 ![0, 1] Cert.DownReferenceIdeal.Gen.facts.bcast_S16384x1_S16384x4096_0_1 (Host.rsqrt (addf (Host.divf (broadcastInDim Cert.DownReferenceIdeal.S16384x1 ![0] Cert.DownReferenceIdeal.Gen.facts.bcast_S16384_S16384x1_0 (Host.reduceAdd (mulf z z) (constant Cert.DownReferenceIdeal.S_ .f32 0x00000000#32) Cert.DownReferenceIdeal.Gen.facts.reducesTo_S16384x4096_S16384_d1 Cert.DownReferenceIdeal.Gen.facts.h_S_)) (broadcastInDim Cert.DownReferenceIdeal.S16384x1 ![] Cert.DownReferenceIdeal.Gen.facts.bcast_S_S16384x1 (constant Cert.DownReferenceIdeal.S_ .f32 0x45800000#32))) (broadcastInDim Cert.DownReferenceIdeal.S16384x1 ![] Cert.DownReferenceIdeal.Gen.facts.bcast_S_S16384x1 (constant Cert.DownReferenceIdeal.S_ .f32 0x358637BD#32)))))) (broadcastInDim S16384x4096 ![0, 1] Cert.DownReferenceIdeal.Gen.facts.bcast_S1x4096_S16384x4096_0_1 (broadcastInDim S1x4096 ![1] Cert.DownReferenceIdeal.Gen.facts.bcast_S4096_S1x4096_1 g))

theorem refSum_apply (A : FVec Ideal S16384x16384 .bf16) (W : FVec Ideal S16384x4096 .bf16) (x : FVec Ideal S16384x4096 .f32)
    (r : Fin 16384) (j : Fin 4096) : refSum A W x (ix2 r j) = sumE A W x r j := by
  pointwise [refSum, sumE]

theorem refNorm_apply (z : FVec Ideal S16384x4096 .f32) (g : FVec Ideal S4096 .f32) (r : Fin 16384) (j : Fin 4096) :
    refNorm z g (ix2 r j) = z (ix2 r j) * scale (∑ l : Fin 4096, z (ix2 r l) * z (ix2 r l)) * g (ix1 j) := by
  pointwise [refNorm, scale]

/-- The reference's result is what the kernel's array holds. -/
theorem ref_down : refNorm (refSum (m ((c : Thread nD τ).loc main_arg0)) (m ((c : Thread nD τ).loc main_arg1)) (m ((c : Thread nD τ).loc main_arg2)))
      (m ((c : Thread nD τ).loc main_arg3))
    = (fun i => normE (m ((c : Thread nD τ).loc main_arg0)) (m ((c : Thread nD τ).loc main_arg1))
        (m ((c : Thread nD τ).loc main_arg2)) (m ((c : Thread nD τ).loc main_arg3)) (i 0) (i 1)) := by
  funext i
  obtain ⟨r, j, rfl⟩ : ∃ (r : Fin 16384) (j : Fin 4096), i = ix2 r j := ⟨i 0, i 1, eq_ix2 i⟩
  rw [refNorm_apply]
  simp only [refSum_apply]
  rfl

end Cert.DownIdeal.Dn

end
-- ==== Proof.DownClaims.lean ====
module

public import proofs.«01_k».proof.Proof.Gen.Down
public import proofs.«01_k».proof.Proof.DownValue

/-!
# The claims of the down projection

Both printed programs have the same text, so the run of one over any float values is the other's.
-/

@[expose] public section

noncomputable section

namespace Cert.DownIdeal.Dn

open Idealize.ShloMosaic Idealize.SL.Sem Cert.DownIdeal Cert.DownIdeal.Gen

theorem frame_downIdeal : Cert.quiescent_DownIdeal := fun m ρ _ => frame_at (F := Ideal) m ρ

theorem bodies_eq : Cert.Down.defs₀ (F := Bits) = Cert.DownIdeal.defs₀ (F := Bits) := by
  unfold Cert.Down.defs₀ Cert.DownIdeal.defs₀
  refine congrArg Defs.onTc (funext fun l => funext fun a => ?_)
  match l, a with
  | 0, (t, s) => rfl

theorem defs_eq : Cert.Down.defs (F := Bits) = Cert.DownIdeal.defs (F := Bits) :=
  congrArg (Pipeline.defs (Cert.DownIdeal.pcfgs (F := Bits))) bodies_eq

theorem frame_down : Cert.quiescent_Down := fun m ρ _ =>
  (congrArg (fun D => θ_run D (onTc (τ := Cert.Down.τ) (Cert.Down.main (F := Bits))) ⟨m, fun _ => 0, ρ⟩ _) defs_eq).mpr
    (frame_at (F := Bits) m ρ)

theorem frame_downReferenceIdeal : Cert.quiescent_DownReferenceIdeal := fun m ρ _ =>
  (θ_run Cert.DownReferenceIdeal.defs _ _).mono (fun r h => ⟨fun c => (h c).2, Idealize.ShloMosaic.sem_eq_zero_of_no_sems (by decide) r.2⟩)
    (Cert.DownReferenceIdeal.Value.run (F := Ideal) m ρ)

/-- The run, with the array's contents and the arguments. -/
theorem run_array (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1 4, h.2.1 c⟩) (θ_run_and (run_main m ρ) (frame_at m ρ))

/-- The kernel's array is the reference's, over the extended reals. -/
theorem algebraic_down : Cert.algebraic_DownIdeal_DownReferenceIdeal := by
  intro m ρ m' ρ' _ hagree
  refine ⟨_, run_array m ρ, ?_⟩
  refine (θ_run Cert.DownReferenceIdeal.defs _ _).mono (fun _ h c => ⟨(h c).1.trans ?_, (h c).2⟩)
    (Cert.DownReferenceIdeal.Value.run (F := Ideal) m' ρ')
  rw [(hagree c).1, (hagree c).2.1, (hagree c).2.2.1, (hagree c).2.2.2]
  exact (ref_down m c).trans (down_eq m c).symm

end Cert.DownIdeal.Dn

end
-- ==== Proof.InSteps.lean ====
module

public import proofs.«01_k».proof.Proof.Gen.InIdeal.Frame
public import proofs.«01_k».proof.Proof.Gen.InIdeal.Skeleton
public import proofs.«01_k».proof.Proof.DownSteps

/-!
# Loads and stores of the input projection

The scratch buffer has two slots, each a block of 1024 normalised rows. A step reads the whole of one slot and writes 128 rows of the other.
The rotated columns are stored in panels of 128.
-/

@[expose] public section

set_option maxRecDepth 16384

noncomputable section

namespace Cert.InIdeal.Pj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.InIdeal Cert.InIdeal.Gen
open Cert.DownIdeal.Dn (pos sub idx_eq)

variable {F : FTy → Type} [FloatOps F]

local notation "𝕄" => MT nD τ sig Unit (Elt F) ℕ (UR sig nD τ) ℕ

section Rules

variable {e : EltTy} {s : Shape} (c : Dev nD) {α : Type} {Q : α → sProp (MT nD τ sig Unit (Elt F) ℕ (UR sig nD τ) ℕ)}

/-- The judgement the kernel's body is run in. -/
abbrev run (c : Dev nD) {α : Type} (p : Prog (TpuEff nD τ sig (Elt F) Λ₀ .tc) α)
    (Q : α → sProp (MT nD τ sig Unit (Elt F) ℕ (UR sig nD τ) ℕ)) : sProp (MT nD τ sig Unit (Elt F) ℕ (UR sig nD τ) ℕ) :=
  wp frame (wpE (defs₀ (F := F)) Variants.none c none) Set.univ p Q

theorem load_at {M : Memref sig .tc .vmem s e} {r : Rect s} {hl : M.view.LoadsAt r.toLoadRect}
    {k : (r.shape.Idx → Elt F e) → Prog (TpuEff nD τ sig (Elt F) Λ₀ .tc) α} (X : s.Idx → Elt F e) (x : r.shape.Idx → Elt F e)
    (hx : ∀ i, X (r.idx i) = x i) :
    owns (c : Thread nD τ) M fullShare X
      ⊢ iprop((owns (c : Thread nD τ) M fullShare X -∗ run c (k x) Q)
        -∗ run c (Prog.lift (.load M r.toLoadRect hl) >>= k) Q) := by
  unfold owns
  iintro ⟨%f, %hf, H⟩ Hk
  iapply (show (M.view.loc (c : Thread nD τ) ↦[M.view.set]{fullShare} f)
      ⊢ iprop(((M.view.loc (c : Thread nD τ) ↦[M.view.set]{fullShare} f)
          -∗ run c (k (M.view.readAt (Elt F) r.toLoadRect f)) Q)
        -∗ run c (Prog.lift (.load M r.toLoadRect hl) >>= k) Q)
      from wp_load Variants.none (c : Thread nD τ) none Set.univ (M.view.setOn_subset_set _)) $$ [H]
  · iexact H
  iintro H
  rw [show M.view.readAt (Elt F) r.toLoadRect f = x from funext fun i => by rw [View.readAt_apply, hf]; exact hx i]
  iapply Hk
  iexists f
  isplitr
  · ipureintro; exact hf
  iexact H

theorem store_at {M : Memref sig .tc .vmem s e} {r : Rect s} {w : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ .tc) α} (X Y : s.Idx → Elt F e)
    (hin : ∀ i, Y (r.idx i) = w i) (hout : ∀ j, j ∉ r.set → Y j = X j) :
    owns (c : Thread nD τ) M fullShare X
      ⊢ iprop((owns (c : Thread nD τ) M fullShare Y -∗ run c (k ⟨⟩) Q)
        -∗ run c (Prog.lift (.store M r w Finset.univ hx hm) >>= k) Q) := by
  unfold owns
  iintro ⟨%f, %hf, H⟩ Hk
  iapply (show ((M.access r).loc (c : Thread nD τ) ↦[M.view.set]{fullShare} f)
      ⊢ iprop((((M.access r).loc (c : Thread nD τ) ↦[M.view.set]{fullShare} ((M.access r).write (Elt F) f w Finset.univ))
          -∗ run c (k ⟨⟩) Q)
        -∗ run c (.op (.store M r w Finset.univ hx hm) k) Q)
      from wp_store Variants.none (c : Thread nD τ) none Set.univ
        ((View.setOn_subset_set _ _).trans (View.set_slice_subset _ _))) $$ [H]
  · iexact H
  iintro H
  iapply Hk
  iexists ((M.access r).write (Elt F) f w Finset.univ)
  isplitr
  · ipureintro
    subst hf
    funext j
    by_cases hj : j ∈ r.set
    · rw [← Rect.map_emb_univ] at hj
      obtain ⟨i, -, rfl⟩ := Finset.mem_map.1 hj
      exact (View.read_slice_write_emb r f w (Finset.mem_univ i)).trans (hin i).symm
    · exact (View.read_slice_write_of_not_mem r f w _ (by rwa [Rect.map_emb_univ])).trans (hout j hj).symm
  iexact H

/-- A load of a whole matrix gives the matrix. -/
theorem loadW {N M : ℕ} [NeZero N] [NeZero M] {A : Memref sig .tc .vmem ⟨2, ![N, M]⟩ e}
    {inb : ∀ a, (![0, 0] : Fin 2 → ℕ) a + (![N, M] : Fin 2 → ℕ) a ≤ (![N, M] : Fin 2 → ℕ) a}
    {hl : A.view.LoadsAt (Rect.unit (s := ⟨2, ![N, M]⟩) ![0, 0] ![N, M] inb).toLoadRect}
    {k : ((⟨2, ![N, M]⟩ : Shape).Idx → Elt F e) → Prog (TpuEff nD τ sig (Elt F) Λ₀ .tc) α}
    (X : (⟨2, ![N, M]⟩ : Shape).Idx → Elt F e) :
    owns (c : Thread nD τ) A fullShare X
      ⊢ iprop((owns (c : Thread nD τ) A fullShare X -∗ run c (k X) Q)
        -∗ run c (Prog.lift (.load A (Rect.unit (s := ⟨2, ![N, M]⟩) ![0, 0] ![N, M] inb).toLoadRect hl) >>= k) Q) :=
  load_at (r := Rect.unit (s := ⟨2, ![N, M]⟩) ![0, 0] ![N, M] inb) c X X fun i => congrArg X (funext fun a => Fin.ext (by
    match a with
    | ⟨0, _⟩ => show 0 + 1 * (i 0).val = (i 0).val; omega
    | ⟨1, _⟩ => show 0 + 1 * (i 1).val = (i 1).val; omega))

/-- A store of a whole matrix leaves the matrix stored. -/
theorem storeW {N M : ℕ} [NeZero N] [NeZero M] {A : Memref sig .tc .vmem ⟨2, ![N, M]⟩ e}
    {inb : ∀ a, (![0, 0] : Fin 2 → ℕ) a + (![N, M] : Fin 2 → ℕ) a ≤ (![N, M] : Fin 2 → ℕ) a}
    {w : (⟨2, ![N, M]⟩ : Shape).Idx → Elt F e}
    {hx : (A.access (Rect.unit (s := ⟨2, ![N, M]⟩) ![0, 0] ![N, M] inb)).Stores Finset.univ}
    {hm : (Finset.univ : Finset (Rect.unit (s := ⟨2, ![N, M]⟩) ![0, 0] ![N, M] inb).shape.Idx) = Finset.univ
      ∨ ∀ a, (Rect.unit (s := ⟨2, ![N, M]⟩) ![0, 0] ![N, M] inb).stride a = 1}
    {k : PUnit → Prog (TpuEff nD τ sig (Elt F) Λ₀ .tc) α} (X : (⟨2, ![N, M]⟩ : Shape).Idx → Elt F e) :
    owns (c : Thread nD τ) A fullShare X
      ⊢ iprop((owns (c : Thread nD τ) A fullShare w -∗ run c (k ⟨⟩) Q)
        -∗ run c (Prog.lift (.store A (Rect.unit (s := ⟨2, ![N, M]⟩) ![0, 0] ![N, M] inb) w Finset.univ hx hm) >>= k) Q) :=
  store_at c X w (fun i => congrArg w (funext fun a => Fin.ext (by
    match a with
    | ⟨0, _⟩ => show 0 + 1 * (i 0).val = (i 0).val; omega
    | ⟨1, _⟩ => show 0 + 1 * (i 1).val = (i 1).val; omega))) fun j hj => absurd (by
    rw [Rect.mem_set_unit]
    intro a
    match a with
    | ⟨0, _⟩ => exact ⟨Nat.zero_le _, by show (j 0).val < 0 + N; have : (j 0).val < N := (j 0).isLt; omega⟩
    | ⟨1, _⟩ => exact ⟨Nat.zero_le _, by show (j 1).val < 0 + M; have : (j 1).val < M := (j 1).isLt; omega⟩) hj

/-- One slot of the scratch buffer. -/
def slotOf (s : Fin 2) (X : Vec F S2x1024x4096 .bf16) : Vec F S1x1024x4096 .bf16 := fun y => X (ix3 s (y 1) (y 2))

/-- The scratch buffer with rows `128 * n` to `128 * n + 127` of a slot replaced. -/
def putH (s : Fin 2) (n : ℕ) (P : Vec F S1x128x4096 .bf16) (X : Vec F S2x1024x4096 .bf16) : Vec F S2x1024x4096 .bf16 := fun y =>
  if (y 0).val = s.val ∧ 128 * n ≤ (y 1).val ∧ (y 1).val < 128 * n + 128 then P (ix3 0 (Fin.ofNat 128 ((y 1).val - 128 * n)) (y 2)) else X y

theorem loadS {A : Memref sig .tc .vmem S2x1024x4096 .bf16} {off : Fin 3 → ℕ} (s : Fin 2) (hoff : off = ![s.val, 0, 0])
    {inb : ∀ a, off a + S1x1024x4096.size a ≤ S2x1024x4096.size a}
    {hl : A.view.LoadsAt (Rect.unit (s := S2x1024x4096) off S1x1024x4096.size inb).toLoadRect}
    {k : Vec F S1x1024x4096 .bf16 → Prog (TpuEff nD τ sig (Elt F) Λ₀ .tc) α} (X : Vec F S2x1024x4096 .bf16) :
    owns (c : Thread nD τ) A fullShare X
      ⊢ iprop((owns (c : Thread nD τ) A fullShare X -∗ run c (k (slotOf s X)) Q)
        -∗ run c (Prog.lift (.load A (Rect.unit (s := S2x1024x4096) off S1x1024x4096.size inb).toLoadRect hl) >>= k) Q) := by
  subst hoff
  refine load_at (r := Rect.unit (s := S2x1024x4096) ![s.val, 0, 0] S1x1024x4096.size inb) c X (slotOf s X) fun i => ?_
  refine congrArg X (funext fun a => Fin.ext ?_)
  have h0 : (i 0).val < 1 := (i 0).isLt
  match a with
  | ⟨0, _⟩ => show s.val + 1 * (i 0).val = s.val; omega
  | ⟨1, _⟩ => show 0 + 1 * (i 1).val = (i 1).val; omega
  | ⟨2, _⟩ => show 0 + 1 * (i 2).val = (i 2).val; omega

/-- The rows of the other slot that a step writes, with the load before the store. -/
theorem putS {A : Memref sig .tc .vmem S2x1024x4096 .bf16} {off : Fin 3 → ℕ} (s : Fin 2) (n : ℕ) (hn : n < 8)
    (hoff : off = ![s.val, 128 * n, 0]) {inb inb' : ∀ a, off a + S1x128x4096.size a ≤ S2x1024x4096.size a}
    {hl : A.view.LoadsAt (Rect.unit (s := S2x1024x4096) off S1x128x4096.size inb').toLoadRect}
    {w : Vec F S1x128x4096 .bf16}
    {hx : (A.access (Rect.unit (s := S2x1024x4096) off S1x128x4096.size inb)).Stores Finset.univ}
    {hm : (Finset.univ : Finset (Rect.unit (s := S2x1024x4096) off S1x128x4096.size inb).shape.Idx) = Finset.univ
      ∨ ∀ a, (Rect.unit (s := S2x1024x4096) off S1x128x4096.size inb).stride a = 1}
    {k : PUnit → Prog (TpuEff nD τ sig (Elt F) Λ₀ .tc) α} (X : Vec F S2x1024x4096 .bf16) :
    owns (c : Thread nD τ) A fullShare X
      ⊢ iprop((owns (c : Thread nD τ) A fullShare (putH s n w X) -∗ run c (k ⟨⟩) Q)
        -∗ run c (Prog.lift (.load A (Rect.unit (s := S2x1024x4096) off S1x128x4096.size inb').toLoadRect hl) >>= fun _ =>
            Prog.lift (.store A (Rect.unit (s := S2x1024x4096) off S1x128x4096.size inb) w Finset.univ hx hm) >>= k) Q) := by
  subst hoff
  iintro H Hk
  iapply (load_at c X _ fun _ => rfl) $$ H
  iintro H
  iapply (store_at c X (putH s n w X) (fun i => ?_) (fun j hj => ?_)) $$ H
  · have h0 : (i 0).val < 1 := (i 0).isLt
    have h1 : (i 1).val < 128 := (i 1).isLt
    unfold putH
    rw [if_pos]
    · refine congrArg w (funext fun a => Fin.ext ?_)
      match a with
      | ⟨0, _⟩ => show 0 = (i 0).val; omega
      | ⟨1, _⟩ => show (128 * n + 1 * (i 1).val - 128 * n) % 128 = (i 1).val; omega
      | ⟨2, _⟩ => show 0 + 1 * (i 2).val = (i 2).val; omega
    · refine ⟨?_, ?_, ?_⟩
      · show s.val + 1 * (i 0).val = s.val; omega
      · show 128 * n ≤ 128 * n + 1 * (i 1).val; omega
      · show 128 * n + 1 * (i 1).val < 128 * n + 128; omega
  · unfold putH
    rw [if_neg]
    rintro ⟨e, h1, h2⟩
    refine hj ?_
    rw [Rect.mem_set_unit]
    intro a
    match a with
    | ⟨0, _⟩ => exact ⟨by show s.val ≤ (j 0).val; rw [e], by show (j 0).val < s.val + 1; rw [e]; omega⟩
    | ⟨1, _⟩ => exact ⟨h1, h2⟩
    | ⟨2, _⟩ => exact ⟨Nat.zero_le _, by show (j 2).val < 0 + 4096; have : (j 2).val < 4096 := (j 2).isLt; omega⟩
  iintro H
  iapply Hk $$ H

end Rules

/-! ## The rotated columns -/

/-- The eight panels of a rotated block: of each head, its first half and its second. -/
def parts (h : Vec F S1x1024x4096 .bf16) (w : Vec F S4096x1024 .bf16) (u v : Vec F S1024x128 .f32) : Fin 8 → FVec F S1024x128 .bf16
  | 0 => k0_pay8 h w u v
  | 1 => k0_pay9 h w u v
  | 2 => k0_pay12 h w u v
  | 3 => k0_pay13 h w u v
  | 4 => k0_pay17 (k0_pay16 h w u v)
  | 5 => k0_pay18 u v (k0_pay14 h w) (k0_pay15 h w)
  | 6 => k0_pay21 (k0_pay5 h w) u v
  | 7 => k0_pay22 (k0_pay5 h w) u v

/-- The rotated block. -/
def rotB (h : Vec F S1x1024x4096 .bf16) (w : Vec F S4096x1024 .bf16) (u v : Vec F S1024x128 .f32) : Vec F S1024x1024 .bf16 := fun y =>
  parts h w u v (Fin.ofNat 8 ((y 1).val / 128)) (ix2 (y 0) (Fin.ofNat 128 (y 1).val))

/-- `Y` in the first `n` columns and `X` in the rest. -/
def mixC (n : ℕ) (X Y : Vec F S1024x1024 .bf16) : Vec F S1024x1024 .bf16 := fun j => if (j 1).val < n then Y j else X j

theorem mixC_zero (X Y : Vec F S1024x1024 .bf16) : mixC 0 X Y = X := by funext j; unfold mixC; rw [if_neg (by omega)]

theorem mixC_full (X Y : Vec F S1024x1024 .bf16) : mixC 1024 X Y = Y := by
  funext j; unfold mixC
  have : (j 1).val < 1024 := (j 1).isLt
  rw [if_pos this]

theorem panel (c : Dev nD) {α : Type} {Q : α → sProp (MT nD τ sig Unit (Elt F) ℕ (UR sig nD τ) ℕ)}
    {A : Memref sig .tc .vmem S1024x1024 .bf16} (o : ℕ) (p : Fin 8) (ho : o = 128 * p.val) {off : Fin 2 → ℕ} (hoff : off = ![0, o])
    {inb inb' : ∀ a, off a + S1024x128.size a ≤ S1024x1024.size a}
    {hl : A.view.LoadsAt (Rect.unit (s := S1024x1024) off S1024x128.size inb').toLoadRect}
    (h : Vec F S1x1024x4096 .bf16) (w : Vec F S4096x1024 .bf16) (u v : Vec F S1024x128 .f32)
    {pay : FVec F S1024x128 .bf16} (hpay : pay = parts h w u v p)
    {hx : (A.access (Rect.unit (s := S1024x1024) off S1024x128.size inb)).Stores Finset.univ}
    {hm : (Finset.univ : Finset (Rect.unit (s := S1024x1024) off S1024x128.size inb).shape.Idx) = Finset.univ
      ∨ ∀ a, (Rect.unit (s := S1024x1024) off S1024x128.size inb).stride a = 1}
    {k : PUnit → Prog (TpuEff nD τ sig (Elt F) Λ₀ .tc) α} (X : Vec F S1024x1024 .bf16) :
    owns (c : Thread nD τ) A fullShare (mixC o X (rotB h w u v))
      ⊢ iprop((owns (c : Thread nD τ) A fullShare (mixC (o + 128) X (rotB h w u v)) -∗ run c (k ⟨⟩) Q)
        -∗ run c (Prog.lift (.load A (Rect.unit (s := S1024x1024) off S1024x128.size inb').toLoadRect hl) >>= fun _ =>
            Prog.lift (.store A (Rect.unit (s := S1024x1024) off S1024x128.size inb) pay Finset.univ hx hm) >>= k) Q) := by
  subst hoff hpay
  iintro H Hk
  iapply (load_at c _ _ fun _ => rfl) $$ H
  iintro H
  iapply (store_at c _ (mixC (o + 128) X (rotB h w u v)) (fun i => ?_) (fun j hj => ?_)) $$ H
  · have h0 : (i 0).val < 1024 := (i 0).isLt
    have h1 : (i 1).val < 128 := (i 1).isLt
    unfold mixC
    rw [if_pos (by show o + 1 * (i 1).val < o + 128; omega)]
    unfold rotB
    have e : Fin.ofNat 8 ((o + 1 * (i 1).val) / 128) = p := Fin.ext (by show (o + 1 * (i 1).val) / 128 % 8 = p.val; omega)
    show parts h w u v (Fin.ofNat 8 ((o + 1 * (i 1).val) / 128)) _ = _
    rw [e]
    refine congrArg (parts h w u v p) (funext fun a => Fin.ext ?_)
    match a with
    | ⟨0, _⟩ => show 0 + 1 * (i 0).val = (i 0).val; omega
    | ⟨1, _⟩ => show (o + 1 * (i 1).val) % 128 = (i 1).val; omega
  · have h0 : (j 0).val < 1024 := (j 0).isLt
    unfold mixC
    by_cases h1 : (j 1).val < o
    · rw [if_pos h1, if_pos (by omega)]
    · rw [if_neg h1, if_neg]
      intro h2
      refine hj ?_
      rw [Rect.mem_set_unit]
      intro a
      match a with
      | ⟨0, _⟩ => exact ⟨Nat.zero_le _, by show (j 0).val < 0 + 1024; omega⟩
      | ⟨1, _⟩ => exact ⟨Nat.le_of_not_lt h1, h2⟩
  iintro H
  iapply Hk $$ H

end Cert.InIdeal.Pj

end
-- ==== Proof.InBody.lean ====
module

public import proofs.«01_k».proof.Proof.InSteps

/-!
# The kernel's body

What a step does, by its kind: in the first row of the grid it only normalises 128 rows for the next, later it multiplies the
normalised rows by a block of the weights and stores the product rotated, rounded, as it is, or gated.
-/

@[expose] public section

set_option maxRecDepth 16384

noncomputable section

namespace Cert.InIdeal.Pj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.InIdeal Cert.InIdeal.Gen

variable {F : FTy → Type} [FloatOps F]

local notation "𝕄" => MT nD τ sig Unit (Elt F) ℕ (UR sig nD τ) ℕ

variable (c : Dev nD) (i : grid0.Coords) (a2 : Memref sig .tc .vmem S128x4096 .f32) (h2 : a2.IsWhole)
  (a3 : Memref sig .tc .vmem S1x4096 .f32) (h3 : a3.IsWhole) (a4 : Memref sig .tc .vmem S4096x1024 .bf16) (h4 : a4.IsWhole)
  (a5 : Memref sig .tc .vmem S1024x128 .f32) (h5 : a5.IsWhole) (a6 : Memref sig .tc .vmem S1024x128 .f32) (h6 : a6.IsWhole)
  (a7 : Memref sig .tc .vmem S1024x1024 .bf16) (h7 : a7.IsWhole) (a8 : Memref sig .tc .vmem S1024x1024 .f32) (h8 : a8.IsWhole)
  (a9 : Memref sig .tc .vmem S2x1024x4096 .bf16) (h9 : a9.IsWhole)
  (x : Vec F S128x4096 .f32) (g : Vec F S1x4096 .f32) (w : Vec F S4096x1024 .bf16) (u v : Vec F S1024x128 .f32)
  (Y : Vec F S1024x1024 .bf16) (Z : Vec F S1024x1024 .f32) (X : Vec F S2x1024x4096 .bf16)

/-- The normalised rows of a block of 128. -/
abbrev normB (x : Vec F S128x4096 .f32) (g : Vec F S1x4096 .f32) : FVec F S1x128x4096 .bf16 := k0_pay24 x g

set_option maxHeartbeats 8000000 in
/-- The first row of the grid: 128 rows are normalised. -/
theorem ahead (e1 : k0_cond1 i = 1#1) (e2 : ¬k0_cond2 i = 1#1) (e3 : ¬k0_cond3 i = 1#1) (e4 : ¬k0_cond4 i = 1#1) (e5 : ¬k0_cond5 i = 1#1) (e6 : ¬k0_cond6 i = 1#1) (s : Fin 2) (n : ℕ) (hn : n < 8) (ho : k0_off1 i = ![s.val, 128 * n, 0]) (Q : PUnit → sProp 𝕄) :
    iprop(owns (c : Thread nD τ) a2 fullShare x ∗ owns (c : Thread nD τ) a3 fullShare g ∗ owns (c : Thread nD τ) a9 fullShare X)
      ⊢ iprop((owns (c : Thread nD τ) a2 fullShare x -∗ owns (c : Thread nD τ) a3 fullShare g -∗ owns (c : Thread nD τ) a9 fullShare (putH s n (normB x g) X) -∗ Q ⟨⟩)
        -∗ run c (cc0_in_proj i a2 h2 a3 h3 a4 h4 a5 h5 a6 h6 a7 h7 a8 h8 a9 h9) Q) := by
  rw [cc0_in_proj_eq_skeleton, cc0_in_proj_skel]
  simp only [k0_part3_eq_skeleton, k0_part3_skel, dif_pos e1, dif_neg e2, dif_neg e3, dif_neg e4, dif_neg e5, dif_neg e6, bind_assoc, pure_bind]
  iintro ⟨H2, H3, H9⟩ Hk
  iapply (loadW c x) $$ H2
  iintro H2
  iapply (loadW c g) $$ H3
  iintro H3
  iapply (putS c s n hn ho X) $$ H9
  iintro H9
  iapply (show Q ⟨⟩ ⊢ run c (Pure.pure ⟨⟩) Q from Idealize.SL.BI.fupd_intro)
  iapply Hk $$ H2 H3 H9

set_option maxHeartbeats 8000000 in
/-- The product is stored rotated, and 128 rows are normalised. -/
theorem rotated (e1 : ¬k0_cond1 i = 1#1) (e2 : k0_cond2 i = 1#1) (e3 : ¬k0_cond3 i = 1#1) (e4 : ¬k0_cond4 i = 1#1) (e5 : ¬k0_cond5 i = 1#1) (e6 : ¬k0_cond6 i = 1#1) (s : Fin 2) (n : ℕ) (hn : n < 8) (ho : k0_off3 i = ![s.val, 128 * n, 0]) (s' : Fin 2) (hl : k0_off2 i = ![s'.val, 0, 0]) (Q : PUnit → sProp 𝕄) :
    iprop(owns (c : Thread nD τ) a2 fullShare x ∗ owns (c : Thread nD τ) a3 fullShare g ∗ owns (c : Thread nD τ) a4 fullShare w ∗ owns (c : Thread nD τ) a5 fullShare u ∗ owns (c : Thread nD τ) a6 fullShare v ∗ owns (c : Thread nD τ) a7 fullShare Y ∗ owns (c : Thread nD τ) a9 fullShare X)
      ⊢ iprop((owns (c : Thread nD τ) a2 fullShare x -∗ owns (c : Thread nD τ) a3 fullShare g -∗ owns (c : Thread nD τ) a4 fullShare w -∗ owns (c : Thread nD τ) a5 fullShare u -∗ owns (c : Thread nD τ) a6 fullShare v -∗ owns (c : Thread nD τ) a7 fullShare (rotB (slotOf s' X) w u v) -∗ owns (c : Thread nD τ) a9 fullShare (putH s n (normB x g) X) -∗ Q ⟨⟩)
        -∗ run c (cc0_in_proj i a2 h2 a3 h3 a4 h4 a5 h5 a6 h6 a7 h7 a8 h8 a9 h9) Q) := by
  rw [cc0_in_proj_eq_skeleton, cc0_in_proj_skel]
  simp only [k0_part3_eq_skeleton, k0_part3_skel, dif_neg e1, dif_pos e2, dif_neg e3, dif_neg e4, dif_neg e5, dif_neg e6, k0_part1_eq_skeleton, k0_part1_skel, k0_part2_eq_skeleton, k0_part2_skel, bind_assoc, pure_bind]
  iintro ⟨H2, H3, H4, H5, H6, H7, H9⟩ Hk
  iapply (loadS c s' hl X) $$ H9
  iintro H9
  iapply (loadW c w) $$ H4
  iintro H4
  iapply (loadW c u) $$ H5
  iintro H5
  iapply (loadW c v) $$ H6
  iintro H6
  rw [← mixC_zero Y (rotB (slotOf s' X) w u v)]
  iapply (panel c 0 ⟨0, by decide⟩ rfl rfl (slotOf s' X) w u v rfl Y) $$ H7
  iintro H7
  iapply (panel c 128 ⟨1, by decide⟩ rfl rfl (slotOf s' X) w u v rfl Y) $$ H7
  iintro H7
  iapply (panel c 256 ⟨2, by decide⟩ rfl rfl (slotOf s' X) w u v rfl Y) $$ H7
  iintro H7
  iapply (panel c 384 ⟨3, by decide⟩ rfl rfl (slotOf s' X) w u v rfl Y) $$ H7
  iintro H7
  iapply (panel c 512 ⟨4, by decide⟩ rfl rfl (slotOf s' X) w u v rfl Y) $$ H7
  iintro H7
  iapply (panel c 640 ⟨5, by decide⟩ rfl rfl (slotOf s' X) w u v rfl Y) $$ H7
  iintro H7
  iapply (panel c 768 ⟨6, by decide⟩ rfl rfl (slotOf s' X) w u v rfl Y) $$ H7
  iintro H7
  iapply (panel c 896 ⟨7, by decide⟩ rfl rfl (slotOf s' X) w u v rfl Y) $$ H7
  iintro H7
  rw [mixC_full]
  iapply (loadW c x) $$ H2
  iintro H2
  iapply (loadW c g) $$ H3
  iintro H3
  iapply (putS c s n hn ho X) $$ H9
  iintro H9
  rw [show k0_pay25 (k0_pay23 x g) = normB x g from rfl]
  iapply (show Q ⟨⟩ ⊢ run c (Pure.pure ⟨⟩) Q from Idealize.SL.BI.fupd_intro)
  iapply Hk $$ H2 H3 H4 H5 H6 H7 H9

set_option maxHeartbeats 8000000 in
/-- The product is stored rounded, and 128 rows are normalised. -/
theorem rounded (e1 : ¬k0_cond1 i = 1#1) (e2 : ¬k0_cond2 i = 1#1) (e3 : k0_cond3 i = 1#1) (e4 : ¬k0_cond4 i = 1#1) (e5 : ¬k0_cond5 i = 1#1) (e6 : ¬k0_cond6 i = 1#1) (s : Fin 2) (n : ℕ) (hn : n < 8) (ho : k0_off5 i = ![s.val, 128 * n, 0]) (s' : Fin 2) (hl : k0_off4 i = ![s'.val, 0, 0]) (Q : PUnit → sProp 𝕄) :
    iprop(owns (c : Thread nD τ) a2 fullShare x ∗ owns (c : Thread nD τ) a3 fullShare g ∗ owns (c : Thread nD τ) a4 fullShare w ∗ owns (c : Thread nD τ) a7 fullShare Y ∗ owns (c : Thread nD τ) a9 fullShare X)
      ⊢ iprop((owns (c : Thread nD τ) a2 fullShare x -∗ owns (c : Thread nD τ) a3 fullShare g -∗ owns (c : Thread nD τ) a4 fullShare w -∗ owns (c : Thread nD τ) a7 fullShare (k0_pay26 (slotOf s' X) w) -∗ owns (c : Thread nD τ) a9 fullShare (putH s n (normB x g) X) -∗ Q ⟨⟩)
        -∗ run c (cc0_in_proj i a2 h2 a3 h3 a4 h4 a5 h5 a6 h6 a7 h7 a8 h8 a9 h9) Q) := by
  rw [cc0_in_proj_eq_skeleton, cc0_in_proj_skel]
  simp only [k0_part3_eq_skeleton, k0_part3_skel, dif_neg e1, dif_neg e2, dif_pos e3, dif_neg e4, dif_neg e5, dif_neg e6, bind_assoc, pure_bind]
  iintro ⟨H2, H3, H4, H7, H9⟩ Hk
  iapply (loadS c s' hl X) $$ H9
  iintro H9
  iapply (loadW c w) $$ H4
  iintro H4
  iapply (loadW c Y) $$ H7
  iintro H7
  iapply (storeW c Y) $$ H7
  iintro H7
  iapply (loadW c x) $$ H2
  iintro H2
  iapply (loadW c g) $$ H3
  iintro H3
  iapply (putS c s n hn ho X) $$ H9
  iintro H9
  rw [show k0_pay27 x g = normB x g from rfl]
  iapply (show Q ⟨⟩ ⊢ run c (Pure.pure ⟨⟩) Q from Idealize.SL.BI.fupd_intro)
  iapply Hk $$ H2 H3 H4 H7 H9

set_option maxHeartbeats 8000000 in
/-- The product is stored as it is, and 128 rows are normalised. -/
theorem stored (e1 : ¬k0_cond1 i = 1#1) (e2 : ¬k0_cond2 i = 1#1) (e3 : ¬k0_cond3 i = 1#1) (e4 : k0_cond4 i = 1#1) (e5 : ¬k0_cond5 i = 1#1) (e6 : ¬k0_cond6 i = 1#1) (s : Fin 2) (n : ℕ) (hn : n < 8) (ho : k0_off7 i = ![s.val, 128 * n, 0]) (s' : Fin 2) (hl : k0_off6 i = ![s'.val, 0, 0]) (Q : PUnit → sProp 𝕄) :
    iprop(owns (c : Thread nD τ) a2 fullShare x ∗ owns (c : Thread nD τ) a3 fullShare g ∗ owns (c : Thread nD τ) a4 fullShare w ∗ owns (c : Thread nD τ) a8 fullShare Z ∗ owns (c : Thread nD τ) a9 fullShare X)
      ⊢ iprop((owns (c : Thread nD τ) a2 fullShare x -∗ owns (c : Thread nD τ) a3 fullShare g -∗ owns (c : Thread nD τ) a4 fullShare w -∗ owns (c : Thread nD τ) a8 fullShare (k0_pay3 (slotOf s' X) w) -∗ owns (c : Thread nD τ) a9 fullShare (putH s n (normB x g) X) -∗ Q ⟨⟩)
        -∗ run c (cc0_in_proj i a2 h2 a3 h3 a4 h4 a5 h5 a6 h6 a7 h7 a8 h8 a9 h9) Q) := by
  rw [cc0_in_proj_eq_skeleton, cc0_in_proj_skel]
  simp only [k0_part3_eq_skeleton, k0_part3_skel, dif_neg e1, dif_neg e2, dif_neg e3, dif_pos e4, dif_neg e5, dif_neg e6, bind_assoc, pure_bind]
  iintro ⟨H2, H3, H4, H8, H9⟩ Hk
  iapply (loadS c s' hl X) $$ H9
  iintro H9
  iapply (loadW c w) $$ H4
  iintro H4
  iapply (loadW c Z) $$ H8
  iintro H8
  iapply (storeW c Z) $$ H8
  iintro H8
  iapply (loadW c x) $$ H2
  iintro H2
  iapply (loadW c g) $$ H3
  iintro H3
  iapply (putS c s n hn ho X) $$ H9
  iintro H9
  rw [show k0_pay1 (slotOf s' X) w = k0_pay3 (slotOf s' X) w from rfl, show k0_pay2 x g = normB x g from rfl]
  iapply (show Q ⟨⟩ ⊢ run c (Pure.pure ⟨⟩) Q from Idealize.SL.BI.fupd_intro)
  iapply Hk $$ H2 H3 H4 H8 H9

set_option maxHeartbeats 8000000 in
/-- The product is stored as it is. -/
theorem plain (e1 : ¬k0_cond1 i = 1#1) (e2 : ¬k0_cond2 i = 1#1) (e3 : ¬k0_cond3 i = 1#1) (e4 : ¬k0_cond4 i = 1#1) (e5 : k0_cond5 i = 1#1) (e6 : ¬k0_cond6 i = 1#1) (s' : Fin 2) (hl : k0_off8 i = ![s'.val, 0, 0]) (Q : PUnit → sProp 𝕄) :
    iprop(owns (c : Thread nD τ) a4 fullShare w ∗ owns (c : Thread nD τ) a8 fullShare Z ∗ owns (c : Thread nD τ) a9 fullShare X)
      ⊢ iprop((owns (c : Thread nD τ) a4 fullShare w -∗ owns (c : Thread nD τ) a8 fullShare (k0_pay3 (slotOf s' X) w) -∗ owns (c : Thread nD τ) a9 fullShare X -∗ Q ⟨⟩)
        -∗ run c (cc0_in_proj i a2 h2 a3 h3 a4 h4 a5 h5 a6 h6 a7 h7 a8 h8 a9 h9) Q) := by
  rw [cc0_in_proj_eq_skeleton, cc0_in_proj_skel]
  simp only [k0_part3_eq_skeleton, k0_part3_skel, dif_neg e1, dif_neg e2, dif_neg e3, dif_neg e4, dif_pos e5, dif_neg e6, bind_assoc, pure_bind]
  iintro ⟨H4, H8, H9⟩ Hk
  iapply (loadS c s' hl X) $$ H9
  iintro H9
  iapply (loadW c w) $$ H4
  iintro H4
  iapply (loadW c Z) $$ H8
  iintro H8
  iapply (storeW c Z) $$ H8
  iintro H8
  iapply (show Q ⟨⟩ ⊢ run c (Pure.pure ⟨⟩) Q from Idealize.SL.BI.fupd_intro)
  iapply Hk $$ H4 H8 H9

set_option maxHeartbeats 8000000 in
/-- The product is stored gated. -/
theorem gated (e1 : ¬k0_cond1 i = 1#1) (e2 : ¬k0_cond2 i = 1#1) (e3 : ¬k0_cond3 i = 1#1) (e4 : ¬k0_cond4 i = 1#1) (e5 : ¬k0_cond5 i = 1#1) (e6 : k0_cond6 i = 1#1) (s' : Fin 2) (hl : k0_off9 i = ![s'.val, 0, 0]) (Q : PUnit → sProp 𝕄) :
    iprop(owns (c : Thread nD τ) a4 fullShare w ∗ owns (c : Thread nD τ) a8 fullShare Z ∗ owns (c : Thread nD τ) a9 fullShare X)
      ⊢ iprop((owns (c : Thread nD τ) a4 fullShare w -∗ owns (c : Thread nD τ) a8 fullShare (k0_pay4 (slotOf s' X) w) -∗ owns (c : Thread nD τ) a9 fullShare X -∗ Q ⟨⟩)
        -∗ run c (cc0_in_proj i a2 h2 a3 h3 a4 h4 a5 h5 a6 h6 a7 h7 a8 h8 a9 h9) Q) := by
  rw [cc0_in_proj_eq_skeleton, cc0_in_proj_skel]
  simp only [k0_part3_eq_skeleton, k0_part3_skel, dif_neg e1, dif_neg e2, dif_neg e3, dif_neg e4, dif_neg e5, dif_pos e6, bind_assoc, pure_bind]
  iintro ⟨H4, H8, H9⟩ Hk
  iapply (loadS c s' hl X) $$ H9
  iintro H9
  iapply (loadW c w) $$ H4
  iintro H4
  iapply (loadW c Z) $$ H8
  iintro H8
  iapply (storeW c Z) $$ H8
  iintro H8
  iapply (show Q ⟨⟩ ⊢ run c (Pure.pure ⟨⟩) Q from Idealize.SL.BI.fupd_intro)
  iapply Hk $$ H4 H8 H9

set_option maxHeartbeats 8000000 in
/-- The rest of the first row does nothing. -/
theorem nothing (e1 : ¬k0_cond1 i = 1#1) (e2 : ¬k0_cond2 i = 1#1) (e3 : ¬k0_cond3 i = 1#1) (e4 : ¬k0_cond4 i = 1#1) (e5 : ¬k0_cond5 i = 1#1) (e6 : ¬k0_cond6 i = 1#1) (Q : PUnit → sProp 𝕄) :
    iprop(owns (c : Thread nD τ) a9 fullShare X)
      ⊢ iprop((owns (c : Thread nD τ) a9 fullShare X -∗ Q ⟨⟩)
        -∗ run c (cc0_in_proj i a2 h2 a3 h3 a4 h4 a5 h5 a6 h6 a7 h7 a8 h8 a9 h9) Q) := by
  rw [cc0_in_proj_eq_skeleton, cc0_in_proj_skel]
  simp only [k0_part3_eq_skeleton, k0_part3_skel, dif_neg e1, dif_neg e2, dif_neg e3, dif_neg e4, dif_neg e5, dif_neg e6, bind_assoc, pure_bind]
  iintro H9 Hk
  iapply (show Q ⟨⟩ ⊢ run c (Pure.pure ⟨⟩) Q from Idealize.SL.BI.fupd_intro)
  iapply Hk $$ H9

end Cert.InIdeal.Pj

end
-- ==== Proof.InRun.lean ====
module

public import proofs.«01_k».proof.Proof.InBody
public import Idealize.ShloMosaic.Lib.Claim

/-!
# The run of the input projection

What the scratch buffer and the two results hold at each step, the pipeline's data, and the run: every execution ends, with each
array at what the data says and no counter left raised. A slot of the scratch buffer is filled over a row of the grid and
read over the next.
-/

@[expose] public section

set_option maxRecDepth 16384

noncomputable section

namespace Cert.InIdeal.Pj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InIdeal Cert.InIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which step a point is -/

theorem cond1 : ∀ t : Fin grid0.N, k0_cond1 (grid0.coords t) = 1#1 ↔ t.val < 12 ∧ t.val % 12 < 8 := by decide +kernel
theorem cond2 : ∀ t : Fin grid0.N, k0_cond2 (grid0.coords t) = 1#1 ↔ 12 ≤ t.val ∧ t.val % 12 < 4 := by decide +kernel
theorem cond3 : ∀ t : Fin grid0.N, k0_cond3 (grid0.coords t) = 1#1 ↔ 12 ≤ t.val ∧ 4 ≤ t.val % 12 ∧ t.val % 12 < 6 := by decide +kernel
theorem cond4 : ∀ t : Fin grid0.N, k0_cond4 (grid0.coords t) = 1#1 ↔ 12 ≤ t.val ∧ 6 ≤ t.val % 12 ∧ t.val % 12 < 8 := by decide +kernel
theorem cond5 : ∀ t : Fin grid0.N, k0_cond5 (grid0.coords t) = 1#1 ↔ 12 ≤ t.val ∧ 8 ≤ t.val % 12 ∧ t.val % 12 < 10 := by decide +kernel
theorem cond6 : ∀ t : Fin grid0.N, k0_cond6 (grid0.coords t) = 1#1 ↔ 12 ≤ t.val ∧ 10 ≤ t.val % 12 := by decide +kernel

/-- The slot that the steps of a row of the grid fill, -/
abbrev fills (n : ℕ) : Fin 2 := Fin.ofNat 2 (n / 12)
/-- and the one they read. -/
abbrev reads (n : ℕ) : Fin 2 := Fin.ofNat 2 (n / 12 + 1)

theorem off1 : ∀ t : Fin grid0.N, t.val % 12 < 8 → k0_off1 (grid0.coords t) = ![(fills t.val).val, 128 * (t.val % 12), 0] := by decide +kernel
theorem off3 : ∀ t : Fin grid0.N, t.val % 12 < 8 → k0_off3 (grid0.coords t) = ![(fills t.val).val, 128 * (t.val % 12), 0] := by decide +kernel
theorem off5 : ∀ t : Fin grid0.N, t.val % 12 < 8 → k0_off5 (grid0.coords t) = ![(fills t.val).val, 128 * (t.val % 12), 0] := by decide +kernel
theorem off7 : ∀ t : Fin grid0.N, t.val % 12 < 8 → k0_off7 (grid0.coords t) = ![(fills t.val).val, 128 * (t.val % 12), 0] := by decide +kernel
theorem off2 : ∀ t : Fin grid0.N, k0_off2 (grid0.coords t) = ![(reads t.val).val, 0, 0] := by decide +kernel
theorem off4 : ∀ t : Fin grid0.N, k0_off4 (grid0.coords t) = ![(reads t.val).val, 0, 0] := by decide +kernel
theorem off6 : ∀ t : Fin grid0.N, k0_off6 (grid0.coords t) = ![(reads t.val).val, 0, 0] := by decide +kernel
theorem off8 : ∀ t : Fin grid0.N, k0_off8 (grid0.coords t) = ![(reads t.val).val, 0, 0] := by decide +kernel
theorem off9 : ∀ t : Fin grid0.N, k0_off9 (grid0.coords t) = ![(reads t.val).val, 0, 0] := by decide +kernel

/-! ## When the results' buffers are stored to and written back -/

theorem idle5 : ∀ t : Fin cfg0.N, cfg0.idle 5 (cfg0.grid.coords t) = !decide (12 ≤ t.val ∧ t.val % 12 < 6) :=
  (by decide +kernel : ∀ t : Fin grid0.N, idle0 5 (grid0.coords t) = !decide (12 ≤ t.val ∧ t.val % 12 < 6))
theorem idle6 : ∀ t : Fin cfg0.N, cfg0.idle 6 (cfg0.grid.coords t) = !decide (12 ≤ t.val ∧ 6 ≤ t.val % 12) :=
  (by decide +kernel : ∀ t : Fin grid0.N, idle0 6 (grid0.coords t) = !decide (12 ≤ t.val ∧ 6 ≤ t.val % 12))
theorem flush5 : ∀ t : Fin cfg0.N, (cfg0.win 5).flush t = decide (12 ≤ t.val ∧ (t.val % 12 < 5 ∨ t.val % 12 = 11)) :=
  (by decide +kernel : ∀ t : Fin grid0.N, win0_5.flush t = decide (12 ≤ t.val ∧ (t.val % 12 < 5 ∨ t.val % 12 = 11)))
theorem flush6 : ∀ t : Fin cfg0.N, (cfg0.win 6).flush t = decide (12 ≤ t.val ∧ 6 ≤ t.val % 12) :=
  (by decide +kernel : ∀ t : Fin grid0.N, win0_6.flush t = decide (12 ≤ t.val ∧ 6 ≤ t.val % 12))

/-! ## The scratch buffer -/

/-- The point that normalises the rows of `r` of row block `i`. -/
def ptOf (i r : ℕ) : Fin cfg0.N := ⟨(12 * i + r / 128) % 204, Nat.mod_lt _ (by decide)⟩

/-- Row block `i`, normalised. -/
def hblk (c : Dev nD) (i : ℕ) : Vec F S1024x4096 .bf16 := fun y =>
  normB (iblk m c 0 (ptOf i (y 0).val)) (iblk m c 1 (ptOf i (y 0).val)) (ix3 0 (Fin.ofNat 128 (y 0).val) (y 1))

/-- The same as a slot of the scratch buffer. -/
def hslot (c : Dev nD) (i : ℕ) : Vec F S1x1024x4096 .bf16 := fun y => hblk m c i (ix2 (y 1) (y 2))

/-- What is known of the scratch buffer before step `n`: the slot read holds the row block before, and the rows of the other
that were written hold those of this row block. -/
def good (c : Dev nD) (n : ℕ) (f : Vec F S2x1024x4096 .bf16) : Prop :=
  (∀ (r : Fin 1024) (k : Fin 4096), 12 ≤ n → f (ix3 (reads n) r k) = hblk m c (n / 12 - 1) (ix2 r k))
  ∧ (∀ (r : Fin 1024) (k : Fin 4096), r.val < 128 * min (n % 12) 8 → f (ix3 (fills n) r k) = hblk m c (n / 12) (ix2 r k))

theorem good_zero (c : Dev nD) (f : Vec F S2x1024x4096 .bf16) : good m c 0 f :=
  ⟨fun _ _ h => absurd h (by omega), fun r k h => absurd h (by omega)⟩

theorem good_slot (c : Dev nD) (n : ℕ) (hn : 12 ≤ n) (f : Vec F S2x1024x4096 .bf16) (h : good m c n f) :
    slotOf (reads n) f = hslot m c (n / 12 - 1) := funext fun y => h.1 (y 1) (y 2) hn

theorem good_put (c : Dev nD) (t : Fin cfg0.N) (h8 : t.val % 12 < 8) (f : Vec F S2x1024x4096 .bf16) (h : good m c t.val f) :
    good m c (t.val + 1) (putH (fills t.val) (t.val % 12) (normB (iblk m c 0 t) (iblk m c 1 t)) f) := by
  have ht : t.val < 204 := t.isLt
  have e1 : (t.val + 1) / 12 = t.val / 12 := by omega
  have e2 : (t.val + 1) % 12 = t.val % 12 + 1 := by omega
  unfold good reads fills
  rw [e1, e2]
  refine ⟨fun r k h12 => ?_, fun r k hr => ?_⟩
  · unfold putH
    rw [if_neg]
    · exact h.1 r k (by omega)
    · rintro ⟨e, -⟩
      have e' : (t.val / 12 + 1) % 2 = (t.val / 12) % 2 := e
      omega
  · unfold putH
    by_cases hr' : 128 * (t.val % 12) ≤ r.val
    · rw [if_pos ⟨rfl, hr', by show r.val < _; omega⟩]
      have ep : ptOf (t.val / 12) r.val = t := Fin.ext (by show (12 * (t.val / 12) + r.val / 128) % 204 = t.val; omega)
      unfold hblk
      show _ = normB (iblk m c 0 (ptOf (t.val / 12) r.val)) (iblk m c 1 (ptOf (t.val / 12) r.val)) (ix3 0 (Fin.ofNat 128 r.val) k)
      rw [ep]
      refine congrArg (fun l : Fin 128 => normB (iblk m c 0 t) (iblk m c 1 t) (ix3 0 l k)) (Fin.ext ?_)
      show (r.val - 128 * (t.val % 12)) % 128 = r.val % 128
      omega
    · rw [if_neg (fun e => hr' e.2.1)]
      exact h.2 r k (by omega)

theorem good_keep (c : Dev nD) (n : ℕ) (h8 : 8 ≤ n % 12) (f : Vec F S2x1024x4096 .bf16) (h : good m c n f) : good m c (n + 1) f := by
  by_cases h11 : n % 12 = 11
  · have e1 : (n + 1) / 12 = n / 12 + 1 := by omega
    have e2 : (n + 1) % 12 = 0 := by omega
    refine ⟨fun r k _ => ?_, fun r k hr => absurd hr (by rw [e2]; omega)⟩
    have es : reads (n + 1) = fills n := Fin.ext (by show ((n + 1) / 12 + 1) % 2 = (n / 12) % 2; omega)
    rw [es, show (n + 1) / 12 - 1 = n / 12 by omega]
    exact h.2 r k (by omega)
  · have e1 : (n + 1) / 12 = n / 12 := by omega
    unfold good reads fills
    rw [e1]
    exact ⟨fun r k h12 => h.1 r k (by omega), fun r k hr => h.2 r k (by omega)⟩

/-! ## The results -/

/-- The last point of a row of the grid, up to `t`, that stores to the first result. -/
def colPt (t : Fin cfg0.N) : Fin cfg0.N := ⟨12 * (t.val / 12) + min (t.val % 12) 5, by have : t.val < 204 := t.isLt; show _ < 204; omega⟩

theorem colPt_eq (t : Fin cfg0.N) (h : t.val % 12 < 6) : colPt t = t :=
  Fin.ext (by show 12 * (t.val / 12) + min (t.val % 12) 5 = t.val; omega)

/-- What a step stores to the first result. -/
def qkvAt (c : Dev nD) (t : Fin cfg0.N) : Vec F S1024x1024 .bf16 :=
  if t.val % 12 < 4 then rotB (hslot m c (t.val / 12 - 1)) (iblk m c 2 t) (iblk m c 3 t) (iblk m c 4 t)
  else k0_pay26 (hslot m c (t.val / 12 - 1)) (iblk m c 2 t)

/-- What a step stores to the second. -/
def restAt (c : Dev nD) (t : Fin cfg0.N) : Vec F S1024x1024 .f32 :=
  if t.val % 12 < 10 then k0_pay3 (hslot m c (t.val / 12 - 1)) (iblk m c 2 t)
  else k0_pay4 (hslot m c (t.val / 12 - 1)) (iblk m c 2 t)

/-! ## The pipeline's data -/

/-- The arrays as the region finds them; after a step, each input's buffer at its block and each result's at what was last stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qkvAt m c (colPt t)
    | ⟨6, _⟩ => restAt m c t
  Φ t := iprop((∃ f, ⌜good m c t.val f⌝ ∗ owns (c : Thread nD τ) (Memref.whole cc0_scratch0) fullShare f) ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = qkvAt m c (colPt t) := by dsimp only [dats]
theorem after0_6 (c : Dev nD) (t : Fin cfg0.N) : (dats m 0 c).after 6 t = restAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Past its last store in a row of the grid, the first result's buffer keeps what was stored. -/
theorem before0_5 (c : Dev nD) : ∀ (j n : ℕ) (hn : n < 204) (_ : 12 ≤ n) (_ : n % 12 = 6 + j) (d),
    (dats m 0 c).before 5 ⟨n, hn⟩ d = qkvAt m c (colPt ⟨n, hn⟩)
  | 0, n, hn, h12, hj, d => by
    have hp : n - 1 < 204 := by omega
    rw [(dats m 0 c).before_of_pos 5 ⟨n, hn⟩ (by show n ≠ 0; omega) ((cfg0.win 5).fetch_out rfl _),
      show (cfg0.win 5).flush ⟨n - 1, hp⟩ = false from by rw [flush5]; exact decide_eq_false (by show ¬(12 ≤ n - 1 ∧ ((n - 1) % 12 < 5 ∨ (n - 1) % 12 = 11)); omega),
      if_neg Bool.false_ne_true]
    unfold Dat.left
    rw [show cfg0.idle 5 (cfg0.grid.coords ⟨n - 1, hp⟩) = false from by
      rw [idle5, decide_eq_true (show 12 ≤ n - 1 ∧ (n - 1) % 12 < 6 by omega)]; rfl]
    show (dats m 0 c).kept 5 ⟨n - 1, hp⟩ d = _
    rw [show (dats m 0 c).kept 5 ⟨n - 1, hp⟩ d = (dats m 0 c).after 5 ⟨n - 1, hp⟩ from rfl, after0_5]
    exact congrArg (qkvAt m c) (Fin.ext (by
      show 12 * ((n - 1) / 12) + min ((n - 1) % 12) 5 = 12 * (n / 12) + min (n % 12) 5; omega))
  | j + 1, n, hn, h12, hj, d => by
    have hp : n - 1 < 204 := by omega
    rw [(dats m 0 c).before_of_pos 5 ⟨n, hn⟩ (by show n ≠ 0; omega) ((cfg0.win 5).fetch_out rfl _),
      show (cfg0.win 5).flush ⟨n - 1, hp⟩ = false from by rw [flush5]; exact decide_eq_false (by show ¬(12 ≤ n - 1 ∧ ((n - 1) % 12 < 5 ∨ (n - 1) % 12 = 11)); omega),
      if_neg Bool.false_ne_true]
    unfold Dat.left
    rw [show cfg0.idle 5 (cfg0.grid.coords ⟨n - 1, hp⟩) = true from by
      rw [idle5, decide_eq_false (show ¬(12 ≤ n - 1 ∧ (n - 1) % 12 < 6) by omega)]; rfl]
    refine (before0_5 c j (n - 1) hp (by omega) (by omega) d).trans (congrArg (qkvAt m c) (Fin.ext ?_))
    show 12 * ((n - 1) / 12) + min ((n - 1) % 12) 5 = 12 * (n / 12) + min (n % 12) 5
    omega

/-- A step that doesn't store to the first result leaves its buffer as the pipeline takes it. -/
theorem keep5 (c : Dev nD) (t : Fin cfg0.N) (h : ¬(12 ≤ t.val ∧ t.val % 12 < 6)) :
    iprop(∃ d, owns (c : Thread nD τ) (st0_5 t) fullShare ((dats m 0 c).before 5 t d)) ⊢ (dats m 0 c).leavesExact 5 t := by
  have hi : cfg0.idle 5 (cfg0.grid.coords t) = true := by rw [idle5, decide_eq_false h]; rfl
  by_cases hf : 12 ≤ t.val ∧ t.val % 12 = 11
  · unfold Dat.leavesExact
    rw [hi, show (cfg0.win 5).flush t = true from by rw [flush5]; exact decide_eq_true ⟨hf.1, .inr hf.2⟩, after0_5]
    iintro ⟨%d, H⟩
    rw [show (dats m 0 c).before 5 t d = qkvAt m c (colPt t) from before0_5 m c 5 t.val t.isLt hf.1 hf.2 d]
    iexact H
  · rw [(dats m 0 c).leavesExact_idle 5 t hi (by rw [flush5]; exact decide_eq_false (by omega))]

theorem live5 (c : Dev nD) (t : Fin cfg0.N) (h : 12 ≤ t.val ∧ t.val % 12 < 6) :
    (dats m 0 c).leavesExact 5 t = owns (c : Thread nD τ) (st0_5 t) fullShare (qkvAt m c t) := by
  unfold Dat.leavesExact
  rw [show cfg0.idle 5 (cfg0.grid.coords t) = false from by rw [idle5, decide_eq_true h]; rfl, after0_5, colPt_eq t h.2]

theorem keep6 (c : Dev nD) (t : Fin cfg0.N) (h : ¬(12 ≤ t.val ∧ 6 ≤ t.val % 12)) :
    (dats m 0 c).leavesExact 6 t = iprop(∃ d, owns (c : Thread nD τ) (st0_6 t) fullShare ((dats m 0 c).before 6 t d)) :=
  (dats m 0 c).leavesExact_idle 6 t (by rw [idle6, decide_eq_false h]; rfl) (by rw [flush6]; exact decide_eq_false h)

theorem live6 (c : Dev nD) (t : Fin cfg0.N) (h : 12 ≤ t.val ∧ 6 ≤ t.val % 12) :
    (dats m 0 c).leavesExact 6 t = owns (c : Thread nD τ) (st0_6 t) fullShare (restAt m c t) := by
  unfold Dat.leavesExact
  rw [show cfg0.idle 6 (cfg0.grid.coords t) = false from by rw [idle6, decide_eq_true h]; rfl, after0_6]

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ (dats m 0 c).leavesExact 6 t)

/-- The pipeline's own state: the scratch buffer, and the generator's register. -/
theorem phi (c : Dev nD) (t : Fin (cfg0.N + 1)) : (dats m 0 c).Φ t
    = iprop((∃ f, ⌜good m c t.val f⌝ ∗ owns (c : Thread nD τ) (Memref.whole cc0_scratch0) fullShare f) ∗ ∃ r, prngReg c r) := by
  dsimp only [dats]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  have ht : t.val < 204 := t.isLt
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, phi, phi,
    show t.castSucc.val = t.val from rfl, show t.succ.val = t.val + 1 from rfl]
  iintro ⟨⟨⟨%f, %hg, Hf⟩, Hr⟩, Ho, ⟨%d0, H0⟩, ⟨%d1, H1⟩, ⟨%d2, H2⟩, ⟨%d3, H3⟩, ⟨%d4, H4⟩, H5, H6⟩
  by_cases h12 : t.val < 12
  · by_cases h8 : t.val % 12 < 8
    · rw [keep6 m c t (by omega)]
      iapply (ahead c (grid0.coords t) _ _ _ _ _ _ _ _ _ _ _ _ _ _ _ _ (iblk m c 0 t) (iblk m c 1 t) f
        ((cond1 t).2 (by omega)) (fun e => by have := (cond2 t).1 e; omega) (fun e => by have := (cond3 t).1 e; omega) (fun e => by have := (cond4 t).1 e; omega) (fun e => by have := (cond5 t).1 e; omega) (fun e => by have := (cond6 t).1 e; omega) (fills t.val) (t.val % 12) (by omega) (off1 t (by omega))  _) $$ [H0 H1 Hf]
      · isplitl [H0]; · iexact H0
        isplitl [H1]; · iexact H1
        iexact Hf
      iintro H0 H1 Hf
      isplitl [Hf Hr]
      · isplitl [Hf]
        · iexists _
          isplitr
          · ipureintro; exact good_put m c t (by omega) f hg
          · iexact Hf
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iapply (keep5 m c t (by omega)) $$ H5
      iexact H6
    · rw [keep6 m c t (by omega)]
      iapply (nothing c (grid0.coords t) _ _ _ _ _ _ _ _ _ _ _ _ _ _ _ _ f
        (fun e => by have := (cond1 t).1 e; omega) (fun e => by have := (cond2 t).1 e; omega) (fun e => by have := (cond3 t).1 e; omega) (fun e => by have := (cond4 t).1 e; omega) (fun e => by have := (cond5 t).1 e; omega) (fun e => by have := (cond6 t).1 e; omega)  _) $$ [Hf]
      · iexact Hf
      iintro Hf
      isplitl [Hf Hr]
      · isplitl [Hf]
        · iexists _
          isplitr
          · ipureintro; exact good_keep m c t.val (by omega) f hg
          · iexact Hf
        · iexact Hr
      isplitl [Ho]; · iexact Ho
      isplitl [H0]; · iexact H0
      isplitl [H1]; · iexact H1
      isplitl [H2]; · iexact H2
      isplitl [H3]; · iexact H3
      isplitl [H4]; · iexact H4
      isplitl [H5]; · iapply (keep5 m c t (by omega)) $$ H5
      iexact H6
  by_cases h4 : t.val % 12 < 4
  · icases H5 with ⟨%d5, H5⟩
    rw [live5 m c t (by omega)]
    rw [keep6 m c t (by omega)]
    unfold qkvAt
    rw [if_pos h4]
    rw [← good_slot m c t.val (by omega) f hg]
    iapply (rotated c (grid0.coords t) _ _ _ _ _ _ _ _ _ _ _ _ _ _ _ _ (iblk m c 0 t) (iblk m c 1 t) (iblk m c 2 t) (iblk m c 3 t) (iblk m c 4 t) _ f
      (fun e => by have := (cond1 t).1 e; omega) ((cond2 t).2 (by omega)) (fun e => by have := (cond3 t).1 e; omega) (fun e => by have := (cond4 t).1 e; omega) (fun e => by have := (cond5 t).1 e; omega) (fun e => by have := (cond6 t).1 e; omega) (fills t.val) (t.val % 12) (by omega) (off3 t (by omega)) (reads t.val) (off2 t) _) $$ [H0 H1 H2 H3 H4 H5 Hf]
    · isplitl [H0]; · iexact H0
      isplitl [H1]; · iexact H1
      isplitl [H2]; · iexact H2
      isplitl [H3]; · iexact H3
      isplitl [H4]; · iexact H4
      isplitl [H5]; · iexact H5
      iexact Hf
    iintro H0 H1 H2 H3 H4 H5 Hf
    isplitl [Hf Hr]
    · isplitl [Hf]
      · iexists _
        isplitr
        · ipureintro; exact good_put m c t (by omega) f hg
        · iexact Hf
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  by_cases h6 : t.val % 12 < 6
  · icases H5 with ⟨%d5, H5⟩
    rw [live5 m c t (by omega)]
    rw [keep6 m c t (by omega)]
    unfold qkvAt
    rw [if_neg h4]
    rw [← good_slot m c t.val (by omega) f hg]
    iapply (rounded c (grid0.coords t) _ _ _ _ _ _ _ _ _ _ _ _ _ _ _ _ (iblk m c 0 t) (iblk m c 1 t) (iblk m c 2 t) _ f
      (fun e => by have := (cond1 t).1 e; omega) (fun e => by have := (cond2 t).1 e; omega) ((cond3 t).2 (by omega)) (fun e => by have := (cond4 t).1 e; omega) (fun e => by have := (cond5 t).1 e; omega) (fun e => by have := (cond6 t).1 e; omega) (fills t.val) (t.val % 12) (by omega) (off5 t (by omega)) (reads t.val) (off4 t) _) $$ [H0 H1 H2 H5 Hf]
    · isplitl [H0]; · iexact H0
      isplitl [H1]; · iexact H1
      isplitl [H2]; · iexact H2
      isplitl [H5]; · iexact H5
      iexact Hf
    iintro H0 H1 H2 H5 Hf
    isplitl [Hf Hr]
    · isplitl [Hf]
      · iexists _
        isplitr
        · ipureintro; exact good_put m c t (by omega) f hg
        · iexact Hf
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  by_cases h8 : t.val % 12 < 8
  · icases H6 with ⟨%d6, H6⟩
    rw [live6 m c t (by omega)]
    unfold restAt
    rw [if_pos (by omega)]
    rw [← good_slot m c t.val (by omega) f hg]
    iapply (stored c (grid0.coords t) _ _ _ _ _ _ _ _ _ _ _ _ _ _ _ _ (iblk m c 0 t) (iblk m c 1 t) (iblk m c 2 t) _ f
      (fun e => by have := (cond1 t).1 e; omega) (fun e => by have := (cond2 t).1 e; omega) (fun e => by have := (cond3 t).1 e; omega) ((cond4 t).2 (by omega)) (fun e => by have := (cond5 t).1 e; omega) (fun e => by have := (cond6 t).1 e; omega) (fills t.val) (t.val % 12) (by omega) (off7 t (by omega)) (reads t.val) (off6 t) _) $$ [H0 H1 H2 H6 Hf]
    · isplitl [H0]; · iexact H0
      isplitl [H1]; · iexact H1
      isplitl [H2]; · iexact H2
      isplitl [H6]; · iexact H6
      iexact Hf
    iintro H0 H1 H2 H6 Hf
    isplitl [Hf Hr]
    · isplitl [Hf]
      · iexists _
        isplitr
        · ipureintro; exact good_put m c t (by omega) f hg
        · iexact Hf
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iapply (keep5 m c t (by omega)) $$ H5
    iexact H6
  by_cases h10 : t.val % 12 < 10
  · icases H6 with ⟨%d6, H6⟩
    rw [live6 m c t (by omega)]
    unfold restAt
    rw [if_pos h10]
    rw [← good_slot m c t.val (by omega) f hg]
    iapply (plain c (grid0.coords t) _ _ _ _ _ _ _ _ _ _ _ _ _ _ _ _ (iblk m c 2 t) _ f
      (fun e => by have := (cond1 t).1 e; omega) (fun e => by have := (cond2 t).1 e; omega) (fun e => by have := (cond3 t).1 e; omega) (fun e => by have := (cond4 t).1 e; omega) ((cond5 t).2 (by omega)) (fun e => by have := (cond6 t).1 e; omega) (reads t.val) (off8 t) _) $$ [H2 H6 Hf]
    · isplitl [H2]; · iexact H2
      isplitl [H6]; · iexact H6
      iexact Hf
    iintro H2 H6 Hf
    isplitl [Hf Hr]
    · isplitl [Hf]
      · iexists _
        isplitr
        · ipureintro; exact good_keep m c t.val (by omega) f hg
        · iexact Hf
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iapply (keep5 m c t (by omega)) $$ H5
    iexact H6
  icases H6 with ⟨%d6, H6⟩
  rw [live6 m c t (by omega)]
  unfold restAt
  rw [if_neg h10]
  rw [← good_slot m c t.val (by omega) f hg]
  iapply (gated c (grid0.coords t) _ _ _ _ _ _ _ _ _ _ _ _ _ _ _ _ (iblk m c 2 t) _ f
    (fun e => by have := (cond1 t).1 e; omega) (fun e => by have := (cond2 t).1 e; omega) (fun e => by have := (cond3 t).1 e; omega) (fun e => by have := (cond4 t).1 e; omega) (fun e => by have := (cond5 t).1 e; omega) ((cond6 t).2 (by omega)) (reads t.val) (off9 t) _) $$ [H2 H6 Hf]
  · isplitl [H2]; · iexact H2
    isplitl [H6]; · iexact H6
    iexact Hf
  iintro H2 H6 Hf
  isplitl [Hf Hr]
  · isplitl [Hf]
    · iexists _
      isplitr
      · ipureintro; exact good_keep m c t.val (by omega) f hg
      · iexact Hf
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iapply (keep5 m c t (by omega)) $$ H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem phiA (c : Dev nD) : Pipeline.ΦA spec0 c
    = (iprop((∃ f : Buf (Elt F) (c.tc.loc cc0_scratch0), (c.tc.loc cc0_scratch0) ↦{fullShare} f) ∗ ∃ r, prngReg c r) : sProp 𝕄) := by
  rw [← scopedRest0_eq]
  rfl

theorem phi_in (c : Dev nD) : Pipeline.ΦA spec0 c ⊢ (dats (F := F) m 0 c).Φ 0 := by
  rw [phi, phiA]
  iintro ⟨⟨%f, Hf⟩, Hr⟩
  isplitl [Hf]
  · iexists f
    isplitr
    · ipureintro; exact good_zero m c f
    rw [owns_whole]
    iexact Hf
  iexact Hr

theorem phi_out (c : Dev nD) : (dats (F := F) m 0 c).Φ (Fin.last cfg0.N) ⊢ Pipeline.ΦA spec0 c := by
  rw [phi, phiA]
  iintro ⟨⟨%f, -, Hf⟩, Hr⟩
  isplitl [Hf]
  · iexists f
    iapply (show owns (c : Thread nD τ) (Memref.whole cc0_scratch0) fullShare _ ⊢ _ from
      .of_eq (owns_whole (c : Thread nD τ) cc0_scratch0 fullShare _)) $$ Hf
  iexact Hr

set_option backward.isDefEq.respectTransparency.types false in
set_option maxHeartbeats 800000 in
/-- Every execution ends, with the arrays as the data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame_at : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.InIdeal.Pj

end
-- ==== Proof.InValue.lean ====
module

public import proofs.«01_k».proof.Proof.InRun
public import proofs.«01_k».proof.Proof.UpValue
public import proofs.«01_k».proof.Proof.Gen.InReferenceIdeal.Run

/-!
# What the two results hold after the input projection

The results of the kernel and of the reference, read at an index over the extended reals. The kernel normalizes a row block a
piece at a time while the block before it is multiplied, multiplies it by the columns of the weights a block at a time, and
turns the columns of a block by the tables in groups of 128. The reference normalizes, multiplies and turns whole arrays. Both
are the same function of the arguments at every index.
-/

@[expose] public section

set_option maxRecDepth 16384

noncomputable section

namespace Cert.InIdeal.Pj

open Idealize.ShloMosaic Idealize.ShloMosaic.TcCoe Idealize.ShloMosaic.ValueKit Cert.InIdeal Cert.InIdeal.Gen
open Idealize.ShloMosaic.Pipeline (Dat)
open Cert.UpIdeal.Act (scale)

/-! ## The values the kernel stores, at an index -/

/-- The smooth gate of one value, with the cube taken from the right. -/
def gate (y : EReal) : EReal :=
  y * (Ideal.ofBits .f32 0x3F000000#32 * (Ideal.ofBits .f32 0x3F800000#32 + Ideal.tanh (Ideal.ofBits .f32 0x3F4C422A#32 * (y + Ideal.ofBits .f32 0x3D372713#32 * (y * (y * y))))))

theorem norm_apply (x : FVec Ideal S128x4096 .f32) (g : FVec Ideal S1x4096 .f32) (r : Fin 128) (k : Fin 4096) :
    normB (F := Ideal) x g (ix3 0 r k) = x (ix2 r k) * scale (∑ l : Fin 4096, x (ix2 r l) * x (ix2 r l)) * g (ix2 0 k) := by
  pointwise [normB, k0_pay24, scale]

/-- Column `J` of a row of a block's product. -/
def dotC (h : FVec Ideal S1x1024x4096 .bf16) (w : FVec Ideal S4096x1024 .bf16) (r : Fin 1024) (J : ℕ) : EReal :=
  ∑ k : Fin 4096, h (ix3 0 r k) * w (ix2 k (Fin.ofNat 1024 J))

theorem ofNat_fin (n : ℕ) [NeZero n] (j : Fin n) : Fin.ofNat n j.val = j := Fin.ext (Nat.mod_eq_of_lt j.isLt)

theorem pay5_apply (h : FVec Ideal S1x1024x4096 .bf16) (w : FVec Ideal S4096x1024 .bf16) (r j : Fin 1024) :
    k0_pay5 (F := Ideal) h w (ix2 r j) = dotC h w r j.val := by
  unfold dotC
  rw [ofNat_fin]
  pointwise [k0_pay5]

theorem pay3_apply (h : FVec Ideal S1x1024x4096 .bf16) (w : FVec Ideal S4096x1024 .bf16) (r j : Fin 1024) :
    k0_pay3 (F := Ideal) h w (ix2 r j) = dotC h w r j.val := by
  unfold dotC
  rw [ofNat_fin]
  pointwise [k0_pay3]

theorem pay26_apply (h : FVec Ideal S1x1024x4096 .bf16) (w : FVec Ideal S4096x1024 .bf16) (r j : Fin 1024) :
    k0_pay26 (F := Ideal) h w (ix2 r j) = dotC h w r j.val := by
  unfold dotC
  rw [ofNat_fin]
  pointwise [k0_pay26]

theorem pay4_apply (h : FVec Ideal S1x1024x4096 .bf16) (w : FVec Ideal S4096x1024 .bf16) (r j : Fin 1024) :
    k0_pay4 (F := Ideal) h w (ix2 r j) = gate (dotC h w r j.val) := by
  unfold dotC gate
  rw [ofNat_fin]
  pointwise [k0_pay4]

/-- A group of 128 columns read at an index. -/
theorem group_apply (X : FVec Ideal S1024x1024 .f32) (o : ℕ) (hs : S1024x1024.Slices ![0, o] S1024x128) (ho : o ≤ 896) (r : Fin 1024) (l : Fin 128) :
    extractStridedSlice S1024x128 ![0, o] X hs (ix2 r l) = X (ix2 r (Fin.ofNat 1024 (o + l.val))) := by
  refine congrArg X (funext fun a => Fin.ext ?_)
  match a with
  | ⟨0, _⟩ => show 0 + r.val = r.val; omega
  | ⟨1, _⟩ => show o + l.val = (o + l.val) % 1024; omega

theorem turn_even (X : FVec Ideal S1024x1024 .f32) (u v : FVec Ideal S1024x128 .f32) (o o' : ℕ) (hs : S1024x1024.Slices ![0, o] S1024x128)
    (hs' : S1024x1024.Slices ![0, o'] S1024x128) (ho : o ≤ 896) (ho' : o' ≤ 896) (hb : (FTy.bf16).bits < (FTy.f32).bits) (r : Fin 1024) (l : Fin 128) :
    truncf .bf16 (subf (mulf (extractStridedSlice S1024x128 ![0, o] X hs) u) (mulf (extractStridedSlice S1024x128 ![0, o'] X hs') v)) hb (ix2 r l)
      = X (ix2 r (Fin.ofNat 1024 (o + l.val))) * u (ix2 r l) - X (ix2 r (Fin.ofNat 1024 (o' + l.val))) * v (ix2 r l) := by
  rw [← group_apply X o hs ho, ← group_apply X o' hs' ho']
  rfl

theorem turn_odd (X : FVec Ideal S1024x1024 .f32) (u v : FVec Ideal S1024x128 .f32) (o o' : ℕ) (hs : S1024x1024.Slices ![0, o] S1024x128)
    (hs' : S1024x1024.Slices ![0, o'] S1024x128) (ho : o ≤ 896) (ho' : o' ≤ 896) (hb : (FTy.bf16).bits < (FTy.f32).bits) (r : Fin 1024) (l : Fin 128) :
    truncf .bf16 (addf (mulf (extractStridedSlice S1024x128 ![0, o] X hs) u) (mulf (extractStridedSlice S1024x128 ![0, o'] X hs') v)) hb (ix2 r l)
      = X (ix2 r (Fin.ofNat 1024 (o + l.val))) * u (ix2 r l) + X (ix2 r (Fin.ofNat 1024 (o' + l.val))) * v (ix2 r l) := by
  rw [← group_apply X o hs ho, ← group_apply X o' hs' ho']
  rfl

/-- Column `J` of a row `D`, turned by the tables' entries `cs` and `sn`: in an even group of 128 against the group after it,
in an odd group against the group before. -/
def turn (D : ℕ → EReal) (cs sn : EReal) (J : ℕ) : EReal :=
  if J / 128 % 2 = 0 then D J * cs - D (J + 128) * sn else D J * cs + D (J - 128) * sn

theorem parts_apply (h : FVec Ideal S1x1024x4096 .bf16) (w : FVec Ideal S4096x1024 .bf16) (u v : FVec Ideal S1024x128 .f32)
    (p : Fin 8) (r : Fin 1024) (l : Fin 128) :
    parts (F := Ideal) h w u v p (ix2 r l) = turn (dotC h w r) (u (ix2 r l)) (v (ix2 r l)) (128 * p.val + l.val) := by
  have hl : l.val < 128 := l.isLt
  have hc : ∀ n, n + l.val < 1024 → k0_pay5 (F := Ideal) h w (ix2 r (Fin.ofNat 1024 (n + l.val))) = dotC h w r (n + l.val) := fun n hn => by
    rw [pay5_apply]
    exact congrArg (dotC h w r) (Nat.mod_eq_of_lt hn)
  unfold turn
  match p with
  | 0 =>
    rw [if_pos (by show (128 * 0 + l.val) / 128 % 2 = 0; omega)]
    refine (turn_even (k0_pay5 h w) u v 0 128 slices_S1024x1024_o0_0_S1024x128 slices_S1024x1024_o0_128_S1024x128 (by omega) (by omega) bitsLt_bf16_f32 r l).trans ?_
    rw [hc 0 (by omega), hc 128 (by omega)]
    rw [show 128 * (0 : Fin 8).val + l.val = 0 + l.val from rfl, show 0 + l.val + 128 = 128 + l.val by omega]
  | 1 =>
    rw [if_neg (by show ¬ (128 * 1 + l.val) / 128 % 2 = 0; omega)]
    refine (turn_odd (k0_pay5 h w) u v 128 0 slices_S1024x1024_o0_128_S1024x128 slices_S1024x1024_o0_0_S1024x128 (by omega) (by omega) bitsLt_bf16_f32 r l).trans ?_
    rw [hc 0 (by omega), hc 128 (by omega)]
    rw [show 128 * (1 : Fin 8).val + l.val = 128 + l.val from rfl, show 128 + l.val - 128 = 0 + l.val by omega]
  | 2 =>
    rw [if_pos (by show (128 * 2 + l.val) / 128 % 2 = 0; omega)]
    refine (turn_even (k0_pay5 h w) u v 256 384 slices_S1024x1024_o0_256_S1024x128 slices_S1024x1024_o0_384_S1024x128 (by omega) (by omega) bitsLt_bf16_f32 r l).trans ?_
    rw [hc 256 (by omega), hc 384 (by omega)]
    rw [show 128 * (2 : Fin 8).val + l.val = 256 + l.val from rfl, show 256 + l.val + 128 = 384 + l.val by omega]
  | 3 =>
    rw [if_neg (by show ¬ (128 * 3 + l.val) / 128 % 2 = 0; omega)]
    refine (turn_odd (k0_pay5 h w) u v 384 256 slices_S1024x1024_o0_384_S1024x128 slices_S1024x1024_o0_256_S1024x128 (by omega) (by omega) bitsLt_bf16_f32 r l).trans ?_
    rw [hc 256 (by omega), hc 384 (by omega)]
    rw [show 128 * (3 : Fin 8).val + l.val = 384 + l.val from rfl, show 384 + l.val - 128 = 256 + l.val by omega]
  | 4 =>
    rw [if_pos (by show (128 * 4 + l.val) / 128 % 2 = 0; omega)]
    refine (turn_even (k0_pay5 h w) u v 512 640 slices_S1024x1024_o0_512_S1024x128 slices_S1024x1024_o0_640_S1024x128 (by omega) (by omega) bitsLt_bf16_f32 r l).trans ?_
    rw [hc 512 (by omega), hc 640 (by omega)]
    rw [show 128 * (4 : Fin 8).val + l.val = 512 + l.val from rfl, show 512 + l.val + 128 = 640 + l.val by omega]
  | 5 =>
    rw [if_neg (by show ¬ (128 * 5 + l.val) / 128 % 2 = 0; omega)]
    refine (turn_odd (k0_pay5 h w) u v 640 512 slices_S1024x1024_o0_640_S1024x128 slices_S1024x1024_o0_512_S1024x128 (by omega) (by omega) bitsLt_bf16_f32 r l).trans ?_
    rw [hc 512 (by omega), hc 640 (by omega)]
    rw [show 128 * (5 : Fin 8).val + l.val = 640 + l.val from rfl, show 640 + l.val - 128 = 512 + l.val by omega]
  | 6 =>
    rw [if_pos (by show (128 * 6 + l.val) / 128 % 2 = 0; omega)]
    refine (turn_even (k0_pay5 h w) u v 768 896 slices_S1024x1024_o0_768_S1024x128 slices_S1024x1024_o0_896_S1024x128 (by omega) (by omega) bitsLt_bf16_f32 r l).trans ?_
    rw [hc 768 (by omega), hc 896 (by omega)]
    rw [show 128 * (6 : Fin 8).val + l.val = 768 + l.val from rfl, show 768 + l.val + 128 = 896 + l.val by omega]
  | 7 =>
    rw [if_neg (by show ¬ (128 * 7 + l.val) / 128 % 2 = 0; omega)]
    refine (turn_odd (k0_pay5 h w) u v 896 768 slices_S1024x1024_o0_896_S1024x128 slices_S1024x1024_o0_768_S1024x128 (by omega) (by omega) bitsLt_bf16_f32 r l).trans ?_
    rw [hc 768 (by omega), hc 896 (by omega)]
    rw [show 128 * (7 : Fin 8).val + l.val = 896 + l.val from rfl, show 896 + l.val - 128 = 768 + l.val by omega]

/-- The rotated block at an index. -/
theorem rotB_apply (h : FVec Ideal S1x1024x4096 .bf16) (w : FVec Ideal S4096x1024 .bf16) (u v : FVec Ideal S1024x128 .f32) (r q : Fin 1024) :
    rotB (F := Ideal) h w u v (ix2 r q)
      = turn (dotC h w r) (u (ix2 r (Fin.ofNat 128 q.val))) (v (ix2 r (Fin.ofNat 128 q.val))) q.val := by
  refine (parts_apply h w u v (Fin.ofNat 8 (q.val / 128)) r (Fin.ofNat 128 q.val)).trans (congrArg _ ?_)
  show 128 * (q.val / 128 % 8) + q.val % 128 = q.val
  have := q.isLt
  omega

/-! ## The blocks the kernel reads -/

variable (m : (ℓ : Loc nD τ sig) → Buf (Elt Ideal) ℓ)

theorem idx0 : ∀ t : Fin cfg0.N, win0_0.index t = ![min (t.val / 12) 15 * 8 + min (t.val % 12) 7, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, if t.val < 12 then 0 else t.val % 12] := (by decide +kernel : ∀ t : Fin grid0.N, _)
theorem idx3 : ∀ t : Fin cfg0.N, win0_3.index t = ![(t.val / 12 - 1) % 8, 0] := (by decide +kernel : ∀ t : Fin grid0.N, _)
theorem idx4 : ∀ t : Fin cfg0.N, win0_4.index t = ![(t.val / 12 - 1) % 8, 0] := (by decide +kernel : ∀ t : Fin grid0.N, _)
theorem idx5 : ∀ t : Fin cfg0.N, win0_5.index t = ![t.val / 12 - 1, if t.val < 12 then 0 else min (t.val % 12) 5] := (by decide +kernel : ∀ t : Fin grid0.N, _)
theorem idx6 : ∀ t : Fin cfg0.N, win0_6.index t = ![t.val / 12 - 1, if t.val < 12 then 0 else t.val % 12 - 6] := (by decide +kernel : ∀ t : Fin grid0.N, _)

theorem blk0_apply (c : Dev nD) (t : Fin cfg0.N) (r : Fin 128) (k : Fin 4096) (R : Fin 16384)
    (hR : R.val = (min (t.val / 12) 15 * 8 + min (t.val % 12) 7) * 128 + r.val) :
    iblk m c 0 t (ix2 r k) = m ((c : Thread nD τ).loc main_arg0) (ix2 R k) := by
  blk_simp [iblk]
  refine (congrFun (V_main_arg0 m c) _).trans (congrArg _ ?_)
  blk_ext [idx0]

theorem V_main_v1 (c : Dev nD) (j : Fin 4096) :
    V m c main_v1 (ix2 0 j) = m ((c : Thread nD τ).loc main_arg1) (ix1 j) := by
  have h : V m c main_v1 = shapeCast S1x4096 (m ((c : Thread nD τ).loc main_arg1)) shapeCasts_S4096_S1x4096 := by
    unfold V
    after_results <;> rfl
  rw [h]
  exact (shapeCast_addUnit_apply ![4096] (m ((c : Thread nD τ).loc main_arg1)) shapeCasts_S4096_S1x4096 (ix2 (0 : Fin 1) j)).trans
    (congrArg (m ((c : Thread nD τ).loc main_arg1)) (funext fun a => by fin_cases a; rfl))

theorem blk1_apply (c : Dev nD) (t : Fin cfg0.N) (j : Fin 4096) :
    iblk m c 1 t (ix2 0 j) = m ((c : Thread nD τ).loc main_arg1) (ix1 j) := by
  blk_simp [iblk]
  refine Eq.trans (congrArg _ ?_) (V_main_v1 m c j)
  blk_ext [idx1]

theorem V_main_v0 (c : Dev nD) (i : S4096x12288.Idx) : V m c main_v0 i = m ((c : Thread nD τ).loc main_arg2) i := by
  have h : V m c main_v0 = (truncf .bf16 (m ((c : Thread nD τ).loc main_arg2) : FVec Ideal S4096x12288 .f32) bitsLt_bf16_f32 : FVec Ideal S4096x12288 .bf16) := by
    unfold V
    after_results <;> rfl
  rw [h]
  rfl

theorem blk2_apply (c : Dev nD) (t : Fin cfg0.N) (ht : 12 ≤ t.val) (k : Fin 4096) (j : Fin 1024) (J : Fin 12288)
    (hJ : J.val = t.val % 12 * 1024 + j.val) :
    iblk m c 2 t (ix2 k j) = m ((c : Thread nD τ).loc main_arg2) (ix2 k J) := by
  have e := idx2 t
  rw [if_neg (by omega)] at e
  blk_simp [iblk]
  refine (V_main_v0 m c _).trans (congrArg _ ?_)
  blk_ext [e]

theorem blk3_apply (c : Dev nD) (t : Fin cfg0.N) (r : Fin 1024) (l : Fin 128) (R : Fin 8192)
    (hR : R.val = (t.val / 12 - 1) % 8 * 1024 + r.val) :
    iblk m c 3 t (ix2 r l) = m ((c : Thread nD τ).loc main_arg3) (ix2 R l) := by
  blk_simp [iblk]
  refine (congrFun (V_main_arg3 m c) _).trans (congrArg _ ?_)
  blk_ext [idx3]

theorem blk4_apply (c : Dev nD) (t : Fin cfg0.N) (r : Fin 1024) (l : Fin 128) (R : Fin 8192)
    (hR : R.val = (t.val / 12 - 1) % 8 * 1024 + r.val) :
    iblk m c 4 t (ix2 r l) = m ((c : Thread nD τ).loc main_arg4) (ix2 R l) := by
  blk_simp [iblk]
  refine (congrFun (V_main_arg4 m c) _).trans (congrArg _ ?_)
  blk_ext [idx4]

theorem emb5 (t : Fin cfg0.N) (ht : 12 ≤ t.val) (r q : Fin 1024) (R : Fin 16384) (J : Fin 6144)
    (hR : R.val = (t.val / 12 - 1) * 1024 + r.val) (hJ : J.val = min (t.val % 12) 5 * 1024 + q.val) :
    (((View.whole main_v2_0).slice (win0_5.rect t)).emb (ix2 r q) : S16384x6144.Idx) = ix2 R J := by
  have e := idx5 t
  rw [if_neg (by omega)] at e
  blk_ext [e]

theorem emb6 (t : Fin cfg0.N) (ht : 12 ≤ t.val) (r q : Fin 1024) (R : Fin 16384) (J : Fin 6144)
    (hR : R.val = (t.val / 12 - 1) * 1024 + r.val) (hJ : J.val = (t.val % 12 - 6) * 1024 + q.val) :
    (((View.whole main_v2_1).slice (win0_6.rect t)).emb (ix2 r q) : S16384x6144.Idx) = ix2 R J := by
  have e := idx6 t
  rw [if_neg (by omega)] at e
  blk_ext [e]

/-! ## The functions of the arguments -/

section

variable (x : FVec Ideal S16384x4096 .f32) (g : FVec Ideal S4096 .f32) (w : FVec Ideal S4096x12288 .f32)
  (cs sn : FVec Ideal S8192x128 .f32)

/-- The normalized input. -/
def normE (R : Fin 16384) (k : Fin 4096) : EReal :=
  x (ix2 R k) * scale (∑ l : Fin 4096, x (ix2 R l) * x (ix2 R l)) * g (ix1 k)

/-- Column `J` of a row of the product. -/
def prodE (R : Fin 16384) (J : ℕ) : EReal := ∑ k : Fin 4096, normE x g R k * w (ix2 k (Fin.ofNat 12288 J))

/-- The first result. -/
def qkvE (R : Fin 16384) (J : ℕ) : EReal :=
  if J < 4096 then
    turn (prodE x g w R) (cs (ix2 (Fin.ofNat 8192 R.val) (Fin.ofNat 128 J))) (sn (ix2 (Fin.ofNat 8192 R.val) (Fin.ofNat 128 J))) J
  else prodE x g w R J

/-- The second result. -/
def restE (R : Fin 16384) (J : ℕ) : EReal := if J < 4096 then prodE x g w R (6144 + J) else gate (prodE x g w R (6144 + J))

theorem dotC_eq (a : FVec Ideal S1x1024x4096 .bf16) (b : FVec Ideal S4096x1024 .bf16) (r : Fin 1024) (R : Fin 16384) (s : ℕ) (hs : s < 12)
    (ha : ∀ k : Fin 4096, a (ix3 0 r k) = normE x g R k)
    (hb : ∀ (k : Fin 4096) (j : Fin 1024), b (ix2 k j) = w (ix2 k (Fin.ofNat 12288 (1024 * s + j.val)))) (J : ℕ) (hJ : J < 1024) :
    dotC a b r J = prodE x g w R (1024 * s + J) := by
  unfold dotC prodE
  refine Finset.sum_congr rfl fun k _ => ?_
  rw [ha, hb, show (Fin.ofNat 1024 J).val = J from Nat.mod_eq_of_lt hJ]

theorem turn_eq (D D' : ℕ → EReal) (u v : EReal) (s q : ℕ) (hq : q < 1024) (h : ∀ n, n < 1024 → D n = D' (1024 * s + n)) :
    turn D u v q = turn D' u v (1024 * s + q) := by
  unfold turn
  by_cases hp : q / 128 % 2 = 0
  · rw [if_pos hp, if_pos (by omega), h q hq, h (q + 128) (by omega), Nat.add_assoc]
  · rw [if_neg hp, if_neg (by omega), h q hq, h (q - 128) (by omega), show 1024 * s + q - 128 = 1024 * s + (q - 128) by omega]

end

/-! ## The kernel's arrays -/

variable (c : Dev nD)

theorem hslot_apply (i : ℕ) (hi : i < 16) (r : Fin 1024) (R : Fin 16384) (hR : R.val = 1024 * i + r.val) (k : Fin 4096) :
    hslot m c i (ix3 0 r k) = normE (m ((c : Thread nD τ).loc main_arg0)) (m ((c : Thread nD τ).loc main_arg1)) R k := by
  have hr : r.val < 1024 := r.isLt
  have h0 : ∀ l : Fin 4096, iblk m c 0 (ptOf i r.val) (ix2 (Fin.ofNat 128 r.val) l) = m ((c : Thread nD τ).loc main_arg0) (ix2 R l) := fun l =>
    blk0_apply m c _ _ _ R (by
      show R.val = (min ((12 * i + r.val / 128) % 204 / 12) 15 * 8 + min ((12 * i + r.val / 128) % 204 % 12) 7) * 128 + r.val % 128
      rw [hR]
      omega)
  show normB (iblk m c 0 (ptOf i r.val)) (iblk m c 1 (ptOf i r.val)) (ix3 0 (Fin.ofNat 128 r.val) k) = _
  rw [norm_apply, h0, blk1_apply]
  simp only [h0]
  rfl

theorem w_apply (t : Fin cfg0.N) (ht : 12 ≤ t.val) (k : Fin 4096) (j : Fin 1024) :
    iblk m c 2 t (ix2 k j) = m ((c : Thread nD τ).loc main_arg2) (ix2 k (Fin.ofNat 12288 (1024 * (t.val % 12) + j.val))) :=
  blk2_apply m c t ht k j _ (by
    show (1024 * (t.val % 12) + j.val) % 12288 = _
    have := j.isLt
    omega)

/-- Column `J` of the product of a step. -/
theorem step_dot (t : Fin cfg0.N) (ht : 12 ≤ t.val) (r : Fin 1024) (R : Fin 16384) (hR : R.val = (t.val / 12 - 1) * 1024 + r.val)
    (J : ℕ) (hJ : J < 1024) :
    dotC (hslot m c (t.val / 12 - 1)) (iblk m c 2 t) r J
      = prodE (m ((c : Thread nD τ).loc main_arg0)) (m ((c : Thread nD τ).loc main_arg1)) (m ((c : Thread nD τ).loc main_arg2)) R (1024 * (t.val % 12) + J) := by
  have hN : t.val < 204 := t.isLt
  exact dotC_eq _ _ _ _ _ r R (t.val % 12) (by omega) (fun k => hslot_apply m c _ (by omega) r R (by omega) k) (w_apply m c t ht) J hJ

theorem qkvAt_apply (t : Fin cfg0.N) (ht : 12 ≤ t.val) (hj : t.val % 12 < 6) (r q : Fin 1024) (R : Fin 16384)
    (hR : R.val = (t.val / 12 - 1) * 1024 + r.val) :
    qkvAt m c t (ix2 r q) = qkvE (m ((c : Thread nD τ).loc main_arg0)) (m ((c : Thread nD τ).loc main_arg1)) (m ((c : Thread nD τ).loc main_arg2))
      (m ((c : Thread nD τ).loc main_arg3)) (m ((c : Thread nD τ).loc main_arg4)) R (1024 * (t.val % 12) + q.val) := by
  have hN : t.val < 204 := t.isLt
  have hr : r.val < 1024 := r.isLt
  have hq : q.val < 1024 := q.isLt
  unfold qkvAt qkvE
  by_cases h : t.val % 12 < 4
  · rw [if_pos h, if_pos (by omega), rotB_apply]
    have hrow : (Fin.ofNat 8192 R.val).val = (t.val / 12 - 1) % 8 * 1024 + r.val := by
      show R.val % 8192 = _
      omega
    rw [blk3_apply m c t r _ (Fin.ofNat 8192 R.val) hrow, blk4_apply m c t r _ (Fin.ofNat 8192 R.val) hrow]
    have hl : (Fin.ofNat 128 (1024 * (t.val % 12) + q.val) : Fin 128) = Fin.ofNat 128 q.val := Fin.ext (by
      show (1024 * (t.val % 12) + q.val) % 128 = q.val % 128
      omega)
    rw [hl]
    exact turn_eq _ _ _ _ (t.val % 12) q.val hq fun n hn => step_dot m c t ht r R hR n hn
  · rw [if_neg h, if_neg (by omega), pay26_apply]
    exact step_dot m c t ht r R hR q.val hq

theorem restAt_apply (t : Fin cfg0.N) (ht : 12 ≤ t.val) (hj : 6 ≤ t.val % 12) (r q : Fin 1024) (R : Fin 16384)
    (hR : R.val = (t.val / 12 - 1) * 1024 + r.val) :
    restAt m c t (ix2 r q) = restE (m ((c : Thread nD τ).loc main_arg0)) (m ((c : Thread nD τ).loc main_arg1)) (m ((c : Thread nD τ).loc main_arg2))
      R ((t.val % 12 - 6) * 1024 + q.val) := by
  have hq : q.val < 1024 := q.isLt
  have e : 6144 + ((t.val % 12 - 6) * 1024 + q.val) = 1024 * (t.val % 12) + q.val := by omega
  unfold restAt restE
  rw [e]
  by_cases h : t.val % 12 < 10
  · rw [if_pos h, if_pos (by omega), pay3_apply]
    exact step_dot m c t ht r R hR q.val hq
  · rw [if_neg h, if_neg (by omega), pay4_apply]
    exact congrArg gate (step_dot m c t ht r R hR q.val hq)

/-- What the first result holds after the run, as a function of the arguments. -/
def qkvF : FVec Ideal S16384x6144 .bf16 := fun i =>
  qkvE (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1).val

/-- What the second result holds after the run, as a function of the arguments. -/
def restF : FVec Ideal S16384x6144 .f32 := fun i =>
  restE (m ((c : Thread nD τ).loc main_arg0)) (m ((c : Thread nD τ).loc main_arg1)) (m ((c : Thread nD τ).loc main_arg2)) (i 0) (i 1).val

theorem qkvF_apply (R : Fin 16384) (J : Fin 6144) : qkvF m c (ix2 R J)
    = qkvE (m ((c : Thread nD τ).loc main_arg0)) (m ((c : Thread nD τ).loc main_arg1)) (m ((c : Thread nD τ).loc main_arg2))
      (m ((c : Thread nD τ).loc main_arg3)) (m ((c : Thread nD τ).loc main_arg4)) R J.val := rfl

theorem restF_apply (R : Fin 16384) (J : Fin 6144) : restF m c (ix2 R J)
    = restE (m ((c : Thread nD τ).loc main_arg0)) (m ((c : Thread nD τ).loc main_arg1)) (m ((c : Thread nD τ).loc main_arg2)) R J.val := rfl

theorem point5 (t : Fin cfg0.N) (h12 : 12 ≤ t.val) (r q : Fin 1024) :
    qkvAt m c (colPt t) (ix2 r q) = qkvF m c (((View.whole main_v2_0).slice (win0_5.rect t)).emb (ix2 r q) : S16384x6144.Idx) := by
  have hN : t.val < 204 := t.isLt
  have hr : r.val < 1024 := r.isLt
  have hq : q.val < 1024 := q.isLt
  have hR : (t.val / 12 - 1) * 1024 + r.val < 16384 := by omega
  have hJ : min (t.val % 12) 5 * 1024 + q.val < 6144 := by omega
  rw [emb5 t h12 r q ⟨_, hR⟩ ⟨_, hJ⟩ rfl rfl, qkvF_apply]
  have ev : (colPt t).val = 12 * (t.val / 12) + min (t.val % 12) 5 := rfl
  rw [qkvAt_apply m c (colPt t) (by omega) (by omega) r q ⟨_, hR⟩ (by
    show (t.val / 12 - 1) * 1024 + r.val = _
    rw [show (colPt t).val / 12 = t.val / 12 by omega]),
    show 1024 * ((colPt t).val % 12) + q.val = min (t.val % 12) 5 * 1024 + q.val by omega]

theorem point6 (t : Fin cfg0.N) (h12 : 12 ≤ t.val) (hj : 6 ≤ t.val % 12) (r q : Fin 1024) :
    restAt m c t (ix2 r q) = restF m c (((View.whole main_v2_1).slice (win0_6.rect t)).emb (ix2 r q) : S16384x6144.Idx) := by
  have hN : t.val < 204 := t.isLt
  have hr : r.val < 1024 := r.isLt
  have hq : q.val < 1024 := q.isLt
  have hR : (t.val / 12 - 1) * 1024 + r.val < 16384 := by omega
  have hJ : (t.val % 12 - 6) * 1024 + q.val < 6144 := by omega
  rw [emb6 t h12 r q ⟨_, hR⟩ ⟨_, hJ⟩ rfl rfl, restF_apply]
  exact restAt_apply m c t h12 hj r q ⟨_, hR⟩ rfl

theorem flushed5 (t : Fin cfg0.N) (hf : (cfg0.win 5).flush t = true) : 12 ≤ t.val :=
  (of_decide_eq_true ((flush5 t).symm.trans hf)).1

theorem flushed6 (t : Fin cfg0.N) (hf : (cfg0.win 6).flush t = true) : 12 ≤ t.val ∧ 6 ≤ t.val % 12 :=
  of_decide_eq_true ((flush6 t).symm.trans hf)

theorem qkv_eq : (dats m 0 c).arrAt 5 cfg0.N = qkvF m c := by
  refine (dats m 0 c).arrAt_eq_of_covers 5 _ (by decide +kernel) fun t hf y => ?_
  blk_simp
  rw [after0_5]
  obtain ⟨r, q, rfl⟩ : ∃ r q, y = ix2 r q := ⟨y 0, y 1, eq_ix2 y⟩
  exact point5 m c t (flushed5 t hf) r q

theorem rest_eq : (dats m 0 c).arrAt 6 cfg0.N = restF m c := by
  refine (dats m 0 c).arrAt_eq_of_covers 6 _ (by decide +kernel) fun t hf y => ?_
  blk_simp
  rw [after0_6]
  obtain ⟨r, q, rfl⟩ : ∃ r q, y = ix2 r q := ⟨y 0, y 1, eq_ix2 y⟩
  exact point6 m c t (flushed6 t hf).1 (flushed6 t hf).2 r q

end Cert.InIdeal.Pj

end
-- ==== Proof.InRef.lean ====
module

public import proofs.«01_k».proof.Proof.InValue

/-!
# What the reference of the input projection computes

The two results of the reference, read at an index over the extended reals. The reference cuts the product into six arrays of
2048 columns, turns the first two by the tables in heads of 256, gates the last, and lays three arrays side by side for each
result. At every index this is the function of the arguments that the kernel's arrays hold.
-/

@[expose] public section

set_option maxRecDepth 16384

noncomputable section

namespace Cert.InReferenceIdeal.Pj

open Idealize.ShloMosaic Idealize.ShloMosaic.TcCoe Idealize.ShloMosaic.ValueKit Cert.InReferenceIdeal Cert.InReferenceIdeal.Gen
open Cert.UpIdeal.Act (scale)
open Cert.InIdeal.Pj (gate turn normE prodE qkvE restE qkvF restF ofNat_fin)

/-! ## The reference's arrays -/

/-- The normalized input. -/
def refH (x : FVec Ideal S16384x4096 .f32) (g : FVec Ideal S4096 .f32) : FVec Ideal S16384x4096 .f32 :=
  mulf (mulf x (broadcastInDim S16384x4096 ![0, 1] bcast_S16384x1_S16384x4096_0_1 (Host.rsqrt (addf (Host.divf (broadcastInDim S16384x1 ![0] bcast_S16384_S16384x1_0 (Host.reduceAdd (mulf x x) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))

/-- The product. -/
def refD (x : FVec Ideal S16384x4096 .f32) (g : FVec Ideal S4096 .f32) (w : FVec Ideal S4096x12288 .f32) : FVec Ideal S16384x12288 .f32 :=
  Host.dotGeneral dot_S16384x4096_S4096x12288_S16384x12288_1_0_0_1_n_n none (refH x g) w

/-- The first half of each head, turned by the tables. -/
def refEven (y : FVec Ideal S16384x2048 .f32) (cs sn : FVec Ideal S8192x128 .f32) : FVec Ideal S2x8192x8x128 .f32 :=
  subf (mulf (extractStridedSlice S2x8192x8x128 ![0, 0, 0, 0] (shapeCast _ y shapeCasts_S16384x2048_S2x8192x8x256) slices_S2x8192x8x256_S2x8192x8x128_0_0_0_0) (broadcastInDim S2x8192x8x128 ![0, 1, 2, 3] bcast_S1x8192x1x128_S2x8192x8x128_0_1_2_3 (broadcastInDim S1x8192x1x128 ![1, 3] bcast_S8192x128_S1x8192x1x128_1_3 cs))) (mulf (extractStridedSlice S2x8192x8x128 ![0, 0, 0, 128] (shapeCast _ y shapeCasts_S16384x2048_S2x8192x8x256) slices_S2x8192x8x256_S2x8192x8x128_0_0_0_128) (broadcastInDim S2x8192x8x128 ![0, 1, 2, 3] bcast_S1x8192x1x128_S2x8192x8x128_0_1_2_3 (broadcastInDim S1x8192x1x128 ![1, 3] bcast_S8192x128_S1x8192x1x128_1_3 sn)))

/-- The second half of each head, turned by the tables. -/
def refOdd (y : FVec Ideal S16384x2048 .f32) (cs sn : FVec Ideal S8192x128 .f32) : FVec Ideal S2x8192x8x128 .f32 :=
  addf (mulf (extractStridedSlice S2x8192x8x128 ![0, 0, 0, 128] (shapeCast _ y shapeCasts_S16384x2048_S2x8192x8x256) slices_S2x8192x8x256_S2x8192x8x128_0_0_0_128) (broadcastInDim S2x8192x8x128 ![0, 1, 2, 3] bcast_S1x8192x1x128_S2x8192x8x128_0_1_2_3 (broadcastInDim S1x8192x1x128 ![1, 3] bcast_S8192x128_S1x8192x1x128_1_3 cs))) (mulf (extractStridedSlice S2x8192x8x128 ![0, 0, 0, 0] (shapeCast _ y shapeCasts_S16384x2048_S2x8192x8x256) slices_S2x8192x8x256_S2x8192x8x128_0_0_0_0) (broadcastInDim S2x8192x8x128 ![0, 1, 2, 3] bcast_S1x8192x1x128_S2x8192x8x128_0_1_2_3 (broadcastInDim S1x8192x1x128 ![1, 3] bcast_S8192x128_S1x8192x1x128_1_3 sn)))

/-- The halves of the heads side by side, as rows again. -/
def refMix (a b : FVec Ideal S2x8192x8x128 .f32) : FVec Ideal S16384x2048 .f32 :=
  shapeCast _ (concatenate S2x8192x8x256 3 [⟨S2x8192x8x128, a⟩, ⟨S2x8192x8x128, b⟩] concatenates_S2x8192x8x128_S2x8192x8x128_S2x8192x8x256_d3) shapeCasts_S2x8192x8x256_S16384x2048

/-- The heads turned by the tables. -/
def refTurn (y : FVec Ideal S16384x2048 .f32) (cs sn : FVec Ideal S8192x128 .f32) : FVec Ideal S16384x2048 .f32 :=
  refMix (refEven y cs sn) (refOdd y cs sn)

/-- The smooth gate. -/
def refGate (y : FVec Ideal S16384x2048 .f32) : FVec Ideal S16384x2048 .f32 :=
  mulf y (mulf (broadcastInDim S16384x2048 ![] bcast_S_S16384x2048 (constant S_ .f32 0x3F000000#32)) (addf (broadcastInDim S16384x2048 ![] bcast_S_S16384x2048 (constant S_ .f32 0x3F800000#32)) (Host.tanh (mulf (broadcastInDim S16384x2048 ![] bcast_S_S16384x2048 (constant S_ .f32 0x3F4C422A#32)) (addf y (mulf (broadcastInDim S16384x2048 ![] bcast_S_S16384x2048 (constant S_ .f32 0x3D372713#32)) (mulf (mulf y y) y)))))))

/-- Three arrays side by side. -/
def refCat (u0 u1 u2 : FVec Ideal S16384x2048 .f32) : FVec Ideal S16384x6144 .f32 :=
  concatenate S16384x6144 1 [⟨S16384x2048, u0⟩, ⟨S16384x2048, u1⟩, ⟨S16384x2048, u2⟩] concatenates_S16384x2048_S16384x2048_S16384x2048_S16384x6144_d1

def refQkv (x : FVec Ideal S16384x4096 .f32) (g : FVec Ideal S4096 .f32) (w : FVec Ideal S4096x12288 .f32) (cs sn : FVec Ideal S8192x128 .f32) :
    FVec Ideal S16384x6144 .bf16 :=
  truncf .bf16 (refCat (refTurn (extractStridedSlice S16384x2048 ![0, 0] (refD x g w) slices_S16384x12288_S16384x2048_0_0) cs sn)
    (refTurn (extractStridedSlice S16384x2048 ![0, 2048] (refD x g w) slices_S16384x12288_S16384x2048_0_2048) cs sn)
    (extractStridedSlice S16384x2048 ![0, 4096] (refD x g w) slices_S16384x12288_S16384x2048_0_4096)) bitsLt_bf16_f32

def refRest (x : FVec Ideal S16384x4096 .f32) (g : FVec Ideal S4096 .f32) (w : FVec Ideal S4096x12288 .f32) : FVec Ideal S16384x6144 .f32 :=
  refCat (extractStridedSlice S16384x2048 ![0, 6144] (refD x g w) slices_S16384x12288_S16384x2048_0_6144)
    (extractStridedSlice S16384x2048 ![0, 8192] (refD x g w) slices_S16384x12288_S16384x2048_0_8192)
    (refGate (extractStridedSlice S16384x2048 ![0, 10240] (refD x g w) slices_S16384x12288_S16384x2048_0_10240))

section

variable (m : (ℓ : Loc nD τ sig) → Buf (Elt Ideal) ℓ) (c : Dev nD)

theorem res_qkv : Cert.InReferenceIdeal.Value.res_main_v55 m c
    = refQkv (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem res_rest : Cert.InReferenceIdeal.Value.res_main_v69 m c
    = refRest (m ((c.tc : Thread nD τ).loc main_arg0)) (m ((c.tc : Thread nD τ).loc main_arg1)) (m ((c.tc : Thread nD τ).loc main_arg2)) := rfl

end

/-! ## Their entries -/

theorem refH_apply (x : FVec Ideal S16384x4096 .f32) (g : FVec Ideal S4096 .f32) (R : Fin 16384) (k : Fin 4096) :
    refH x g (ix2 R k) = normE x g R k := by
  pointwise [refH, normE, scale]

theorem refD_apply (x : FVec Ideal S16384x4096 .f32) (g : FVec Ideal S4096 .f32) (w : FVec Ideal S4096x12288 .f32) (R : Fin 16384) (J : Fin 12288) :
    refD x g w (ix2 R J) = prodE x g w R J.val := by
  have h : refD x g w (ix2 R J) = ∑ k : Fin 4096, refH x g (ix2 R k) * w (ix2 k J) := by
    pointwise [refD]
  rw [h]
  unfold prodE
  refine Finset.sum_congr rfl fun k _ => ?_
  rw [refH_apply, ofNat_fin]

/-- One of the six arrays of 2048 columns, at an index. -/
theorem cut_apply (X : FVec Ideal S16384x12288 .f32) (o : ℕ) (hs : S16384x12288.Slices ![0, o] S16384x2048) (ho : o ≤ 10240) (R : Fin 16384) (q : Fin 2048) :
    extractStridedSlice S16384x2048 ![0, o] X hs (ix2 R q) = X (ix2 R ⟨o + q.val, by omega⟩) := by
  refine congrArg X (funext fun a => Fin.ext ?_)
  match a with
  | ⟨0, _⟩ => show 0 + R.val = R.val; omega
  | ⟨1, _⟩ => rfl

/-- A table spread over the sequences and the heads, at an index. -/
theorem table_apply (u : FVec Ideal S8192x128 .f32) (a : Fin 2) (b : Fin 8192) (e : Fin 8) (l : Fin 128) :
    broadcastInDim S2x8192x8x128 ![0, 1, 2, 3] bcast_S1x8192x1x128_S2x8192x8x128_0_1_2_3 (broadcastInDim S1x8192x1x128 ![1, 3] bcast_S8192x128_S1x8192x1x128_1_3 u) (ix4 a b e l)
      = u (ix2 b l) := by
  pointwise

/-- Half of a head, at an index. -/
theorem half_apply (y : FVec Ideal S16384x2048 .f32) (o : ℕ) (hs : S2x8192x8x256.Slices ![0, 0, 0, o] S2x8192x8x128) (ho : o ≤ 128)
    (a : Fin 2) (b : Fin 8192) (e : Fin 8) (l : Fin 128) :
    extractStridedSlice S2x8192x8x128 ![0, 0, 0, o] (shapeCast S2x8192x8x256 y shapeCasts_S16384x2048_S2x8192x8x256) hs (ix4 a b e l)
      = y (ix2 ⟨8192 * a.val + b.val, by omega⟩ ⟨256 * e.val + o + l.val, by omega⟩) := by
  have h : extractStridedSlice S2x8192x8x128 ![0, 0, 0, o] (shapeCast S2x8192x8x256 y shapeCasts_S16384x2048_S2x8192x8x256) hs (ix4 a b e l)
      = shapeCast S2x8192x8x256 y shapeCasts_S16384x2048_S2x8192x8x256 (ix4 a b e (⟨o + l.val, by omega⟩ : Fin 256)) := by
    refine congrArg (shapeCast S2x8192x8x256 y shapeCasts_S16384x2048_S2x8192x8x256) (funext fun i => Fin.ext ?_)
    match i with
    | ⟨0, _⟩ => show 0 + a.val = a.val; omega
    | ⟨1, _⟩ => show 0 + b.val = b.val; omega
    | ⟨2, _⟩ => show 0 + e.val = e.val; omega
    | ⟨3, _⟩ => rfl
  rw [h]
  refine shapeCast_apply y _ _ _ ?_
  rw [Shape.rowMajor_val_two, Shape.rowMajor_val_four]
  show (8192 * a.val + b.val) * 2048 + (256 * e.val + o + l.val) = ((a.val * 8192 + b.val) * 8 + e.val) * 256 + (o + l.val)
  omega

theorem refEven_apply (y : FVec Ideal S16384x2048 .f32) (cs sn : FVec Ideal S8192x128 .f32) (a : Fin 2) (b : Fin 8192) (e : Fin 8) (l : Fin 128) :
    refEven y cs sn (ix4 a b e l)
      = y (ix2 ⟨8192 * a.val + b.val, by omega⟩ ⟨256 * e.val + 0 + l.val, by omega⟩) * cs (ix2 b l)
        - y (ix2 ⟨8192 * a.val + b.val, by omega⟩ ⟨256 * e.val + 128 + l.val, by omega⟩) * sn (ix2 b l) := by
  rw [← half_apply y 0 slices_S2x8192x8x256_S2x8192x8x128_0_0_0_0 (by omega), ← half_apply y 128 slices_S2x8192x8x256_S2x8192x8x128_0_0_0_128 (by omega),
    ← table_apply cs a b e l, ← table_apply sn a b e l]
  rfl

theorem refOdd_apply (y : FVec Ideal S16384x2048 .f32) (cs sn : FVec Ideal S8192x128 .f32) (a : Fin 2) (b : Fin 8192) (e : Fin 8) (l : Fin 128) :
    refOdd y cs sn (ix4 a b e l)
      = y (ix2 ⟨8192 * a.val + b.val, by omega⟩ ⟨256 * e.val + 128 + l.val, by omega⟩) * cs (ix2 b l)
        + y (ix2 ⟨8192 * a.val + b.val, by omega⟩ ⟨256 * e.val + 0 + l.val, by omega⟩) * sn (ix2 b l) := by
  rw [← half_apply y 0 slices_S2x8192x8x256_S2x8192x8x128_0_0_0_0 (by omega), ← half_apply y 128 slices_S2x8192x8x256_S2x8192x8x128_0_0_0_128 (by omega),
    ← table_apply cs a b e l, ← table_apply sn a b e l]
  rfl

/-- The place of an entry among the heads: its sequence, its position, its head, its column there. -/
theorem refMix_apply (a b : FVec Ideal S2x8192x8x128 .f32) (R : Fin 16384) (q : Fin 2048) :
    refMix a b (ix2 R q) = (if q.val / 128 % 2 = 0 then a else b)
      (ix4 (⟨R.val / 8192, by omega⟩ : Fin 2) (Fin.ofNat 8192 R.val) (⟨q.val / 256, by omega⟩ : Fin 8) (Fin.ofNat 128 q.val)) := by
  have hR : R.val < 16384 := R.isLt
  have hq : q.val < 2048 := q.isLt
  unfold refMix
  refine (shapeCast_apply _ shapeCasts_S2x8192x8x256_S16384x2048 (ix2 R q)
    (ix4 (⟨R.val / 8192, by omega⟩ : Fin 2) (Fin.ofNat 8192 R.val) (⟨q.val / 256, by omega⟩ : Fin 8) (⟨q.val % 256, by omega⟩ : Fin 256)) ?_).trans ?_
  · rw [Shape.rowMajor_val_two, Shape.rowMajor_val_four]
    show ((R.val / 8192 * 8192 + R.val % 8192) * 8 + q.val / 256) * 256 + q.val % 256 = R.val * 2048 + q.val
    omega
  by_cases hp : q.val / 128 % 2 = 0
  · rw [if_pos hp]
    refine concatenate_pair_apply_left (t := S2x8192x8x256) 3 a b concatenates_S2x8192x8x128_S2x8192x8x128_S2x8192x8x256_d3 _ rfl _ fun i => ?_
    match i with
    | ⟨0, _⟩ => rfl
    | ⟨1, _⟩ => rfl
    | ⟨2, _⟩ => rfl
    | ⟨3, _⟩ => show q.val % 128 = q.val % 256; omega
  · rw [if_neg hp]
    refine concatenate_pair_apply_right (t := S2x8192x8x256) 3 a b concatenates_S2x8192x8x128_S2x8192x8x128_S2x8192x8x256_d3 _ rfl rfl _ (fun i hi => ?_) ?_
    · match i with
      | ⟨0, _⟩ => rfl
      | ⟨1, _⟩ => rfl
      | ⟨2, _⟩ => rfl
      | ⟨3, _⟩ => exact absurd rfl hi
    · show q.val % 128 + 128 = q.val % 256
      omega

theorem refTurn_apply (y : FVec Ideal S16384x2048 .f32) (cs sn : FVec Ideal S8192x128 .f32) (R : Fin 16384) (q : Fin 2048) :
    refTurn y cs sn (ix2 R q) = turn (fun n => y (ix2 R (Fin.ofNat 2048 n))) (cs (ix2 (Fin.ofNat 8192 R.val) (Fin.ofNat 128 q.val)))
      (sn (ix2 (Fin.ofNat 8192 R.val) (Fin.ofNat 128 q.val))) q.val := by
  have hR : R.val < 16384 := R.isLt
  have hq : q.val < 2048 := q.isLt
  have hy : ∀ (n : ℕ) (R' : Fin 16384) (n' : Fin 2048), R'.val = R.val → n'.val = n → y (ix2 R' n') = y (ix2 R (Fin.ofNat 2048 n)) := fun n R' n' e e' => by
    subst e'
    rw [ofNat_fin, show R' = R from Fin.ext e]
  have hrow : 8192 * (R.val / 8192) + R.val % 8192 = R.val := by omega
  unfold refTurn turn
  rw [refMix_apply]
  by_cases hp : q.val / 128 % 2 = 0
  · rw [if_pos hp, if_pos hp, refEven_apply]
    exact congrArg₂ (fun a b : EReal => a - b) (congrArg (fun z : EReal => z * _) (hy (q.val) _ _ hrow (by show 256 * (q.val / 256) + 0 + q.val % 128 = _; omega)))
      (congrArg (fun z : EReal => z * _) (hy (q.val + 128) _ _ hrow (by show 256 * (q.val / 256) + 128 + q.val % 128 = _; omega)))
  · rw [if_neg hp, if_neg hp, refOdd_apply]
    exact congrArg₂ (fun a b : EReal => a + b) (congrArg (fun z : EReal => z * _) (hy (q.val) _ _ hrow (by show 256 * (q.val / 256) + 128 + q.val % 128 = _; omega)))
      (congrArg (fun z : EReal => z * _) (hy (q.val - 128) _ _ hrow (by show 256 * (q.val / 256) + 0 + q.val % 128 = _; omega)))

theorem refGate_apply (y : FVec Ideal S16384x2048 .f32) (R : Fin 16384) (q : Fin 2048) : refGate y (ix2 R q) = gate (y (ix2 R q)) := by
  have h : refGate y (ix2 R q) = y (ix2 R q) * (Ideal.ofBits .f32 0x3F000000#32 * (Ideal.ofBits .f32 0x3F800000#32 + Ideal.tanh (Ideal.ofBits .f32 0x3F4C422A#32 * (y (ix2 R q) + Ideal.ofBits .f32 0x3D372713#32 * (y (ix2 R q) * y (ix2 R q) * y (ix2 R q)))))) := by
    pointwise [refGate]
  rw [h]
  unfold gate
  rw [mul_comm (y (ix2 R q) * y (ix2 R q)) (y (ix2 R q))]

theorem along (R : Fin 16384) (q : Fin 2048) (J : Fin 6144) (b : Fin 2) (hb : b ≠ 1) : (ix2 R q b).val = (ix2 R J b).val := by
  match b with
  | ⟨0, _⟩ => rfl
  | ⟨1, _⟩ => exact absurd rfl hb

section

variable (u0 u1 u2 : FVec Ideal S16384x2048 .f32) (R : Fin 16384) (q : Fin 2048) (J : Fin 6144)

theorem refCat_0 (hJ : J.val = 0 + q.val) : refCat u0 u1 u2 (ix2 R J) = u0 (ix2 R q) :=
  concatenate_apply_piece (t := S16384x6144) 1 [⟨S16384x2048, u0⟩, ⟨S16384x2048, u1⟩, ⟨S16384x2048, u2⟩]
    concatenates_S16384x2048_S16384x2048_S16384x2048_S16384x6144_d1 (ix2 R J) (k := 0) (hk := by simp) (s₁ := S16384x2048) (x₁ := u0)
    (hxk := rfl) (hr := rfl) (pre := 0) (hpre := rfl) (i := ix2 R q) (hi := fun b hb => along R q J b hb) (ha := hJ.symm)

theorem refCat_1 (hJ : J.val = 2048 + q.val) : refCat u0 u1 u2 (ix2 R J) = u1 (ix2 R q) :=
  concatenate_apply_piece (t := S16384x6144) 1 [⟨S16384x2048, u0⟩, ⟨S16384x2048, u1⟩, ⟨S16384x2048, u2⟩]
    concatenates_S16384x2048_S16384x2048_S16384x2048_S16384x6144_d1 (ix2 R J) (k := 1) (hk := by simp) (s₁ := S16384x2048) (x₁ := u1)
    (hxk := rfl) (hr := rfl) (pre := 2048) (hpre := rfl) (i := ix2 R q) (hi := fun b hb => along R q J b hb) (ha := hJ.symm)

theorem refCat_2 (hJ : J.val = 4096 + q.val) : refCat u0 u1 u2 (ix2 R J) = u2 (ix2 R q) :=
  concatenate_apply_piece (t := S16384x6144) 1 [⟨S16384x2048, u0⟩, ⟨S16384x2048, u1⟩, ⟨S16384x2048, u2⟩]
    concatenates_S16384x2048_S16384x2048_S16384x2048_S16384x6144_d1 (ix2 R J) (k := 2) (hk := by simp) (s₁ := S16384x2048) (x₁ := u2)
    (hxk := rfl) (hr := rfl) (pre := 4096) (hpre := rfl) (i := ix2 R q) (hi := fun b hb => along R q J b hb) (ha := hJ.symm)

end

/-! ## The reference's results -/

variable (x : FVec Ideal S16384x4096 .f32) (g : FVec Ideal S4096 .f32) (w : FVec Ideal S4096x12288 .f32) (cs sn : FVec Ideal S8192x128 .f32)

theorem cut_prod (o : ℕ) (hs : S16384x12288.Slices ![0, o] S16384x2048) (ho : o ≤ 10240) (R : Fin 16384) (q : Fin 2048) :
    extractStridedSlice S16384x2048 ![0, o] (refD x g w) hs (ix2 R q) = prodE x g w R (o + q.val) := by
  rw [cut_apply _ o hs ho, refD_apply]

/-- A turned array of 2048 columns of the product. -/
theorem turn_prod (o : ℕ) (hs : S16384x12288.Slices ![0, o] S16384x2048) (ho : o ≤ 2048) (h256 : o % 256 = 0) (R : Fin 16384) (q : Fin 2048) :
    refTurn (extractStridedSlice S16384x2048 ![0, o] (refD x g w) hs) cs sn (ix2 R q) = qkvE x g w cs sn R (o + q.val) := by
  have hq : q.val < 2048 := q.isLt
  have hD : ∀ n, n < 2048 → extractStridedSlice S16384x2048 ![0, o] (refD x g w) hs (ix2 R (Fin.ofNat 2048 n)) = prodE x g w R (o + n) := fun n hn => by
    rw [cut_prod x g w o hs (by omega)]
    exact congrArg (fun k => prodE x g w R (o + k)) (Nat.mod_eq_of_lt hn)
  have hl : (Fin.ofNat 128 (o + q.val) : Fin 128) = Fin.ofNat 128 q.val := Fin.ext (by
    show (o + q.val) % 128 = q.val % 128
    omega)
  rw [refTurn_apply]
  unfold qkvE turn
  rw [if_pos (show o + q.val < 4096 by omega), hl]
  beta_reduce
  by_cases hp : q.val / 128 % 2 = 0
  · rw [if_pos hp, if_pos (show (o + q.val) / 128 % 2 = 0 by omega), hD q.val hq, hD (q.val + 128) (by omega), Nat.add_assoc]
  · rw [if_neg hp, if_neg (show ¬ (o + q.val) / 128 % 2 = 0 by omega), hD q.val hq, hD (q.val - 128) (by omega), show o + q.val - 128 = o + (q.val - 128) by omega]

theorem refQkv_apply (R : Fin 16384) (J : Fin 6144) : refQkv x g w cs sn (ix2 R J) = qkvE x g w cs sn R J.val := by
  have hJ : J.val < 6144 := J.isLt
  show refCat _ _ _ (ix2 R J) = _
  by_cases h1 : J.val < 2048
  · rw [refCat_0 _ _ _ R ⟨J.val, h1⟩ J (Nat.zero_add _).symm, turn_prod x g w cs sn 0 _ (by omega) rfl]
    exact congrArg (qkvE x g w cs sn R) (Nat.zero_add _)
  by_cases h2 : J.val < 4096
  · have e : J.val = 2048 + (J.val - 2048) := by omega
    rw [refCat_1 _ _ _ R ⟨J.val - 2048, by omega⟩ J e, turn_prod x g w cs sn 2048 _ (by omega) rfl]
    exact congrArg (qkvE x g w cs sn R) e.symm
  · have e : J.val = 4096 + (J.val - 4096) := by omega
    rw [refCat_2 _ _ _ R ⟨J.val - 4096, by omega⟩ J e, cut_prod x g w 4096 _ (by omega)]
    unfold qkvE
    rw [if_neg h2]
    exact congrArg (prodE x g w R) e.symm

theorem refRest_apply (R : Fin 16384) (J : Fin 6144) : refRest x g w (ix2 R J) = restE x g w R J.val := by
  have hJ : J.val < 6144 := J.isLt
  unfold refRest restE
  by_cases h1 : J.val < 2048
  · rw [if_pos (show J.val < 4096 by omega), refCat_0 _ _ _ R ⟨J.val, h1⟩ J (Nat.zero_add _).symm, cut_prod x g w 6144 _ (by omega)]
  by_cases h2 : J.val < 4096
  · have e : J.val = 2048 + (J.val - 2048) := by omega
    rw [if_pos h2, refCat_1 _ _ _ R ⟨J.val - 2048, by omega⟩ J e, cut_prod x g w 8192 _ (by omega)]
    exact congrArg (prodE x g w R) (by show 8192 + (J.val - 2048) = 6144 + J.val; omega)
  · have e : J.val = 4096 + (J.val - 4096) := by omega
    rw [if_neg h2, refCat_2 _ _ _ R ⟨J.val - 4096, by omega⟩ J e, refGate_apply, cut_prod x g w 10240 _ (by omega)]
    exact congrArg (fun n => gate (prodE x g w R n)) (by show 10240 + (J.val - 4096) = 6144 + J.val; omega)

/-- The reference's results are what the kernel's arrays hold. -/
theorem ref_qkv (m : (ℓ : Loc Cert.InIdeal.nD Cert.InIdeal.τ Cert.InIdeal.sig) → Buf (Elt Ideal) ℓ) (c : Dev Cert.InIdeal.nD) :
    refQkv (m ((c.tc : Thread Cert.InIdeal.nD Cert.InIdeal.τ).loc Cert.InIdeal.main_arg0)) (m ((c.tc : Thread Cert.InIdeal.nD Cert.InIdeal.τ).loc Cert.InIdeal.main_arg1))
      (m ((c.tc : Thread Cert.InIdeal.nD Cert.InIdeal.τ).loc Cert.InIdeal.main_arg2)) (m ((c.tc : Thread Cert.InIdeal.nD Cert.InIdeal.τ).loc Cert.InIdeal.main_arg3))
      (m ((c.tc : Thread Cert.InIdeal.nD Cert.InIdeal.τ).loc Cert.InIdeal.main_arg4)) = qkvF m c := by
  funext i
  obtain ⟨R, J, rfl⟩ : ∃ (R : Fin 16384) (J : Fin 6144), i = ix2 R J := ⟨i 0, i 1, eq_ix2 i⟩
  exact refQkv_apply _ _ _ _ _ R J

theorem ref_rest (m : (ℓ : Loc Cert.InIdeal.nD Cert.InIdeal.τ Cert.InIdeal.sig) → Buf (Elt Ideal) ℓ) (c : Dev Cert.InIdeal.nD) :
    refRest (m ((c.tc : Thread Cert.InIdeal.nD Cert.InIdeal.τ).loc Cert.InIdeal.main_arg0)) (m ((c.tc : Thread Cert.InIdeal.nD Cert.InIdeal.τ).loc Cert.InIdeal.main_arg1))
      (m ((c.tc : Thread Cert.InIdeal.nD Cert.InIdeal.τ).loc Cert.InIdeal.main_arg2)) = restF m c := by
  funext i
  obtain ⟨R, J, rfl⟩ : ∃ (R : Fin 16384) (J : Fin 6144), i = ix2 R J := ⟨i 0, i 1, eq_ix2 i⟩
  exact refRest_apply _ _ _ R J

end Cert.InReferenceIdeal.Pj

end
-- ==== Proof.InClaims.lean ====
module

public import proofs.«01_k».proof.Proof.Gen.In
public import proofs.«01_k».proof.Proof.InRef

/-!
# The claims of the input projection

Both printed programs have the same text, so the run of one over any float values is the other's.
-/

@[expose] public section

noncomputable section

namespace Cert.InIdeal.Pj

open Idealize.ShloMosaic Idealize.SL.Sem Cert.InIdeal Cert.InIdeal.Gen

theorem frame_inIdeal : Cert.quiescent_InIdeal := fun m ρ _ => frame_at (F := Ideal) m ρ

theorem bodies_eq : Cert.In.defs₀ (F := Bits) = Cert.InIdeal.defs₀ (F := Bits) := by
  unfold Cert.In.defs₀ Cert.InIdeal.defs₀
  refine congrArg Defs.onTc (funext fun l => funext fun a => ?_)
  match l, a with
  | 0, (t, s) => rfl

theorem defs_eq : Cert.In.defs (F := Bits) = Cert.InIdeal.defs (F := Bits) :=
  congrArg (Pipeline.defs (Cert.InIdeal.pcfgs (F := Bits))) bodies_eq

theorem frame_in : Cert.quiescent_In := fun m ρ _ =>
  (congrArg (fun D => θ_run D (onTc (τ := Cert.In.τ) (Cert.In.main (F := Bits))) ⟨m, fun _ => 0, ρ⟩ _) defs_eq).mpr
    (frame_at (F := Bits) m ρ)

theorem frame_inReferenceIdeal : Cert.quiescent_InReferenceIdeal := fun m ρ _ =>
  (θ_run Cert.InReferenceIdeal.defs _ _).mono (fun r h => ⟨fun c => (h c).2.2, Idealize.ShloMosaic.sem_eq_zero_of_no_sems (by decide) r.2⟩)
    (Cert.InReferenceIdeal.Value.run (F := Ideal) m ρ)

/-- The run, with the arrays' contents and the arguments. -/
theorem run_array (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2_0) = qkvF m c
      ∧ r.2.mem ((c.tc : Thread nD τ).loc main_v2_1) = restF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 5).trans (qkv_eq m c), ((h.1 c).1 6).trans (rest_eq m c), h.2.1 c⟩)
    (θ_run_and (run_main m ρ) (frame_at m ρ))

/-- The kernel's arrays are the reference's, over the extended reals. -/
theorem algebraic_in : Cert.algebraic_InIdeal_InReferenceIdeal := by
  intro m ρ m' ρ' _ hagree
  refine ⟨_, _, run_array m ρ, ?_⟩
  refine (θ_run Cert.InReferenceIdeal.defs _ _).mono (fun _ h c => ⟨(h c).1.trans ?_, (h c).2.1.trans ?_, (h c).2.2⟩)
    (Cert.InReferenceIdeal.Value.run (F := Ideal) m' ρ')
  · rw [Cert.InReferenceIdeal.Pj.res_qkv, (hagree c).1, (hagree c).2.1, (hagree c).2.2.1, (hagree c).2.2.2.1, (hagree c).2.2.2.2]
    exact Cert.InReferenceIdeal.Pj.ref_qkv m c
  · rw [Cert.InReferenceIdeal.Pj.res_rest, (hagree c).1, (hagree c).2.1, (hagree c).2.2.1]
    exact Cert.InReferenceIdeal.Pj.ref_rest m c

end Cert.InIdeal.Pj

end
-- ==== Proof.RopeRun.lean ====
module

public import proofs.«01_k».proof.Proof.Gen.RopeIdeal.Launch
public import proofs.«01_k».proof.Proof.Gen.RopeIdeal.Skeleton
public import proofs.«01_k».proof.Proof.Gen.RopeIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

/-!
# The run of the rotary tables

The kernel reads nothing. At each of its 16 grid points it stores one whole block of each table, so every execution ends with
each table at the stored blocks laid one after another, and with every semaphore at zero.
-/

@[expose] public section

set_option maxRecDepth 16384

noncomputable section

namespace Cert.RopeIdeal.Tab

open Idealize.ShloMosaic Idealize.ShloMosaic.TcCoe Idealize.ShloMosaic.Tactic Cert.RopeIdeal Cert.RopeIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of a core as launched. -/
abbrev V (c : Dev nD) (b : Ref sig .tc) : Buf (Elt F) ((c : Thread nD τ).loc b) := m ((c : Thread nD τ).loc b)

set_option maxHeartbeats 800000 in
/-- The program is the kernel's region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem zeros : (![0, 0] : Fin 2 → Nat) = fun _ => 0 := by decide

abbrev box : Rect S512x128 := Rect.unit (s := S512x128) ![0, 0] S512x128.size inb_S512x128_S512x128_0_0

/-- One store of the whole block covers it. -/
theorem cover (p : Vec F S512x128 .f32) (y : S512x128.Idx) :
    ∃ pc ∈ ([⟨box, p⟩] : List (View.Piece (Elt F) S512x128 .f32)), y ∈ pc.1.set :=
  View.cover_of_tiled [⟨box, p⟩] S512x128.size (by rfl) y

/-- What a view reads after a store of the whole block is the block stored. -/
theorem stored {κ : Kind} {sp : Space} (v : View sig κ sp S512x128 .f32) (f : v.ty.Contents (Elt F)) (p : Vec F S512x128 .f32) :
    v.read (Elt F) (v.writes (Elt F) f [⟨box, p⟩]) = p :=
  (View.read_writes_eq_canon v f _ (cover p)).trans (View.canon_unit_zero (S := S512x128) zeros inb_S512x128_S512x128_0_0 p)

set_option maxHeartbeats 1000000 in
/-- The kernel at a grid point leaves the cosines in the first staging buffer and the sines in the second. -/
theorem sound_kernel (c : Dev nD) (E : Set ℕ) (i : grid0.Coords) (arg1 : Memref sig .tc .vmem S512x128 .f32) (harg1 : arg1.IsWhole) (arg2 : Memref sig .tc .vmem S512x128 .f32) (harg2 : arg2.IsWhole)
    (K : PUnit → sProp 𝕄) :
    iprop((∃ d, owns (c : Thread nD τ) arg1 fullShare d) ∗ (∃ d, owns (c : Thread nD τ) arg2 fullShare d)
        ∗ (iprop(owns (c : Thread nD τ) arg1 fullShare (k0_pay2 (F := F) i) ∗ owns (c : Thread nD τ) arg2 fullShare (k0_pay3 (F := F) i)) -∗ K ⟨⟩))
      ⊢ wp frame (wpE (defs₀ (F := F)) Variants.none c none) E (cc0_rope_table i arg1 harg1 arg2 harg2) K := by
  simp only [cc0_rope_table_eq_skeleton]; unfold cc0_rope_table_skel
  unfold owns
  iintro ⟨⟨%d0, %f0, -, H0⟩, ⟨%d1, %f1, -, H1⟩, Hk⟩
  sl_exec
  sl_step
  iapply Hk
  isplitl [H0]
  · iexists _; isplitr
    swap; · iexact H0
    ipureintro
    exact stored _ _ _
  iexists _; isplitr
  swap; · iexact H1
  ipureintro
  exact stored _ _ _

/-- The tables as launched, the blocks left at each point, and nothing else held. -/
def dats (_ : Fin 1) (c : Dev nD) : Dat τ (Elt F) Unit ℕ (UR sig nD τ) ℕ cfg0 c where
  A w := V m c (Pipeline.arrRef spec0 w)
  after w t := match w with
    | ⟨0, _⟩ => k0_pay2 (F := F) (grid0.coords t)
    | ⟨1, _⟩ => k0_pay3 (F := F) (grid0.coords t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = k0_pay2 (F := F) (grid0.coords t) := by dsimp only [dats]
theorem after0_1 (c : Dev nD) (t : Fin cfg0.N) : (dats m 0 c).after 1 t = k0_pay3 (F := F) (grid0.coords t) := by dsimp only [dats]

/-- What the kernel is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ _)
  isplitl [H0]; · iexists _; iexact H0
  isplitl [H1]; · iexists _; iexact H1
  iintro ⟨H0, H1⟩
  isplitl [HΦ]; · iexact HΦ
  isplitl [Ho]; · iexact Ho
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution ends with the tables at the blocks left and with every semaphore at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame_at : θ_run defs (onTc (τ := τ) (main (F := F))) ⟨m, fun _ => 0, ρ⟩ (fun r => (∀ c : Dev nD, True) ∧ r.2.sem = fun _ => 0) :=
  (θ_run defs _ _).mono (fun _ h => ⟨fun _ => trivial, h.2⟩) (run_main m ρ)

/-- The two tables after the run. -/
theorem run_tables : θ_run defs (onTc (τ := τ) (main (F := F))) ⟨m, fun _ => 0, ρ⟩ fun r => ∀ c : Dev nD,
      r.2.mem ((c : Thread nD τ).loc main_v0_0) = (dats m 0 c).arrAt 0 cfg0.N
      ∧ r.2.mem ((c : Thread nD τ).loc main_v0_1) = (dats m 0 c).arrAt 1 cfg0.N :=
  (θ_run defs _ _).mono (fun r h c => ⟨(h.1 c).1 0, (h.1 c).1 1⟩) (run_main m ρ)

end Cert.RopeIdeal.Tab

end
-- ==== Proof.RopeClaims.lean ====
module

public import proofs.«01_k».proof.Defs
public import proofs.«01_k».proof.Proof.UpValue
public import proofs.«01_k».proof.Proof.Gen.Rope
public import proofs.«01_k».proof.Proof.RopeRun
public import proofs.«01_k».proof.Proof.Gen.RopeReferenceIdeal.Run

/-!
# The claims of the rotary tables

The kernel fills two tables 512 rows at a time with the cosine and the sine of an angle. The angle of a position and a column
is the position times a power of 10000, which the kernel takes by the exponential of a multiple of the logarithm and the
reference by a power. Over the extended reals both are the same real.
-/

@[expose] public section

set_option maxRecDepth 16384

noncomputable section

namespace Cert.RopeIdeal.Tab

open Idealize.ShloMosaic Idealize.ShloMosaic.TcCoe Idealize.ShloMosaic.ValueKit Idealize.SL.Sem Cert.RopeIdeal Cert.RopeIdeal.Gen
open Idealize.ShloMosaic.Pipeline (Dat)

/-! ## The frames -/

theorem frame_ropeIdeal : Cert.quiescent_RopeIdeal := fun m ρ _ => frame_at (F := Ideal) m ρ

theorem bodies_eq : Cert.Rope.defs₀ (F := Bits) = Cert.RopeIdeal.defs₀ (F := Bits) := by
  unfold Cert.Rope.defs₀ Cert.RopeIdeal.defs₀
  refine congrArg Defs.onTc (funext fun l => funext fun a => ?_)
  match l, a with
  | 0, (t, s) => rfl

theorem defs_eq : Cert.Rope.defs (F := Bits) = Cert.RopeIdeal.defs (F := Bits) :=
  congrArg (Pipeline.defs (Cert.RopeIdeal.pcfgs (F := Bits))) bodies_eq

theorem frame_rope : Cert.quiescent_Rope := fun m ρ _ =>
  (congrArg (fun D => θ_run D (onTc (τ := Cert.Rope.τ) (Cert.Rope.main (F := Bits))) ⟨m, fun _ => 0, ρ⟩ _) defs_eq).mpr
    (frame_at (F := Bits) m ρ)

theorem frame_ropeReferenceIdeal : Cert.quiescent_RopeReferenceIdeal := fun m ρ _ =>
  (θ_run Cert.RopeReferenceIdeal.defs _ _).mono (fun r h => ⟨fun c => trivial, Idealize.ShloMosaic.sem_eq_zero_of_no_sems (by decide) r.2⟩)
    (Cert.RopeReferenceIdeal.Value.run (F := Ideal) m ρ)

/-! ## The angle -/

theorem ofBits_128 : Ideal.ofBits .f32 0x43000000#32 = ((128 : ℝ) : EReal) := by
  simp [Ideal.ofBits, Ideal.ieee, -EReal.coe_mul]; norm_num

theorem ofBits_10000 : Ideal.ofBits .f32 0x461C4000#32 = ((10000 : ℝ) : EReal) := by
  simp [Ideal.ofBits, Ideal.ieee, -EReal.coe_mul]; norm_num

theorem div_128 (x : ℝ) : Ideal.div (x : EReal) ((128 : ℝ) : EReal) = ((x / 128 : ℝ) : EReal) := by
  unfold Ideal.div
  rw [if_neg (by norm_num [EReal.coe_eq_zero]), ← EReal.coe_inv, ← EReal.coe_mul, div_eq_mul_inv]

theorem log_10000 : Ideal.log ((10000 : ℝ) : EReal) = ((Real.log 10000 : ℝ) : EReal) := by
  show (if (10000 : ℝ) ≤ 0 then (⊥ : EReal) else (Real.log 10000 : EReal)) = _
  rw [if_neg (by norm_num)]

/-- The power of the base at a column, by a real power. -/
def freq (l : ℕ) : ℝ := Real.rpow 10000 (-(l : ℝ) / 128)

theorem freq_exp (l : ℕ) :
    Ideal.exp ((0 - Ideal.div (((l : ℝ)) : EReal) (Ideal.ofBits .f32 0x43000000#32)) * Ideal.log (Ideal.ofBits .f32 0x461C4000#32))
      = ((freq l : ℝ) : EReal) := by
  rw [ofBits_128, ofBits_10000, div_128, log_10000, zero_sub, ← EReal.coe_neg, ← EReal.coe_mul]
  show ((Real.exp _ : ℝ) : EReal) = _
  refine congrArg _ ?_
  show _ = (10000 : ℝ) ^ (-(l : ℝ) / 128)
  rw [Real.rpow_def_of_pos (by norm_num)]
  congr 1
  ring

theorem freq_pow (l : ℕ) :
    Ideal.pow (Ideal.ofBits .f32 0x461C4000#32) (Ideal.div (-(((l : ℝ)) : EReal)) (Ideal.ofBits .f32 0x43000000#32))
      = ((freq l : ℝ) : EReal) := by
  rw [ofBits_128, ofBits_10000, ← EReal.coe_neg, div_128]
  rfl

theorem sitofp_nat {n : ℕ} (h : n < 2 ^ 31) : (FloatOps.sitofp .f32 (BitVec.ofNat 32 n) : Ideal .f32) = (((n : ℝ)) : EReal) := by
  have e : (BitVec.ofNat 32 n).toInt = (n : ℤ) := by
    rw [BitVec.toInt_eq_toNat_of_lt (by rw [BitVec.toNat_ofNat]; omega), BitVec.toNat_ofNat, Nat.mod_eq_of_lt (by omega)]
  show (((BitVec.ofNat 32 n).toInt : ℝ) : EReal) = _
  rw [e, Int.cast_natCast]

/-- The angle of a position and a column. -/
def angle (p l : ℕ) : EReal := ((p : ℝ) : EReal) * ((freq l : ℝ) : EReal)

theorem pay1_apply (i : grid0.Coords) (r : Fin 512) (l : Fin 128) :
    k0_pay1 (F := Ideal) i (ix2 r l) = angle ((i 0).val * 512 + r.val) l.val := by
  have hi : (i 0).val < 16 := (i 0).isLt
  have hr : r.val < 512 := r.isLt
  have hl : l.val < 128 := l.isLt
  pointwise [k0_pay1]
  have e : IntOp.addi (BitVec.ofNat 32 r.val) (Scalar.muli (BitVec.ofNat 32 (i 0).val) 512#32)
      = BitVec.ofNat 32 ((i 0).val * 512 + r.val) := by
    apply BitVec.eq_of_toNat_eq
    show (BitVec.ofNat 32 r.val + BitVec.ofNat 32 (i 0).val * 512#32).toNat = _
    simp only [BitVec.toNat_add, BitVec.toNat_mul, BitVec.toNat_ofNat]
    omega
  rw [e, sitofp_nat (by omega), sitofp_nat (by omega)]
  exact congrArg (_ * ·) (freq_exp l.val)

/-! ## The tables -/

/-- The table of cosines. -/
def cosF : FVec Ideal S8192x128 .f32 := fun i => Ideal.cos (angle (i 0).val (i 1).val)

/-- The table of sines. -/
def sinF : FVec Ideal S8192x128 .f32 := fun i => Ideal.sin (angle (i 0).val (i 1).val)

variable (m : (ℓ : Loc nD τ sig) → Buf (Elt Ideal) ℓ) (c : Dev nD)

theorem coords_val (t : Fin cfg0.N) : (grid0.coords t 0).val = t.val :=
  (by decide +kernel : ∀ t : Fin grid0.N, (grid0.coords t 0).val = t.val) t

theorem idx0 (t : Fin cfg0.N) : win0_0.index t = ![t.val, 0] :=
  (by decide +kernel : ∀ t : Fin grid0.N, win0_0.index t = ![t.val, 0]) t

theorem idx1 (t : Fin cfg0.N) : win0_1.index t = ![t.val, 0] :=
  (by decide +kernel : ∀ t : Fin grid0.N, win0_1.index t = ![t.val, 0]) t

theorem emb0 (t : Fin cfg0.N) (r : Fin 512) (l : Fin 128) (R : Fin 8192) (hR : R.val = t.val * 512 + r.val) :
    (((View.whole main_v0_0).slice (win0_0.rect t)).emb (ix2 r l) : S8192x128.Idx) = ix2 R l := by
  have e := idx0 t
  blk_ext [e]

theorem emb1 (t : Fin cfg0.N) (r : Fin 512) (l : Fin 128) (R : Fin 8192) (hR : R.val = t.val * 512 + r.val) :
    (((View.whole main_v0_1).slice (win0_1.rect t)).emb (ix2 r l) : S8192x128.Idx) = ix2 R l := by
  have e := idx1 t
  blk_ext [e]

theorem point0 (t : Fin cfg0.N) (r : Fin 512) (l : Fin 128) :
    k0_pay2 (F := Ideal) (grid0.coords t) (ix2 r l) = cosF (((View.whole main_v0_0).slice (win0_0.rect t)).emb (ix2 r l) : S8192x128.Idx) := by
  have ht : t.val < 16 := t.isLt
  have hr : r.val < 512 := r.isLt
  rw [emb0 t r l ⟨t.val * 512 + r.val, by omega⟩ rfl]
  show Ideal.cos (k0_pay1 (F := Ideal) (grid0.coords t) (ix2 r l)) = Ideal.cos _
  rw [pay1_apply, coords_val]
  rfl

theorem point1 (t : Fin cfg0.N) (r : Fin 512) (l : Fin 128) :
    k0_pay3 (F := Ideal) (grid0.coords t) (ix2 r l) = sinF (((View.whole main_v0_1).slice (win0_1.rect t)).emb (ix2 r l) : S8192x128.Idx) := by
  have ht : t.val < 16 := t.isLt
  have hr : r.val < 512 := r.isLt
  rw [emb1 t r l ⟨t.val * 512 + r.val, by omega⟩ rfl]
  show Ideal.sin (k0_pay1 (F := Ideal) (grid0.coords t) (ix2 r l)) = Ideal.sin _
  rw [pay1_apply, coords_val]
  rfl

theorem cos_eq : (dats m 0 c).arrAt 0 cfg0.N = cosF := by
  refine (dats m 0 c).arrAt_eq_of_covers 0 _ (by decide +kernel) fun t hf y => ?_
  blk_simp
  rw [after0_0]
  obtain ⟨r, q, rfl⟩ : ∃ r q, y = ix2 r q := ⟨y 0, y 1, eq_ix2 y⟩
  exact point0 t r q

theorem sin_eq : (dats m 0 c).arrAt 1 cfg0.N = sinF := by
  refine (dats m 0 c).arrAt_eq_of_covers 1 _ (by decide +kernel) fun t hf y => ?_
  blk_simp
  rw [after0_1]
  obtain ⟨r, q, rfl⟩ : ∃ r q, y = ix2 r q := ⟨y 0, y 1, eq_ix2 y⟩
  exact point1 t r q

end Cert.RopeIdeal.Tab

namespace Cert.RopeReferenceIdeal.Tab

open Idealize.ShloMosaic Idealize.ShloMosaic.TcCoe Idealize.ShloMosaic.ValueKit Cert.RopeReferenceIdeal Cert.RopeReferenceIdeal.Gen
open Cert.RopeIdeal.Tab (angle freq_pow sitofp_nat cosF sinF)

/-- The reference's angles. -/
def refAngle : FVec Ideal S8192x128 .f32 :=
  mulf (broadcastInDim S8192x128 ![0, 1] bcast_S8192x1_S8192x128_0_1 (broadcastInDim S8192x1 ![0] bcast_S8192_S8192x1_0 (sitofp .f32 (iotaInDim S8192 32 0)))) (broadcastInDim S8192x128 ![0, 1] bcast_S1x128_S8192x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))

theorem refAngle_apply (R : Fin 8192) (l : Fin 128) : refAngle (ix2 R l) = angle R.val l.val := by
  have hR : R.val < 8192 := R.isLt
  have hl : l.val < 128 := l.isLt
  pointwise [refAngle]
  rw [sitofp_nat (by omega), sitofp_nat (by omega)]
  exact congrArg (_ * ·) (freq_pow l.val)

theorem ref_cos : (Host.cos refAngle : FVec Ideal S8192x128 .f32) = cosF := by
  funext i
  obtain ⟨R, l, rfl⟩ : ∃ R l, i = ix2 R l := ⟨i 0, i 1, eq_ix2 i⟩
  show Ideal.cos (refAngle (ix2 R l)) = Ideal.cos (angle R.val l.val)
  rw [refAngle_apply]

theorem ref_sin : (Host.sin refAngle : FVec Ideal S8192x128 .f32) = sinF := by
  funext i
  obtain ⟨R, l, rfl⟩ : ∃ R l, i = ix2 R l := ⟨i 0, i 1, eq_ix2 i⟩
  show Ideal.sin (refAngle (ix2 R l)) = Ideal.sin (angle R.val l.val)
  rw [refAngle_apply]

end Cert.RopeReferenceIdeal.Tab

namespace Cert.RopeIdeal.Tab

open Idealize.ShloMosaic Idealize.SL.Sem Cert.RopeIdeal Cert.RopeIdeal.Gen

/-- The kernel's tables are the reference's, over the extended reals. -/
theorem algebraic_rope : Cert.algebraic_RopeIdeal_RopeReferenceIdeal := by
  intro m ρ m' ρ' _ _
  refine ⟨fun _ => cosF, fun _ => sinF, (θ_run defs _ _).mono (fun _ h c => ⟨(h c).1.trans (cos_eq m c), (h c).2.trans (sin_eq m c)⟩)
    (run_tables m ρ), ?_⟩
  exact (θ_run Cert.RopeReferenceIdeal.defs _ _).mono (fun _ h c => ⟨(h c).1.trans Cert.RopeReferenceIdeal.Tab.ref_cos, (h c).2.trans Cert.RopeReferenceIdeal.Tab.ref_sin⟩)
    (Cert.RopeReferenceIdeal.Value.run (F := Ideal) m' ρ')

end Cert.RopeIdeal.Tab

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import proofs.«01_k».proof.Proof.Gen.Up
public import proofs.«01_k».proof.Proof.Gen.UpIdeal
public import proofs.«01_k».proof.Proof.Gen.UpReferenceIdeal
public import proofs.«01_k».proof.Proof.UpClaims
public import proofs.«01_k».proof.Proof.Gen.Down
public import proofs.«01_k».proof.Proof.Gen.DownIdeal
public import proofs.«01_k».proof.Proof.Gen.DownReferenceIdeal
public import proofs.«01_k».proof.Proof.DownClaims
public import proofs.«01_k».proof.Proof.Gen.In
public import proofs.«01_k».proof.Proof.Gen.InIdeal
public import proofs.«01_k».proof.Proof.Gen.InReferenceIdeal
public import proofs.«01_k».proof.Proof.InClaims
public import proofs.«01_k».proof.Proof.Gen.Rope
public import proofs.«01_k».proof.Proof.Gen.RopeIdeal
public import proofs.«01_k».proof.Proof.Gen.RopeReferenceIdeal
public import proofs.«01_k».proof.Proof.RopeClaims

/-!
# The claim

Of the output projection, both printed programs have the same text, so one run over any float values gives the frame of each. The
reference's run is read off its operations, and its three results equal the kernel's index by index. The claims of the two calls of
the feed-forward layer, of the input projection and of the rotary tables are proved in modules of their own and are only gathered here.
-/

@[expose] public section

noncomputable section

namespace Cert.Proof

open Idealize.ShloMosaic Idealize.SL.Sem Cert.Kernel

theorem frame_kernelIdeal : Cert.quiescent_KernelIdeal := fun m ρ _ =>
  (θ_run Cert.KernelIdeal.defs _ _).mono (fun _ h => h.1) (Cert.KernelIdeal.Pipe.run_done (F := Ideal) m ρ)

set_option maxHeartbeats 0 in
theorem frame_kernel : Cert.quiescent_Kernel := fun m ρ _ =>
  (θ_run Cert.KernelIdeal.defs _ _).mono (fun _ h => h.1) (Cert.KernelIdeal.Pipe.run_done (F := Bits) m ρ)

theorem frame_referenceIdeal : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The kernel's three arrays are the reference's, over the extended reals. -/
theorem algebraic : Cert.algebraic_KernelIdeal_ReferenceIdeal := by
  intro m ρ m' ρ' _ hagree
  refine ⟨_, _, _, (θ_run Cert.KernelIdeal.defs _ _).mono (fun _ h c => ⟨(h.2 c).1, (h.2 c).2.1, (h.2 c).2.2, h.1.1 c⟩)
    (Cert.KernelIdeal.Pipe.run_done (F := Ideal) m ρ), ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [(hagree c).1, (hagree c).2.1, (hagree c).2.2.1, (hagree c).2.2.2.1]
    exact (Cert.KernelIdeal.Pipe.sum_eq c m).symm
  · rw [(hagree c).1, (hagree c).2.1, (hagree c).2.2.1, (hagree c).2.2.2.1, (hagree c).2.2.2.2]
    exact (Cert.KernelIdeal.Pipe.prd_eq c m).symm
  · rw [(hagree c).1, (hagree c).2.1, (hagree c).2.2.1, (hagree c).2.2.2.1]
    exact (Cert.KernelIdeal.Pipe.sqs_eq c m).symm

theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.In.Gen.facts, Cert.InIdeal.Gen.facts, Cert.InReferenceIdeal.Gen.facts,
  Cert.Rope.Gen.facts, Cert.RopeIdeal.Gen.facts, Cert.RopeReferenceIdeal.Gen.facts, Cert.UpIdeal.Act.facts_pre,
  frame_kernel, frame_kernelIdeal, frame_referenceIdeal,
  Cert.UpIdeal.Act.frame_up, Cert.UpIdeal.Act.frame_upIdeal, Cert.UpIdeal.Act.frame_upIdeal_pre,
  Cert.UpIdeal.Act.frame_upReferenceIdeal, Cert.UpIdeal.Act.frame_upReferenceIdeal_pre,
  Cert.DownIdeal.Dn.frame_down, Cert.DownIdeal.Dn.frame_downIdeal, Cert.DownIdeal.Dn.frame_downReferenceIdeal,
  Cert.InIdeal.Pj.frame_in, Cert.InIdeal.Pj.frame_inIdeal, Cert.InIdeal.Pj.frame_inReferenceIdeal,
  Cert.RopeIdeal.Tab.frame_rope, Cert.RopeIdeal.Tab.frame_ropeIdeal, Cert.RopeIdeal.Tab.frame_ropeReferenceIdeal,
  trivial, algebraic, trivial, Cert.UpIdeal.Act.algebraic_up, trivial, Cert.DownIdeal.Dn.algebraic_down,
  trivial, Cert.InIdeal.Pj.algebraic_in,
  trivial, Cert.RopeIdeal.Tab.algebraic_rope⟩

end Cert.Proof

end
